-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Candidates (m : (ℓ : Loc Cert.Candidates.nD Cert.Candidates.τ Cert.Candidates.sig) → Buf (Elt Bits) ℓ) : Prop :=
  True

def Pre_CandidatesIdeal (m : (ℓ : Loc Cert.CandidatesIdeal.nD Cert.CandidatesIdeal.τ Cert.CandidatesIdeal.sig) → Buf (Elt Ideal) ℓ) : Prop :=
  True

def Pre_CandidatesReferenceIdeal (m : (ℓ : Loc Cert.CandidatesReferenceIdeal.nD Cert.CandidatesReferenceIdeal.τ Cert.CandidatesReferenceIdeal.sig) → Buf (Elt Ideal) ℓ) : Prop :=
  True

def Pre_Keep (m : (ℓ : Loc Cert.Keep.nD Cert.Keep.τ Cert.Keep.sig) → Buf (Elt Bits) ℓ) : Prop :=
  True

def Pre_KeepIdeal (m : (ℓ : Loc Cert.KeepIdeal.nD Cert.KeepIdeal.τ Cert.KeepIdeal.sig) → Buf (Elt Ideal) ℓ) : Prop :=
  True

def Pre_KeepReferenceIdeal (m : (ℓ : Loc Cert.KeepReferenceIdeal.nD Cert.KeepReferenceIdeal.τ Cert.KeepReferenceIdeal.sig) → Buf (Elt Ideal) ℓ) : Prop :=
  True

def Pre_Boxes [hPre_in_table : Cert.Pre_in_table.Facts] (m : (ℓ : Loc Cert.Boxes.nD Cert.Boxes.τ Cert.Boxes.sig) → Buf (Elt Bits) ℓ) : Prop :=
  ∀ c : Dev Cert.Boxes.nD,
    (Cert.Pre_in_table.fn (F := Bits) (m ((c.tc : Thread Cert.Boxes.nD Cert.Boxes.τ).loc Cert.Boxes.main_arg0)) (m ((c.tc : Thread Cert.Boxes.nD Cert.Boxes.τ).loc Cert.Boxes.main_arg1))) = (fun _ => 1#1)

def Pre_BoxesIdeal [hPre_in_table : Cert.Pre_in_table.Facts] (m : (ℓ : Loc Cert.BoxesIdeal.nD Cert.BoxesIdeal.τ Cert.BoxesIdeal.sig) → Buf (Elt Ideal) ℓ) : Prop :=
  ∀ c : Dev Cert.BoxesIdeal.nD,
    (Cert.Pre_in_table.fn (F := Ideal) (m ((c.tc : Thread Cert.BoxesIdeal.nD Cert.BoxesIdeal.τ).loc Cert.BoxesIdeal.main_arg0)) (m ((c.tc : Thread Cert.BoxesIdeal.nD Cert.BoxesIdeal.τ).loc Cert.BoxesIdeal.main_arg1))) = (fun _ => 1#1)

def Pre_BoxesReferenceIdeal [hPre_in_table : Cert.Pre_in_table.Facts] (m : (ℓ : Loc Cert.BoxesReferenceIdeal.nD Cert.BoxesReferenceIdeal.τ Cert.BoxesReferenceIdeal.sig) → Buf (Elt Ideal) ℓ) : Prop :=
  ∀ c : Dev Cert.BoxesReferenceIdeal.nD,
    (Cert.Pre_in_table.fn (F := Ideal) (m ((c.tc : Thread Cert.BoxesReferenceIdeal.nD Cert.BoxesReferenceIdeal.τ).loc Cert.BoxesReferenceIdeal.main_arg0)) (m ((c.tc : Thread Cert.BoxesReferenceIdeal.nD Cert.BoxesReferenceIdeal.τ).loc Cert.BoxesReferenceIdeal.main_arg1))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Candidates [hCandidates : Cert.Candidates.Facts] : Prop :=
  ∀ (m : (ℓ : Loc Cert.Candidates.nD Cert.Candidates.τ Cert.Candidates.sig) → Buf (Elt Bits) ℓ) (g : Dev Cert.Candidates.nD → PrngReg), Pre_Candidates m →
    θ_run (Cert.Candidates.defs (F := Bits)) (onTc (τ := Cert.Candidates.τ) (Cert.Candidates.main (F := Bits))) ⟨m, fun _ => 0, g⟩ (fun r => (∀ c : Dev Cert.Candidates.nD,
      r.2.mem ((c.tc : Thread Cert.Candidates.nD Cert.Candidates.τ).loc Cert.Candidates.main_arg0) = m ((c.tc : Thread Cert.Candidates.nD Cert.Candidates.τ).loc Cert.Candidates.main_arg0))
      ∧ r.2.sem = fun _ => 0)

def quiescent_CandidatesIdeal [hCandidatesIdeal : Cert.CandidatesIdeal.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0))
      ∧ r.2.sem = fun _ => 0)

def quiescent_CandidatesReferenceIdeal [hCandidatesReferenceIdeal : Cert.CandidatesReferenceIdeal.Facts] : Prop :=
  ∀ (m : (ℓ : Loc Cert.CandidatesReferenceIdeal.nD Cert.CandidatesReferenceIdeal.τ Cert.CandidatesReferenceIdeal.sig) → Buf (Elt Ideal) ℓ) (g : Dev Cert.CandidatesReferenceIdeal.nD → PrngReg), Pre_CandidatesReferenceIdeal m →
    θ_run (Cert.CandidatesReferenceIdeal.defs (F := Ideal)) (onTc (τ := Cert.CandidatesReferenceIdeal.τ) (Cert.CandidatesReferenceIdeal.main (F := Ideal))) ⟨m, fun _ => 0, g⟩ (fun r => (∀ c : Dev Cert.CandidatesReferenceIdeal.nD,
      r.2.mem ((c.tc : Thread Cert.CandidatesReferenceIdeal.nD Cert.CandidatesReferenceIdeal.τ).loc Cert.CandidatesReferenceIdeal.main_arg0) = m ((c.tc : Thread Cert.CandidatesReferenceIdeal.nD Cert.CandidatesReferenceIdeal.τ).loc Cert.CandidatesReferenceIdeal.main_arg0))
      ∧ r.2.sem = fun _ => 0)

def quiescent_Keep [hKeep : Cert.Keep.Facts] : Prop :=
  ∀ (m : (ℓ : Loc Cert.Keep.nD Cert.Keep.τ Cert.Keep.sig) → Buf (Elt Bits) ℓ) (g : Dev Cert.Keep.nD → PrngReg), Pre_Keep m →
    θ_run (Cert.Keep.defs (F := Bits)) (onTc (τ := Cert.Keep.τ) (Cert.Keep.main (F := Bits))) ⟨m, fun _ => 0, g⟩ (fun r => (∀ c : Dev Cert.Keep.nD,
      r.2.mem ((c.tc : Thread Cert.Keep.nD Cert.Keep.τ).loc Cert.Keep.main_arg0) = m ((c.tc : Thread Cert.Keep.nD Cert.Keep.τ).loc Cert.Keep.main_arg0)
      ∧ r.2.mem ((c.tc : Thread Cert.Keep.nD Cert.Keep.τ).loc Cert.Keep.main_arg1) = m ((c.tc : Thread Cert.Keep.nD Cert.Keep.τ).loc Cert.Keep.main_arg1)
      ∧ r.2.mem ((c.tc : Thread Cert.Keep.nD Cert.Keep.τ).loc Cert.Keep.main_arg2) = m ((c.tc : Thread Cert.Keep.nD Cert.Keep.τ).loc Cert.Keep.main_arg2))
      ∧ r.2.sem = fun _ => 0)

def quiescent_KeepIdeal [hKeepIdeal : Cert.KeepIdeal.Facts] : Prop :=
  ∀ (m : (ℓ : Loc Cert.KeepIdeal.nD Cert.KeepIdeal.τ Cert.KeepIdeal.sig) → Buf (Elt Ideal) ℓ) (g : Dev Cert.KeepIdeal.nD → PrngReg), Pre_KeepIdeal m →
    θ_run (Cert.KeepIdeal.defs (F := Ideal)) (onTc (τ := Cert.KeepIdeal.τ) (Cert.KeepIdeal.main (F := Ideal))) ⟨m, fun _ => 0, g⟩ (fun r => (∀ c : Dev Cert.KeepIdeal.nD,
      r.2.mem ((c.tc : Thread Cert.KeepIdeal.nD Cert.KeepIdeal.τ).loc Cert.KeepIdeal.main_arg0) = m ((c.tc : Thread Cert.KeepIdeal.nD Cert.KeepIdeal.τ).loc Cert.KeepIdeal.main_arg0)
      ∧ r.2.mem ((c.tc : Thread Cert.KeepIdeal.nD Cert.KeepIdeal.τ).loc Cert.KeepIdeal.main_arg1) = m ((c.tc : Thread Cert.KeepIdeal.nD Cert.KeepIdeal.τ).loc Cert.KeepIdeal.main_arg1)
      ∧ r.2.mem ((c.tc : Thread Cert.KeepIdeal.nD Cert.KeepIdeal.τ).loc Cert.KeepIdeal.main_arg2) = m ((c.tc : Thread Cert.KeepIdeal.nD Cert.KeepIdeal.τ).loc Cert.KeepIdeal.main_arg2))
      ∧ r.2.sem = fun _ => 0)

def quiescent_KeepReferenceIdeal [hKeepReferenceIdeal : Cert.KeepReferenceIdeal.Facts] : Prop :=
  ∀ (m : (ℓ : Loc Cert.KeepReferenceIdeal.nD Cert.KeepReferenceIdeal.τ Cert.KeepReferenceIdeal.sig) → Buf (Elt Ideal) ℓ) (g : Dev Cert.KeepReferenceIdeal.nD → PrngReg), Pre_KeepReferenceIdeal m →
    θ_run (Cert.KeepReferenceIdeal.defs (F := Ideal)) (onTc (τ := Cert.KeepReferenceIdeal.τ) (Cert.KeepReferenceIdeal.main (F := Ideal))) ⟨m, fun _ => 0, g⟩ (fun r => (∀ c : Dev Cert.KeepReferenceIdeal.nD,
      r.2.mem ((c.tc : Thread Cert.KeepReferenceIdeal.nD Cert.KeepReferenceIdeal.τ).loc Cert.KeepReferenceIdeal.main_arg0) = m ((c.tc : Thread Cert.KeepReferenceIdeal.nD Cert.KeepReferenceIdeal.τ).loc Cert.KeepReferenceIdeal.main_arg0)
      ∧ r.2.mem ((c.tc : Thread Cert.KeepReferenceIdeal.nD Cert.KeepReferenceIdeal.τ).loc Cert.KeepReferenceIdeal.main_arg1) = m ((c.tc : Thread Cert.KeepReferenceIdeal.nD Cert.KeepReferenceIdeal.τ).loc Cert.KeepReferenceIdeal.main_arg1)
      ∧ r.2.mem ((c.tc : Thread Cert.KeepReferenceIdeal.nD Cert.KeepReferenceIdeal.τ).loc Cert.KeepReferenceIdeal.main_arg2) = m ((c.tc : Thread Cert.KeepReferenceIdeal.nD Cert.KeepReferenceIdeal.τ).loc Cert.KeepReferenceIdeal.main_arg2))
      ∧ r.2.sem = fun _ => 0)

def quiescent_Boxes [hBoxes : Cert.Boxes.Facts] [hPre_in_table : Cert.Pre_in_table.Facts] : Prop :=
  ∀ (m : (ℓ : Loc Cert.Boxes.nD Cert.Boxes.τ Cert.Boxes.sig) → Buf (Elt Bits) ℓ) (g : Dev Cert.Boxes.nD → PrngReg), Pre_Boxes m →
    θ_run (Cert.Boxes.defs (F := Bits)) (Cert.Boxes.threads (F := Bits)) ⟨m, fun _ => 0, g⟩ (fun r => (∀ c : Dev Cert.Boxes.nD,
      r.2.mem ((c.tc : Thread Cert.Boxes.nD Cert.Boxes.τ).loc Cert.Boxes.main_arg0) = m ((c.tc : Thread Cert.Boxes.nD Cert.Boxes.τ).loc Cert.Boxes.main_arg0)
      ∧ r.2.mem ((c.tc : Thread Cert.Boxes.nD Cert.Boxes.τ).loc Cert.Boxes.main_arg1) = m ((c.tc : Thread Cert.Boxes.nD Cert.Boxes.τ).loc Cert.Boxes.main_arg1))
      ∧ r.2.sem = fun _ => 0)

def quiescent_BoxesIdeal [hBoxesIdeal : Cert.BoxesIdeal.Facts] [hPre_in_table : Cert.Pre_in_table.Facts] : Prop :=
  ∀ (m : (ℓ : Loc Cert.BoxesIdeal.nD Cert.BoxesIdeal.τ Cert.BoxesIdeal.sig) → Buf (Elt Ideal) ℓ) (g : Dev Cert.BoxesIdeal.nD → PrngReg), Pre_BoxesIdeal m →
    θ_run (Cert.BoxesIdeal.defs (F := Ideal)) (Cert.BoxesIdeal.threads (F := Ideal)) ⟨m, fun _ => 0, g⟩ (fun r => (∀ c : Dev Cert.BoxesIdeal.nD,
      r.2.mem ((c.tc : Thread Cert.BoxesIdeal.nD Cert.BoxesIdeal.τ).loc Cert.BoxesIdeal.main_arg0) = m ((c.tc : Thread Cert.BoxesIdeal.nD Cert.BoxesIdeal.τ).loc Cert.BoxesIdeal.main_arg0)
      ∧ r.2.mem ((c.tc : Thread Cert.BoxesIdeal.nD Cert.BoxesIdeal.τ).loc Cert.BoxesIdeal.main_arg1) = m ((c.tc : Thread Cert.BoxesIdeal.nD Cert.BoxesIdeal.τ).loc Cert.BoxesIdeal.main_arg1))
      ∧ r.2.sem = fun _ => 0)

def quiescent_BoxesReferenceIdeal [hBoxesReferenceIdeal : Cert.BoxesReferenceIdeal.Facts] [hPre_in_table : Cert.Pre_in_table.Facts] : Prop :=
  ∀ (m : (ℓ : Loc Cert.BoxesReferenceIdeal.nD Cert.BoxesReferenceIdeal.τ Cert.BoxesReferenceIdeal.sig) → Buf (Elt Ideal) ℓ) (g : Dev Cert.BoxesReferenceIdeal.nD → PrngReg), Pre_BoxesReferenceIdeal m →
    θ_run (Cert.BoxesReferenceIdeal.defs (F := Ideal)) (onTc (τ := Cert.BoxesReferenceIdeal.τ) (Cert.BoxesReferenceIdeal.main (F := Ideal))) ⟨m, fun _ => 0, g⟩ (fun r => (∀ c : Dev Cert.BoxesReferenceIdeal.nD,
      r.2.mem ((c.tc : Thread Cert.BoxesReferenceIdeal.nD Cert.BoxesReferenceIdeal.τ).loc Cert.BoxesReferenceIdeal.main_arg0) = m ((c.tc : Thread Cert.BoxesReferenceIdeal.nD Cert.BoxesReferenceIdeal.τ).loc Cert.BoxesReferenceIdeal.main_arg0)
      ∧ r.2.mem ((c.tc : Thread Cert.BoxesReferenceIdeal.nD Cert.BoxesReferenceIdeal.τ).loc Cert.BoxesReferenceIdeal.main_arg1) = m ((c.tc : Thread Cert.BoxesReferenceIdeal.nD Cert.BoxesReferenceIdeal.τ).loc Cert.BoxesReferenceIdeal.main_arg1))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (Cert.Output.threads (F := Bits)) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (Cert.OutputIdeal.threads (F := Ideal)) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Candidates_CandidatesIdeal : Prop :=
  True

def algebraic_CandidatesIdeal_CandidatesReferenceIdeal [hCandidatesIdeal : Cert.CandidatesIdeal.Facts] [hCandidatesReferenceIdeal : Cert.CandidatesReferenceIdeal.Facts] : Prop :=
  ∀ (m : (ℓ : Loc Cert.CandidatesIdeal.nD Cert.CandidatesIdeal.τ Cert.CandidatesIdeal.sig) → Buf (Elt Ideal) ℓ) (g : Dev Cert.CandidatesIdeal.nD → PrngReg)
    (m' : (ℓ : Loc Cert.CandidatesReferenceIdeal.nD Cert.CandidatesReferenceIdeal.τ Cert.CandidatesReferenceIdeal.sig) → Buf (Elt Ideal) ℓ) (g' : Dev Cert.CandidatesReferenceIdeal.nD → PrngReg), Pre_CandidatesIdeal m →
    (∀ c : Dev Cert.CandidatesIdeal.nD,
      m' ((c.tc : Thread Cert.CandidatesReferenceIdeal.nD Cert.CandidatesReferenceIdeal.τ).loc Cert.CandidatesReferenceIdeal.main_arg0) = m ((c.tc : Thread Cert.CandidatesIdeal.nD Cert.CandidatesIdeal.τ).loc Cert.CandidatesIdeal.main_arg0)) →
    ∃ (v0 : (c : Dev Cert.CandidatesIdeal.nD) → Buf (Elt Ideal) ((c.tc : Thread Cert.CandidatesIdeal.nD Cert.CandidatesIdeal.τ).loc Cert.CandidatesIdeal.main_v0_0)) (v1 : (c : Dev Cert.CandidatesIdeal.nD) → Buf (Elt Ideal) ((c.tc : Thread Cert.CandidatesIdeal.nD Cert.CandidatesIdeal.τ).loc Cert.CandidatesIdeal.main_v0_1)),
      θ_run (Cert.CandidatesIdeal.defs (F := Ideal)) (onTc (τ := Cert.CandidatesIdeal.τ) (Cert.CandidatesIdeal.main (F := Ideal))) ⟨m, fun _ => 0, g⟩ (fun r => ∀ c : Dev Cert.CandidatesIdeal.nD,
          r.2.mem ((c.tc : Thread Cert.CandidatesIdeal.nD Cert.CandidatesIdeal.τ).loc Cert.CandidatesIdeal.main_v0_0) = v0 c
          ∧ r.2.mem ((c.tc : Thread Cert.CandidatesIdeal.nD Cert.CandidatesIdeal.τ).loc Cert.CandidatesIdeal.main_v0_1) = v1 c
          ∧ r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0))
      ∧ θ_run (Cert.CandidatesReferenceIdeal.defs (F := Ideal)) (onTc (τ := Cert.CandidatesReferenceIdeal.τ) (Cert.CandidatesReferenceIdeal.main (F := Ideal))) ⟨m', fun _ => 0, g'⟩ (fun r => ∀ c : Dev Cert.CandidatesReferenceIdeal.nD,
          r.2.mem ((c.tc : Thread Cert.CandidatesReferenceIdeal.nD Cert.CandidatesReferenceIdeal.τ).loc Cert.CandidatesReferenceIdeal.main_v19) = v0 c
          ∧ r.2.mem ((c.tc : Thread Cert.CandidatesReferenceIdeal.nD Cert.CandidatesReferenceIdeal.τ).loc Cert.CandidatesReferenceIdeal.main_v9) = v1 c
          ∧ r.2.mem ((c.tc : Thread Cert.CandidatesReferenceIdeal.nD Cert.CandidatesReferenceIdeal.τ).loc Cert.CandidatesReferenceIdeal.main_arg0) = m' ((c.tc : Thread Cert.CandidatesReferenceIdeal.nD Cert.CandidatesReferenceIdeal.τ).loc Cert.CandidatesReferenceIdeal.main_arg0))

def preserves_Keep_KeepIdeal : Prop :=
  True

def algebraic_KeepIdeal_KeepReferenceIdeal [hKeepIdeal : Cert.KeepIdeal.Facts] [hKeepReferenceIdeal : Cert.KeepReferenceIdeal.Facts] : Prop :=
  ∀ (m : (ℓ : Loc Cert.KeepIdeal.nD Cert.KeepIdeal.τ Cert.KeepIdeal.sig) → Buf (Elt Ideal) ℓ) (g : Dev Cert.KeepIdeal.nD → PrngReg)
    (m' : (ℓ : Loc Cert.KeepReferenceIdeal.nD Cert.KeepReferenceIdeal.τ Cert.KeepReferenceIdeal.sig) → Buf (Elt Ideal) ℓ) (g' : Dev Cert.KeepReferenceIdeal.nD → PrngReg), Pre_KeepIdeal m →
    (∀ c : Dev Cert.KeepIdeal.nD,
      m' ((c.tc : Thread Cert.KeepReferenceIdeal.nD Cert.KeepReferenceIdeal.τ).loc Cert.KeepReferenceIdeal.main_arg0) = m ((c.tc : Thread Cert.KeepIdeal.nD Cert.KeepIdeal.τ).loc Cert.KeepIdeal.main_arg0)
      ∧ m' ((c.tc : Thread Cert.KeepReferenceIdeal.nD Cert.KeepReferenceIdeal.τ).loc Cert.KeepReferenceIdeal.main_arg1) = m ((c.tc : Thread Cert.KeepIdeal.nD Cert.KeepIdeal.τ).loc Cert.KeepIdeal.main_arg1)
      ∧ m' ((c.tc : Thread Cert.KeepReferenceIdeal.nD Cert.KeepReferenceIdeal.τ).loc Cert.KeepReferenceIdeal.main_arg2) = m ((c.tc : Thread Cert.KeepIdeal.nD Cert.KeepIdeal.τ).loc Cert.KeepIdeal.main_arg2)) →
    ∃ (v0 : (c : Dev Cert.KeepIdeal.nD) → Buf (Elt Ideal) ((c.tc : Thread Cert.KeepIdeal.nD Cert.KeepIdeal.τ).loc Cert.KeepIdeal.main_v0)),
      θ_run (Cert.KeepIdeal.defs (F := Ideal)) (onTc (τ := Cert.KeepIdeal.τ) (Cert.KeepIdeal.main (F := Ideal))) ⟨m, fun _ => 0, g⟩ (fun r => ∀ c : Dev Cert.KeepIdeal.nD,
          r.2.mem ((c.tc : Thread Cert.KeepIdeal.nD Cert.KeepIdeal.τ).loc Cert.KeepIdeal.main_v0) = v0 c
          ∧ r.2.mem ((c.tc : Thread Cert.KeepIdeal.nD Cert.KeepIdeal.τ).loc Cert.KeepIdeal.main_arg0) = m ((c.tc : Thread Cert.KeepIdeal.nD Cert.KeepIdeal.τ).loc Cert.KeepIdeal.main_arg0)
          ∧ r.2.mem ((c.tc : Thread Cert.KeepIdeal.nD Cert.KeepIdeal.τ).loc Cert.KeepIdeal.main_arg1) = m ((c.tc : Thread Cert.KeepIdeal.nD Cert.KeepIdeal.τ).loc Cert.KeepIdeal.main_arg1)
          ∧ r.2.mem ((c.tc : Thread Cert.KeepIdeal.nD Cert.KeepIdeal.τ).loc Cert.KeepIdeal.main_arg2) = m ((c.tc : Thread Cert.KeepIdeal.nD Cert.KeepIdeal.τ).loc Cert.KeepIdeal.main_arg2))
      ∧ θ_run (Cert.KeepReferenceIdeal.defs (F := Ideal)) (onTc (τ := Cert.KeepReferenceIdeal.τ) (Cert.KeepReferenceIdeal.main (F := Ideal))) ⟨m', fun _ => 0, g'⟩ (fun r => ∀ c : Dev Cert.KeepReferenceIdeal.nD,
          r.2.mem ((c.tc : Thread Cert.KeepReferenceIdeal.nD Cert.KeepReferenceIdeal.τ).loc Cert.KeepReferenceIdeal.main_v58) = v0 c
          ∧ r.2.mem ((c.tc : Thread Cert.KeepReferenceIdeal.nD Cert.KeepReferenceIdeal.τ).loc Cert.KeepReferenceIdeal.main_arg0) = m' ((c.tc : Thread Cert.KeepReferenceIdeal.nD Cert.KeepReferenceIdeal.τ).loc Cert.KeepReferenceIdeal.main_arg0)
          ∧ r.2.mem ((c.tc : Thread Cert.KeepReferenceIdeal.nD Cert.KeepReferenceIdeal.τ).loc Cert.KeepReferenceIdeal.main_arg1) = m' ((c.tc : Thread Cert.KeepReferenceIdeal.nD Cert.KeepReferenceIdeal.τ).loc Cert.KeepReferenceIdeal.main_arg1)
          ∧ r.2.mem ((c.tc : Thread Cert.KeepReferenceIdeal.nD Cert.KeepReferenceIdeal.τ).loc Cert.KeepReferenceIdeal.main_arg2) = m' ((c.tc : Thread Cert.KeepReferenceIdeal.nD Cert.KeepReferenceIdeal.τ).loc Cert.KeepReferenceIdeal.main_arg2))

def preserves_Boxes_BoxesIdeal : Prop :=
  True

def algebraic_BoxesIdeal_BoxesReferenceIdeal [hBoxesIdeal : Cert.BoxesIdeal.Facts] [hBoxesReferenceIdeal : Cert.BoxesReferenceIdeal.Facts] [hPre_in_table : Cert.Pre_in_table.Facts] : Prop :=
  ∀ (m : (ℓ : Loc Cert.BoxesIdeal.nD Cert.BoxesIdeal.τ Cert.BoxesIdeal.sig) → Buf (Elt Ideal) ℓ) (g : Dev Cert.BoxesIdeal.nD → PrngReg)
    (m' : (ℓ : Loc Cert.BoxesReferenceIdeal.nD Cert.BoxesReferenceIdeal.τ Cert.BoxesReferenceIdeal.sig) → Buf (Elt Ideal) ℓ) (g' : Dev Cert.BoxesReferenceIdeal.nD → PrngReg), Pre_BoxesIdeal m →
    (∀ c : Dev Cert.BoxesIdeal.nD,
      m' ((c.tc : Thread Cert.BoxesReferenceIdeal.nD Cert.BoxesReferenceIdeal.τ).loc Cert.BoxesReferenceIdeal.main_arg0) = m ((c.tc : Thread Cert.BoxesIdeal.nD Cert.BoxesIdeal.τ).loc Cert.BoxesIdeal.main_arg0)
      ∧ m' ((c.tc : Thread Cert.BoxesReferenceIdeal.nD Cert.BoxesReferenceIdeal.τ).loc Cert.BoxesReferenceIdeal.main_arg1) = m ((c.tc : Thread Cert.BoxesIdeal.nD Cert.BoxesIdeal.τ).loc Cert.BoxesIdeal.main_arg1)) →
    ∃ (v0 : (c : Dev Cert.BoxesIdeal.nD) → Buf (Elt Ideal) ((c.tc : Thread Cert.BoxesIdeal.nD Cert.BoxesIdeal.τ).loc Cert.BoxesIdeal.main_v3)),
      θ_run (Cert.BoxesIdeal.defs (F := Ideal)) (Cert.BoxesIdeal.threads (F := Ideal)) ⟨m, fun _ => 0, g⟩ (fun r => ∀ c : Dev Cert.BoxesIdeal.nD,
          r.2.mem ((c.tc : Thread Cert.BoxesIdeal.nD Cert.BoxesIdeal.τ).loc Cert.BoxesIdeal.main_v3) = v0 c
          ∧ r.2.mem ((c.tc : Thread Cert.BoxesIdeal.nD Cert.BoxesIdeal.τ).loc Cert.BoxesIdeal.main_arg0) = m ((c.tc : Thread Cert.BoxesIdeal.nD Cert.BoxesIdeal.τ).loc Cert.BoxesIdeal.main_arg0)
          ∧ r.2.mem ((c.tc : Thread Cert.BoxesIdeal.nD Cert.BoxesIdeal.τ).loc Cert.BoxesIdeal.main_arg1) = m ((c.tc : Thread Cert.BoxesIdeal.nD Cert.BoxesIdeal.τ).loc Cert.BoxesIdeal.main_arg1))
      ∧ θ_run (Cert.BoxesReferenceIdeal.defs (F := Ideal)) (onTc (τ := Cert.BoxesReferenceIdeal.τ) (Cert.BoxesReferenceIdeal.main (F := Ideal))) ⟨m', fun _ => 0, g'⟩ (fun r => ∀ c : Dev Cert.BoxesReferenceIdeal.nD,
          r.2.mem ((c.tc : Thread Cert.BoxesReferenceIdeal.nD Cert.BoxesReferenceIdeal.τ).loc Cert.BoxesReferenceIdeal.main_v3) = v0 c
          ∧ r.2.mem ((c.tc : Thread Cert.BoxesReferenceIdeal.nD Cert.BoxesReferenceIdeal.τ).loc Cert.BoxesReferenceIdeal.main_arg0) = m' ((c.tc : Thread Cert.BoxesReferenceIdeal.nD Cert.BoxesReferenceIdeal.τ).loc Cert.BoxesReferenceIdeal.main_arg0)
          ∧ r.2.mem ((c.tc : Thread Cert.BoxesReferenceIdeal.nD Cert.BoxesReferenceIdeal.τ).loc Cert.BoxesReferenceIdeal.main_arg1) = m' ((c.tc : Thread Cert.BoxesReferenceIdeal.nD Cert.BoxesReferenceIdeal.τ).loc Cert.BoxesReferenceIdeal.main_arg1))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)) →
    ∃ (v0 : (c : Dev Cert.OutputIdeal.nD) → Buf (Elt Ideal) ((c.tc : Thread Cert.OutputIdeal.nD Cert.OutputIdeal.τ).loc Cert.OutputIdeal.main_v6)),
      θ_run (Cert.OutputIdeal.defs (F := Ideal)) (Cert.OutputIdeal.threads (F := Ideal)) ⟨m, fun _ => 0, g⟩ (fun r => ∀ c : Dev Cert.OutputIdeal.nD,
          r.2.mem ((c.tc : Thread Cert.OutputIdeal.nD Cert.OutputIdeal.τ).loc Cert.OutputIdeal.main_v6) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v15) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3))

def Claim : Prop :=
  ∃ (hKernel : Cert.Kernel.Facts) (hKernelIdeal : Cert.KernelIdeal.Facts) (hReferenceIdeal : Cert.ReferenceIdeal.Facts) (hCandidates : Cert.Candidates.Facts) (hCandidatesIdeal : Cert.CandidatesIdeal.Facts) (hCandidatesReferenceIdeal : Cert.CandidatesReferenceIdeal.Facts) (hKeep : Cert.Keep.Facts) (hKeepIdeal : Cert.KeepIdeal.Facts) (hKeepReferenceIdeal : Cert.KeepReferenceIdeal.Facts) (hBoxes : Cert.Boxes.Facts) (hBoxesIdeal : Cert.BoxesIdeal.Facts) (hBoxesReferenceIdeal : Cert.BoxesReferenceIdeal.Facts) (hOutput : Cert.Output.Facts) (hOutputIdeal : Cert.OutputIdeal.Facts) (hOutputReferenceIdeal : Cert.OutputReferenceIdeal.Facts) (hPre_in_table : Cert.Pre_in_table.Facts),
    quiescent_Kernel (hKernel := hKernel)
    ∧ quiescent_KernelIdeal (hKernelIdeal := hKernelIdeal)
    ∧ quiescent_ReferenceIdeal (hReferenceIdeal := hReferenceIdeal)
    ∧ quiescent_Candidates (hCandidates := hCandidates)
    ∧ quiescent_CandidatesIdeal (hCandidatesIdeal := hCandidatesIdeal)
    ∧ quiescent_CandidatesReferenceIdeal (hCandidatesReferenceIdeal := hCandidatesReferenceIdeal)
    ∧ quiescent_Keep (hKeep := hKeep)
    ∧ quiescent_KeepIdeal (hKeepIdeal := hKeepIdeal)
    ∧ quiescent_KeepReferenceIdeal (hKeepReferenceIdeal := hKeepReferenceIdeal)
    ∧ quiescent_Boxes (hBoxes := hBoxes) (hPre_in_table := hPre_in_table)
    ∧ quiescent_BoxesIdeal (hBoxesIdeal := hBoxesIdeal) (hPre_in_table := hPre_in_table)
    ∧ quiescent_BoxesReferenceIdeal (hBoxesReferenceIdeal := hBoxesReferenceIdeal) (hPre_in_table := hPre_in_table)
    ∧ quiescent_Output (hOutput := hOutput)
    ∧ quiescent_OutputIdeal (hOutputIdeal := hOutputIdeal)
    ∧ quiescent_OutputReferenceIdeal (hOutputReferenceIdeal := hOutputReferenceIdeal)
    ∧ preserves_Kernel_KernelIdeal
    ∧ algebraic_KernelIdeal_ReferenceIdeal (hKernelIdeal := hKernelIdeal) (hReferenceIdeal := hReferenceIdeal)
    ∧ preserves_Candidates_CandidatesIdeal
    ∧ algebraic_CandidatesIdeal_CandidatesReferenceIdeal (hCandidatesIdeal := hCandidatesIdeal) (hCandidatesReferenceIdeal := hCandidatesReferenceIdeal)
    ∧ preserves_Keep_KeepIdeal
    ∧ algebraic_KeepIdeal_KeepReferenceIdeal (hKeepIdeal := hKeepIdeal) (hKeepReferenceIdeal := hKeepReferenceIdeal)
    ∧ preserves_Boxes_BoxesIdeal
    ∧ algebraic_BoxesIdeal_BoxesReferenceIdeal (hBoxesIdeal := hBoxesIdeal) (hBoxesReferenceIdeal := hBoxesReferenceIdeal) (hPre_in_table := hPre_in_table)
    ∧ preserves_Output_OutputIdeal
    ∧ algebraic_OutputIdeal_OutputReferenceIdeal (hOutputIdeal := hOutputIdeal) (hOutputReferenceIdeal := hOutputReferenceIdeal)
-- ==== Pre_in_table.lean ====
abbrev S4x80000 : Shape := ⟨2, ![4, 80000]⟩
abbrev S4x2048 : Shape := ⟨2, ![4, 2048]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x80000 .f32) (main_arg1 : IVec S4x2048 32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 20000#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Kernel.lean ====
abbrev S4x1600000 : Shape := ⟨2, ![4, 1600000]⟩
abbrev S6400000 : Shape := ⟨1, ![6400000]⟩
abbrev S65536 : Shape := ⟨1, ![65536]⟩
abbrev S8000 : Shape := ⟨1, ![8000]⟩
abbrev S2048 : Shape := ⟨1, ![2048]⟩
abbrev S16 : Shape := ⟨1, ![16]⟩
abbrev S_ : Shape := ⟨0, ![]⟩
abbrev S4x16384 : Shape := ⟨2, ![4, 16384]⟩

abbrev nBuf : Table → Nat
  | .hbm => 6
  | .local .scVector .vmem => 3
  | _ => 0

abbrev bufTy : (tb : Table) → Fin (nBuf tb) → BufTy
  | .hbm, ⟨0, _⟩ => ⟨S4x1600000, .f32⟩
  | .hbm, ⟨1, _⟩ => ⟨S6400000, .f32⟩
  | .hbm, ⟨2, _⟩ => ⟨S65536, .f32⟩
  | .hbm, ⟨3, _⟩ => ⟨S65536, .i32⟩
  | .hbm, ⟨4, _⟩ => ⟨S4x16384, .f32⟩
  | .hbm, ⟨5, _⟩ => ⟨S4x16384, .i32⟩
  | .local .scVector .vmem, ⟨0, _⟩ => ⟨S8000, .f32⟩
  | .local .scVector .vmem, ⟨1, _⟩ => ⟨S2048, .f32⟩
  | .local .scVector .vmem, ⟨2, _⟩ => ⟨S2048, .i32⟩
  | _, _ => ⟨S4x1600000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_11 : BitVec 32 := 0#32
  let c128_i32 : BitVec 32 := 128#32
  let v30 : BitVec 32 := Scalar.addi c0_i32_11 c128_i32
  let c1_i32_12 : BitVec 32 := 1#32
  ⟨c0_i32_11, v30, c1_i32_12⟩
def k0_off1 (k0_t1 : Fin k0_t1_loop.trips) : Fin 1 → Nat :=
  let c0_i32_11 : BitVec 32 := 0#32
  let c1_i32_12 : BitVec 32 := 1#32
  let arg8 : BitVec 32 := Scf.iv c0_i32_11 c1_i32_12 k0_t1
  let c16_i32 : BitVec 32 := 16#32
  let v42 : BitVec 32 := Scalar.muli arg8 c16_i32
  let v43 : Index := Scalar.indexCast v42
  ![v43.toNat]
@[reducible] def k0_t2_loop : Scf.Loop 32 :=
  let c0_i32_15 : BitVec 32 := 0#32
  let c25_i32 : BitVec 32 := 25#32
  let v33 : BitVec 32 := Scalar.addi c0_i32_15 c25_i32
  let c1_i32_16 : BitVec 32 := 1#32
  ⟨c0_i32_15, v33, c1_i32_16⟩
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1600000_i32 : BitVec 32 := 1600000#32
  let v41 : BitVec 32 := Scalar.muli v18 c1600000_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c200000_i32 : BitVec 32 := 200000#32
  let v29 : BitVec 32 := Scalar.muli v28 c200000_i32
  let v42 : BitVec 32 := Scalar.addi v41 v29
  let c0_i32_15 : BitVec 32 := 0#32
  let c1_i32_16 : BitVec 32 := 1#32
  let arg8 : BitVec 32 := Scf.iv c0_i32_15 c1_i32_16 k0_t2
  let c8000_i32 : BitVec 32 := 8000#32
  let v43 : BitVec 32 := Scalar.muli arg8 c8000_i32
  let v44 : BitVec 32 := Scalar.addi v42 v43
  ![v44.toNat]
@[reducible] def k0_t3_loop : Scf.Loop 32 :=
  let c0_i32_20 : BitVec 32 := 0#32
  let c125_i32 : BitVec 32 := 125#32
  let v45 : BitVec 32 := Scalar.addi c0_i32_20 c125_i32
  let c1_i32_21 : BitVec 32 := 1#32
  ⟨c0_i32_20, v45, c1_i32_21⟩
def k0_off3 (k0_t3 : Fin k0_t3_loop.trips) (c0_i32_23 : BitVec 32) : Fin 1 → Nat :=
  let c0_i32_20 : BitVec 32 := 0#32
  let c1_i32_21 : BitVec 32 := 1#32
  let arg10 : BitVec 32 := Scf.iv c0_i32_20 c1_i32_21 k0_t3
  let c64_i32 : BitVec 32 := 64#32
  let v47 : BitVec 32 := Scalar.muli arg10 c64_i32
  let v48 : BitVec 32 := Scalar.addi v47 c0_i32_23
  let v49 : Index := Scalar.indexCast v48
  ![v49.toNat]
def k0_cond1 (v80 : BitVec 32) : BitVec 1 :=
  let c0_i32_30 : BitVec 32 := 0#32
  let v81 : BitVec 1 := Scalar.cmpi .sgt v80 c0_i32_30
  let v82 : BitVec 32 := Scalar.extui v81
  let c0_i32_31 : BitVec 32 := 0#32
  let v83 : BitVec 1 := Scalar.cmpi .ne v82 c0_i32_31
  v83

def k0_chk1 (v80 : BitVec 32) (v98 : IVec S16 32) : Prop :=
  (∀ (k0_h1 : k0_cond1 v80 = 1#1), ∀ a x, ((![v98] : Fin 1 → IVec S16 32) a x).toNat < S2048.size a) ∧
  (∀ (k0_h1 : k0_cond1 v80 = 1#1), ∀ a x, ((![v98] : Fin 1 → IVec S16 32) a x).toNat < S2048.size a)
theorem k0_idx1_inb : ∀ (v80 : BitVec 32) (v98 : IVec S16 32) (k0_hw1 : k0_chk1 v80 v98), ∀ (k0_h1 : k0_cond1 v80 = 1#1), ∀ a x, ((![v98] : Fin 1 → IVec S16 32) a x).toNat < S2048.size a := fun v80 v98 k0_hw1 k0_h1 => k0_hw1.1 k0_h1
theorem k0_idx2_inb : ∀ (v80 : BitVec 32) (v98 : IVec S16 32) (k0_hw1 : k0_chk1 v80 v98), ∀ (k0_h1 : k0_cond1 v80 = 1#1), ∀ a x, ((![v98] : Fin 1 → IVec S16 32) a x).toNat < S2048.size a := fun v80 v98 k0_hw1 k0_h1 => k0_hw1.2 k0_h1

def k0_chk2 (v80 : BitVec 32) (v116 : IVec S16 32) : Prop :=
  (∀ (k0_h1 : k0_cond1 v80 = 1#1), ∀ a x, ((![v116] : Fin 1 → IVec S16 32) a x).toNat < S2048.size a) ∧
  (∀ (k0_h1 : k0_cond1 v80 = 1#1), ∀ a x, ((![v116] : Fin 1 → IVec S16 32) a x).toNat < S2048.size a)
theorem k0_idx3_inb : ∀ (v80 : BitVec 32) (v116 : IVec S16 32) (k0_hw2 : k0_chk2 v80 v116), ∀ (k0_h1 : k0_cond1 v80 = 1#1), ∀ a x, ((![v116] : Fin 1 → IVec S16 32) a x).toNat < S2048.size a := fun v80 v116 k0_hw2 k0_h1 => k0_hw2.1 k0_h1
theorem k0_idx4_inb : ∀ (v80 : BitVec 32) (v116 : IVec S16 32) (k0_hw2 : k0_chk2 v80 v116), ∀ (k0_h1 : k0_cond1 v80 = 1#1), ∀ a x, ((![v116] : Fin 1 → IVec S16 32) a x).toNat < S2048.size a := fun v80 v116 k0_hw2 k0_h1 => k0_hw2.2 k0_h1

def k0_chk3 (v80 : BitVec 32) (v134 : IVec S16 32) : Prop :=
  (∀ (k0_h1 : k0_cond1 v80 = 1#1), ∀ a x, ((![v134] : Fin 1 → IVec S16 32) a x).toNat < S2048.size a) ∧
  (∀ (k0_h1 : k0_cond1 v80 = 1#1), ∀ a x, ((![v134] : Fin 1 → IVec S16 32) a x).toNat < S2048.size a)
theorem k0_idx5_inb : ∀ (v80 : BitVec 32) (v134 : IVec S16 32) (k0_hw3 : k0_chk3 v80 v134), ∀ (k0_h1 : k0_cond1 v80 = 1#1), ∀ a x, ((![v134] : Fin 1 → IVec S16 32) a x).toNat < S2048.size a := fun v80 v134 k0_hw3 k0_h1 => k0_hw3.1 k0_h1
theorem k0_idx6_inb : ∀ (v80 : BitVec 32) (v134 : IVec S16 32) (k0_hw3 : k0_chk3 v80 v134), ∀ (k0_h1 : k0_cond1 v80 = 1#1), ∀ a x, ((![v134] : Fin 1 → IVec S16 32) a x).toNat < S2048.size a := fun v80 v134 k0_hw3 k0_h1 => k0_hw3.2 k0_h1

def k0_chk4 (v80 : BitVec 32) (v152 : IVec S16 32) : Prop :=
  (∀ (k0_h1 : k0_cond1 v80 = 1#1), ∀ a x, ((![v152] : Fin 1 → IVec S16 32) a x).toNat < S2048.size a) ∧
  (∀ (k0_h1 : k0_cond1 v80 = 1#1), ∀ a x, ((![v152] : Fin 1 → IVec S16 32) a x).toNat < S2048.size a)
theorem k0_idx7_inb : ∀ (v80 : BitVec 32) (v152 : IVec S16 32) (k0_hw4 : k0_chk4 v80 v152), ∀ (k0_h1 : k0_cond1 v80 = 1#1), ∀ a x, ((![v152] : Fin 1 → IVec S16 32) a x).toNat < S2048.size a := fun v80 v152 k0_hw4 k0_h1 => k0_hw4.1 k0_h1
theorem k0_idx8_inb : ∀ (v80 : BitVec 32) (v152 : IVec S16 32) (k0_hw4 : k0_chk4 v80 v152), ∀ (k0_h1 : k0_cond1 v80 = 1#1), ∀ a x, ((![v152] : Fin 1 → IVec S16 32) a x).toNat < S2048.size a := fun v80 v152 k0_hw4 k0_h1 => k0_hw4.2 k0_h1
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32 : BitVec 32 := 16384#32
  let v35 : BitVec 32 := Scalar.muli v18 c16384_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v36 : BitVec 32 := Scalar.muli v28 c2048_i32
  let v37 : BitVec 32 := Scalar.addi v35 v36
  ![v37.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1600000 : Shape := ⟨2, ![4, 1600000]⟩
abbrev S32x200000 : Shape := ⟨2, ![32, 200000]⟩
abbrev S_ : Shape := ⟨0, ![]⟩
abbrev S200000 : Shape := ⟨1, ![200000]⟩
abbrev S1x200000 : Shape := ⟨2, ![1, 200000]⟩
abbrev S32x2048 : Shape := ⟨2, ![32, 2048]⟩
abbrev S32 : Shape := ⟨1, ![32]⟩
abbrev S32x1 : Shape := ⟨2, ![32, 1]⟩
abbrev S2048 : Shape := ⟨1, ![2048]⟩
abbrev S1x2048 : Shape := ⟨2, ![1, 2048]⟩
abbrev S32x2048x1 : Shape := ⟨3, ![32, 2048, 1]⟩
abbrev S4x16384 : Shape := ⟨2, ![4, 16384]⟩

abbrev nBuf : Space → Nat
  | .hbm => 62
  | .vmem => 0
  | .smem => 0
  | _ => 0

abbrev bufTy : (tb : Table) → Fin (tcTables nBuf tb) → BufTy
  | .hbm, ⟨0, _⟩ => ⟨S4x1600000, .f32⟩
  | .hbm, ⟨1, _⟩ => ⟨S32x200000, .f32⟩
  | .hbm, ⟨2, _⟩ => ⟨S_, .f32⟩
  | .hbm, ⟨3, _⟩ => ⟨S32x200000, .f32⟩
  | .hbm, ⟨4, _⟩ => ⟨S32x200000, .i1⟩
  | .hbm, ⟨5, _⟩ => ⟨S200000, .i32⟩
  | .hbm, ⟨6, _⟩ => ⟨S1x200000, .i32⟩
  | .hbm, ⟨7, _⟩ => ⟨S_, .i32⟩
  | .hbm, ⟨8, _⟩ => ⟨S_, .i32⟩
  | .hbm, ⟨9, _⟩ => ⟨S32x200000, .i32⟩
  | .hbm, ⟨10, _⟩ => ⟨S32x200000, .i32⟩
  | .hbm, ⟨11, _⟩ => ⟨S32x200000, .i32⟩
  | .hbm, ⟨12, _⟩ => ⟨S32x200000, .i32⟩
  | .hbm, ⟨13, _⟩ => ⟨S32x2048, .i32⟩
  | .hbm, ⟨14, _⟩ => ⟨S_, .i32⟩
  | .hbm, ⟨15, _⟩ => ⟨S_, .i32⟩
  | .hbm, ⟨16, _⟩ => ⟨S32x200000, .i32⟩
  | .hbm, ⟨17, _⟩ => ⟨S32x200000, .i32⟩
  | .hbm, ⟨18, _⟩ => ⟨S32x200000, .i32⟩
  | .hbm, ⟨19, _⟩ => ⟨S_, .i32⟩
  | .hbm, ⟨20, _⟩ => ⟨S32, .i32⟩
  | .hbm, ⟨21, _⟩ => ⟨S32x1, .i32⟩
  | .hbm, ⟨22, _⟩ => ⟨S2048, .i32⟩
  | .hbm, ⟨23, _⟩ => ⟨S1x2048, .i32⟩
  | .hbm, ⟨24, _⟩ => ⟨S_, .i32⟩
  | .hbm, ⟨25, _⟩ => ⟨S1x2048, .i32⟩
  | .hbm, ⟨26, _⟩ => ⟨S1x2048, .i1⟩
  | .hbm, ⟨27, _⟩ => ⟨S32x2048, .i1⟩
  | .hbm, ⟨28, _⟩ => ⟨S32x2048, .i32⟩
  | .hbm, ⟨29, _⟩ => ⟨S32x2048, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S_, .i32⟩
  | .hbm, ⟨39, _⟩ => ⟨S32x2048, .i32⟩
  | .hbm, ⟨40, _⟩ => ⟨S32x2048, .i1⟩
  | .hbm, ⟨41, _⟩ => ⟨S_, .i32⟩
  | .hbm, ⟨42, _⟩ => ⟨S32x2048, .i32⟩
  | .hbm, ⟨43, _⟩ => ⟨S32x2048, .i1⟩
  | .hbm, ⟨44, _⟩ => ⟨S_, .i32⟩
  | .hbm, ⟨45, _⟩ => ⟨S32x2048, .i32⟩
  | .hbm, ⟨46, _⟩ => ⟨S32x2048, .i32⟩
  | .hbm, ⟨47, _⟩ => ⟨S32x2048, .i32⟩
  | .hbm, ⟨48, _⟩ => ⟨S32x2048x1, .i32⟩
  | .hbm, ⟨49, _⟩ => ⟨S32x2048, .f32⟩
  | .hbm, ⟨50, _⟩ => ⟨S_, .f32⟩
  | .hbm, ⟨51, _⟩ => ⟨S_, .f32⟩
  | .hbm, ⟨52, _⟩ => ⟨S32x2048, .f32⟩
  | .hbm, ⟨53, _⟩ => ⟨S32x2048, .f32⟩
  | .hbm, ⟨54, _⟩ => ⟨S32x2048, .i32⟩
  | .hbm, ⟨55, _⟩ => ⟨S32x2048, .i32⟩
  | .hbm, ⟨56, _⟩ => ⟨S_, .i32⟩
  | .hbm, ⟨57, _⟩ => ⟨S_, .i32⟩
  | .hbm, ⟨58, _⟩ => ⟨S32x2048, .i32⟩
  | .hbm, ⟨59, _⟩ => ⟨S32x2048, .i32⟩
  | .hbm, ⟨60, _⟩ => ⟨S4x16384, .f32⟩
  | .hbm, ⟨61, _⟩ => ⟨S4x16384, .i32⟩
  | _, _ => ⟨S4x1600000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_call3_v0 : Ref sig .tc := ⟨.hbm, 27, rfl⟩
abbrev main_call3_v1 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_call4_c : Ref sig .tc := ⟨.hbm, 41, rfl⟩
abbrev main_call4_v0 : Ref sig .tc := ⟨.hbm, 42, rfl⟩
abbrev main_call4_v1 : Ref sig .tc := ⟨.hbm, 43, rfl⟩
abbrev main_call4_c_0 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_v24 : Ref sig .tc := ⟨.hbm, 49, rfl⟩
abbrev main_cst_6 : Ref sig .tc := ⟨.hbm, 50, rfl⟩
abbrev main_call5_v0 : Ref sig .tc := ⟨.hbm, 51, rfl⟩
abbrev main_call5_v1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_7 : Ref sig .tc := ⟨.hbm, 56, rfl⟩
abbrev main_call6_v0 : Ref sig .tc := ⟨.hbm, 57, rfl⟩
abbrev main_call6_v1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩

abbrev nD : Nat := 1
abbrev τ : Topo := Topo.v7x

variable {F : FTy → Type} [FloatOps F]
-- ==== Candidates.lean ====
abbrev S4x20000x85 : Shape := ⟨3, ![4, 20000, 85]⟩
abbrev S4x20000x80 : Shape := ⟨3, ![4, 20000, 80]⟩
abbrev S4x20000x4 : Shape := ⟨3, ![4, 20000, 4]⟩
abbrev S1x4000x85 : Shape := ⟨3, ![1, 4000, 85]⟩
abbrev S1x4000x80 : Shape := ⟨3, ![1, 4000, 80]⟩
abbrev S1x4000x4 : Shape := ⟨3, ![1, 4000, 4]⟩
abbrev S4000x85 : Shape := ⟨2, ![4000, 85]⟩
abbrev S4000x2 : Shape := ⟨2, ![4000, 2]⟩
abbrev S4000x1 : Shape := ⟨2, ![4000, 1]⟩
abbrev S4000x80 : Shape := ⟨2, ![4000, 80]⟩
abbrev S4000x4 : Shape := ⟨2, ![4000, 4]⟩

abbrev nBuf : Space → Nat
  | .hbm => 3
  | .vmem => 6
  | .smem => 0
  | _ => 0

abbrev bufTy : (tb : Table) → Fin (tcTables nBuf tb) → BufTy
  | .hbm, ⟨0, _⟩ => ⟨S4x20000x85, .f32⟩
  | .hbm, ⟨1, _⟩ => ⟨S4x20000x80, .f32⟩
  | .hbm, ⟨2, _⟩ => ⟨S4x20000x4, .f32⟩
  | .local _ .vmem, ⟨0, _⟩ => ⟨S1x4000x85, .f32⟩
  | .local _ .vmem, ⟨1, _⟩ => ⟨S1x4000x85, .f32⟩
  | .local _ .vmem, ⟨2, _⟩ => ⟨S1x4000x80, .f32⟩
  | .local _ .vmem, ⟨3, _⟩ => ⟨S1x4000x80, .f32⟩
  | .local _ .vmem, ⟨4, _⟩ => ⟨S1x4000x4, .f32⟩
  | .local _ .vmem, ⟨5, _⟩ => ⟨S1x4000x4, .f32⟩
  | _, _ => ⟨S4x20000x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4000x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CandidatesReferenceIdeal.lean ====
abbrev S4x20000x85 : Shape := ⟨3, ![4, 20000, 85]⟩
abbrev S4x20000x1 : Shape := ⟨3, ![4, 20000, 1]⟩
abbrev S4x20000x2 : Shape := ⟨3, ![4, 20000, 2]⟩
abbrev S_ : Shape := ⟨0, ![]⟩
abbrev S4x20000x4 : Shape := ⟨3, ![4, 20000, 4]⟩
abbrev S4x20000x80 : Shape := ⟨3, ![4, 20000, 80]⟩

abbrev nBuf : Space → Nat
  | .hbm => 28
  | .vmem => 0
  | .smem => 0
  | _ => 0

abbrev bufTy : (tb : Table) → Fin (tcTables nBuf tb) → BufTy
  | .hbm, ⟨0, _⟩ => ⟨S4x20000x85, .f32⟩
  | .hbm, ⟨1, _⟩ => ⟨S4x20000x1, .f32⟩
  | .hbm, ⟨2, _⟩ => ⟨S4x20000x2, .f32⟩
  | .hbm, ⟨3, _⟩ => ⟨S4x20000x2, .f32⟩
  | .hbm, ⟨4, _⟩ => ⟨S_, .f32⟩
  | .hbm, ⟨5, _⟩ => ⟨S4x20000x2, .f32⟩
  | .hbm, ⟨6, _⟩ => ⟨S4x20000x2, .f32⟩
  | .hbm, ⟨7, _⟩ => ⟨S4x20000x2, .f32⟩
  | .hbm, ⟨8, _⟩ => ⟨S_, .f32⟩
  | .hbm, ⟨9, _⟩ => ⟨S4x20000x2, .f32⟩
  | .hbm, ⟨10, _⟩ => ⟨S4x20000x2, .f32⟩
  | .hbm, ⟨11, _⟩ => ⟨S4x20000x2, .f32⟩
  | .hbm, ⟨12, _⟩ => ⟨S4x20000x4, .f32⟩
  | .hbm, ⟨13, _⟩ => ⟨S4x20000x80, .f32⟩
  | .hbm, ⟨14, _⟩ => ⟨S4x20000x80, .f32⟩
  | .hbm, ⟨15, _⟩ => ⟨S4x20000x80, .f32⟩
  | .hbm, ⟨16, _⟩ => ⟨S_, .f32⟩
  | .hbm, ⟨17, _⟩ => ⟨S4x20000x1, .f32⟩
  | .hbm, ⟨18, _⟩ => ⟨S4x20000x1, .i1⟩
  | .hbm, ⟨19, _⟩ => ⟨S_, .f32⟩
  | .hbm, ⟨20, _⟩ => ⟨S4x20000x80, .f32⟩
  | .hbm, ⟨21, _⟩ => ⟨S4x20000x80, .i1⟩
  | .hbm, ⟨22, _⟩ => ⟨S4x20000x80, .i1⟩
  | .hbm, ⟨23, _⟩ => ⟨S4x20000x80, .i1⟩
  | .hbm, ⟨24, _⟩ => ⟨S_, .f32⟩
  | .hbm, ⟨25, _⟩ => ⟨S_, .f32⟩
  | .hbm, ⟨26, _⟩ => ⟨S4x20000x80, .f32⟩
  | .hbm, ⟨27, _⟩ => ⟨S4x20000x80, .f32⟩
  | _, _ => ⟨S4x20000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Keep.lean ====
abbrev S4x4x2048 : Shape := ⟨3, ![4, 4, 2048]⟩
abbrev S4x2048 : Shape := ⟨2, ![4, 2048]⟩
abbrev S4x128x2048 : Shape := ⟨3, ![4, 128, 2048]⟩
abbrev S4x1x2048 : Shape := ⟨3, ![4, 1, 2048]⟩
abbrev S1x128 : Shape := ⟨2, ![1, 128]⟩
abbrev S4x128 : Shape := ⟨2, ![4, 128]⟩
abbrev S4x128x1 : Shape := ⟨3, ![4, 128, 1]⟩
abbrev S4x8x128 : Shape := ⟨3, ![4, 8, 128]⟩
abbrev S4x1x128 : Shape := ⟨3, ![4, 1, 128]⟩
abbrev S4 : Shape := ⟨1, ![4]⟩
abbrev S4x1 : Shape := ⟨2, ![4, 1]⟩
abbrev S4x1920 : Shape := ⟨2, ![4, 1920]⟩
abbrev S4x1x1920 : Shape := ⟨3, ![4, 1, 1920]⟩
abbrev S4x128x1920 : Shape := ⟨3, ![4, 128, 1920]⟩
abbrev S4x1792 : Shape := ⟨2, ![4, 1792]⟩
abbrev S4x1x1792 : Shape := ⟨3, ![4, 1, 1792]⟩
abbrev S4x128x1792 : Shape := ⟨3, ![4, 128, 1792]⟩
abbrev S4x256 : Shape := ⟨2, ![4, 256]⟩
abbrev S4x1664 : Shape := ⟨2, ![4, 1664]⟩
abbrev S4x1x1664 : Shape := ⟨3, ![4, 1, 1664]⟩
abbrev S4x128x1664 : Shape := ⟨3, ![4, 128, 1664]⟩
abbrev S4x384 : Shape := ⟨2, ![4, 384]⟩
abbrev S4x1536 : Shape := ⟨2, ![4, 1536]⟩
abbrev S4x1x1536 : Shape := ⟨3, ![4, 1, 1536]⟩
abbrev S4x128x1536 : Shape := ⟨3, ![4, 128, 1536]⟩
abbrev S4x512 : Shape := ⟨2, ![4, 512]⟩
abbrev S4x1408 : Shape := ⟨2, ![4, 1408]⟩
abbrev S4x1x1408 : Shape := ⟨3, ![4, 1, 1408]⟩
abbrev S4x128x1408 : Shape := ⟨3, ![4, 128, 1408]⟩
abbrev S4x640 : Shape := ⟨2, ![4, 640]⟩
abbrev S4x1280 : Shape := ⟨2, ![4, 1280]⟩
abbrev S4x1x1280 : Shape := ⟨3, ![4, 1, 1280]⟩
abbrev S4x128x1280 : Shape := ⟨3, ![4, 128, 1280]⟩
abbrev S4x768 : Shape := ⟨2, ![4, 768]⟩
abbrev S4x1152 : Shape := ⟨2, ![4, 1152]⟩
abbrev S4x1x1152 : Shape := ⟨3, ![4, 1, 1152]⟩
abbrev S4x128x1152 : Shape := ⟨3, ![4, 128, 1152]⟩
abbrev S4x896 : Shape := ⟨2, ![4, 896]⟩
abbrev S4x1024 : Shape := ⟨2, ![4, 1024]⟩
abbrev S4x1x1024 : Shape := ⟨3, ![4, 1, 1024]⟩
abbrev S4x128x1024 : Shape := ⟨3, ![4, 128, 1024]⟩
abbrev S4x1x896 : Shape := ⟨3, ![4, 1, 896]⟩
abbrev S4x128x896 : Shape := ⟨3, ![4, 128, 896]⟩
abbrev S4x1x768 : Shape := ⟨3, ![4, 1, 768]⟩
abbrev S4x128x768 : Shape := ⟨3, ![4, 128, 768]⟩
abbrev S4x1x640 : Shape := ⟨3, ![4, 1, 640]⟩
abbrev S4x128x640 : Shape := ⟨3, ![4, 128, 640]⟩
abbrev S4x1x512 : Shape := ⟨3, ![4, 1, 512]⟩
abbrev S4x128x512 : Shape := ⟨3, ![4, 128, 512]⟩
abbrev S4x1x384 : Shape := ⟨3, ![4, 1, 384]⟩
abbrev S4x128x384 : Shape := ⟨3, ![4, 128, 384]⟩
abbrev S4x1x256 : Shape := ⟨3, ![4, 1, 256]⟩
abbrev S4x128x256 : Shape := ⟨3, ![4, 128, 256]⟩
abbrev S4x128x128 : Shape := ⟨3, ![4, 128, 128]⟩

abbrev nBuf : Space → Nat
  | .hbm => 4
  | .vmem => 5
  | .smem => 0
  | _ => 0

abbrev bufTy : (tb : Table) → Fin (tcTables nBuf tb) → BufTy
  | .hbm, ⟨0, _⟩ => ⟨S4x4x2048, .f32⟩
  | .hbm, ⟨1, _⟩ => ⟨S4x2048, .f32⟩
  | .hbm, ⟨2, _⟩ => ⟨S4x2048, .f32⟩
  | .hbm, ⟨3, _⟩ => ⟨S4x2048, .f32⟩
  | .local _ .vmem, ⟨0, _⟩ => ⟨S4x4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x128x2048, .f32⟩
  | _, _ => ⟨S4x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v81 : BitVec 32 := Scalar.addi c0_i32 c16_i32
  let c1_i32 : BitVec 32 := 1#32
  ⟨c0_i32, v81, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v1133 : BitVec 32 := Scalar.muli arg5 c8_i32
  v1133
def k0_off1 (k0_t1 : Fin k0_t1_loop.trips) : Fin 3 → Nat :=
  let c0_329 : Index := 0#32
  let c0_i32 : BitVec 32 := 0#32
  let c1_i32 : BitVec 32 := 1#32
  let arg5 : BitVec 32 := Scf.iv c0_i32 c1_i32 k0_t1
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t2_loop : Scf.Loop 32 :=
  let c0_i32_43 : BitVec 32 := 0#32
  let c16_i32_44 : BitVec 32 := 16#32
  let v149 : BitVec 32 := Scalar.addi c0_i32_43 c16_i32_44
  let c1_i32_45 : BitVec 32 := 1#32
  ⟨c0_i32_43, v149, c1_i32_45⟩
def k0_mult2 (k0_t2 : Fin k0_t2_loop.trips) : BitVec 32 :=
  let c0_i32_43 : BitVec 32 := 0#32
  let c1_i32_45 : BitVec 32 := 1#32
  let arg5 : BitVec 32 := Scf.iv c0_i32_43 c1_i32_45 k0_t2
  let c8_i32 : BitVec 32 := 8#32
  let v1133 : BitVec 32 := Scalar.muli arg5 c8_i32
  v1133
def k0_off2 (k0_t2 : Fin k0_t2_loop.trips) : Fin 3 → Nat :=
  let c0_329 : Index := 0#32
  let c0_i32_43 : BitVec 32 := 0#32
  let c1_i32_45 : BitVec 32 := 1#32
  let arg5 : BitVec 32 := Scf.iv c0_i32_43 c1_i32_45 k0_t2
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t3_loop : Scf.Loop 32 :=
  let c0_i32_63 : BitVec 32 := 0#32
  let c16_i32_64 : BitVec 32 := 16#32
  let v219 : BitVec 32 := Scalar.addi c0_i32_63 c16_i32_64
  let c1_i32_65 : BitVec 32 := 1#32
  ⟨c0_i32_63, v219, c1_i32_65⟩
def k0_mult3 (k0_t3 : Fin k0_t3_loop.trips) : BitVec 32 :=
  let c0_i32_63 : BitVec 32 := 0#32
  let c1_i32_65 : BitVec 32 := 1#32
  let arg5 : BitVec 32 := Scf.iv c0_i32_63 c1_i32_65 k0_t3
  let c8_i32 : BitVec 32 := 8#32
  let v1133 : BitVec 32 := Scalar.muli arg5 c8_i32
  v1133
def k0_off3 (k0_t3 : Fin k0_t3_loop.trips) : Fin 3 → Nat :=
  let c0_329 : Index := 0#32
  let c0_i32_63 : BitVec 32 := 0#32
  let c1_i32_65 : BitVec 32 := 1#32
  let arg5 : BitVec 32 := Scf.iv c0_i32_63 c1_i32_65 k0_t3
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t4_loop : Scf.Loop 32 :=
  let c0_i32_83 : BitVec 32 := 0#32
  let c16_i32_84 : BitVec 32 := 16#32
  let v289 : BitVec 32 := Scalar.addi c0_i32_83 c16_i32_84
  let c1_i32_85 : BitVec 32 := 1#32
  ⟨c0_i32_83, v289, c1_i32_85⟩
def k0_mult4 (k0_t4 : Fin k0_t4_loop.trips) : BitVec 32 :=
  let c0_i32_83 : BitVec 32 := 0#32
  let c1_i32_85 : BitVec 32 := 1#32
  let arg5 : BitVec 32 := Scf.iv c0_i32_83 c1_i32_85 k0_t4
  let c8_i32 : BitVec 32 := 8#32
  let v1133 : BitVec 32 := Scalar.muli arg5 c8_i32
  v1133
def k0_off4 (k0_t4 : Fin k0_t4_loop.trips) : Fin 3 → Nat :=
  let c0_329 : Index := 0#32
  let c0_i32_83 : BitVec 32 := 0#32
  let c1_i32_85 : BitVec 32 := 1#32
  let arg5 : BitVec 32 := Scf.iv c0_i32_83 c1_i32_85 k0_t4
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t5_loop : Scf.Loop 32 :=
  let c0_i32_103 : BitVec 32 := 0#32
  let c16_i32_104 : BitVec 32 := 16#32
  let v359 : BitVec 32 := Scalar.addi c0_i32_103 c16_i32_104
  let c1_i32_105 : BitVec 32 := 1#32
  ⟨c0_i32_103, v359, c1_i32_105⟩
def k0_mult5 (k0_t5 : Fin k0_t5_loop.trips) : BitVec 32 :=
  let c0_i32_103 : BitVec 32 := 0#32
  let c1_i32_105 : BitVec 32 := 1#32
  let arg5 : BitVec 32 := Scf.iv c0_i32_103 c1_i32_105 k0_t5
  let c8_i32 : BitVec 32 := 8#32
  let v1133 : BitVec 32 := Scalar.muli arg5 c8_i32
  v1133
def k0_off5 (k0_t5 : Fin k0_t5_loop.trips) : Fin 3 → Nat :=
  let c0_329 : Index := 0#32
  let c0_i32_103 : BitVec 32 := 0#32
  let c1_i32_105 : BitVec 32 := 1#32
  let arg5 : BitVec 32 := Scf.iv c0_i32_103 c1_i32_105 k0_t5
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t6_loop : Scf.Loop 32 :=
  let c0_i32_123 : BitVec 32 := 0#32
  let c16_i32_124 : BitVec 32 := 16#32
  let v429 : BitVec 32 := Scalar.addi c0_i32_123 c16_i32_124
  let c1_i32_125 : BitVec 32 := 1#32
  ⟨c0_i32_123, v429, c1_i32_125⟩
def k0_mult6 (k0_t6 : Fin k0_t6_loop.trips) : BitVec 32 :=
  let c0_i32_123 : BitVec 32 := 0#32
  let c1_i32_125 : BitVec 32 := 1#32
  let arg5 : BitVec 32 := Scf.iv c0_i32_123 c1_i32_125 k0_t6
  let c8_i32 : BitVec 32 := 8#32
  let v1133 : BitVec 32 := Scalar.muli arg5 c8_i32
  v1133
def k0_off6 (k0_t6 : Fin k0_t6_loop.trips) : Fin 3 → Nat :=
  let c0_329 : Index := 0#32
  let c0_i32_123 : BitVec 32 := 0#32
  let c1_i32_125 : BitVec 32 := 1#32
  let arg5 : BitVec 32 := Scf.iv c0_i32_123 c1_i32_125 k0_t6
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t7_loop : Scf.Loop 32 :=
  let c0_i32_143 : BitVec 32 := 0#32
  let c16_i32_144 : BitVec 32 := 16#32
  let v499 : BitVec 32 := Scalar.addi c0_i32_143 c16_i32_144
  let c1_i32_145 : BitVec 32 := 1#32
  ⟨c0_i32_143, v499, c1_i32_145⟩
def k0_mult7 (k0_t7 : Fin k0_t7_loop.trips) : BitVec 32 :=
  let c0_i32_143 : BitVec 32 := 0#32
  let c1_i32_145 : BitVec 32 := 1#32
  let arg5 : BitVec 32 := Scf.iv c0_i32_143 c1_i32_145 k0_t7
  let c8_i32 : BitVec 32 := 8#32
  let v1133 : BitVec 32 := Scalar.muli arg5 c8_i32
  v1133
def k0_off7 (k0_t7 : Fin k0_t7_loop.trips) : Fin 3 → Nat :=
  let c0_329 : Index := 0#32
  let c0_i32_143 : BitVec 32 := 0#32
  let c1_i32_145 : BitVec 32 := 1#32
  let arg5 : BitVec 32 := Scf.iv c0_i32_143 c1_i32_145 k0_t7
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t8_loop : Scf.Loop 32 :=
  let c0_i32_163 : BitVec 32 := 0#32
  let c16_i32_164 : BitVec 32 := 16#32
  let v569 : BitVec 32 := Scalar.addi c0_i32_163 c16_i32_164
  let c1_i32_165 : BitVec 32 := 1#32
  ⟨c0_i32_163, v569, c1_i32_165⟩
def k0_mult8 (k0_t8 : Fin k0_t8_loop.trips) : BitVec 32 :=
  let c0_i32_163 : BitVec 32 := 0#32
  let c1_i32_165 : BitVec 32 := 1#32
  let arg5 : BitVec 32 := Scf.iv c0_i32_163 c1_i32_165 k0_t8
  let c8_i32 : BitVec 32 := 8#32
  let v1133 : BitVec 32 := Scalar.muli arg5 c8_i32
  v1133
def k0_off8 (k0_t8 : Fin k0_t8_loop.trips) : Fin 3 → Nat :=
  let c0_329 : Index := 0#32
  let c0_i32_163 : BitVec 32 := 0#32
  let c1_i32_165 : BitVec 32 := 1#32
  let arg5 : BitVec 32 := Scf.iv c0_i32_163 c1_i32_165 k0_t8
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t9_loop : Scf.Loop 32 :=
  let c0_i32_183 : BitVec 32 := 0#32
  let c16_i32_184 : BitVec 32 := 16#32
  let v639 : BitVec 32 := Scalar.addi c0_i32_183 c16_i32_184
  let c1_i32_185 : BitVec 32 := 1#32
  ⟨c0_i32_183, v639, c1_i32_185⟩
def k0_mult9 (k0_t9 : Fin k0_t9_loop.trips) : BitVec 32 :=
  let c0_i32_183 : BitVec 32 := 0#32
  let c1_i32_185 : BitVec 32 := 1#32
  let arg5 : BitVec 32 := Scf.iv c0_i32_183 c1_i32_185 k0_t9
  let c8_i32 : BitVec 32 := 8#32
  let v1133 : BitVec 32 := Scalar.muli arg5 c8_i32
  v1133
def k0_off9 (k0_t9 : Fin k0_t9_loop.trips) : Fin 3 → Nat :=
  let c0_329 : Index := 0#32
  let c0_i32_183 : BitVec 32 := 0#32
  let c1_i32_185 : BitVec 32 := 1#32
  let arg5 : BitVec 32 := Scf.iv c0_i32_183 c1_i32_185 k0_t9
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t10_loop : Scf.Loop 32 :=
  let c0_i32_203 : BitVec 32 := 0#32
  let c16_i32_204 : BitVec 32 := 16#32
  let v709 : BitVec 32 := Scalar.addi c0_i32_203 c16_i32_204
  let c1_i32_205 : BitVec 32 := 1#32
  ⟨c0_i32_203, v709, c1_i32_205⟩
def k0_mult10 (k0_t10 : Fin k0_t10_loop.trips) : BitVec 32 :=
  let c0_i32_203 : BitVec 32 := 0#32
  let c1_i32_205 : BitVec 32 := 1#32
  let arg5 : BitVec 32 := Scf.iv c0_i32_203 c1_i32_205 k0_t10
  let c8_i32 : BitVec 32 := 8#32
  let v1133 : BitVec 32 := Scalar.muli arg5 c8_i32
  v1133
def k0_off10 (k0_t10 : Fin k0_t10_loop.trips) : Fin 3 → Nat :=
  let c0_329 : Index := 0#32
  let c0_i32_203 : BitVec 32 := 0#32
  let c1_i32_205 : BitVec 32 := 1#32
  let arg5 : BitVec 32 := Scf.iv c0_i32_203 c1_i32_205 k0_t10
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t11_loop : Scf.Loop 32 :=
  let c0_i32_223 : BitVec 32 := 0#32
  let c16_i32_224 : BitVec 32 := 16#32
  let v779 : BitVec 32 := Scalar.addi c0_i32_223 c16_i32_224
  let c1_i32_225 : BitVec 32 := 1#32
  ⟨c0_i32_223, v779, c1_i32_225⟩
def k0_mult11 (k0_t11 : Fin k0_t11_loop.trips) : BitVec 32 :=
  let c0_i32_223 : BitVec 32 := 0#32
  let c1_i32_225 : BitVec 32 := 1#32
  let arg5 : BitVec 32 := Scf.iv c0_i32_223 c1_i32_225 k0_t11
  let c8_i32 : BitVec 32 := 8#32
  let v1133 : BitVec 32 := Scalar.muli arg5 c8_i32
  v1133
def k0_off11 (k0_t11 : Fin k0_t11_loop.trips) : Fin 3 → Nat :=
  let c0_329 : Index := 0#32
  let c0_i32_223 : BitVec 32 := 0#32
  let c1_i32_225 : BitVec 32 := 1#32
  let arg5 : BitVec 32 := Scf.iv c0_i32_223 c1_i32_225 k0_t11
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t12_loop : Scf.Loop 32 :=
  let c0_i32_243 : BitVec 32 := 0#32
  let c16_i32_244 : BitVec 32 := 16#32
  let v849 : BitVec 32 := Scalar.addi c0_i32_243 c16_i32_244
  let c1_i32_245 : BitVec 32 := 1#32
  ⟨c0_i32_243, v849, c1_i32_245⟩
def k0_mult12 (k0_t12 : Fin k0_t12_loop.trips) : BitVec 32 :=
  let c0_i32_243 : BitVec 32 := 0#32
  let c1_i32_245 : BitVec 32 := 1#32
  let arg5 : BitVec 32 := Scf.iv c0_i32_243 c1_i32_245 k0_t12
  let c8_i32 : BitVec 32 := 8#32
  let v1133 : BitVec 32 := Scalar.muli arg5 c8_i32
  v1133
def k0_off12 (k0_t12 : Fin k0_t12_loop.trips) : Fin 3 → Nat :=
  let c0_329 : Index := 0#32
  let c0_i32_243 : BitVec 32 := 0#32
  let c1_i32_245 : BitVec 32 := 1#32
  let arg5 : BitVec 32 := Scf.iv c0_i32_243 c1_i32_245 k0_t12
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t13_loop : Scf.Loop 32 :=
  let c0_i32_263 : BitVec 32 := 0#32
  let c16_i32_264 : BitVec 32 := 16#32
  let v919 : BitVec 32 := Scalar.addi c0_i32_263 c16_i32_264
  let c1_i32_265 : BitVec 32 := 1#32
  ⟨c0_i32_263, v919, c1_i32_265⟩
def k0_mult13 (k0_t13 : Fin k0_t13_loop.trips) : BitVec 32 :=
  let c0_i32_263 : BitVec 32 := 0#32
  let c1_i32_265 : BitVec 32 := 1#32
  let arg5 : BitVec 32 := Scf.iv c0_i32_263 c1_i32_265 k0_t13
  let c8_i32 : BitVec 32 := 8#32
  let v1133 : BitVec 32 := Scalar.muli arg5 c8_i32
  v1133
def k0_off13 (k0_t13 : Fin k0_t13_loop.trips) : Fin 3 → Nat :=
  let c0_329 : Index := 0#32
  let c0_i32_263 : BitVec 32 := 0#32
  let c1_i32_265 : BitVec 32 := 1#32
  let arg5 : BitVec 32 := Scf.iv c0_i32_263 c1_i32_265 k0_t13
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t14_loop : Scf.Loop 32 :=
  let c0_i32_283 : BitVec 32 := 0#32
  let c16_i32_284 : BitVec 32 := 16#32
  let v989 : BitVec 32 := Scalar.addi c0_i32_283 c16_i32_284
  let c1_i32_285 : BitVec 32 := 1#32
  ⟨c0_i32_283, v989, c1_i32_285⟩
def k0_mult14 (k0_t14 : Fin k0_t14_loop.trips) : BitVec 32 :=
  let c0_i32_283 : BitVec 32 := 0#32
  let c1_i32_285 : BitVec 32 := 1#32
  let arg5 : BitVec 32 := Scf.iv c0_i32_283 c1_i32_285 k0_t14
  let c8_i32 : BitVec 32 := 8#32
  let v1133 : BitVec 32 := Scalar.muli arg5 c8_i32
  v1133
def k0_off14 (k0_t14 : Fin k0_t14_loop.trips) : Fin 3 → Nat :=
  let c0_329 : Index := 0#32
  let c0_i32_283 : BitVec 32 := 0#32
  let c1_i32_285 : BitVec 32 := 1#32
  let arg5 : BitVec 32 := Scf.iv c0_i32_283 c1_i32_285 k0_t14
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t15_loop : Scf.Loop 32 :=
  let c0_i32_303 : BitVec 32 := 0#32
  let c16_i32_304 : BitVec 32 := 16#32
  let v1059 : BitVec 32 := Scalar.addi c0_i32_303 c16_i32_304
  let c1_i32_305 : BitVec 32 := 1#32
  ⟨c0_i32_303, v1059, c1_i32_305⟩
def k0_mult15 (k0_t15 : Fin k0_t15_loop.trips) : BitVec 32 :=
  let c0_i32_303 : BitVec 32 := 0#32
  let c1_i32_305 : BitVec 32 := 1#32
  let arg5 : BitVec 32 := Scf.iv c0_i32_303 c1_i32_305 k0_t15
  let c8_i32 : BitVec 32 := 8#32
  let v1133 : BitVec 32 := Scalar.muli arg5 c8_i32
  v1133
def k0_off15 (k0_t15 : Fin k0_t15_loop.trips) : Fin 3 → Nat :=
  let c0_329 : Index := 0#32
  let c0_i32_303 : BitVec 32 := 0#32
  let c1_i32_305 : BitVec 32 := 1#32
  let arg5 : BitVec 32 := Scf.iv c0_i32_303 c1_i32_305 k0_t15
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
@[reducible] def k0_t16_loop : Scf.Loop 32 :=
  let c0_i32_323 : BitVec 32 := 0#32
  let c16_i32_324 : BitVec 32 := 16#32
  let v1129 : BitVec 32 := Scalar.addi c0_i32_323 c16_i32_324
  let c1_i32_325 : BitVec 32 := 1#32
  ⟨c0_i32_323, v1129, c1_i32_325⟩
def k0_mult16 (k0_t16 : Fin k0_t16_loop.trips) : BitVec 32 :=
  let c0_i32_323 : BitVec 32 := 0#32
  let c1_i32_325 : BitVec 32 := 1#32
  let arg5 : BitVec 32 := Scf.iv c0_i32_323 c1_i32_325 k0_t16
  let c8_i32 : BitVec 32 := 8#32
  let v1133 : BitVec 32 := Scalar.muli arg5 c8_i32
  v1133
def k0_off16 (k0_t16 : Fin k0_t16_loop.trips) : Fin 3 → Nat :=
  let c0_329 : Index := 0#32
  let c0_i32_323 : BitVec 32 := 0#32
  let c1_i32_325 : BitVec 32 := 1#32
  let arg5 : BitVec 32 := Scf.iv c0_i32_323 c1_i32_325 k0_t16
  let c8_i32 : BitVec 32 := 8#32
  let v1133 : BitVec 32 := Scalar.muli arg5 c8_i32
  let v1134 : BitVec 32 := v1133
  let v1135 : Index := Scalar.indexCast v1134
  let c0_330 : Index := 0#32
  ![0, v1135.toNat, 0]
abbrev stage0_0 : Fin 1 → Memref sig .tc .vmem S4x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KeepReferenceIdeal.lean ====
abbrev S4x4x2048 : Shape := ⟨3, ![4, 4, 2048]⟩
abbrev S4x2048 : Shape := ⟨2, ![4, 2048]⟩
abbrev S_ : Shape := ⟨0, ![]⟩
abbrev S4x1x2048 : Shape := ⟨3, ![4, 1, 2048]⟩
abbrev S4x2048x1 : Shape := ⟨3, ![4, 2048, 1]⟩
abbrev S4x2048x2048 : Shape := ⟨3, ![4, 2048, 2048]⟩
abbrev S2048 : Shape := ⟨1, ![2048]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S4x4x2048, .f32⟩
  | .hbm, ⟨1, _⟩ => ⟨S4x2048, .f32⟩
  | .hbm, ⟨2, _⟩ => ⟨S4x2048, .f32⟩
  | .hbm, ⟨3, _⟩ => ⟨S_, .f32⟩
  | .hbm, ⟨4, _⟩ => ⟨S4x2048, .f32⟩
  | .hbm, ⟨5, _⟩ => ⟨S4x2048, .f32⟩
  | .hbm, ⟨6, _⟩ => ⟨S4x1x2048, .f32⟩
  | .hbm, ⟨7, _⟩ => ⟨S4x4x2048, .f32⟩
  | .hbm, ⟨8, _⟩ => ⟨S4x4x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S4x2048, .f32⟩
  | .hbm, ⟨13, _⟩ => ⟨S4x1x2048, .f32⟩
  | .hbm, ⟨14, _⟩ => ⟨S4x2048, .f32⟩
  | .hbm, ⟨15, _⟩ => ⟨S4x1x2048, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S4x2048, .f32⟩
  | .hbm, ⟨20, _⟩ => ⟨S4x2048x1, .f32⟩
  | .hbm, ⟨21, _⟩ => ⟨S4x1x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x1, .f32⟩
  | .hbm, ⟨26, _⟩ => ⟨S4x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S4x2048x1, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x1, .f32⟩
  | .hbm, ⟨40, _⟩ => ⟨S4x1x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x2048x1, .f32⟩
  | .hbm, ⟨50, _⟩ => ⟨S4x1x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S_, .f32⟩
  | .hbm, ⟨60, _⟩ => ⟨S4x2048x2048, .f32⟩
  | .hbm, ⟨61, _⟩ => ⟨S4x2048x2048, .i1⟩
  | .hbm, ⟨62, _⟩ => ⟨S2048, .i32⟩
  | .hbm, ⟨63, _⟩ => ⟨S1x2048, .i32⟩
  | .hbm, ⟨64, _⟩ => ⟨S_, .i1⟩
  | .hbm, ⟨65, _⟩ => ⟨S4x2048, .i1⟩
  | .hbm, ⟨66, _⟩ => ⟨S_, .i32⟩
  | .hbm, ⟨67, _⟩ => ⟨S_, .i32⟩
  | .hbm, ⟨68, _⟩ => ⟨S4x2048x2048, .i1⟩
  | .hbm, ⟨69, _⟩ => ⟨S1x2048, .i32⟩
  | .hbm, ⟨70, _⟩ => ⟨S4x2048, .f32⟩
  | .hbm, ⟨71, _⟩ => ⟨S_, .i32⟩
  | .hbm, ⟨72, _⟩ => ⟨S_, .i32⟩
  | .hbm, ⟨73, _⟩ => ⟨S4x2048, .i1⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S4x2048x1, .i1⟩
  | .hbm, ⟨79, _⟩ => ⟨S4x2048x2048, .i1⟩
  | .hbm, ⟨80, _⟩ => ⟨S4x2048x2048, .i1⟩
  | .hbm, ⟨81, _⟩ => ⟨S_, .i1⟩
  | .hbm, ⟨82, _⟩ => ⟨S4x2048, .i1⟩
  | .hbm, ⟨83, _⟩ => ⟨S_, .i32⟩
  | .hbm, ⟨84, _⟩ => ⟨S1x2048, .i32⟩
  | .hbm, ⟨85, _⟩ => ⟨S1x2048, .i1⟩
  | .hbm, ⟨86, _⟩ => ⟨S_, .f32⟩
  | .hbm, ⟨87, _⟩ => ⟨S4x2048, .f32⟩
  | .hbm, ⟨88, _⟩ => ⟨S4x2048, .i1⟩
  | .hbm, ⟨89, _⟩ => ⟨S4x2048, .i1⟩
  | .hbm, ⟨90, _⟩ => ⟨S4x2048, .i1⟩
  | .hbm, ⟨91, _⟩ => ⟨S4x2048, .i1⟩
  | .hbm, ⟨92, _⟩ => ⟨S4x2048, .i1⟩
  | .hbm, ⟨93, _⟩ => ⟨S4x2048, .i1⟩
  | .hbm, ⟨94, _⟩ => ⟨S_, .i32⟩
  | .hbm, ⟨95, _⟩ => ⟨S_, .i32⟩
  | .hbm, ⟨96, _⟩ => ⟨S4x2048, .f32⟩
  | _, _ => ⟨S4x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_2 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_c : Ref sig .tc := ⟨.hbm, 64, rfl⟩
abbrev main_v56 : Ref sig .tc := ⟨.hbm, 65, rfl⟩
abbrev main_c_4 : Ref sig .tc := ⟨.hbm, 66, rfl⟩
abbrev main_c_5 : Ref sig .tc := ⟨.hbm, 67, rfl⟩
abbrev main_v57_0 : Ref sig .tc := ⟨.hbm, 68, rfl⟩
abbrev main_v57_1 : Ref sig .tc := ⟨.hbm, 69, rfl⟩
abbrev main_v57_2 : Ref sig .tc := ⟨.hbm, 70, rfl⟩
abbrev main_v57_3 : Ref sig .tc := ⟨.hbm, 71, rfl⟩
abbrev main_v57_4 : Ref sig .tc := ⟨.hbm, 72, rfl⟩
abbrev main_v57_5 : Ref sig .tc := ⟨.hbm, 73, rfl⟩
abbrev main_while0c_c_11 : Ref sig .tc := ⟨.hbm, 74, rfl⟩
abbrev main_while0c_v59 : Ref sig .tc := ⟨.hbm, 75, rfl⟩
abbrev main_while0b_c_11 : Ref sig .tc := ⟨.hbm, 76, rfl⟩
abbrev main_while0b_v59 : Ref sig .tc := ⟨.hbm, 77, rfl⟩
abbrev main_while0b_v60 : Ref sig .tc := ⟨.hbm, 78, rfl⟩
abbrev main_while0b_v61 : Ref sig .tc := ⟨.hbm, 79, rfl⟩
abbrev main_while0b_v62 : Ref sig .tc := ⟨.hbm, 80, rfl⟩
abbrev main_while0b_c_12 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_v66 : Ref sig .tc := ⟨.hbm, 85, rfl⟩
abbrev main_while0b_cst_13 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_c_14 : Ref sig .tc := ⟨.hbm, 94, rfl⟩
abbrev main_while0b_v74 : Ref sig .tc := ⟨.hbm, 95, rfl⟩
abbrev main_v58 : Ref sig .tc := ⟨.hbm, 96, rfl⟩

abbrev nD : Nat := 1
abbrev τ : Topo := Topo.v7x

variable {F : FTy → Type} [FloatOps F]

abbrev main_while0_count : Scf.Loop 32 := ⟨0#32, 2048#32, 1#32⟩
-- ==== Boxes.lean ====
abbrev S4x80000 : Shape := ⟨2, ![4, 80000]⟩
abbrev S4x2048 : Shape := ⟨2, ![4, 2048]⟩
abbrev S320000 : Shape := ⟨1, ![320000]⟩
abbrev S8192 : Shape := ⟨1, ![8192]⟩
abbrev S32768 : Shape := ⟨1, ![32768]⟩
abbrev S80000 : Shape := ⟨1, ![80000]⟩
abbrev S256 : Shape := ⟨1, ![256]⟩
abbrev S4x256 : Shape := ⟨2, ![4, 256]⟩
abbrev S_ : Shape := ⟨0, ![]⟩
abbrev S16 : Shape := ⟨1, ![16]⟩
abbrev S1x16 : Shape := ⟨2, ![1, 16]⟩
abbrev S1x256 : Shape := ⟨2, ![1, 256]⟩
abbrev S4x4x2048 : Shape := ⟨3, ![4, 4, 2048]⟩

abbrev nBuf : Table → Nat
  | .hbm => 6
  | .local .scVector .vmem => 3
  | _ => 0

abbrev bufTy : (tb : Table) → Fin (nBuf tb) → BufTy
  | .hbm, ⟨0, _⟩ => ⟨S4x80000, .f32⟩
  | .hbm, ⟨1, _⟩ => ⟨S4x2048, .i32⟩
  | .hbm, ⟨2, _⟩ => ⟨S320000, .f32⟩
  | .hbm, ⟨3, _⟩ => ⟨S8192, .i32⟩
  | .hbm, ⟨4, _⟩ => ⟨S32768, .f32⟩
  | .hbm, ⟨5, _⟩ => ⟨S4x4x2048, .f32⟩
  | .local .scVector .vmem, ⟨0, _⟩ => ⟨S80000, .f32⟩
  | .local .scVector .vmem, ⟨1, _⟩ => ⟨S256, .i32⟩
  | .local .scVector .vmem, ⟨2, _⟩ => ⟨S4x256, .f32⟩
  | _, _ => ⟨S4x80000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c20000_i32 : BitVec 32 := 20000#32
  let v29 : BitVec 32 := Scalar.muli v18 c20000_i32
  let c4_i32 : BitVec 32 := 4#32
  let v30 : BitVec 32 := Scalar.muli v29 c4_i32
  ![v30.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2048_i32 : BitVec 32 := 2048#32
  let v31 : BitVec 32 := Scalar.muli v18 c2048_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v32 : BitVec 32 := Scalar.muli v28 c256_i32
  let v33 : BitVec 32 := Scalar.addi v31 v32
  ![v33.toNat]
@[reducible] def k0_t1_loop : Scf.Loop 32 :=
  let c0_i32_11 : BitVec 32 := 0#32
  let c16_i32 : BitVec 32 := 16#32
  let v34 : BitVec 32 := Scalar.addi c0_i32_11 c16_i32
  let c1_i32_12 : BitVec 32 := 1#32
  ⟨c0_i32_11, v34, c1_i32_12⟩
def k0_off3 (k0_t1 : Fin k0_t1_loop.trips) : Fin 1 → Nat :=
  let c0_i32_11 : BitVec 32 := 0#32
  let c1_i32_12 : BitVec 32 := 1#32
  let arg8 : BitVec 32 := Scf.iv c0_i32_11 c1_i32_12 k0_t1
  let c16_i32_31 : BitVec 32 := 16#32
  let v56 : BitVec 32 := Scalar.muli arg8 c16_i32_31
  let v57 : Index := Scalar.indexCast v56
  ![v57.toNat]

def k0_chk1 (v62 : IVec S16 32) : Prop :=
  (∀ a x, ((![v62] : Fin 1 → IVec S16 32) a x).toNat < S80000.size a)
theorem k0_idx1_inb : ∀ (v62 : IVec S16 32) (k0_hw1 : k0_chk1 v62), ∀ a x, ((![v62] : Fin 1 → IVec S16 32) a x).toNat < S80000.size a := fun v62 k0_hw1 => k0_hw1
def k0_off4 (k0_t1 : Fin k0_t1_loop.trips) : Fin 2 → Nat :=
  let c0_i32_35 : BitVec 32 := 0#32
  let v65 : Index := Scalar.indexCast c0_i32_35
  let c0_i32_11 : BitVec 32 := 0#32
  let c1_i32_12 : BitVec 32 := 1#32
  let arg8 : BitVec 32 := Scf.iv c0_i32_11 c1_i32_12 k0_t1
  let c16_i32_34 : BitVec 32 := 16#32
  let v64 : BitVec 32 := Scalar.muli arg8 c16_i32_34
  let v66 : Index := Scalar.indexCast v64
  ![0, v66.toNat]

def k0_chk2 (v71 : IVec S16 32) : Prop :=
  (∀ a x, ((![v71] : Fin 1 → IVec S16 32) a x).toNat < S80000.size a)
theorem k0_idx2_inb : ∀ (v71 : IVec S16 32) (k0_hw2 : k0_chk2 v71), ∀ a x, ((![v71] : Fin 1 → IVec S16 32) a x).toNat < S80000.size a := fun v71 k0_hw2 => k0_hw2
def k0_off5 (k0_t1 : Fin k0_t1_loop.trips) : Fin 2 → Nat :=
  let c1_i32_39 : BitVec 32 := 1#32
  let v74 : Index := Scalar.indexCast c1_i32_39
  let c0_i32_11 : BitVec 32 := 0#32
  let c1_i32_12 : BitVec 32 := 1#32
  let arg8 : BitVec 32 := Scf.iv c0_i32_11 c1_i32_12 k0_t1
  let c16_i32_38 : BitVec 32 := 16#32
  let v73 : BitVec 32 := Scalar.muli arg8 c16_i32_38
  let v75 : Index := Scalar.indexCast v73
  ![1, v75.toNat]

def k0_chk3 (v80 : IVec S16 32) : Prop :=
  (∀ a x, ((![v80] : Fin 1 → IVec S16 32) a x).toNat < S80000.size a)
theorem k0_idx3_inb : ∀ (v80 : IVec S16 32) (k0_hw3 : k0_chk3 v80), ∀ a x, ((![v80] : Fin 1 → IVec S16 32) a x).toNat < S80000.size a := fun v80 k0_hw3 => k0_hw3
def k0_off6 (k0_t1 : Fin k0_t1_loop.trips) : Fin 2 → Nat :=
  let c2_i32_43 : BitVec 32 := 2#32
  let v83 : Index := Scalar.indexCast c2_i32_43
  let c0_i32_11 : BitVec 32 := 0#32
  let c1_i32_12 : BitVec 32 := 1#32
  let arg8 : BitVec 32 := Scf.iv c0_i32_11 c1_i32_12 k0_t1
  let c16_i32_42 : BitVec 32 := 16#32
  let v82 : BitVec 32 := Scalar.muli arg8 c16_i32_42
  let v84 : Index := Scalar.indexCast v82
  ![2, v84.toNat]

def k0_chk4 (v89 : IVec S16 32) : Prop :=
  (∀ a x, ((![v89] : Fin 1 → IVec S16 32) a x).toNat < S80000.size a)
theorem k0_idx4_inb : ∀ (v89 : IVec S16 32) (k0_hw4 : k0_chk4 v89), ∀ a x, ((![v89] : Fin 1 → IVec S16 32) a x).toNat < S80000.size a := fun v89 k0_hw4 => k0_hw4
def k0_off7 (k0_t1 : Fin k0_t1_loop.trips) : Fin 2 → Nat :=
  let c3_i32_47 : BitVec 32 := 3#32
  let v92 : Index := Scalar.indexCast c3_i32_47
  let c0_i32_11 : BitVec 32 := 0#32
  let c1_i32_12 : BitVec 32 := 1#32
  let arg8 : BitVec 32 := Scf.iv c0_i32_11 c1_i32_12 k0_t1
  let c16_i32_46 : BitVec 32 := 16#32
  let v91 : BitVec 32 := Scalar.muli arg8 c16_i32_46
  let v93 : Index := Scalar.indexCast v91
  ![3, v93.toNat]
def k0_off8 (i : grid0.Coords) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4_i32_14 : BitVec 32 := 4#32
  let v36 : BitVec 32 := Scalar.muli v18 c4_i32_14
  let c2048_i32_15 : BitVec 32 := 2048#32
  let v37 : BitVec 32 := Scalar.muli v36 c2048_i32_15
  let v38 : BitVec 32 := Scalar.addi v37 c0_i32_16
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32_17 : BitVec 32 := 256#32
  let v39 : BitVec 32 := Scalar.muli v28 c256_i32_17
  let v40 : BitVec 32 := Scalar.addi v38 v39
  ![v40.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== BoxesReferenceIdeal.lean ====
abbrev S4x80000 : Shape := ⟨2, ![4, 80000]⟩
abbrev S4x2048 : Shape := ⟨2, ![4, 2048]⟩
abbrev S4x20000x4 : Shape := ⟨3, ![4, 20000, 4]⟩
abbrev S4x2048x1 : Shape := ⟨3, ![4, 2048, 1]⟩
abbrev S_ : Shape := ⟨0, ![]⟩
abbrev S4x2048x4 : Shape := ⟨3, ![4, 2048, 4]⟩
abbrev S4x4x2048 : Shape := ⟨3, ![4, 4, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x80000, .f32⟩
  | .hbm, ⟨1, _⟩ => ⟨S4x2048, .i32⟩
  | .hbm, ⟨2, _⟩ => ⟨S4x20000x4, .f32⟩
  | .hbm, ⟨3, _⟩ => ⟨S4x2048x1, .i32⟩
  | .hbm, ⟨4, _⟩ => ⟨S_, .i32⟩
  | .hbm, ⟨5, _⟩ => ⟨S4x2048x1, .i32⟩
  | .hbm, ⟨6, _⟩ => ⟨S4x2048x1, .i1⟩
  | .hbm, ⟨7, _⟩ => ⟨S_, .i32⟩
  | .hbm, ⟨8, _⟩ => ⟨S4x2048x1, .i32⟩
  | .hbm, ⟨9, _⟩ => ⟨S4x2048x1, .i32⟩
  | .hbm, ⟨10, _⟩ => ⟨S4x2048x1, .i32⟩
  | .hbm, ⟨11, _⟩ => ⟨S4x2048x4, .f32⟩
  | .hbm, ⟨12, _⟩ => ⟨S4x4x2048, .f32⟩
  | _, _ => ⟨S4x80000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== Output.lean ====
abbrev S4x2048 : Shape := ⟨2, ![4, 2048]⟩
abbrev S4x4x2048 : Shape := ⟨3, ![4, 4, 2048]⟩
abbrev S8192 : Shape := ⟨1, ![8192]⟩
abbrev S32768 : Shape := ⟨1, ![32768]⟩
abbrev S7200 : Shape := ⟨1, ![7200]⟩
abbrev S2048 : Shape := ⟨1, ![2048]⟩
abbrev S1808 : Shape := ⟨1, ![1808]⟩
abbrev S16 : Shape := ⟨1, ![16]⟩
abbrev S_ : Shape := ⟨0, ![]⟩
abbrev S1800 : Shape := ⟨1, ![1800]⟩
abbrev S4x1800 : Shape := ⟨2, ![4, 1800]⟩
abbrev S4x300x6 : Shape := ⟨3, ![4, 300, 6]⟩

abbrev nBuf : Table → Nat
  | .hbm => 11
  | .local .scVector .vmem => 5
  | _ => 0

abbrev bufTy : (tb : Table) → Fin (nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x4x2048, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S32768, .f32⟩
  | .hbm, ⟨8, _⟩ => ⟨S7200, .f32⟩
  | .hbm, ⟨9, _⟩ => ⟨S4x1800, .f32⟩
  | .hbm, ⟨10, _⟩ => ⟨S4x300x6, .f32⟩
  | .local .scVector .vmem, ⟨0, _⟩ => ⟨S2048, .f32⟩
  | .local .scVector .vmem, ⟨1, _⟩ => ⟨S2048, .f32⟩
  | .local .scVector .vmem, ⟨2, _⟩ => ⟨S2048, .f32⟩
  | .local .scVector .vmem, ⟨3, _⟩ => ⟨S8192, .f32⟩
  | .local .scVector .vmem, ⟨4, _⟩ => ⟨S1808, .f32⟩
  | _, _ => ⟨S4x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

@[reducible] def k0_t1_loop : Scf.Loop 32 :=
  let c0_i32_1 : BitVec 32 := 0#32
  let c113_i32 : BitVec 32 := 113#32
  let v5 : BitVec 32 := Scalar.addi c0_i32_1 c113_i32
  let c1_i32 : BitVec 32 := 1#32
  ⟨c0_i32_1, v5, c1_i32⟩
def k0_off1 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32 : BitVec 32 := 16#32
  let v16 : BitVec 32 := Scalar.muli arg12 c16_i32
  let v17 : Index := Scalar.indexCast v16
  ![v17.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v7 : BitVec 32 := Scalar.muli v1 c2048_i32
  ![v7.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_5 : BitVec 32 := 4#32
  let v10 : BitVec 32 := Scalar.muli v1 c4_i32_5
  let c2048_i32_6 : BitVec 32 := 2048#32
  let v11 : BitVec 32 := Scalar.muli v10 c2048_i32_6
  ![v11.toNat]
@[reducible] def k0_t2_loop : Scf.Loop 32 :=
  let c0_i32_8 : BitVec 32 := 0#32
  let c128_i32 : BitVec 32 := 128#32
  let v12 : BitVec 32 := Scalar.addi c0_i32_8 c128_i32
  let c1_i32_9 : BitVec 32 := 1#32
  ⟨c0_i32_8, v12, c1_i32_9⟩
def k0_off4 (k0_t2 : Fin k0_t2_loop.trips) : Fin 1 → Nat :=
  let c0_i32_8 : BitVec 32 := 0#32
  let c1_i32_9 : BitVec 32 := 1#32
  let arg12 : BitVec 32 := Scf.iv c0_i32_8 c1_i32_9 k0_t2
  let c16_i32 : BitVec 32 := 16#32
  let v15 : BitVec 32 := Scalar.muli arg12 c16_i32
  let v16 : Index := Scalar.indexCast v15
  ![v16.toNat]
def k0_off5 (k0_t2 : Fin k0_t2_loop.trips) : Fin 1 → Nat :=
  let c0_i32_13 : BitVec 32 := 0#32
  let c0_i32_8 : BitVec 32 := 0#32
  let c1_i32_9 : BitVec 32 := 1#32
  let arg12 : BitVec 32 := Scf.iv c0_i32_8 c1_i32_9 k0_t2
  let c16_i32_12 : BitVec 32 := 16#32
  let v33 : BitVec 32 := Scalar.muli arg12 c16_i32_12
  let v34 : BitVec 32 := Scalar.addi c0_i32_13 v33
  let v35 : Index := Scalar.indexCast v34
  ![v35.toNat]

def k0_chk1 (i : grid0.Coords) (v38 : IVec S16 32) : Prop :=
  (∀ (k0_h1 : k0_cond1 i = 1#1), ∀ a x, ((![v38] : Fin 1 → IVec S16 32) a x).toNat < S1808.size a)
theorem k0_idx1_inb : ∀ (i : grid0.Coords) (v38 : IVec S16 32) (k0_hw1 : k0_chk1 i v38), ∀ (k0_h1 : k0_cond1 i = 1#1), ∀ a x, ((![v38] : Fin 1 → IVec S16 32) a x).toNat < S1808.size a := fun i v38 k0_hw1 k0_h1 => k0_hw1 k0_h1
def k0_off6 (k0_t2 : Fin k0_t2_loop.trips) : Fin 1 → Nat :=
  let c2048_i32_16 : BitVec 32 := 2048#32
  let c0_i32_8 : BitVec 32 := 0#32
  let c1_i32_9 : BitVec 32 := 1#32
  let arg12 : BitVec 32 := Scf.iv c0_i32_8 c1_i32_9 k0_t2
  let c16_i32_15 : BitVec 32 := 16#32
  let v39 : BitVec 32 := Scalar.muli arg12 c16_i32_15
  let v40 : BitVec 32 := Scalar.addi c2048_i32_16 v39
  let v41 : Index := Scalar.indexCast v40
  ![v41.toNat]

def k0_chk2 (i : grid0.Coords) (v44 : IVec S16 32) : Prop :=
  (∀ (k0_h1 : k0_cond1 i = 1#1), ∀ a x, ((![v44] : Fin 1 → IVec S16 32) a x).toNat < S1808.size a)
theorem k0_idx2_inb : ∀ (i : grid0.Coords) (v44 : IVec S16 32) (k0_hw2 : k0_chk2 i v44), ∀ (k0_h1 : k0_cond1 i = 1#1), ∀ a x, ((![v44] : Fin 1 → IVec S16 32) a x).toNat < S1808.size a := fun i v44 k0_hw2 k0_h1 => k0_hw2 k0_h1
def k0_off7 (k0_t2 : Fin k0_t2_loop.trips) : Fin 1 → Nat :=
  let c4096_i32 : BitVec 32 := 4096#32
  let c0_i32_8 : BitVec 32 := 0#32
  let c1_i32_9 : BitVec 32 := 1#32
  let arg12 : BitVec 32 := Scf.iv c0_i32_8 c1_i32_9 k0_t2
  let c16_i32_18 : BitVec 32 := 16#32
  let v45 : BitVec 32 := Scalar.muli arg12 c16_i32_18
  let v46 : BitVec 32 := Scalar.addi c4096_i32 v45
  let v47 : Index := Scalar.indexCast v46
  ![v47.toNat]

def k0_chk3 (i : grid0.Coords) (v50 : IVec S16 32) : Prop :=
  (∀ (k0_h1 : k0_cond1 i = 1#1), ∀ a x, ((![v50] : Fin 1 → IVec S16 32) a x).toNat < S1808.size a)
theorem k0_idx3_inb : ∀ (i : grid0.Coords) (v50 : IVec S16 32) (k0_hw3 : k0_chk3 i v50), ∀ (k0_h1 : k0_cond1 i = 1#1), ∀ a x, ((![v50] : Fin 1 → IVec S16 32) a x).toNat < S1808.size a := fun i v50 k0_hw3 k0_h1 => k0_hw3 k0_h1
def k0_off8 (k0_t2 : Fin k0_t2_loop.trips) : Fin 1 → Nat :=
  let c6144_i32 : BitVec 32 := 6144#32
  let c0_i32_8 : BitVec 32 := 0#32
  let c1_i32_9 : BitVec 32 := 1#32
  let arg12 : BitVec 32 := Scf.iv c0_i32_8 c1_i32_9 k0_t2
  let c16_i32_20 : BitVec 32 := 16#32
  let v51 : BitVec 32 := Scalar.muli arg12 c16_i32_20
  let v52 : BitVec 32 := Scalar.addi c6144_i32 v51
  let v53 : Index := Scalar.indexCast v52
  ![v53.toNat]

def k0_chk4 (i : grid0.Coords) (v56 : IVec S16 32) : Prop :=
  (∀ (k0_h1 : k0_cond1 i = 1#1), ∀ a x, ((![v56] : Fin 1 → IVec S16 32) a x).toNat < S1808.size a)
theorem k0_idx4_inb : ∀ (i : grid0.Coords) (v56 : IVec S16 32) (k0_hw4 : k0_chk4 i v56), ∀ (k0_h1 : k0_cond1 i = 1#1), ∀ a x, ((![v56] : Fin 1 → IVec S16 32) a x).toNat < S1808.size a := fun i v56 k0_hw4 k0_h1 => k0_hw4 k0_h1
def k0_off9 (k0_t2 : Fin k0_t2_loop.trips) : Fin 1 → Nat :=
  let c0_i32_8 : BitVec 32 := 0#32
  let c1_i32_9 : BitVec 32 := 1#32
  let arg12 : BitVec 32 := Scf.iv c0_i32_8 c1_i32_9 k0_t2
  let c16_i32_21 : BitVec 32 := 16#32
  let v57 : BitVec 32 := Scalar.muli arg12 c16_i32_21
  let v58 : Index := Scalar.indexCast v57
  ![v58.toNat]

def k0_chk5 (i : grid0.Coords) (v61 : IVec S16 32) : Prop :=
  (∀ (k0_h1 : k0_cond1 i = 1#1), ∀ a x, ((![v61] : Fin 1 → IVec S16 32) a x).toNat < S1808.size a)
theorem k0_idx5_inb : ∀ (i : grid0.Coords) (v61 : IVec S16 32) (k0_hw5 : k0_chk5 i v61), ∀ (k0_h1 : k0_cond1 i = 1#1), ∀ a x, ((![v61] : Fin 1 → IVec S16 32) a x).toNat < S1808.size a := fun i v61 k0_hw5 k0_h1 => k0_hw5 k0_h1
def k0_off10 (k0_t2 : Fin k0_t2_loop.trips) : Fin 1 → Nat :=
  let c0_i32_8 : BitVec 32 := 0#32
  let c1_i32_9 : BitVec 32 := 1#32
  let arg12 : BitVec 32 := Scf.iv c0_i32_8 c1_i32_9 k0_t2
  let c16_i32_23 : BitVec 32 := 16#32
  let v62 : BitVec 32 := Scalar.muli arg12 c16_i32_23
  let v63 : Index := Scalar.indexCast v62
  ![v63.toNat]

def k0_chk6 (i : grid0.Coords) (v66 : IVec S16 32) : Prop :=
  (∀ (k0_h1 : k0_cond1 i = 1#1), ∀ a x, ((![v66] : Fin 1 → IVec S16 32) a x).toNat < S1808.size a)
theorem k0_idx6_inb : ∀ (i : grid0.Coords) (v66 : IVec S16 32) (k0_hw6 : k0_chk6 i v66), ∀ (k0_h1 : k0_cond1 i = 1#1), ∀ a x, ((![v66] : Fin 1 → IVec S16 32) a x).toNat < S1808.size a := fun i v66 k0_hw6 k0_h1 => k0_hw6 k0_h1
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1800_i32 : BitVec 32 := 1800#32
  let v14 : BitVec 32 := Scalar.muli v1 c1800_i32
  ![v14.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== OutputReferenceIdeal.lean ====
abbrev S4x2048 : Shape := ⟨2, ![4, 2048]⟩
abbrev S4x4x2048 : Shape := ⟨3, ![4, 4, 2048]⟩
abbrev S_ : Shape := ⟨0, ![]⟩
abbrev S2048 : Shape := ⟨1, ![2048]⟩
abbrev S1x2048 : Shape := ⟨2, ![1, 2048]⟩
abbrev S4x300 : Shape := ⟨2, ![4, 300]⟩
abbrev S4x300x1 : Shape := ⟨3, ![4, 300, 1]⟩
abbrev S4x2048x4 : Shape := ⟨3, ![4, 2048, 4]⟩
abbrev S4x2048x1 : Shape := ⟨3, ![4, 2048, 1]⟩
abbrev S4x2048x6 : Shape := ⟨3, ![4, 2048, 6]⟩
abbrev S4x300x6 : Shape := ⟨3, ![4, 300, 6]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x4x2048, .f32⟩
  | .hbm, ⟨4, _⟩ => ⟨S_, .f32⟩
  | .hbm, ⟨5, _⟩ => ⟨S4x2048, .f32⟩
  | .hbm, ⟨6, _⟩ => ⟨S4x2048, .i1⟩
  | .hbm, ⟨7, _⟩ => ⟨S2048, .i32⟩
  | .hbm, ⟨8, _⟩ => ⟨S1x2048, .i32⟩
  | .hbm, ⟨9, _⟩ => ⟨S_, .i32⟩
  | .hbm, ⟨10, _⟩ => ⟨S_, .i32⟩
  | .hbm, ⟨11, _⟩ => ⟨S4x2048, .i32⟩
  | .hbm, ⟨12, _⟩ => ⟨S4x2048, .i32⟩
  | .hbm, ⟨13, _⟩ => ⟨S4x2048, .i32⟩
  | .hbm, ⟨14, _⟩ => ⟨S4x2048, .i32⟩
  | .hbm, ⟨15, _⟩ => ⟨S4x300, .i32⟩
  | .hbm, ⟨16, _⟩ => ⟨S4x300x1, .i32⟩
  | .hbm, ⟨17, _⟩ => ⟨S4x2048x4, .f32⟩
  | .hbm, ⟨18, _⟩ => ⟨S4x2048x1, .f32⟩
  | .hbm, ⟨19, _⟩ => ⟨S4x2048x1, .f32⟩
  | .hbm, ⟨20, _⟩ => ⟨S4x2048x6, .f32⟩
  | .hbm, ⟨21, _⟩ => ⟨S_, .i32⟩
  | .hbm, ⟨22, _⟩ => ⟨S4x300x1, .i32⟩
  | .hbm, ⟨23, _⟩ => ⟨S4x300x1, .i1⟩
  | .hbm, ⟨24, _⟩ => ⟨S_, .i32⟩
  | .hbm, ⟨25, _⟩ => ⟨S4x300x1, .i32⟩
  | .hbm, ⟨26, _⟩ => ⟨S4x300x1, .i32⟩
  | .hbm, ⟨27, _⟩ => ⟨S4x300x1, .i32⟩
  | .hbm, ⟨28, _⟩ => ⟨S4x300x6, .f32⟩
  | .hbm, ⟨29, _⟩ => ⟨S_, .i32⟩
  | .hbm, ⟨30, _⟩ => ⟨S4x300x1, .i32⟩
  | .hbm, ⟨31, _⟩ => ⟨S4x300x1, .i1⟩
  | .hbm, ⟨32, _⟩ => ⟨S_, .f32⟩
  | .hbm, ⟨33, _⟩ => ⟨S_, .f32⟩
  | .hbm, ⟨34, _⟩ => ⟨S4x300x6, .i1⟩
  | .hbm, ⟨35, _⟩ => ⟨S4x300x6, .f32⟩
  | .hbm, ⟨36, _⟩ => ⟨S4x300x6, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call2_c : Ref sig .tc := ⟨.hbm, 21, rfl⟩
abbrev main_call2_v0 : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v12 : Ref sig .tc := ⟨.hbm, 28, rfl⟩
abbrev main_c_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Proof.Fill.lean ====
/-
  Filling slots by a list of numbered elements.

  The elements are numbered 0, 1, 2, …. `on i` says that element `i` is written, `at' i` names its slot and `v i` is its
  value. `fill on at' v f₀ n` is what the slots hold after the first `n` elements, from the contents `f₀`. A masked
  indexed store of sixteen lanes advances `fill` by sixteen elements (`storeIdx_fill`).
-/
module

public import Idealize.ShloMosaic.PureOps
public import Mathlib.Data.Nat.Count
public import Mathlib.Tactic.FinCases
public import Mathlib.Tactic.SplitIfs
public import Mathlib.Data.List.FinRange

@[expose] public section

noncomputable section

namespace Cert.Proof.Fill

open Idealize.ShloMosaic

variable {β : Type}

/-- What the slots hold after the first `n` elements. -/
def fill (on : ℕ → Bool) (slot : ℕ → ℕ) (v : ℕ → β) (f₀ : ℕ → β) : ℕ → ℕ → β
  | 0 => f₀
  | n + 1 => fun p => if on n = true ∧ p = slot n then v n else fill on slot v f₀ n p

theorem fill_zero (on : ℕ → Bool) (slot : ℕ → ℕ) (v : ℕ → β) (f₀ : ℕ → β) : fill on slot v f₀ 0 = f₀ := rfl

theorem fill_succ (on : ℕ → Bool) (slot : ℕ → ℕ) (v : ℕ → β) (f₀ : ℕ → β) (n p : ℕ) :
    fill on slot v f₀ (n + 1) p = if on n = true ∧ p = slot n then v n else fill on slot v f₀ n p := rfl

/-- Elements that are not written change nothing. -/
theorem fill_add_of_off {on : ℕ → Bool} {slot : ℕ → ℕ} {v : ℕ → β} {f₀ : ℕ → β} {n : ℕ} :
    ∀ k : ℕ, (∀ i < k, on (n + i) = false) → fill on slot v f₀ (n + k) = fill on slot v f₀ n
  | 0, _ => rfl
  | k + 1, h => by
      rw [← Nat.add_assoc]
      funext p
      rw [fill_succ, h k (Nat.lt_succ_self k), fill_add_of_off k fun i hi => h i (Nat.lt_succ_of_lt hi)]
      simp

/-- A fold over the lanes, lane by lane the step of `fill`. -/
theorem foldl_lanes {γ : Type} (st : ℕ → γ) (n : ℕ) :
    ∀ (N : ℕ) (step : γ → Fin N → γ), (∀ k : Fin N, step (st (n + k.val)) k = st (n + k.val + 1)) →
      (List.finRange N).foldl step (st n) = st (n + N)
  | 0, _, _ => rfl
  | N + 1, step, h => by
      rw [List.finRange_succ_last, List.foldl_append, List.foldl_map,
        foldl_lanes st n N (fun g k => step g k.castSucc) fun k => h k.castSucc]
      exact h (Fin.last N)

/-- The slots of a rank-one buffer as a function of its index. -/
abbrev asBuf {N : ℕ} (f : ℕ → β) : (⟨1, ![N]⟩ : Shape).Idx → β := fun j => f (j 0).val

variable {F : FTy → Type} [FloatOps F]

/-- A masked indexed store of sixteen lanes is sixteen elements of a fill. -/
theorem storeIdx_fill {N : ℕ} {e : EltTy} {on : ℕ → Bool} {slot : ℕ → ℕ} {v : ℕ → Elt F e} {f₀ : ℕ → Elt F e} (n : ℕ)
    {f : Vec F ⟨1, ![N]⟩ e} {pos : IVec ⟨1, ![16]⟩ 32} {w : Vec F ⟨1, ![16]⟩ e} {mask : IVec ⟨1, ![16]⟩ 1}
    {h : ∀ a x, ((![pos] : Fin 1 → IVec ⟨1, ![16]⟩ 32) a x).toNat < (⟨1, ![N]⟩ : Shape).size a}
    (hf : f = asBuf (fill on slot v f₀ n))
    (hmask : ∀ k : Fin 16, mask (Shape.ofLane k) = 1 ↔ on (n + k.val) = true)
    (hpos : ∀ k : Fin 16, on (n + k.val) = true → (pos (Shape.ofLane k)).toNat = slot (n + k.val))
    (hw : ∀ k : Fin 16, on (n + k.val) = true → w (Shape.ofLane k) = v (n + k.val)) :
    storeIdx (s := ⟨1, ![N]⟩) f ![pos] w mask false h = asBuf (fill on slot v f₀ (n + 16)) := by
  subst hf
  unfold storeIdx
  refine foldl_lanes (fun n => (asBuf (fill on slot v f₀ n) : Vec F ⟨1, ![N]⟩ e)) n 16 _ fun k => ?_
  dsimp only
  by_cases hk : on (n + k.val) = true
  · rw [if_pos ((hmask k).mpr hk)]
    funext j
    simp only [Bool.false_eq_true, if_false]
    show _ = fill on slot v f₀ (n + k.val + 1) (j 0).val
    rw [fill_succ, ← hw k hk, ← hpos k hk]
    refine if_congr ⟨fun hj => ⟨hk, hj 0⟩, fun hj a => ?_⟩ rfl rfl
    obtain rfl : a = 0 := Subsingleton.elim _ _
    exact hj.2
  · rw [if_neg (fun hh => hk ((hmask k).mp hh))]
    funext j
    show _ = fill on slot v f₀ (n + k.val + 1) (j 0).val
    rw [fill_succ, if_neg (fun hh => hk hh.1)]

/-- How many of the first `n` elements are written. -/
abbrev cnt (on : ℕ → Bool) (n : ℕ) : ℕ := Nat.count (fun i => on i = true) n

theorem cnt_succ (on : ℕ → Bool) (n : ℕ) : cnt on (n + 1) = cnt on n + (if on n = true then 1 else 0) := Nat.count_succ _ _

theorem cnt_on {on : ℕ → Bool} {n : ℕ} (h : on n = true) : cnt on (n + 1) = cnt on n + 1 := by rw [cnt_succ, if_pos h]
theorem cnt_off {on : ℕ → Bool} {n : ℕ} (h : ¬ on n = true) : cnt on (n + 1) = cnt on n := by rw [cnt_succ, if_neg h]; rfl

theorem cnt_le (on : ℕ → Bool) (n : ℕ) : cnt on n ≤ n := Nat.count_le _

theorem lanes_after (j : Fin 16) :
    ((List.finRange 16).filter fun k => decide (0 < k.val ∧ k.val ≤ j.val)) = (List.range j.val).map fun i => Fin.ofNat 16 (i + 1) := by
  revert j; decide

theorem foldl_sum (x : Fin 16 → BitVec 32) (b : ℕ → ℕ) (h : ∀ k : Fin 16, x k = BitVec.ofNat 32 (b k.val)) :
    ∀ n : ℕ, n < 16 → ((List.range n).map fun i => Fin.ofNat 16 (i + 1)).foldl (fun r k => r + x k) (x 0)
      = BitVec.ofNat 32 (∑ i ∈ Finset.range (n + 1), b i)
  | 0, _ => by simp [h]
  | n + 1, hn => by
      rw [List.range_succ, List.map_append, List.foldl_append, foldl_sum x b h n (by omega), Finset.sum_range_succ _ (n + 1), BitVec.ofNat_add]
      simp only [List.map_cons, List.map_nil, List.foldl_cons, List.foldl_nil]
      rw [h, show (Fin.ofNat 16 (n + 1)).val = n + 1 from Nat.mod_eq_of_lt hn]

/-- Running sums of sixteen lanes of numbers. -/
theorem scan_sum (w : IVec ⟨1, ![16]⟩ 32) (b : ℕ → ℕ) (h : ∀ k : Fin 16, w (Shape.ofLane k) = BitVec.ofNat 32 (b k.val)) (j : Fin 16) :
    scan .sum w (Shape.ofLane j) = BitVec.ofNat 32 (∑ i ∈ Finset.range (j.val + 1), b i) := by
  have hb := foldl_sum (fun k => w (Shape.ofLane k)) b h j.val j.isLt
  rw [← lanes_after j] at hb
  exact hb

/-- The number written among elements `n, …, n + k - 1`, added up lane by lane. -/
theorem sum_on (on : ℕ → Bool) (n : ℕ) : ∀ k : ℕ, cnt on n + ∑ i ∈ Finset.range k, (if on (n + i) = true then 1 else 0) = cnt on (n + k)
  | 0 => by simp
  | k + 1 => by rw [Finset.sum_range_succ, ← Nat.add_assoc, sum_on on n k, ← Nat.add_assoc n, cnt_succ]

/-- The words of sixteen mask bits, 0 or 1. -/
theorem extui_lane {on : ℕ → Bool} {n : ℕ} {mask : IVec ⟨1, ![16]⟩ 1} (hmask : ∀ k : Fin 16, mask (Shape.ofLane k) = 1 ↔ on (n + k.val) = true)
    (hw : 1 < 32) (k : Fin 16) : (extui 32 mask hw : IVec ⟨1, ![16]⟩ 32) (Shape.ofLane k) = BitVec.ofNat 32 (if on (n + k.val) = true then 1 else 0) := by
  show BitVec.setWidth 32 (mask (Shape.ofLane k)) = _
  by_cases h : on (n + k.val) = true
  · rw [(hmask k).mpr h, if_pos h]; rfl
  · rw [if_neg h]
    have h1 : mask (Shape.ofLane k) ≠ 1 := fun hh => h ((hmask k).mp hh)
    have h0 : mask (Shape.ofLane k) = 0 := by
      generalize mask (Shape.ofLane k) = x at h1
      revert x; decide
    rw [h0]; rfl

/-- The number before a lane, from the number before the group, the running sum and the lane's own bit. -/
theorem before_lane {on : ℕ → Bool} {n : ℕ} {w : IVec ⟨1, ![16]⟩ 32}
    (h : ∀ k : Fin 16, w (Shape.ofLane k) = BitVec.ofNat 32 (if on (n + k.val) = true then 1 else 0)) (k : Fin 16) :
    BitVec.ofNat 32 (cnt on n) + scan .sum w (Shape.ofLane k) - w (Shape.ofLane k) = BitVec.ofNat 32 (cnt on (n + k.val)) := by
  rw [scan_sum w (fun i => if on (n + i) = true then 1 else 0) h k, ← BitVec.ofNat_add, sum_on, h, ← Nat.add_assoc, cnt_succ, BitVec.ofNat_add]
  exact BitVec.add_sub_cancel _ _

/-- The number after the group. -/
theorem after_group {on : ℕ → Bool} {n : ℕ} {w : IVec ⟨1, ![16]⟩ 32}
    (h : ∀ k : Fin 16, w (Shape.ofLane k) = BitVec.ofNat 32 (if on (n + k.val) = true then 1 else 0)) :
    BitVec.ofNat 32 (cnt on n) + scan .sum w (Shape.ofLane (15 : Fin 16)) = BitVec.ofNat 32 (cnt on (n + 16)) := by
  rw [scan_sum w (fun i => if on (n + i) = true then 1 else 0) h 15, ← BitVec.ofNat_add]
  exact congrArg _ (sum_on on n 16)

/-- The smaller of two small words, signed, is the smaller number. -/
theorem minsi_toNat (a b : ℕ) (ha : a < 2 ^ 31) (hb : b < 2 ^ 31) :
    (IntOp.minsi (BitVec.ofNat 32 a) (BitVec.ofNat 32 b)).toNat = min a b := by
  unfold IntOp.minsi
  have hs : (BitVec.ofNat 32 a).toInt = a := by
    rw [BitVec.toInt_eq_toNat_of_lt] <;> simp <;> omega
  have ht : (BitVec.ofNat 32 b).toInt = b := by
    rw [BitVec.toInt_eq_toNat_of_lt] <;> simp <;> omega
  simp only [BitVec.slt, hs, ht]
  split_ifs with hh <;> simp at hh <;> simp <;> omega

/-- Where the elements of a fill by "the number before, at most `M`" are at the end: below `M`, slot `p` holds the
    written element with `p` written before it. -/
theorem fill_below {on : ℕ → Bool} {v : ℕ → β} {f₀ : ℕ → β} {M p : ℕ} (hp : p < M) :
    ∀ n : ℕ, (p < cnt on n → ∃ i < n, on i = true ∧ cnt on i = p ∧ fill on (fun i => min (cnt on i) M) v f₀ n p = v i)
      ∧ (cnt on n ≤ p → fill on (fun i => min (cnt on i) M) v f₀ n p = f₀ p)
  | 0 => ⟨fun h => absurd h (by simp [cnt]), fun _ => rfl⟩
  | n + 1 => by
      obtain ⟨h1, h2⟩ := fill_below (on := on) (v := v) (f₀ := f₀) hp n
      rw [fill_succ]
      by_cases hon : on n = true
      · rw [cnt_on hon]
        by_cases hc : cnt on n = p
        · exact ⟨fun _ => ⟨n, Nat.lt_succ_self n, hon, hc, if_pos ⟨hon, by omega⟩⟩, fun h => by omega⟩
        · rw [if_neg (by intro hh; have := hh.2; omega)]
          refine ⟨fun h => ?_, fun h => h2 (by omega)⟩
          obtain ⟨i, hi, hh⟩ := h1 (by omega)
          exact ⟨i, by omega, hh⟩
      · rw [cnt_off hon, if_neg (fun hh : on n = true ∧ p = min (cnt on n) M => hon hh.1)]
        refine ⟨fun h => ?_, h2⟩
        obtain ⟨i, hi, hh⟩ := h1 h
        exact ⟨i, by omega, hh⟩

/-- The last slot `M` holds the last written element when more than `M` are written. -/
theorem fill_last {on : ℕ → Bool} {v : ℕ → β} {f₀ : ℕ → β} {M : ℕ} :
    ∀ n : ℕ, (M < cnt on n → ∃ i < n, on i = true ∧ cnt on i + 1 = cnt on n ∧ fill on (fun i => min (cnt on i) M) v f₀ n M = v i)
      ∧ (cnt on n ≤ M → fill on (fun i => min (cnt on i) M) v f₀ n M = f₀ M)
  | 0 => ⟨fun h => absurd h (by simp [cnt]), fun _ => rfl⟩
  | n + 1 => by
      obtain ⟨h1, h2⟩ := fill_last (on := on) (v := v) (f₀ := f₀) (M := M) n
      rw [fill_succ]
      by_cases hon : on n = true
      · rw [cnt_on hon]
        by_cases hc : M ≤ cnt on n
        · exact ⟨fun _ => ⟨n, Nat.lt_succ_self n, hon, rfl, if_pos ⟨hon, by omega⟩⟩, fun h => by omega⟩
        · rw [if_neg (by intro hh; have := hh.2; omega)]
          exact ⟨fun h => by omega, fun h => h2 (by omega)⟩
      · rw [cnt_off hon, if_neg (fun hh : on n = true ∧ M = min (cnt on n) M => hon hh.1)]
        refine ⟨fun h => ?_, h2⟩
        obtain ⟨i, hi, hh⟩ := h1 h
        exact ⟨i, by omega, hh⟩

end Cert.Proof.Fill

end
-- ==== Proof.Lanes.lean ====
/-
  What the three SparseCore programs share: lanes of a vector of sixteen, stores and loads of sixteen words of a rank-one
  buffer, words of an array by number, and the numbers of the thirty-two tiles.
-/
module

public import proofs.«01_k».proof.Proof.Fill
public import Idealize.ShloMosaic.Lib.SparseCore.Ops
public import Idealize.ShloMosaic.Lib.Tactic

@[expose] public section

noncomputable section

namespace Cert.Proof.Lanes

open Idealize.ShloMosaic

variable {F : FTy → Type}

theorem lane_eq (j : (⟨1, ![16]⟩ : Shape).Idx) : j = Shape.ofLane (d := ![16]) (j 0) := by
  funext a
  obtain rfl : a = 0 := Subsingleton.elim _ _
  rfl

/-- Word `i` of a rank-one array. -/
def word {N : ℕ} {α : Type} (hN : 0 < N) (X : (⟨1, ![N]⟩ : Shape).Idx → α) (i : ℕ) : α :=
  X (Shape.ofLane (d := ![N]) ⟨i % N, Nat.mod_lt _ hN⟩)

theorem word_eq {N : ℕ} {α : Type} (hN : 0 < N) (X : (⟨1, ![N]⟩ : Shape).Idx → α) (j : (⟨1, ![N]⟩ : Shape).Idx) {i : ℕ} (h : (j 0).val = i) :
    word hN X i = X j := by
  subst h
  unfold word
  congr 1
  rw [show j = Shape.ofLane (d := ![N]) (j 0) from funext fun a => by obtain rfl : a = 0 := Subsingleton.elim _ _; rfl]
  congr 1
  exact Fin.ext (Nat.mod_eq_of_lt (j 0).isLt)

/-- A word of a slice of a rank-one array. -/
theorem slice_word {N n o : ℕ} {α : Type} (hN : 0 < N) {off : Fin 1 → ℕ} (ho : off = ![o]) (inb : ∀ a, off a + (⟨1, ![n]⟩ : Shape).size a ≤ (⟨1, ![N]⟩ : Shape).size a)
    (X : (⟨1, ![N]⟩ : Shape).Idx → α) (j : (⟨1, ![n]⟩ : Shape).Idx) :
    X ((Rect.unit (s := ⟨1, ![N]⟩) off (⟨1, ![n]⟩ : Shape).size inb).emb j) = word hN X (o + (j 0).val) := by
  refine (word_eq hN X _ ?_).symm
  subst ho
  show o + 1 * (j 0).val = _
  omega

variable {σ : RefSig}

/-- A load of sixteen words at offset `o` of a whole buffer reads its words `o`, `o + 1`, …. -/
theorem load_lanes {e : EltTy} {n : ℕ} (v : View σ .scVector .vmem ⟨1, ![n]⟩ e) (f : v.ty.Contents (Elt F)) {off : Fin 1 → ℕ} {o : ℕ}
    (ho : off = ![o]) (inb : ∀ a, off a + (⟨1, ![16]⟩ : Shape).size a ≤ (⟨1, ![n]⟩ : Shape).size a) (k : Fin 16) (j : (⟨1, ![n]⟩ : Shape).Idx) (hj : (j 0).val = o + k.val) :
    v.readAt (Elt F) (Rect.unit (s := ⟨1, ![n]⟩) off (⟨1, ![16]⟩ : Shape).size inb).toLoadRect f (Shape.ofLane k) = v.read (Elt F) f j := by
  subst ho
  show v.read (Elt F) f _ = _
  congr 1
  funext a
  obtain rfl : a = 0 := Subsingleton.elim _ _
  refine Fin.ext ?_
  rw [LoadRect.idx_apply, hj]
  show o + 1 * k.val = _
  omega

/-- A slot buffer after sixteen lanes of one value were stored at offset `o`: the value there, the old contents elsewhere. -/
theorem store_lanes {e : EltTy} {n : ℕ} (v : View σ .scVector .vmem ⟨1, ![n]⟩ e) (f : v.ty.Contents (Elt F))
    {off : Fin 1 → ℕ} {o : ℕ} (ho : off = ![o]) (inb : ∀ a, off a + (⟨1, ![16]⟩ : Shape).size a ≤ (⟨1, ![n]⟩ : Shape).size a) (w : (⟨1, ![16]⟩ : Shape).Idx → Elt F e) (c : Elt F e)
    (hw : ∀ x, w x = c) (j : (⟨1, ![n]⟩ : Shape).Idx) :
    v.read (Elt F) ((v.slice (Rect.unit (s := ⟨1, ![n]⟩) off (⟨1, ![16]⟩ : Shape).size inb)).write (Elt F) f w Finset.univ) j
      = if o ≤ (j 0).val ∧ (j 0).val < o + 16 then c else v.read (Elt F) f j := by
  subst ho
  have hr := v.read_writes_cons_hit_of_coords f (Rect.unit (s := ⟨1, ![n]⟩) ![o] (⟨1, ![16]⟩ : Shape).size inb) w []
  split
  · rename_i h
    refine (hr (Shape.ofLane (d := ![16]) ⟨(j 0).val - o, show (j 0).val - o < 16 by omega⟩) j fun a => ?_).trans (hw _)
    obtain rfl : a = 0 := Subsingleton.elim _ _
    show (j 0).val = o + 1 * ((j 0).val - o)
    omega
  · rename_i h
    exact v.read_writes_cons_miss_of_axis f ⟨Rect.unit (s := ⟨1, ![n]⟩) ![o] (⟨1, ![16]⟩ : Shape).size inb, w⟩ [] j 0 o 16 rfl rfl rfl (by omega)

/-- The number of the tile on core `c`, subcore `i`. -/
def tileNo (c : Fin 2) (i : Fin 16) : Fin 32 := ⟨i.val * 2 + c.val, by omega⟩
def tiles : Fin 2 × Fin 16 ≃ Fin 32 where
  toFun p := tileNo p.1 p.2
  invFun w := (⟨w.val % 2, by omega⟩, ⟨w.val / 2, by omega⟩)
  left_inv p := by
    obtain ⟨c, i⟩ := p
    refine Prod.ext (Fin.ext ?_) (Fin.ext ?_)
    · show (i.val * 2 + c.val) % 2 = c.val; omega
    · show (i.val * 2 + c.val) / 2 = i.val; omega
  right_inv w := Fin.ext (by show w.val / 2 * 2 + w.val % 2 = w.val; omega)

end Cert.Proof.Lanes

end
-- ==== Proof.Group.lean ====
/-
  One group of sixteen scores.

  A range's scores are `x 0, x 1, …`; score `i` is a candidate when it is positive (`on`). The kernel treats the scores
  sixteen at a time: it counts the candidates lane by lane, gives each the slot "candidates before it, at most 2047", and
  scatters the scores and their numbers. These are the values of that computation for the group at `n`, in terms of the
  number `cnt` of candidates before `n`.
-/
module

public import proofs.«01_k».proof.Proof.Gen.KernelIdeal.Skeleton
public import proofs.«01_k».proof.Proof.Lanes

@[expose] public section

noncomputable section

namespace Cert.Proof.Group

open Idealize.ShloMosaic Cert.KernelIdeal Cert.KernelIdeal.Gen Cert.Proof.Fill Cert.Proof.Lanes

variable {F : FTy → Type} [FloatOps F]

/-- Whether a score is a candidate: `x > 0`. -/
def hit (y : F .f32) : Bool := decide (FloatOps.cmpf .ogt y (Scalar.ofBits .f32 0x00000000#32) = 1)

/-- Which scores of a range are candidates. -/
def on (x : ℕ → F .f32) (i : ℕ) : Bool := hit (x i)

/-- The slot of score `i`: the number of candidates before it, at most 2047. -/
def slot (x : ℕ → F .f32) (i : ℕ) : ℕ := min (cnt (on x) i) 2047

/-- The value slots after the first `n` scores: a candidate's score, −1 where there is none. -/
def vals (x : ℕ → F .f32) (n : ℕ) : ℕ → F .f32 := fill (on x) (slot x) x (fun _ => Scalar.ofBits .f32 0xBF800000#32) n

/-- The number slots after the first `n` scores: a candidate's number in its image, 0 where there is none. -/
def idxs (x : ℕ → F .f32) (base n : ℕ) : ℕ → BitVec 32 := fill (on x) (slot x) (fun i => BitVec.ofNat 32 (base + i)) (fun _ => 0#32) n

/-- The positions the kernel computes from the number before the group and the group's mask words. -/
def posOf (c : BitVec 32) (w : IVec S16 32) : IVec S16 32 :=
  minsi (subi (addi (broadcast S16 c) (scan .sum w)) w) (broadcast S16 2047#32)

/-- The numbers the kernel stores, from the number of the group's first score. -/
def idxOf (b : BitVec 32) : IVec S16 32 := addi (iota .scVector S16 32 [0] iota_S16_d0_w32_scVector) (broadcast S16 b)

/-- The group's last lane. -/
def last16 (w : IVec S16 32) : BitVec 32 := extractAt ![15] w inpos_S16_p15

theorem last16_eq (w : IVec S16 32) : last16 w = w (Shape.ofLane (15 : Fin 16)) := by
  unfold last16 extractAt
  congr 1
  funext a
  obtain rfl : a = 0 := Subsingleton.elim _ _
  rfl

variable {x : ℕ → F .f32} {n : ℕ}

/-- The group's scores, lane by lane. -/
def Lanes (x : ℕ → F .f32) (n : ℕ) (v : Vec F S16 .f32) : Prop := ∀ k : Fin 16, v (Shape.ofLane k) = x (n + k.val)

theorem mask_lane {v : Vec F S16 .f32} (hv : Lanes x n v) (k : Fin 16) : k0_pay1 v (Shape.ofLane k) = 1 ↔ on x (n + k.val) = true := by
  show FloatOps.cmpf .ogt (v (Shape.ofLane k)) _ = 1 ↔ _
  rw [hv k]
  exact (decide_eq_true_iff).symm

theorem word_lane {v : Vec F S16 .f32} (hv : Lanes x n v) (k : Fin 16) :
    k0_pay5 v (Shape.ofLane k) = BitVec.ofNat 32 (if on x (n + k.val) = true then 1 else 0) :=
  extui_lane (mask_lane hv) natLt_1_32 k

theorem pos_lane {v : Vec F S16 .f32} (hv : Lanes x n v) (hn : n + 16 < 2 ^ 31) (k : Fin 16) :
    (posOf (BitVec.ofNat 32 (cnt (on x) n)) (k0_pay5 v) (Shape.ofLane k)).toNat = slot x (n + k.val) := by
  show (IntOp.minsi (BitVec.ofNat 32 (cnt (on x) n) + scan .sum (k0_pay5 v) (Shape.ofLane k) - k0_pay5 v (Shape.ofLane k)) (BitVec.ofNat 32 2047)).toNat = _
  rw [before_lane (word_lane hv) k]
  have := cnt_le (on x) (n + k.val)
  exact minsi_toNat _ _ (by omega) (by omega)

theorem pos_lt {v : Vec F S16 .f32} {pos : IVec S16 32} (hv : Lanes x n v) (hn : n + 16 < 2 ^ 31)
    (hp : pos = posOf (BitVec.ofNat 32 (cnt (on x) n)) (k0_pay5 v)) :
    ∀ a j, ((![pos] : Fin 1 → IVec S16 32) a j).toNat < S2048.size a := by
  subst hp
  intro a j
  obtain rfl : a = 0 := Subsingleton.elim _ _
  rw [lane_eq j]
  show (posOf (BitVec.ofNat 32 (cnt (on x) n)) (k0_pay5 v) (Shape.ofLane (j 0))).toNat < 2048
  rw [pos_lane hv hn (j 0)]
  unfold slot
  omega

theorem idx_lane (b : ℕ) (k : Fin 16) : idxOf (BitVec.ofNat 32 b) (Shape.ofLane k) = BitVec.ofNat 32 (b + k.val) := by
  show BitVec.ofNat 32 (0 * 16 + k.val) + BitVec.ofNat 32 b = _
  rw [← BitVec.ofNat_add]
  congr 1; omega

/-- The number of candidates after the group. -/
theorem after {v : Vec F S16 .f32} (hv : Lanes x n v) :
    Scalar.addi (BitVec.ofNat 32 (cnt (on x) n)) (last16 (scan .sum (k0_pay5 v))) = BitVec.ofNat 32 (cnt (on x) (n + 16)) := by
  rw [last16_eq]
  exact after_group (word_lane hv)

/-- The scores' scatter of the group. -/
theorem vals_group {v : Vec F S16 .f32} {pos : IVec S16 32} {mask : IVec S16 1} (hv : Lanes x n v) (hn : n + 16 < 2 ^ 31)
    (hm : mask = k0_pay1 v) (hp : pos = posOf (BitVec.ofNat 32 (cnt (on x) n)) (k0_pay5 v)) (n' : ℕ) (hn' : n' = n + 16) (h) :
    storeIdx (s := S2048) (asBuf (vals x n) : Vec F S2048 .f32) ![pos] v mask false h = asBuf (vals x n') := by
  subst hm hp hn'
  exact storeIdx_fill (e := .f32) n rfl (mask_lane hv) (fun k _ => pos_lane hv hn k) fun k _ => hv k

/-- The numbers' scatter of the group. -/
theorem idxs_group {v : Vec F S16 .f32} {pos w : IVec S16 32} {mask : IVec S16 1} (hv : Lanes x n v) (hn : n + 16 < 2 ^ 31)
    (hm : mask = k0_pay1 v) (hp : pos = posOf (BitVec.ofNat 32 (cnt (on x) n)) (k0_pay5 v)) (n' : ℕ) (hn' : n' = n + 16)
    (base : ℕ) (hw : w = idxOf (BitVec.ofNat 32 (base + n))) (h) :
    storeIdx (F := F) (s := S2048) (e := .i32) (asBuf (idxs x base n)) ![pos] w mask false h = asBuf (idxs x base n') := by
  subst hm hp hw hn'
  exact storeIdx_fill (F := F) (e := .i32) n rfl (mask_lane hv) (fun k _ => pos_lane hv hn k) fun k _ => by
    rw [idx_lane, Nat.add_assoc]

/-! ## Four groups at once -/

/-- The total of four groups' candidates. -/
theorem total_eq {v₀ v₁ v₂ v₃ : Vec F S16 .f32} (h₀ : Lanes x n v₀) (h₁ : Lanes x (n + 16) v₁) (h₂ : Lanes x (n + 32) v₂) (h₃ : Lanes x (n + 48) v₃) :
    last16 (k0_pay9 v₀ v₁ v₂ v₃) = BitVec.ofNat 32 (∑ i ∈ Finset.range 16, ((if on x (n + i) = true then 1 else 0) + (if on x (n + 16 + i) = true then 1 else 0)
      + (if on x (n + 32 + i) = true then 1 else 0) + (if on x (n + 48 + i) = true then 1 else 0))) := by
  rw [last16_eq]
  refine scan_sum (addi (addi (addi (k0_pay5 v₀) (k0_pay6 v₁)) (k0_pay7 v₂)) (k0_pay8 v₃)) (fun i => (if on x (n + i) = true then 1 else 0) + (if on x (n + 16 + i) = true then 1 else 0)
      + (if on x (n + 32 + i) = true then 1 else 0) + (if on x (n + 48 + i) = true then 1 else 0)) (fun k => ?_) 15
  show k0_pay5 v₀ (Shape.ofLane k) + k0_pay5 v₁ (Shape.ofLane k) + k0_pay5 v₂ (Shape.ofLane k) + k0_pay5 v₃ (Shape.ofLane k) = _
  rw [word_lane h₀, word_lane h₁, word_lane h₂, word_lane h₃, ← BitVec.ofNat_add, ← BitVec.ofNat_add, ← BitVec.ofNat_add]

theorem cond_of_pos (t : ℕ) (ht : t < 2 ^ 31) (h0 : t ≠ 0) : k0_cond1 (BitVec.ofNat 32 t) = 1#1 := by
  have hs : (0#32).slt (BitVec.ofNat 32 t) = true := by
    have : (BitVec.ofNat 32 t).toInt = t := by
      rw [BitVec.toInt_eq_toNat_of_lt] <;> simp <;> omega
    simp only [BitVec.slt, this]; simp; omega
  show IntOp.cmpi .ne (BitVec.setWidth 32 (BitVec.ofBool ((0#32).slt (BitVec.ofNat 32 t)))) 0#32 = 1#1
  rw [hs]; decide

/-- Where the four groups' total is not positive, none of the 64 scores is a candidate. -/
theorem none_of_total {v₀ v₁ v₂ v₃ : Vec F S16 .f32} (h₀ : Lanes x n v₀) (h₁ : Lanes x (n + 16) v₁) (h₂ : Lanes x (n + 32) v₂) (h₃ : Lanes x (n + 48) v₃)
    (h : ¬ k0_cond1 (last16 (k0_pay9 v₀ v₁ v₂ v₃)) = 1#1) : ∀ i < 64, on x (n + i) = false := by
  rw [total_eq h₀ h₁ h₂ h₃] at h
  have hb : ∀ b : Bool, (if b = true then 1 else 0 : ℕ) ≤ 1 := by decide
  have hle : (∑ i ∈ Finset.range 16, ((if on x (n + i) = true then 1 else 0) + (if on x (n + 16 + i) = true then 1 else 0)
      + (if on x (n + 32 + i) = true then 1 else 0) + (if on x (n + 48 + i) = true then 1 else 0))) ≤ ∑ _i ∈ Finset.range 16, 4 :=
    Finset.sum_le_sum fun i _ => by
      have := hb (on x (n + i)); have := hb (on x (n + 16 + i)); have := hb (on x (n + 32 + i)); have := hb (on x (n + 48 + i))
      omega
  rw [Finset.sum_const, Finset.card_range, smul_eq_mul] at hle
  have h0 := by_contra fun hne => h (cond_of_pos _ (by omega) hne)
  have hall := Finset.sum_eq_zero_iff.mp h0
  have off : ∀ b : Bool, (if b = true then 1 else 0 : ℕ) = 0 → b = false := by decide
  intro i hi
  have hm : i % 16 ∈ Finset.range 16 := Finset.mem_range.mpr (Nat.mod_lt _ (by omega))
  have hz := hall _ hm
  have hd : i = 16 * (i / 16) + i % 16 := (Nat.div_add_mod i 16).symm
  have hq : i / 16 < 4 := by omega
  generalize i / 16 = q at hd hq
  generalize i % 16 = r at hd hz
  subst hd
  apply off
  have e : n + (16 * q + r) = n + 16 * q + r := by omega
  rw [e]
  match q, hq with
  | 0, _ => show (if on x (n + r) = true then 1 else 0) = 0; omega
  | 1, _ => show (if on x (n + 16 + r) = true then 1 else 0) = 0; omega
  | 2, _ => show (if on x (n + 32 + r) = true then 1 else 0) = 0; omega
  | 3, _ => show (if on x (n + 48 + r) = true then 1 else 0) = 0; omega

theorem cnt_add_of_off {on : ℕ → Bool} : ∀ k : ℕ, (∀ i < k, on (n + i) = false) → cnt on (n + k) = cnt on n
  | 0, _ => rfl
  | k + 1, h => by
      rw [← Nat.add_assoc, cnt_off (by rw [h k (Nat.lt_succ_self k)]; decide), cnt_add_of_off k fun i hi => h i (Nat.lt_succ_of_lt hi)]

theorem vals_skip (h : ∀ i < 64, on x (n + i) = false) : vals x (n + 64) = vals x n := fill_add_of_off 64 h
theorem idxs_skip (base : ℕ) (h : ∀ i < 64, on x (n + i) = false) : idxs x base (n + 64) = idxs x base n := fill_add_of_off 64 h

end Cert.Proof.Group

end
-- ==== Proof.Setup.lean ====
/-
  The compaction call as the launch theorem sees it, and what its tiles compute.

  The call runs on two SparseCores of sixteen vector subcores: thirty-two tiles. Tile (core c, subcore s) has the number
  w = 2 s + c and compacts the 200000 scores from number 200000 w on into the 2048 slots from number 2048 w on.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Group

@[expose] public section

noncomputable section

namespace Cert.Proof.Compact

open Cert.KernelIdeal Cert.KernelIdeal.Gen Cert.Proof.Fill Cert.Proof.Group

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The flat scores and the two flat results, as locations of device `d`. -/
abbrev xLoc (d : Dev nD) : Loc nD τ sig := (SparseCore.T d).loc main_v0
abbrev vLoc (d : Dev nD) : Loc nD τ sig := (SparseCore.T d).loc main_v1_0
abbrev iLoc (d : Dev nD) : Loc nD τ sig := (SparseCore.T d).loc main_v1_1

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

theorem coords_eq (L : grid0.Coords) : L = coordsV (L 0) (L 1) := by
  funext a
  match a with
  | 0 => rfl
  | 1 => rfl

/-- The tile's number. -/
abbrev wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

theorem off2_eq (L : grid0.Coords) (t : Fin k0_t2_loop.trips) : k0_off2 L t = ![200000 * wid L + 8000 * t.val] := by
  rw [coords_eq L]
  exact (by decide +kernel : ∀ (c : Fin (grid0.bound 0)) (s : Fin (grid0.bound 1)) (t : Fin k0_t2_loop.trips),
    k0_off2 (coordsV c s) t = ![200000 * (s.val * 2 + c.val) + 8000 * t.val]) _ _ t

theorem off4_eq (L : grid0.Coords) : k0_off4 L = ![2048 * wid L] := by
  rw [coords_eq L]
  exact (by decide +kernel : ∀ (c : Fin (grid0.bound 0)) (s : Fin (grid0.bound 1)), k0_off4 (coordsV c s) = ![2048 * (s.val * 2 + c.val)]) _ _

/-- The scores of range `w`, in order. -/
def range (X : Vec F S6400000 .f32) (w i : ℕ) : F .f32 :=
  X (Shape.ofLane (d := ![6400000]) ⟨(200000 * w + i) % 6400000, Nat.mod_lt _ (by decide)⟩)

/-- The number within its image of range `w`'s first score. -/
abbrev base (w : ℕ) : ℕ := 200000 * (w % 8)

variable [FloatOps F]

/-- The two results: range after range, the slots after all its scores. -/
def outV (X : Vec F S6400000 .f32) : Vec F S65536 .f32 := fun j => vals (range X ((j 0).val / 2048)) 200000 ((j 0).val % 2048)
def outI (X : Vec F S6400000 .f32) : Vec F S65536 .i32 := fun j =>
  idxs (range X ((j 0).val / 2048)) (base ((j 0).val / 2048)) 200000 ((j 0).val % 2048)

end Cert.Proof.Compact

end
-- ==== Proof.Scan.lean ====
/-
  One trip of the inner loop: sixty-four scores of the chunk in the tile's memory.

  Before the trip at `n` the value slots and the number slots hold what the scores before `n` leave, and the carried word
  is the number of candidates before `n`; after it the same at `n + 64`. Where the sixty-four hold no candidate the kernel
  skips them; else it scatters four groups of sixteen.
-/
module

public import proofs.«01_k».proof.Proof.Setup

@[expose] public section

noncomputable section

namespace Cert.Proof.Compact

open Cert.KernelIdeal Cert.KernelIdeal.Gen Cert.Proof.Fill Cert.Proof.Group

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat scores, the two flat results, the chunk, the two slot buffers
local notation "xV" => (Memref.whole Cert.KernelIdeal.main_v0_scv : Memref Cert.KernelIdeal.sig Kind.scVector Space.hbm Cert.KernelIdeal.S6400000 EltTy.f32)
local notation "vV" => (Memref.whole Cert.KernelIdeal.main_v1_0_scv : Memref Cert.KernelIdeal.sig Kind.scVector Space.hbm Cert.KernelIdeal.S65536 EltTy.f32)
local notation "iV" => (Memref.whole Cert.KernelIdeal.main_v1_1_scv : Memref Cert.KernelIdeal.sig Kind.scVector Space.hbm Cert.KernelIdeal.S65536 EltTy.i32)
local notation "sC" => (Memref.whole Cert.KernelIdeal.cc0_scratch0 : Memref Cert.KernelIdeal.sig Kind.scVector Space.vmem Cert.KernelIdeal.S8000 EltTy.f32)
local notation "sV" => (Memref.whole Cert.KernelIdeal.cc0_scratch1 : Memref Cert.KernelIdeal.sig Kind.scVector Space.vmem Cert.KernelIdeal.S2048 EltTy.f32)
local notation "sI" => (Memref.whole Cert.KernelIdeal.cc0_scratch2 : Memref Cert.KernelIdeal.sig Kind.scVector Space.vmem Cert.KernelIdeal.S2048 EltTy.i32)

variable [FloatOps F] (d : Dev nD) (L : grid0.Coords)

/-- The tile's buffers. -/
abbrev cLoc : Loc nD τ sig := (V d (cV L) (jV L)).loc cc0_scratch0
abbrev svLoc : Loc nD τ sig := (V d (cV L) (jV L)).loc cc0_scratch1
abbrev siLoc : Loc nD τ sig := (V d (cV L) (jV L)).loc cc0_scratch2

/-- The scatter into the value slots, held whole. -/
theorem wp_scatterV {α : Type} {Q : α → sProp 𝕄} {pos : IVec S16 32} {v : Vec F S16 .f32} {mask : IVec S16 1}
    {h : ∀ a x, ((![pos] : Fin 1 → IVec S16 32) a x).toNat < S2048.size a} {hs : ((sV).access (.whole S2048)).Stores Finset.univ}
    {k : PUnit → Prog (TpuEff nD τ sig (Elt F) Λ₀ (V d (cV L) (jV L)).2) α} {f : Vec F S2048 .f32} :
    (svLoc d L ↦{fullShare} f : sProp 𝕄)
      ⊢ iprop(((svLoc d L ↦{fullShare} (storeIdx (s := S2048) f ![pos] v mask false h : Vec F S2048 .f32)) -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx (sV) ![pos] v mask false h hs >>= k) Q) := by
  have H := SparseCore.wp_vectorStoreIdx (defs := defs₀ (F := F)) 𝒱₀ (V d (cV L) (jV L)) none Set.univ (base := sV) (idxs := ![pos]) (v := v) (mask := mask)
    (add := false) (h := h) (hs := hs) (k := k) (f := f) (Q := Q)
  rw [Memref.set_access_whole, Memref.read_access_whole, Memref.write_access_whole_univ] at H
  exact H

/-- The scatter into the number slots, held whole. -/
theorem wp_scatterI {α : Type} {Q : α → sProp 𝕄} {pos : IVec S16 32} {v : IVec S16 32} {mask : IVec S16 1}
    {h : ∀ a x, ((![pos] : Fin 1 → IVec S16 32) a x).toNat < S2048.size a} {hs : ((sI).access (.whole S2048)).Stores Finset.univ}
    {k : PUnit → Prog (TpuEff nD τ sig (Elt F) Λ₀ (V d (cV L) (jV L)).2) α} {f : Vec F S2048 .i32} :
    (siLoc d L ↦{fullShare} f : sProp 𝕄)
      ⊢ iprop(((siLoc d L ↦{fullShare} (storeIdx (F := F) (s := S2048) (e := .i32) f ![pos] v mask false h : Vec F S2048 .i32)) -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx (F := F) (e := .i32) (sI) ![pos] v mask false h hs >>= k) Q) := by
  have H := SparseCore.wp_vectorStoreIdx (defs := defs₀ (F := F)) 𝒱₀ (V d (cV L) (jV L)) none Set.univ (base := sI) (idxs := ![pos]) (v := v) (mask := mask)
    (add := false) (h := h) (hs := hs) (k := k) (f := f) (Q := Q)
  rw [Memref.set_access_whole, Memref.read_access_whole, Memref.write_access_whole_univ] at H
  exact H

/-- A load of sixteen scores of the chunk at offset `o` reads the scores from `n + o` on, the chunk's first being `n`. -/
theorem lanes_load {x : ℕ → F .f32} {n : ℕ} {fc : Vec F S8000 .f32} (hfc : ∀ j : S8000.Idx, fc j = x (n + (j 0).val)) {off : Fin 1 → ℕ} {o : ℕ}
    (ho : off = ![o]) (inb : ∀ a, off a + S16.size a ≤ S8000.size a) :
    Lanes x (n + o) ((sC).view.readAt (Elt F) (Rect.unit (s := S8000) off S16.size inb).toLoadRect fc) := by
  subst ho
  intro k
  show fc ((Rect.unit (s := S8000) ![o] S16.size inb).toLoadRect.idx (Shape.ofLane k)) = _
  rw [hfc, LoadRect.idx_apply]
  congr 1
  show n + (o + 1 * k.val) = _
  omega

/-- What the tile holds before the trip at score `n`: the count, the chunk, the slots. -/
def I3 (x : ℕ → F .f32) (bs n₀ : ℕ) (fc : Vec F S8000 .f32) (u : ℕ) (acc : BitVec 32) : sProp 𝕄 :=
  iprop(⌜acc = BitVec.ofNat 32 (cnt (on x) (n₀ + 64 * u))⌝ ∗ (cLoc d L ↦{fullShare} fc)
    ∗ (svLoc d L ↦{fullShare} (asBuf (vals x (n₀ + 64 * u)) : Vec F S2048 .f32))
    ∗ (siLoc d L ↦{fullShare} (asBuf (idxs x bs (n₀ + 64 * u)) : Vec F S2048 .i32)))

theorem off3_eq (u : Fin k0_t3_loop.trips) (r : Fin 4) : k0_off3 u (BitVec.ofNat 32 (16 * r.val)) = ![64 * u.val + 16 * r.val] := k0_off3_eq u r

/-- The number of the trip's first score, as the kernel computes it, plus a group's offset. -/
theorem number_eq (b t u o : ℕ) :
    Scalar.addi (Scalar.addi (Scalar.addi (BitVec.ofNat 32 b) (Scalar.muli (Scf.iv 0#32 1#32 t) 8000#32)) (Scalar.muli (Scf.iv 0#32 1#32 u) 64#32)) (BitVec.ofNat 32 o)
      = BitVec.ofNat 32 (b + (8000 * t + (64 * u + o))) := by
  have e : ∀ k : ℕ, Scf.iv 0#32 1#32 k = BitVec.ofNat 32 k := fun k => by unfold Scf.iv; simp
  rw [e, e]
  show BitVec.ofNat 32 b + BitVec.ofNat 32 t * BitVec.ofNat 32 8000 + BitVec.ofNat 32 u * BitVec.ofNat 32 64 + BitVec.ofNat 32 o = _
  rw [← BitVec.ofNat_mul, ← BitVec.ofNat_mul, ← BitVec.ofNat_add, ← BitVec.ofNat_add, ← BitVec.ofNat_add]
  congr 1; omega

theorem t3_step (x : ℕ → F .f32) (bs : ℕ) (t : Fin k0_t2_loop.trips) (fc : Vec F S8000 .f32) (hfc : ∀ j : S8000.Idx, fc j = x (8000 * t.val + (j 0).val))
    (u : Fin k0_t3_loop.trips) (acc : BitVec 32) :
    I3 d L x bs (8000 * t.val) fc u.val acc
      ⊢ wp frame (wpE (defs₀ (F := F)) 𝒱₀ (V d (cV L) (jV L)) none) Set.univ
          (k0_t3_body L xV (Memref.isWhole_whole _) vV (Memref.isWhole_whole _) iV (Memref.isWhole_whole _) sC (Memref.isWhole_whole _) sV (Memref.isWhole_whole _)
            sI (Memref.isWhole_whole _) cc0_scoped0 cc0_scoped1 cc0_scoped2 (BitVec.ofNat 32 bs) (iota .scVector S16 32 [0] iota_S16_d0_w32_scVector) 0#32 1#32 t
            (Scf.iv 0#32 1#32 t) u acc)
          (I3 d L x bs (8000 * t.val) fc (u.val + 1)) := by
  have ht : t.val < 25 := t.isLt
  have hu : u.val < 125 := u.isLt
  unfold I3
  iintro ⟨%hacc, Hc, Hv, Hi⟩
  subst hacc
  have hn : 8000 * t.val + 64 * u.val + 48 + 16 < 2 ^ 31 := by omega
  unfold k0_t3_body
  dsimp only
  simp only [Prog.lift, Prog.bind_op, Prog.bind_ret, Prog.bind_assoc, Prog.pure_eq_ret]
  iapply (wp_load 𝒱₀ (V d (cV L) (jV L)) none Set.univ (m := sC) (S := Finset.univ) (Finset.subset_univ _)) $$ Hc; iintro Hc
  iapply (wp_load 𝒱₀ (V d (cV L) (jV L)) none Set.univ (m := sC) (S := Finset.univ) (Finset.subset_univ _)) $$ Hc; iintro Hc
  iapply (wp_load 𝒱₀ (V d (cV L) (jV L)) none Set.univ (m := sC) (S := Finset.univ) (Finset.subset_univ _)) $$ Hc; iintro Hc
  iapply (wp_load 𝒱₀ (V d (cV L) (jV L)) none Set.univ (m := sC) (S := Finset.univ) (Finset.subset_univ _)) $$ Hc; iintro Hc
  have l0 : Lanes x (8000 * t.val + 64 * u.val) _ := lanes_load hfc (off3_eq u 0) (k0_off3_inb u 0)
  have l1 : Lanes x (8000 * t.val + 64 * u.val + 16) _ := lanes_load hfc (off3_eq u 1) (k0_off3_inb u 1)
  have l2 : Lanes x (8000 * t.val + 64 * u.val + 32) _ := lanes_load hfc (off3_eq u 2) (k0_off3_inb u 2)
  have l3 : Lanes x (8000 * t.val + 64 * u.val + 48) _ := lanes_load hfc (off3_eq u 3) (k0_off3_inb u 3)
  have w0 := number_eq bs t.val u.val 0
  have w1 := number_eq bs t.val u.val 16
  have w2 := number_eq bs t.val u.val 32
  have w3 := number_eq bs t.val u.val 48
  generalize hN : 8000 * t.val + 64 * u.val = n at l0 l1 l2 l3 hn ⊢
  rw [show 8000 * t.val + 64 * (u.val + 1) = n + 64 by omega]
  rw [show 8000 * t.val + (64 * u.val + 0) = n by omega] at w0
  rw [show 8000 * t.val + (64 * u.val + 16) = n + 16 by omega] at w1
  rw [show 8000 * t.val + (64 * u.val + 32) = n + 32 by omega] at w2
  rw [show 8000 * t.val + (64 * u.val + 48) = n + 48 by omega] at w3
  revert l0 l1 l2 l3
  generalize (sC).view.readAt (Elt F) (Rect.unit (s := S8000) (k0_off3 u 0#32) S16.size (k0_off3_inb u 0)).toLoadRect fc = y0
  generalize (sC).view.readAt (Elt F) (Rect.unit (s := S8000) (k0_off3 u 16#32) S16.size (k0_off3_inb u 1)).toLoadRect fc = y1
  generalize (sC).view.readAt (Elt F) (Rect.unit (s := S8000) (k0_off3 u 32#32) S16.size (k0_off3_inb u 2)).toLoadRect fc = y2
  generalize (sC).view.readAt (Elt F) (Rect.unit (s := S8000) (k0_off3 u 48#32) S16.size (k0_off3_inb u 3)).toLoadRect fc = y3
  intro l0 l1 l2 l3
  by_cases hc : k0_cond1 (extractAt ![15] (k0_pay9 y0 y1 y2 y3) inpos_S16_p15) = 1#1
  · rw [dif_pos hc]
    have a0 := after l0
    have a1 := after l1
    have a2 := after l2
    have a3 := after l3
    have p0 : k0_pay17 (BitVec.ofNat 32 (cnt (on x) n)) (k0_pay5 y0) = posOf (BitVec.ofNat 32 (cnt (on x) n)) (k0_pay5 y0) := rfl
    have p1 : k0_pay20 (BitVec.ofNat 32 (cnt (on x) n)) (k0_pay5 y0) (k0_pay6 y1) = posOf (BitVec.ofNat 32 (cnt (on x) (n + 16))) (k0_pay5 y1) := by
      rw [← a0]; rfl
    have q2 : Scalar.addi (Scalar.addi (BitVec.ofNat 32 (cnt (on x) n)) (extractAt ![15] (k0_pay18 (k0_pay5 y0)) inpos_S16_p15))
        (extractAt ![15] (k0_pay21 (k0_pay6 y1)) inpos_S16_p15) = BitVec.ofNat 32 (cnt (on x) (n + 32)) := by
      rw [show n + 32 = n + 16 + 16 from rfl, ← a1, ← a0]; rfl
    have p2 : k0_pay11 y2 (Scalar.addi (Scalar.addi (BitVec.ofNat 32 (cnt (on x) n)) (extractAt ![15] (k0_pay18 (k0_pay5 y0)) inpos_S16_p15))
        (extractAt ![15] (k0_pay21 (k0_pay6 y1)) inpos_S16_p15)) = posOf (BitVec.ofNat 32 (cnt (on x) (n + 32))) (k0_pay5 y2) := by
      rw [q2]; rfl
    have p3 : k0_pay14 y2 y3 (Scalar.addi (Scalar.addi (BitVec.ofNat 32 (cnt (on x) n)) (extractAt ![15] (k0_pay18 (k0_pay5 y0)) inpos_S16_p15))
        (extractAt ![15] (k0_pay21 (k0_pay6 y1)) inpos_S16_p15)) = posOf (BitVec.ofNat 32 (cnt (on x) (n + 48))) (k0_pay5 y3) := by
      rw [q2, show n + 48 = n + 32 + 16 from rfl, ← a2]; rfl
    have q4 : Scalar.addi (Scalar.addi (Scalar.addi (Scalar.addi (BitVec.ofNat 32 (cnt (on x) n)) (extractAt ![15] (k0_pay18 (k0_pay5 y0)) inpos_S16_p15))
        (extractAt ![15] (k0_pay21 (k0_pay6 y1)) inpos_S16_p15)) (extractAt ![15] (k0_pay12 y2) inpos_S16_p15)) (extractAt ![15] (k0_pay15 y3) inpos_S16_p15)
        = BitVec.ofNat 32 (cnt (on x) (n + 64)) := by
      rw [q2, show n + 64 = n + 48 + 16 from rfl, ← a3, show n + 48 = n + 32 + 16 from rfl, ← a2]; rfl
    have m0 : k0_pay1 y0 = k0_pay1 y0 := rfl
    have m1 : k0_pay2 y1 = k0_pay1 y1 := rfl
    have m2 : k0_pay3 y2 = k0_pay1 y2 := rfl
    have m3 : k0_pay4 y3 = k0_pay1 y3 := rfl
    have i0 : k0_pay16 (BitVec.ofNat 32 bs) (iota .scVector S16 32 [0] iota_S16_d0_w32_scVector) (Scf.iv 0#32 1#32 t.val) (Scf.iv 0#32 1#32 u.val)
        = idxOf (BitVec.ofNat 32 (bs + n)) := by rw [← w0]; rfl
    have i1 : k0_pay19 (BitVec.ofNat 32 bs) (iota .scVector S16 32 [0] iota_S16_d0_w32_scVector) (Scf.iv 0#32 1#32 t.val) (Scf.iv 0#32 1#32 u.val)
        = idxOf (BitVec.ofNat 32 (bs + (n + 16))) := by rw [← w1]; rfl
    have i2 : k0_pay10 (iota .scVector S16 32 [0] iota_S16_d0_w32_scVector)
        (Scalar.addi (Scalar.addi (BitVec.ofNat 32 bs) (Scalar.muli (Scf.iv 0#32 1#32 t.val) 8000#32)) (Scalar.muli (Scf.iv 0#32 1#32 u.val) 64#32))
        = idxOf (BitVec.ofNat 32 (bs + (n + 32))) := by rw [← w2]; rfl
    have i3 : k0_pay13 (BitVec.ofNat 32 bs) (iota .scVector S16 32 [0] iota_S16_d0_w32_scVector) 0#32 1#32 t u = idxOf (BitVec.ofNat 32 (bs + (n + 48))) := by
      rw [← w3]; rfl
    rw [k0_part1_eq_skeleton]
    unfold k0_part1_skel
    dsimp only
    simp only [Prog.lift, Prog.bind_op, Prog.bind_ret, Prog.bind_assoc, Prog.pure_eq_ret]
    rw [wp_assume_of _ _ _ _ (show k0_chk1 _ _ from ⟨fun _ => pos_lt l0 (by omega) p0, fun _ => pos_lt l0 (by omega) p0⟩)]
    iapply (wp_scatterV d L) $$ Hv; iintro Hv
    iapply (wp_scatterI d L) $$ Hi; iintro Hi
    ihave Hv := (Entails.of_eq (congrArg (fun f => iprop(svLoc d L ↦{fullShare} f)) (vals_group l0 (by omega) m0 p0 (n + 16) rfl (pos_lt l0 (by omega) p0)))) $$ Hv
    ihave Hi := (Entails.of_eq (congrArg (fun f => iprop(siLoc d L ↦{fullShare} f)) (idxs_group l0 (by omega) m0 p0 (n + 16) rfl bs i0 (pos_lt l0 (by omega) p0)))) $$ Hi
    rw [wp_assume_of _ _ _ _ (show k0_chk2 _ _ from ⟨fun _ => pos_lt l1 (by omega) p1, fun _ => pos_lt l1 (by omega) p1⟩)]
    iapply (wp_scatterV d L) $$ Hv; iintro Hv
    iapply (wp_scatterI d L) $$ Hi; iintro Hi
    ihave Hv := (Entails.of_eq (congrArg (fun f => iprop(svLoc d L ↦{fullShare} f)) (vals_group l1 (by omega) m1 p1 (n + 32) rfl (pos_lt l1 (by omega) p1)))) $$ Hv
    ihave Hi := (Entails.of_eq (congrArg (fun f => iprop(siLoc d L ↦{fullShare} f)) (idxs_group l1 (by omega) m1 p1 (n + 32) rfl bs i1 (pos_lt l1 (by omega) p1)))) $$ Hi
    rw [wp_assume_of _ _ _ _ (show k0_chk3 _ _ from ⟨fun _ => pos_lt l2 (by omega) p2, fun _ => pos_lt l2 (by omega) p2⟩)]
    iapply (wp_scatterV d L) $$ Hv; iintro Hv
    iapply (wp_scatterI d L) $$ Hi; iintro Hi
    ihave Hv := (Entails.of_eq (congrArg (fun f => iprop(svLoc d L ↦{fullShare} f)) (vals_group l2 (by omega) m2 p2 (n + 48) rfl (pos_lt l2 (by omega) p2)))) $$ Hv
    ihave Hi := (Entails.of_eq (congrArg (fun f => iprop(siLoc d L ↦{fullShare} f)) (idxs_group l2 (by omega) m2 p2 (n + 48) rfl bs i2 (pos_lt l2 (by omega) p2)))) $$ Hi
    rw [wp_assume_of _ _ _ _ (show k0_chk4 _ _ from ⟨fun _ => pos_lt l3 (by omega) p3, fun _ => pos_lt l3 (by omega) p3⟩)]
    iapply (wp_scatterV d L) $$ Hv; iintro Hv
    iapply (wp_scatterI d L) $$ Hi; iintro Hi
    ihave Hv := (Entails.of_eq (congrArg (fun f => iprop(svLoc d L ↦{fullShare} f)) (vals_group l3 (by omega) m3 p3 (n + 64) rfl (pos_lt l3 (by omega) p3)))) $$ Hv
    ihave Hi := (Entails.of_eq (congrArg (fun f => iprop(siLoc d L ↦{fullShare} f)) (idxs_group l3 (by omega) m3 p3 (n + 64) rfl bs i3 (pos_lt l3 (by omega) p3)))) $$ Hi
    rw [q4, wp_ret]
    imodintro
    isplitr; · ipureintro; rfl
    isplitl [Hc]; · iexact Hc
    isplitl [Hv]; · iexact Hv
    iexact Hi
  · rw [dif_neg hc, wp_ret]
    have hoff := none_of_total l0 l1 l2 l3 hc
    rw [cnt_add_of_off 64 hoff, vals_skip hoff, idxs_skip bs hoff]
    imodintro
    isplitr; · ipureintro; rfl
    isplitl [Hc]; · iexact Hc
    isplitl [Hv]; · iexact Hv
    iexact Hi

end Cert.Proof.Compact

end
-- ==== Proof.Start.lean ====
/-
  The first loop of a tile: every slot at its starting value, sixteen slots a trip.
-/
module

public import proofs.«01_k».proof.Proof.Scan

@[expose] public section

noncomputable section

namespace Cert.Proof.Compact

open Cert.KernelIdeal Cert.KernelIdeal.Gen Cert.Proof.Fill Cert.Proof.Group Cert.Proof.Lanes

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat scores, the two flat results, the chunk, the two slot buffers
local notation "xV" => (Memref.whole Cert.KernelIdeal.main_v0_scv : Memref Cert.KernelIdeal.sig Kind.scVector Space.hbm Cert.KernelIdeal.S6400000 EltTy.f32)
local notation "vV" => (Memref.whole Cert.KernelIdeal.main_v1_0_scv : Memref Cert.KernelIdeal.sig Kind.scVector Space.hbm Cert.KernelIdeal.S65536 EltTy.f32)
local notation "iV" => (Memref.whole Cert.KernelIdeal.main_v1_1_scv : Memref Cert.KernelIdeal.sig Kind.scVector Space.hbm Cert.KernelIdeal.S65536 EltTy.i32)
local notation "sC" => (Memref.whole Cert.KernelIdeal.cc0_scratch0 : Memref Cert.KernelIdeal.sig Kind.scVector Space.vmem Cert.KernelIdeal.S8000 EltTy.f32)
local notation "sV" => (Memref.whole Cert.KernelIdeal.cc0_scratch1 : Memref Cert.KernelIdeal.sig Kind.scVector Space.vmem Cert.KernelIdeal.S2048 EltTy.f32)
local notation "sI" => (Memref.whole Cert.KernelIdeal.cc0_scratch2 : Memref Cert.KernelIdeal.sig Kind.scVector Space.vmem Cert.KernelIdeal.S2048 EltTy.i32)

variable [FloatOps F] (d : Dev nD) (L : grid0.Coords)

/-- What the tile holds before trip `k` of the first loop: the slots before `16 k` at their starting values. -/
def I1 (k : ℕ) (_ : BitVec 32) : sProp 𝕄 :=
  iprop(∃ fv : Vec F S2048 .f32, ∃ fi : Vec F S2048 .i32,
    ⌜(∀ j : S2048.Idx, (j 0).val < 16 * k → fv j = Scalar.ofBits (F := F) .f32 0xBF800000#32) ∧ ∀ j : S2048.Idx, (j 0).val < 16 * k → fi j = 0#32⌝
    ∗ (svLoc d L ↦{fullShare} fv) ∗ (siLoc d L ↦{fullShare} fi))

theorem t1_step (k : Fin k0_t1_loop.trips) (acc : BitVec 32) :
    I1 (F := F) d L k.val acc
      ⊢ wp frame (wpE (defs₀ (F := F)) 𝒱₀ (V d (cV L) (jV L)) none) Set.univ
          (k0_t1_body L xV (Memref.isWhole_whole _) vV (Memref.isWhole_whole _) iV (Memref.isWhole_whole _) sC (Memref.isWhole_whole _) sV (Memref.isWhole_whole _)
            sI (Memref.isWhole_whole _) cc0_scoped0 cc0_scoped1 cc0_scoped2 k acc)
          (I1 d L (k.val + 1)) := by
  unfold I1
  iintro ⟨%fv, %fi, %h, Hv, Hi⟩
  unfold k0_t1_body
  simp only [Prog.lift, Prog.bind_op, Prog.bind_ret, Prog.bind_assoc, Prog.pure_eq_ret]
  iapply (wp_load 𝒱₀ (V d (cV L) (jV L)) none Set.univ (m := sV) (S := Finset.univ) (Finset.subset_univ _)) $$ Hv; iintro Hv
  iapply (wp_store 𝒱₀ (V d (cV L) (jV L)) none Set.univ (m := sV) (r := Rect.unit (s := S2048) (k0_off1 k) S16.size (k0_off1_inb k)) (S := Finset.univ) (Finset.subset_univ _)) $$ Hv; iintro Hv
  iapply (wp_load 𝒱₀ (V d (cV L) (jV L)) none Set.univ (m := sI) (S := Finset.univ) (Finset.subset_univ _)) $$ Hi; iintro Hi
  iapply (wp_store 𝒱₀ (V d (cV L) (jV L)) none Set.univ (m := sI) (r := Rect.unit (s := S2048) (k0_off1 k) S16.size (k0_off1_inb k)) (S := Finset.univ) (Finset.subset_univ _)) $$ Hi; iintro Hi
  rw [wp_ret]; imodintro
  iexists _; iexists _
  isplitr
  swap
  · isplitl [Hv]; · iexact Hv
    iexact Hi
  ipureintro
  constructor
  · intro j hj
    refine (store_lanes (sV).view fv (k0_off1_eq k) (k0_off1_inb k) (k0_pay22 (F := F)) (Scalar.ofBits (F := F) .f32 0xBF800000#32) (fun _ => rfl) j).trans ?_
    split
    · rfl
    · exact h.1 j (by omega)
  · intro j hj
    refine (store_lanes (F := F) (sI).view fi (k0_off1_eq k) (k0_off1_inb k) k0_pay23 (0#32) (fun _ => rfl) j).trans ?_
    split
    · rfl
    · exact h.2 j (by omega)

end Cert.Proof.Compact

end
-- ==== Proof.Chunk.lean ====
/-
  One chunk of a tile: 8000 scores copied into the tile's memory and compacted.
-/
module

public import proofs.«01_k».proof.Proof.Start

@[expose] public section

noncomputable section

namespace Cert.Proof.Compact

open Cert.KernelIdeal Cert.KernelIdeal.Gen Cert.Proof.Fill Cert.Proof.Group

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat scores, the two flat results, the chunk, the two slot buffers
local notation "xV" => (Memref.whole Cert.KernelIdeal.main_v0_scv : Memref Cert.KernelIdeal.sig Kind.scVector Space.hbm Cert.KernelIdeal.S6400000 EltTy.f32)
local notation "vV" => (Memref.whole Cert.KernelIdeal.main_v1_0_scv : Memref Cert.KernelIdeal.sig Kind.scVector Space.hbm Cert.KernelIdeal.S65536 EltTy.f32)
local notation "iV" => (Memref.whole Cert.KernelIdeal.main_v1_1_scv : Memref Cert.KernelIdeal.sig Kind.scVector Space.hbm Cert.KernelIdeal.S65536 EltTy.i32)
local notation "sC" => (Memref.whole Cert.KernelIdeal.cc0_scratch0 : Memref Cert.KernelIdeal.sig Kind.scVector Space.vmem Cert.KernelIdeal.S8000 EltTy.f32)
local notation "sV" => (Memref.whole Cert.KernelIdeal.cc0_scratch1 : Memref Cert.KernelIdeal.sig Kind.scVector Space.vmem Cert.KernelIdeal.S2048 EltTy.f32)
local notation "sI" => (Memref.whole Cert.KernelIdeal.cc0_scratch2 : Memref Cert.KernelIdeal.sig Kind.scVector Space.vmem Cert.KernelIdeal.S2048 EltTy.i32)

variable [FloatOps F] (d : Dev nD) (L : grid0.Coords)

/-- The tile's thread and its first copy's semaphore. -/
abbrev thr : Thread nD τ := V d (cV L) (jV L)
abbrev cell0 : GSem nD τ sig := (thr d L, .dma cc0_scoped0.sem)

/-- The chunk of trip `t`, as the body slices it. -/
abbrev chunkM (t : Fin k0_t2_loop.trips) : Memref sig .scVector .hbm S8000 .f32 :=
  (xV).slice (Rect.unit (s := S6400000) (k0_off2 L t) S8000.size (k0_off2_inb L t)) (fun _ => rfl)

/-- What the tile holds before trip `t` of the chunk loop. -/
def I2 (q : PosShare TreeShare) (X : Vec F S6400000 .f32) (O : CellTallies nD τ sig (HIx 1)) (W : Waits sig (HIx 1)) (t : ℕ) (acc : BitVec 32) : sProp 𝕄 :=
  iprop(⌜acc = BitVec.ofNat 32 (cnt (on (range X (wid L))) (8000 * t))⌝ ∗ (xLoc d ↦{q} X) ∗ (∃ fc : Vec F S8000 .f32, cLoc d L ↦{fullShare} fc)
    ∗ (svLoc d L ↦{fullShare} (asBuf (vals (range X (wid L)) (8000 * t)) : Vec F S2048 .f32))
    ∗ (siLoc d L ↦{fullShare} (asBuf (idxs (range X (wid L)) (base (wid L)) (8000 * t)) : Vec F S2048 .i32))
    ∗ semVal (cell0 d L) 0 ∗ Transfers.MayWaits (thr d L) (default : HIx 1) O
    ∗ ∃ W', ⌜∀ p ∈ W', p ∈ W ∨ p.2 = none ∨ p.2 = some (0 : Fin 1)⌝ ∗ owes (thr d L) O W')

/-- What a chunk reads: the scores of the range from `8000 t` on. -/
theorem chunk_read (X : Vec F S6400000 .f32) (t : Fin k0_t2_loop.trips) (j : S8000.Idx) :
    (chunkM L t).view.read (Elt F) X j = range X (wid L) (8000 * t.val + (j 0).val) := by
  have ht : t.val < 25 := t.isLt
  have hw := wid_lt L
  have hj : (j 0).val < 8000 := (j 0).isLt
  unfold range
  show X ((Rect.unit (s := S6400000) (k0_off2 L t) S8000.size (k0_off2_inb L t)).emb j) = _
  congr 1
  refine Rect.emb_eq_of_coords _ _ _ fun a => ?_
  obtain rfl : a = 0 := Subsingleton.elim _ _
  show (200000 * wid L + (8000 * t.val + (j 0).val)) % 6400000 = k0_off2 L t 0 + 1 * (j 0).val
  rw [off2_eq]
  show _ = 200000 * wid L + 8000 * t.val + 1 * (j 0).val
  omega

theorem t2_step (q : PosShare TreeShare) (X : Vec F S6400000 .f32) (O : CellTallies nD τ sig (HIx 1)) (W : Waits sig (HIx 1)) (t : Fin k0_t2_loop.trips) (acc : BitVec 32) :
    I2 d L q X O W t.val acc
      ⊢ wp frame (wpE (defs₀ (F := F)) 𝒱₀ (V d (cV L) (jV L)) none) Set.univ
          (k0_t2_body L xV (Memref.isWhole_whole _) vV (Memref.isWhole_whole _) iV (Memref.isWhole_whole _) sC (Memref.isWhole_whole _) sV (Memref.isWhole_whole _)
            sI (Memref.isWhole_whole _) cc0_scoped0 cc0_scoped1 cc0_scoped2 (BitVec.ofNat 32 (base (wid L))) (iota .scVector S16 32 [0] iota_S16_d0_w32_scVector) 0#32 1#32 t acc)
          (I2 d L q X O W (t.val + 1)) := by
  unfold I2
  iintro ⟨%hacc, Hx, ⟨%fc, Hc⟩, Hv, Hi, Hsem, #Hmw, ⟨%W', %hW', HO⟩⟩
  ihave Hx := (pointsTo_split_subset (ℓ := xLoc d) (q := q) (f := X) (Finset.subset_univ (chunkM L t).view.set)).1 $$ Hx
  icases Hx with ⟨Hx, Hx'⟩
  unfold k0_t2_body
  dsimp only
  simp only [Prog.lift, Prog.bind_op, Prog.bind_ret, Prog.bind_assoc, Prog.pure_eq_ret]
  iapply (Transfers.wp_dmaLocal countersEmb 𝒱₀ (thr d L) none (default : HIx 1) _ rfl (View.amount_pos _ _ (show 0 < S8000.numel by decide)) (Finset.subset_univ _)) $$ [Hx Hc Hsem]
  · isplitl [Hx]; · iexact Hx
    isplitl [Hc]; · iexact Hc
    iexact Hsem
  iintro HF
  iapply (Transfers.wp_waitLocalO countersEmb 𝒱₀ (thr d L) none (default : HIx 1) rfl) $$ [HF HO]
  · isplitl [HF]; · iexact HF
    isplitl [HO]; · iexact HO
    iapply (Transfers.MayWaits.elim _); iexact Hmw
  iintro ⟨⟨Hc, Hx⟩, Hsem, HO⟩
  ihave Hx := (pointsTo_split_subset (ℓ := xLoc d) (q := q) (f := X) (Finset.subset_univ (chunkM L t).view.set)).2 $$ [Hx Hx']
  · isplitl [Hx]; · iexact Hx
    iexact Hx'
  ihave Hc := (Entails.of_eq (congrArg (fun f => iprop(cLoc d L ↦{fullShare} f)) (View.write_whole_univ (Val := Elt F) cc0_scratch0 fc
    ((chunkM L t).view.read (Elt F) X)))) $$ Hc
  iapply (Scf.wp_for_bind frame (wpE (defs₀ (F := F)) 𝒱₀ (thr d L) none) Set.univ _ _ _ k0_t3_ok acc _
    (I3 d L (range X (wid L)) (base (wid L)) (8000 * t.val) ((chunkM L t).view.read (Elt F) X))
    (t3_step d L (range X (wid L)) (base (wid L)) t _ (chunk_read L X t))) $$ [Hc Hv Hi]
  · unfold I3
    isplitr; · ipureintro; exact hacc
    isplitl [Hc]; · iexact Hc
    isplitl [Hv]; · iexact Hv
    iexact Hi
  iintro %acc' H
  unfold I3
  rw [show 8000 * t.val + 64 * Scf.trips k0_t3_loop.lb k0_t3_loop.ub k0_t3_loop.st = 8000 * (t.val + 1) by
    show 8000 * t.val + 64 * 125 = _; omega]
  icases H with ⟨%hacc', Hc, Hv, Hi⟩
  rw [wp_ret]; imodintro
  isplitr; · ipureintro; exact hacc'
  isplitl [Hx]; · iexact Hx
  isplitl [Hc]; · iexists _; iexact Hc
  isplitl [Hv]; · iexact Hv
  isplitl [Hi]; · iexact Hi
  isplitl [Hsem]; · iexact Hsem
  isplitr; · iexact Hmw
  iexists _; isplitr
  swap; · iexact HO
  ipureintro; intro p _
  rcases p.2 with _ | r
  · exact .inr (.inl rfl)
  · exact .inr (.inr (congrArg some (Subsingleton.elim r 0)))

end Cert.Proof.Compact

end
-- ==== Proof.Tile.lean ====
/-
  A tile's whole task: the slots at their starting values, the twenty-five chunks, the two copies out.
-/
module

public import proofs.«01_k».proof.Proof.Chunk

@[expose] public section

noncomputable section

namespace Cert.Proof.Compact

open Cert.KernelIdeal Cert.KernelIdeal.Gen Cert.Proof.Fill Cert.Proof.Group

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat scores, the two flat results, the chunk, the two slot buffers
local notation "xV" => (Memref.whole Cert.KernelIdeal.main_v0_scv : Memref Cert.KernelIdeal.sig Kind.scVector Space.hbm Cert.KernelIdeal.S6400000 EltTy.f32)
local notation "vV" => (Memref.whole Cert.KernelIdeal.main_v1_0_scv : Memref Cert.KernelIdeal.sig Kind.scVector Space.hbm Cert.KernelIdeal.S65536 EltTy.f32)
local notation "iV" => (Memref.whole Cert.KernelIdeal.main_v1_1_scv : Memref Cert.KernelIdeal.sig Kind.scVector Space.hbm Cert.KernelIdeal.S65536 EltTy.i32)
local notation "sC" => (Memref.whole Cert.KernelIdeal.cc0_scratch0 : Memref Cert.KernelIdeal.sig Kind.scVector Space.vmem Cert.KernelIdeal.S8000 EltTy.f32)
local notation "sV" => (Memref.whole Cert.KernelIdeal.cc0_scratch1 : Memref Cert.KernelIdeal.sig Kind.scVector Space.vmem Cert.KernelIdeal.S2048 EltTy.f32)
local notation "sI" => (Memref.whole Cert.KernelIdeal.cc0_scratch2 : Memref Cert.KernelIdeal.sig Kind.scVector Space.vmem Cert.KernelIdeal.S2048 EltTy.i32)

/-- The tile's image and its place within the image, as the kernel computes them. -/
def imageWord (L : grid0.Coords) : BitVec 32 :=
  let arg0 : BitVec 32 := BitVec.ofNat 32 (L 0).val
  let arg1 : BitVec 32 := BitVec.ofNat 32 (L 1).val
  let v0 : BitVec 32 := Scalar.muli arg1 2#32
  let v1 : BitVec 32 := Scalar.addi v0 arg0
  let v2 : BitVec 32 := Scalar.divsi v1 8#32
  let v3 : BitVec 1 := Scalar.cmpi .sgt v1 0#32
  let v4 : BitVec 32 := Scalar.extui v3
  let v5 : BitVec 1 := Scalar.cmpi .slt v1 0#32
  let v6 : BitVec 32 := Scalar.extui v5
  let v7 : BitVec 32 := Scalar.subi v4 v6
  let v8 : BitVec 1 := Scalar.cmpi .sgt 8#32 0#32
  let v9 : BitVec 32 := Scalar.extui v8
  let v10 : BitVec 1 := Scalar.cmpi .slt 8#32 0#32
  let v11 : BitVec 32 := Scalar.extui v10
  let v12 : BitVec 32 := Scalar.subi v9 v11
  let v13 : BitVec 1 := Scalar.cmpi .ne v7 v12
  let v14 : BitVec 32 := Scalar.remsi v1 8#32
  let v15 : BitVec 1 := Scalar.cmpi .ne v14 0#32
  let v16 : BitVec 1 := Scalar.andi v13 v15
  let v17 : BitVec 32 := Scalar.subi v2 1#32
  let v18 : BitVec 32 := Scalar.select v16 v17 v2
  v18
def placeWord (L : grid0.Coords) : BitVec 32 :=
  let arg0 : BitVec 32 := BitVec.ofNat 32 (L 0).val
  let arg1 : BitVec 32 := BitVec.ofNat 32 (L 1).val
  let v0 : BitVec 32 := Scalar.muli arg1 2#32
  let v1 : BitVec 32 := Scalar.addi v0 arg0
  let v2 : BitVec 32 := Scalar.divsi v1 8#32
  let v3 : BitVec 1 := Scalar.cmpi .sgt v1 0#32
  let v4 : BitVec 32 := Scalar.extui v3
  let v5 : BitVec 1 := Scalar.cmpi .slt v1 0#32
  let v6 : BitVec 32 := Scalar.extui v5
  let v7 : BitVec 32 := Scalar.subi v4 v6
  let v8 : BitVec 1 := Scalar.cmpi .sgt 8#32 0#32
  let v9 : BitVec 32 := Scalar.extui v8
  let v10 : BitVec 1 := Scalar.cmpi .slt 8#32 0#32
  let v11 : BitVec 32 := Scalar.extui v10
  let v12 : BitVec 32 := Scalar.subi v9 v11
  let v13 : BitVec 1 := Scalar.cmpi .ne v7 v12
  let v14 : BitVec 32 := Scalar.remsi v1 8#32
  let v15 : BitVec 1 := Scalar.cmpi .ne v14 0#32
  let v16 : BitVec 1 := Scalar.andi v13 v15
  let v17 : BitVec 32 := Scalar.subi v2 1#32
  let v18 : BitVec 32 := Scalar.select v16 v17 v2
  let v19 : BitVec 1 := Scalar.cmpi .eq 8#32 0#32
  let v20 : BitVec 32 := Scalar.select v19 1#32 8#32
  let v21 : BitVec 32 := Scalar.remsi v1 v20
  let v22 : BitVec 1 := Scalar.cmpi .ne v21 0#32
  let v23 : BitVec 1 := Scalar.cmpi .slt v21 0#32
  let v24 : BitVec 1 := Scalar.cmpi .slt v20 0#32
  let v25 : BitVec 1 := Scalar.xori v23 v24
  let v26 : BitVec 1 := Scalar.andi v25 v22
  let v27 : BitVec 32 := Scalar.addi v21 v20
  let v28 : BitVec 32 := Scalar.select v26 v27 v21
  v28

theorem base_word (L : grid0.Coords) : Scalar.muli (placeWord L) 200000#32 = BitVec.ofNat 32 (base (wid L)) := by
  rw [coords_eq L]
  exact (by decide +kernel : ∀ (c : Fin (grid0.bound 0)) (s : Fin (grid0.bound 1)),
    Scalar.muli (placeWord (coordsV c s)) 200000#32 = BitVec.ofNat 32 (base (s.val * 2 + c.val))) _ _

theorem hdiv : 32 ∣ S65536.size 0 := ⟨2048, rfl⟩
/-- The slots of range `w`, in either flat result. -/
abbrev piece (w : Fin 32) : Rect S65536 := Rect.part (s := S65536) (a₀ := 0) hdiv w
abbrev slots (w : Fin 32) : Finset S65536.Idx := (piece w).set
abbrev widF (L : grid0.Coords) : Fin 32 := ⟨wid L, wid_lt L⟩

abbrev pieceK (L : grid0.Coords) : Rect S65536 := Rect.unit (s := S65536) (k0_off4 L) S2048.size (k0_off4_inb L)
abbrev vOutM (L : grid0.Coords) : Memref sig .scVector .hbm S2048 .f32 := (vV).slice (pieceK L) (fun _ => rfl)
abbrev iOutM (L : grid0.Coords) : Memref sig .scVector .hbm S2048 .i32 := (iV).slice (pieceK L) (fun _ => rfl)

theorem pieceK_eq (L : grid0.Coords) : pieceK L = piece (widF L) := by
  unfold pieceK piece Rect.part Rect.block
  congr 1 <;> funext a
  · rw [off4_eq]
    obtain rfl : a = 0 := Subsingleton.elim _ _
    simp [Shape.partIx, Shape.partSize, Nat.mul_comm]
  · obtain rfl : a = 0 := Subsingleton.elim _ _
    simp [Shape.partSize]

theorem set_vOutM (L : grid0.Coords) : (vOutM L).view.set = slots (widF L) := by
  show ((View.whole (main_v1_0_scv : Ref sig .scVector)).slice (pieceK L)).set = _
  rw [View.set_slice, pieceK_eq]; exact Finset.map_refl
theorem set_iOutM (L : grid0.Coords) : (iOutM L).view.set = slots (widF L) := by
  show ((View.whole (main_v1_1_scv : Ref sig .scVector)).slice (pieceK L)).set = _
  rw [View.set_slice, pieceK_eq]; exact Finset.map_refl

/-- Where the tile's slot `j` lies in the flat result. -/
theorem pieceK_emb (L : grid0.Coords) (j : S2048.Idx) : ((pieceK L).emb j 0).val = 2048 * wid L + (j 0).val := by
  show k0_off4 L 0 + 1 * (j 0).val = _
  rw [off4_eq]
  show 2048 * wid L + 1 * (j 0).val = _
  omega

variable [FloatOps F] (d : Dev nD) (L : grid0.Coords)

/-- What the copies out leave in the tile's slots of the results. -/
theorem out_v (X : Vec F S6400000 .f32) (f : Vec F S65536 .f32) :
    ∀ i ∈ (vOutM L).view.set, (vOutM L).view.write (Elt F) f (asBuf (vals (range X (wid L)) 200000) : Vec F S2048 .f32) Finset.univ i = outV X i := by
  intro i hi
  obtain ⟨j, -, rfl⟩ := Finset.mem_map.mp hi
  have hj : (j 0).val < 2048 := (j 0).isLt
  refine (congrFun ((vOutM L).view.read_write_univ (Val := Elt F) f (asBuf (vals (range X (wid L)) 200000) : Vec F S2048 .f32)) j).trans ?_
  show _ = vals (range X (((pieceK L).emb j 0).val / 2048)) 200000 (((pieceK L).emb j 0).val % 2048)
  rw [pieceK_emb, show (2048 * wid L + (j 0).val) / 2048 = wid L by omega, show (2048 * wid L + (j 0).val) % 2048 = (j 0).val by omega]
theorem out_i (X : Vec F S6400000 .f32) (f : Vec F S65536 .i32) :
    ∀ i ∈ (iOutM L).view.set, (iOutM L).view.write (Elt F) f (asBuf (idxs (range X (wid L)) (base (wid L)) 200000) : Vec F S2048 .i32) Finset.univ i = outI X i := by
  intro i hi
  obtain ⟨j, -, rfl⟩ := Finset.mem_map.mp hi
  have hj : (j 0).val < 2048 := (j 0).isLt
  refine (congrFun ((iOutM L).view.read_write_univ (Val := Elt F) f (asBuf (idxs (range X (wid L)) (base (wid L)) 200000) : Vec F S2048 .i32)) j).trans ?_
  show _ = idxs (range X (((pieceK L).emb j 0).val / 2048)) (base (((pieceK L).emb j 0).val / 2048)) 200000 (((pieceK L).emb j 0).val % 2048)
  rw [pieceK_emb, show (2048 * wid L + (j 0).val) / 2048 = wid L by omega, show (2048 * wid L + (j 0).val) % 2048 = (j 0).val by omega]

/-- The two copies out's semaphores. -/
abbrev cell1 : GSem nD τ sig := (thr d L, .dma cc0_scoped1.sem)
abbrev cell2 : GSem nD τ sig := (thr d L, .dma cc0_scoped2.sem)

theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

theorem ownBufs_V :
    (ownBufs (thr d L) : sProp 𝕄)
      = iprop((∃ f : Vec F S8000 .f32, cLoc d L ↦{fullShare} f) ∗ (∃ f : Vec F S2048 .f32, svLoc d L ↦{fullShare} f)
          ∗ (∃ f : Vec F S2048 .i32, siLoc d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]
  rfl

theorem pts_sV (f : Vec F S2048 .f32) :
    ((sV).view.loc (thr d L) ↦[(sV).view.set]{fullShare} f : sProp 𝕄) = svLoc d L ↦{fullShare} f := by
  rw [View.set_whole]
theorem pts_sI (f : Vec F S2048 .i32) :
    ((sI).view.loc (thr d L) ↦[(sI).view.set]{fullShare} f : sProp 𝕄) = siLoc d L ↦{fullShare} f := by
  rw [View.set_whole]

theorem read_sV (g : Vec F S2048 .f32) : (ReadAs.same : ReadAs (Elt F) S2048 .f32 S2048 .f32).apply ((sV).view.read (Elt F) g) = g := rfl
theorem read_sI (g : Vec F S2048 .i32) : (ReadAs.same : ReadAs (Elt F) S2048 .i32 S2048 .i32).apply ((sI).view.read (Elt F) g) = g := rfl

/-- The tile's slots of the results after the copies out. -/
theorem pts_out_v (X : Vec F S6400000 .f32) (f : Vec F S65536 .f32) :
    ((vOutM L).view.loc (thr d L) ↦[(vOutM L).view.set]{fullShare} ((vOutM L).view.write (Elt F) f
        (ReadAs.same.apply ((sV).view.read (Elt F) (asBuf (vals (range X (wid L)) 200000) : Vec F S2048 .f32))) Finset.univ) : sProp 𝕄)
      = vLoc d ↦[slots (widF L)]{fullShare} outV X := by
  rw [← set_vOutM, read_sV]
  exact pointsTo_congr (out_v L X f)
theorem pts_out_i (X : Vec F S6400000 .f32) (f : Vec F S65536 .i32) :
    ((iOutM L).view.loc (thr d L) ↦[(iOutM L).view.set]{fullShare} ((iOutM L).view.write (Elt F) f
        (ReadAs.same.apply ((sI).view.read (Elt F) (asBuf (idxs (range X (wid L)) (base (wid L)) 200000) : Vec F S2048 .i32))) Finset.univ) : sProp 𝕄)
      = iLoc d ↦[slots (widF L)]{fullShare} outI X := by
  rw [← set_iOutM, read_sI]
  exact pointsTo_congr (out_i L X f)

/-- What a tile is handed: a read share of the scores and its slots of the two results; and what it hands back. -/
abbrev goP (q : PosShare TreeShare) (X : Vec F S6400000 .f32) (fv : Vec F S65536 .f32) (fi : Vec F S65536 .i32) (w : Fin 32) : sProp 𝕄 :=
  iprop((xLoc d ↦{q} X) ∗ (vLoc d ↦[slots w]{fullShare} fv) ∗ (iLoc d ↦[slots w]{fullShare} fi))

/-- The head of the task: the words of the tile's place, the slots at their starting values. -/
theorem part2_skel_eq :
    k0_part2_skel (F := F) L xV (Memref.isWhole_whole _) vV (Memref.isWhole_whole _) iV (Memref.isWhole_whole _) sC (Memref.isWhole_whole _) sV (Memref.isWhole_whole _)
            sI (Memref.isWhole_whole _) cc0_scoped0 cc0_scoped1 cc0_scoped2
      = (Scf.Loop.for k0_t1_loop k0_t1_ok 0#32 (k0_t1_body L xV (Memref.isWhole_whole _) vV (Memref.isWhole_whole _) iV (Memref.isWhole_whole _) sC (Memref.isWhole_whole _)
          sV (Memref.isWhole_whole _) sI (Memref.isWhole_whole _) cc0_scoped0 cc0_scoped1 cc0_scoped2)
        >>= fun _ => Prog.ret ⟨imageWord L, placeWord L, Scalar.muli (placeWord L) 200000#32, iota .scVector S16 32 [0] iota_S16_d0_w32_scVector, 0#32, 0#32, 1#32⟩) := rfl

set_option maxHeartbeats 2000000 in
theorem tile_body (q : PosShare TreeShare) (X : Vec F S6400000 .f32) (fv : Vec F S65536 .f32) (fi : Vec F S65536 .i32)
    (hF : (K (F := F)).Facts) (O : CellTallies nD τ sig (HIx 1)) (W : Waits sig (HIx 1)) (hO : ∀ g, O g none = 0) :
    iprop(levAts (K (F := F)).L (K (F := F)).lev ∗ emp ∗ goP d q X fv fi (widF L)
        ∗ scopedBufs (thr d L) ∗ scopedSems0 (thr d L) ∗ owes (thr d L) O W)
      ⊢ wp frame (wpE (defs₀ (F := F)) 𝒱₀ (V d (cV L) (jV L)) none) Set.univ
          (cc0__stage_b_kernel L xV (Memref.isWhole_whole _) vV (Memref.isWhole_whole _) iV (Memref.isWhole_whole _) sC (Memref.isWhole_whole _) sV (Memref.isWhole_whole _)
            sI (Memref.isWhole_whole _) cc0_scoped0 cc0_scoped1 cc0_scoped2)
          fun _ => iprop(goP d q X (outV X) (outI X) (widF L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, Hov, Hoi⟩, ⟨⟨%fc, Hc⟩, ⟨%gv, Hv⟩, ⟨%gi, Hi⟩, Hbufs⟩, ⟨Hsem0, Hsem1, Hsem2, Hsems⟩, HO⟩
  ihave Hmw := (show levAts (K (F := F)).L (K (F := F)).lev ⊢ Transfers.MayWaits (thr d L) (default : HIx 1) O from
    (K (F := F)).mayWaits_none (thr := thr d L) hO) $$ Hlv
  rw [cc0__stage_b_kernel_eq_skeleton]
  unfold cc0__stage_b_kernel_skel
  rw [k0_part2_eq_skeleton, part2_skel_eq, base_word]
  simp only [Prog.lift, Prog.bind_op, Prog.bind_ret, Prog.bind_assoc, Prog.pure_eq_ret]
  -- the slots at their starting values
  iapply (Scf.wp_for_bind frame (wpE (defs₀ (F := F)) 𝒱₀ (thr d L) none) Set.univ _ _ _ k0_t1_ok _ _ (I1 d L) (t1_step d L)) $$ [Hv Hi]
  · unfold I1
    iexists gv; iexists gi
    isplitr; · ipureintro; exact ⟨fun j h => absurd h (by omega), fun j h => absurd h (by omega)⟩
    isplitl [Hv]; · iexact Hv
    iexact Hi
  iintro %z0 H
  unfold I1
  icases H with ⟨%gv', %gi', %hg, Hv, Hi⟩
  obtain rfl : gv' = asBuf (vals (range X (wid L)) 0) := funext fun j => hg.1 j (j 0).isLt
  obtain rfl : gi' = asBuf (idxs (range X (wid L)) (base (wid L)) 0) := funext fun j => hg.2 j (j 0).isLt
  -- the chunks
  iapply (Scf.wp_for_bind frame (wpE (defs₀ (F := F)) 𝒱₀ (thr d L) none) Set.univ _ _ _ k0_t2_ok _ _ (I2 d L q X O W) (t2_step d L q X O W)) $$ [Hx Hc Hv Hi Hsem0 Hmw HO]
  · unfold I2
    isplitr; · ipureintro; rfl
    isplitl [Hx]; · iexact Hx
    isplitl [Hc]; · iexists _; iexact Hc
    isplitl [Hv]; · iexact Hv
    isplitl [Hi]; · iexact Hi
    isplitl [Hsem0]; · iexact Hsem0
    isplitl [Hmw]; · iexact Hmw
    iexists _; isplitr
    swap; · iexact HO
    ipureintro; exact fun p h => .inl h
  iintro %z1 H
  unfold I2
  icases H with ⟨-, Hx, ⟨%fc', Hc⟩, Hv, Hi, Hsem0, #Hmw, ⟨%W1, -, HO⟩⟩
  rw [show 8000 * Scf.trips k0_t2_loop.lb k0_t2_loop.ub k0_t2_loop.st = 200000 from rfl]
  -- the copies out
  ihave Hov := (Entails.of_eq (congrArg (fun S => iprop(vLoc d ↦[S]{fullShare} fv)) (set_vOutM L).symm)) $$ Hov
  ihave Hoi := (Entails.of_eq (congrArg (fun S => iprop(iLoc d ↦[S]{fullShare} fi)) (set_iOutM L).symm)) $$ Hoi
  ihave Hv := (Entails.of_eq (pts_sV d L _).symm) $$ Hv
  ihave Hi := (Entails.of_eq (pts_sI d L _).symm) $$ Hi
  iapply (Transfers.wp_dmaLocal countersEmb 𝒱₀ (thr d L) none (q := fullShare) (fs := (asBuf (vals (range X (wid L)) 200000) : Vec F S2048 .f32)) (src := sV) (dst := vOutM L) (Sd := (vOutM L).view.set) (default : HIx 1) _ rfl (View.amount_pos _ _ (show 0 < S2048.numel by decide)) (Finset.Subset.refl _)) $$ [Hv Hov Hsem1]
  · isplitl [Hv]; · iexact Hv
    isplitl [Hov]; · iexact Hov
    iexact Hsem1
  iintro HF
  iapply (Transfers.wp_waitLocalO countersEmb 𝒱₀ (thr d L) none (default : HIx 1) rfl) $$ [HF HO]
  · isplitl [HF]; · iexact HF
    isplitl [HO]; · iexact HO
    iapply (Transfers.MayWaits.elim _); iexact Hmw
  iintro ⟨⟨Hov, Hv⟩, Hsem1, HO⟩
  iapply (Transfers.wp_dmaLocal countersEmb 𝒱₀ (thr d L) none (q := fullShare) (fs := (asBuf (idxs (range X (wid L)) (base (wid L)) 200000) : Vec F S2048 .i32)) (src := sI) (dst := iOutM L) (Sd := (iOutM L).view.set) (default : HIx 1) _ rfl (View.amount_pos _ _ (show 0 < S2048.numel by decide)) (Finset.Subset.refl _)) $$ [Hi Hoi Hsem2]
  · isplitl [Hi]; · iexact Hi
    isplitl [Hoi]; · iexact Hoi
    iexact Hsem2
  iintro HF
  iapply (Transfers.wp_waitLocalO countersEmb 𝒱₀ (thr d L) none (default : HIx 1) rfl) $$ [HF HO]
  · isplitl [HF]; · iexact HF
    isplitl [HO]; · iexact HO
    iapply (Transfers.MayWaits.elim _); iexact Hmw
  iintro ⟨⟨Hoi, Hi⟩, Hsem2, HO⟩
  rw [wp_ret]; imodintro
  ihave Hv := (Entails.of_eq (pts_sV d L _)) $$ Hv
  ihave Hi := (Entails.of_eq (pts_sI d L _)) $$ Hi
  ihave Hov := (Entails.of_eq (pts_out_v d L X fv)) $$ Hov
  ihave Hoi := (Entails.of_eq (pts_out_i d L X fi)) $$ Hoi
  isplitl [Hx Hov Hoi]
  · isplitl [Hx]; · iexact Hx
    isplitl [Hov]; · iexact Hov
    iexact Hoi
  isplitl [Hc Hv Hi Hbufs]
  · isplitl [Hc]; · iexists _; iexact Hc
    isplitl [Hv]; · iexists _; iexact Hv
    isplitl [Hi]; · iexists _; iexact Hi
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  ipureintro; intro p _
  rcases p.2 with _ | r
  · exact .inr (.inl rfl)
  · exact .inr (.inr (congrArg some (Subsingleton.elim r 0)))

end Cert.Proof.Compact

end
-- ==== Proof.Launch.lean ====
/-
  The whole program: @main's reshape, the call on its thirty-two tiles, the two reshapes of its results.

  Every tile is handed a read share of the flat scores and its own slots of the two results; @main keeps what is left of the
  scores and puts all back together when the call ends.
-/
module

public import proofs.«01_k».proof.Proof.Tile
public import Idealize.ShloMosaic.Lib.SparseCore.Quiescent
public import Idealize.ShloMosaic.Lib.StableHlo.Run
public import Idealize.ShloMosaic.Lib.Transfers

@[expose] public section

noncomputable section

namespace Cert.Proof.Compact

open Cert.KernelIdeal Cert.KernelIdeal.Gen Cert.Proof.Fill Cert.Proof.Group Cert.Proof.Lanes

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Transfers (shareTok shareDrop pointsTo_toks_split pointsTo_toks_join)

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S6400000 EltTy.f32)
local notation "vV" => (Memref.whole Cert.KernelIdeal.main_v1_0_scv : Memref Cert.KernelIdeal.sig Kind.scVector Space.hbm Cert.KernelIdeal.S65536 EltTy.f32)
local notation "iV" => (Memref.whole Cert.KernelIdeal.main_v1_1_scv : Memref Cert.KernelIdeal.sig Kind.scVector Space.hbm Cert.KernelIdeal.S65536 EltTy.i32)
local notation "sC" => (Memref.whole Cert.KernelIdeal.cc0_scratch0 : Memref Cert.KernelIdeal.sig Kind.scVector Space.vmem Cert.KernelIdeal.S8000 EltTy.f32)
local notation "sV" => (Memref.whole Cert.KernelIdeal.cc0_scratch1 : Memref Cert.KernelIdeal.sig Kind.scVector Space.vmem Cert.KernelIdeal.S2048 EltTy.f32)
local notation "sI" => (Memref.whole Cert.KernelIdeal.cc0_scratch2 : Memref Cert.KernelIdeal.sig Kind.scVector Space.vmem Cert.KernelIdeal.S2048 EltTy.i32)

variable [FloatOps F] (m : (ℓ : Loc nD τ sig) → Buf (Elt F) ℓ) (ρ : Dev nD → PrngReg)

/-- @main's buffers and its operations, as the host program names them. -/
abbrev a' : DevRef τ sig := Proc.devRef .tc main_arg0
abbrev x' : DevRef τ sig := Proc.devRef .tc main_v0
abbrev v' : DevRef τ sig := Proc.devRef .tc main_v1_0
abbrev i' : DevRef τ sig := Proc.devRef .tc main_v1_1
abbrev r' : DevRef τ sig := Proc.devRef .tc main_v2
abbrev n' : DevRef τ sig := Proc.devRef .tc main_v3
abbrev SS : Finset (DevRef τ sig) := {a', x', v', i', r', n'}
abbrev opX : HloOp τ sig (Elt F) := StableHlo.reshape main_arg0 main_v0 (rfl : (.f32 : EltTy) = .f32) shapeCasts_S4x1600000_S6400000
abbrev opR : HloOp τ sig (Elt F) := StableHlo.reshape main_v1_0 main_v2 (rfl : (.f32 : EltTy) = .f32) shapeCasts_S65536_S4x16384
abbrev opN : HloOp τ sig (Elt F) := StableHlo.reshape main_v1_1 main_v3 (rfl : (.i32 : EltTy) = .i32) shapeCasts_S65536_S4x16384

/-- The buffers' contents at launch, before the call, after it, at the end. -/
def V0 (d : Dev nD) : Valuation τ sig (Elt F) := fun b => m (d, b)
def V1 (d : Dev nD) : Valuation τ sig (Elt F) := (opX (F := F)).result (V0 m d)
def flat (d : Dev nD) : Vec F S6400000 .f32 := V1 m d x'
def V2 (d : Dev nD) : Valuation τ sig (Elt F) := Function.update (Function.update (V1 m d) v' (outV (flat m d))) i' (outI (flat m d))
def V3 (d : Dev nD) : Valuation τ sig (Elt F) := (opN (F := F)).result ((opR (F := F)).result (V2 m d))

/-- The read share of tile `w`. -/
abbrev share (w : Fin 32) : PosShare TreeShare := shareTok fullShare 32 w

abbrev go (d : Dev nD) (w : Fin 32) : sProp 𝕄 := goP d (share w) (flat m d) (V1 m d v') (V1 m d i') w
abbrev td (d : Dev nD) (w : Fin 32) : sProp 𝕄 := goP d (share w) (flat m d) (outV (flat m d)) (outI (flat m d)) w

/-- What the handshakes carry: a core its tiles' parts, a tile its own. -/
def P : (K (F := F)).Pay (nD := nD) (Val := Elt F) (Name := ℕ) (U := UU) where
  st := fun q d c => match q with | 0 => bigSep Finset.univ fun i : Fin 16 => go m d (tileNo c i)
  dn := fun q d c => match q with | 0 => bigSep Finset.univ fun i : Fin 16 => td m d (tileNo c i)
  go := fun q d c i => match q with | 0 => go m d (tileNo c i)
  td := fun q d c i => match q with | 0 => td m d (tileNo c i)
  x := fun _ _ => iprop(emp)

instance P_storable : (P (F := F) m).IsStorable where
  st q d c := match q with | 0 => (inferInstance : BI.Storable (upEmb : UEmb _ 𝕄) (bigSep Finset.univ fun i : Fin 16 => go m d (tileNo c i)))
  dn q d c := match q with | 0 => (inferInstance : BI.Storable (upEmb : UEmb _ 𝕄) (bigSep Finset.univ fun i : Fin 16 => td m d (tileNo c i)))
  go q d c i := match q with | 0 => (inferInstance : BI.Storable (upEmb : UEmb _ 𝕄) (go m d (tileNo c i)))
  td q d c i := match q with | 0 => (inferInstance : BI.Storable (upEmb : UEmb _ 𝕄) (td m d (tileNo c i)))

theorem defs₀_vector (c : Fin τ.nSC) (s : Fin τ.nSub) :
    defs₀ (F := F) (.scVector c s) 0 ()
      = SparseCore.onTile hcore0 hsub0 (fun c s => cc0__stage_b_kernel (coordsV c s)
          xV (Memref.isWhole_whole _) vV (Memref.isWhole_whole _) iV (Memref.isWhole_whole _) sC (Memref.isWhole_whole _) sV (Memref.isWhole_whole _)
            sI (Memref.isWhole_whole _) cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (share (tileNo c i)) (flat m d) (V1 m d v') (V1 m d i') hF O W hO

theorem vecSplit : (K (F := F)).VecSplit' (P m) 0 := by
  intro d c
  show (bigSep Finset.univ fun i : Fin 16 => go m d (tileNo c i)) ⊢ |={Set.univ}=> iprop(
      (bigSep Finset.univ fun i : Fin 16 => go m d (tileNo c i))
      ∗ ((bigSep Finset.univ fun i : Fin 16 => td m d (tileNo c i)) -∗ bigSep Finset.univ fun i : Fin 16 => td m d (tileNo c i)))
  iintro H; imodintro
  isplitl [H]; · iexact H
  iintro H; iexact H

/-! ## All tiles' parts together -/

theorem slots_disjoint : ∀ a ∈ (Finset.univ : Finset (Fin 32)), ∀ b ∈ (Finset.univ : Finset (Fin 32)), a ≠ b → Disjoint (slots a) (slots b) :=
  fun _ _ _ _ h => Rect.part_disjoint hdiv h
theorem slots_cover : (Finset.univ : Finset (Fin 32)).biUnion slots = Finset.univ := Rect.biUnion_part hdiv

theorem v_slots (d : Dev nD) (f : Vec F S65536 .f32) :
    (vLoc d ↦{fullShare} f : sProp 𝕄) = bigSep Finset.univ fun w : Fin 32 => vLoc d ↦[slots w]{fullShare} f := by
  rw [← pointsTo_biUnion Finset.univ (ℓ := vLoc d) slots slots_disjoint, slots_cover]; try rfl
theorem i_slots (d : Dev nD) (f : Vec F S65536 .i32) :
    (iLoc d ↦{fullShare} f : sProp 𝕄) = bigSep Finset.univ fun w : Fin 32 => iLoc d ↦[slots w]{fullShare} f := by
  rw [← pointsTo_biUnion Finset.univ (ℓ := iLoc d) slots slots_disjoint, slots_cover]; try rfl

/-- The scores and the two results, whole, are what is left of the scores and the thirty-two tiles' parts. -/
theorem whole_tiles (d : Dev nD) (X : Vec F S6400000 .f32) (fv : Vec F S65536 .f32) (fi : Vec F S65536 .i32) :
    (iprop((xLoc d ↦{fullShare} X) ∗ (vLoc d ↦{fullShare} fv) ∗ (iLoc d ↦{fullShare} fi)) : sProp 𝕄)
      ⊣⊢ iprop((xLoc d ↦{shareDrop fullShare 32} X) ∗ bigSep Finset.univ fun c : Fin 2 => bigSep Finset.univ fun i : Fin 16 => goP d (share (tileNo c i)) X fv fi (tileNo c i)) := by
  rw [← bigSep_univ_prod (fun p : Fin 2 × Fin 16 => goP d (share (tileNo p.1 p.2)) X fv fi (tileNo p.1 p.2)),
    show (fun p : Fin 2 × Fin 16 => goP d (share (tileNo p.1 p.2)) X fv fi (tileNo p.1 p.2)) = fun p => (fun w => goP d (share w) X fv fi w) (tiles p) from rfl,
    ← bigSep_univ_equiv tiles (fun w => goP d (share w) X fv fi w), bigSep_sep', bigSep_sep', ← v_slots, ← i_slots]
  constructor
  · iintro ⟨Hx, Hv, Hi⟩
    ihave Hx := (pointsTo_toks_split (ℓ := xLoc d) (S := Finset.univ) (f := X) fullShare 32) $$ Hx
    icases Hx with ⟨Hx, Ht⟩
    isplitl [Hx]; · iexact Hx
    isplitl [Ht]; · iexact Ht
    isplitl [Hv]; · iexact Hv
    iexact Hi
  · iintro ⟨Hx, Ht, Hv, Hi⟩
    ihave Hx := (pointsTo_toks_join (ℓ := xLoc d) (S := Finset.univ) (f := X) fullShare 32) $$ [Hx Ht]
    · isplitl [Hx]; · iexact Hx
      iexact Ht
    isplitl [Hx]; · iexact Hx
    isplitl [Hv]; · iexact Hv
    iexact Hi

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem held_SS (d : Dev nD) (W : Valuation τ sig (Elt F)) :
    (held (SparseCore.T d) SS W : sProp 𝕄)
      = iprop((((d, a') : Loc nD τ sig) ↦{fullShare} W a') ∗ (xLoc d ↦{fullShare} W x') ∗ (vLoc d ↦{fullShare} W v') ∗ (iLoc d ↦{fullShare} W i')
          ∗ (((d, r') : Loc nD τ sig) ↦{fullShare} W r') ∗ (((d, n') : Loc nD τ sig) ↦{fullShare} W n')) := by
  unfold held
  rw [SparseCore.bigSep_insert' (by decide), SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (SparseCore.T d) SS (V0 m d) := by
  rw [held_SS]
  unfold unscopedBufs
  rw [show (Finset.univ.filter fun b : Ref sig .tc => ¬ b.isScoped) = {main_arg0, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), bigSep_singleton]
  rfl

set_option maxRecDepth 8000 in
theorem hopX : (opX (F := F)).bufs ⊆ SS := show ({a', x'} : Finset (DevRef τ sig)) ⊆ SS by decide
theorem hopR : (opR (F := F)).bufs ⊆ SS := show ({v', r'} : Finset (DevRef τ sig)) ⊆ SS by decide
theorem hopN : (opN (F := F)).bufs ⊆ SS := show ({i', n'} : Finset (DevRef τ sig)) ⊆ SS by decide

theorem V2_of_ne (d : Dev nD) {b : DevRef τ sig} (h1 : b ≠ v') (h2 : b ≠ i') : V2 m d b = V1 m d b :=
  (Function.update_of_ne h2 _ _).trans (Function.update_of_ne h1 _ _)
theorem V2_v (d : Dev nD) : V2 m d v' = outV (flat m d) :=
  (Function.update_of_ne (show v' ≠ i' by decide) _ _).trans (Function.update_self _ _ _)
theorem V2_i (d : Dev nD) : V2 m d i' = outI (flat m d) := Function.update_self _ _ _

theorem V3_a (d : Dev nD) : V3 m d a' = m (d, a') := by
  unfold V3
  rw [(opN (F := F)).result_of_not_mem _ (show a' ∉ ({n'} : Finset (DevRef τ sig)) by decide),
    (opR (F := F)).result_of_not_mem _ (show a' ∉ ({r'} : Finset (DevRef τ sig)) by decide), V2_of_ne m d (by decide) (by decide)]
  unfold V1
  rw [(opX (F := F)).result_of_not_mem _ (show a' ∉ ({x'} : Finset (DevRef τ sig)) by decide)]
  rfl

theorem held_V1 (d : Dev nD) :
    (held (SparseCore.T d) SS ((opX (F := F)).result (V0 m d)) : sProp 𝕄)
      = iprop((((d, a') : Loc nD τ sig) ↦{fullShare} V1 m d a') ∗ (xLoc d ↦{fullShare} flat m d) ∗ (vLoc d ↦{fullShare} V1 m d v')
          ∗ (iLoc d ↦{fullShare} V1 m d i') ∗ (((d, r') : Loc nD τ sig) ↦{fullShare} V1 m d r') ∗ (((d, n') : Loc nD τ sig) ↦{fullShare} V1 m d n')) :=
  held_SS d (V1 m d)
theorem held_V3 (d : Dev nD) :
    (held (SparseCore.T d) SS ((opN (F := F)).result ((opR (F := F)).result (V2 m d))) : sProp 𝕄)
      = iprop((((d, a') : Loc nD τ sig) ↦{fullShare} m (d, a')) ∗ (xLoc d ↦{fullShare} V3 m d x') ∗ (vLoc d ↦{fullShare} V3 m d v')
          ∗ (iLoc d ↦{fullShare} V3 m d i') ∗ (((d, r') : Loc nD τ sig) ↦{fullShare} V3 m d r') ∗ (((d, n') : Loc nD τ sig) ↦{fullShare} V3 m d n')) :=
  (held_SS d (V3 m d)).trans (by rw [V3_a])

theorem st0_eq (d : Dev nD) :
    (bigSep Finset.univ fun c : Fin ((K (F := F)).nCore 0) => (P m).st 0 d c) = bigSep Finset.univ fun c : Fin 2 => bigSep Finset.univ fun i : Fin 16 => go m d (tileNo c i) := rfl
theorem dn0_eq (d : Dev nD) :
    (bigSep Finset.univ fun c : Fin ((K (F := F)).nCore 0) => (P m).dn 0 d c) = bigSep Finset.univ fun c : Fin 2 => bigSep Finset.univ fun i : Fin 16 => td m d (tileNo c i) := rfl

/-- What @main leaves: the argument and the two results. -/
abbrev FIN (d : Dev nD) : sProp 𝕄 := iprop((((d, a') : Loc nD τ sig) ↦{fullShare} m (d, a')) ∗ (((d, r') : Loc nD τ sig) ↦{fullShare} V3 m d r')
  ∗ (((d, n') : Loc nD τ sig) ↦{fullShare} V3 m d n'))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := SS) hopX (V := V0 m d)) $$ [Hb Hheld]
  · isplitl [Hb] <;> iassumption
  iintro ⟨Hb, Hheld⟩
  rw [wp_ret]; imodintro
  ihave Hh := (Entails.of_eq (held_V1 m d)) $$ Hheld
  icases Hh with ⟨Ha, Hx, Hv, Hi, Hr, Hn⟩
  ihave H := (whole_tiles d (flat m d) (V1 m d v') (V1 m d i')).1 $$ [Hx Hv Hi]
  · isplitl [Hx]; · iexact Hx
    isplitl [Hv] <;> iassumption
  icases H with ⟨Hx, Ht⟩
  iapply ((K (F := F)).wp_run (D (F := F)) 𝒱 (EH := EH) (P := P m) κ d 0) $$ [Hst Ht Ha Hx Hr Hn Hb Hts]
  isplitr; · iexact Hctx
  isplitl [Hst]; · iexact Hst
  isplitl [Ht]
  · rw [st0_eq]; iexact Ht
  iintro ⟨Hst, Hdn⟩
  ihave Hdn := (Entails.of_eq (dn0_eq m d)) $$ Hdn
  ihave H := (whole_tiles d (flat m d) (outV (flat m d)) (outI (flat m d))).2 $$ [Hx Hdn]
  · isplitl [Hx]; · iexact Hx
    iexact Hdn
  icases H with ⟨Hx, Hv, Hi⟩
  iapply (wp_hlo_within 𝒱 (SparseCore.T d) none Set.univ (op := opR) (S := SS) hopR (V := V2 m d)) $$ [Hb Ha Hx Hv Hi Hr Hn]
  · isplitl [Hb]; · iexact Hb
    rw [held_SS, V2_v, V2_i, V2_of_ne m d (b := a') (by decide) (by decide), V2_of_ne m d (b := x') (by decide) (by decide),
      V2_of_ne m d (b := r') (by decide) (by decide), V2_of_ne m d (b := n') (by decide) (by decide)]
    isplitl [Ha]; · iexact Ha
    isplitl [Hx]; · iexact Hx
    isplitl [Hv]; · iexact Hv
    isplitl [Hi]; · iexact Hi
    isplitl [Hr]; · iexact Hr
    iexact Hn
  iintro ⟨Hb, Hheld⟩
  rw [wp_ret]; imodintro
  iapply (wp_hlo_within 𝒱 (SparseCore.T d) none Set.univ (op := opN) (S := SS) hopN (V := (opR (F := F)).result (V2 m d))) $$ [Hb Hheld]
  · isplitl [Hb] <;> iassumption
  iintro ⟨Hb, Hheld⟩
  ihave Hh := (Entails.of_eq (held_V3 m d)) $$ Hheld
  icases Hh with ⟨Ha, -, -, -, Hr, Hn⟩
  rw [wp_ret]; imodintro; imodintro
  isplitl [Hst]; · iexact Hst
  isplitr [Hb Hts]
  · isplitl [Ha]; · iexact Ha
    isplitl [Hr]; · iexact Hr
    iexact Hn
  isplitl [Hb] <;> iassumption

def fq (d : Dev nD) (s' : Phys nD τ sig (Elt F)) : Prop :=
  s'.mem.mem (d, a') = m (d, a') ∧ s'.mem.mem (d, r') = V3 m d r' ∧ s'.mem.mem (d, n') = V3 m d n'

theorem hfin (d : Dev nD) (s' : Phys nD τ sig (Elt F)) : iprop(FIN m d ∗ SI s') ⊢ (⌜fq m d s'⌝ : sProp 𝕄) := by
  iintro ⟨⟨Ha, Hr, Hn⟩, HSI⟩
  ihave H := (persistent_entails_right (SI_pointsTo_agree (st := s') (ℓ := (d, a')) (I := Finset.univ) (q := fullShare) (f := m (d, a')))) $$ [HSI Ha]
  · isplitl [HSI] <;> iassumption
  icases H with ⟨%ha, HSI, -⟩
  ihave H := (persistent_entails_right (SI_pointsTo_agree (st := s') (ℓ := (d, r')) (I := Finset.univ) (q := fullShare) (f := V3 m d r'))) $$ [HSI Hr]
  · isplitl [HSI] <;> iassumption
  icases H with ⟨%hr, HSI, -⟩
  ihave H := (SI_pointsTo_agree (st := s') (ℓ := (d, n')) (I := Finset.univ) (q := fullShare) (f := V3 m d n')) $$ [HSI Hn]
  · isplitl [HSI] <;> iassumption
  icases H with %hn
  ipureintro
  exact ⟨funext fun i => ha i (Finset.mem_univ i), funext fun i => hr i (Finset.mem_univ i), funext fun i => hn i (Finset.mem_univ i)⟩

def QC : PUnit × MemSt nD τ sig (Elt F) → Prop := fun r =>
  (∀ c : Dev nD, r.2.mem (c, a') = m (c, a') ∧ r.2.mem (c, r') = V3 m c r' ∧ r.2.mem (c, n') = V3 m c n') ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) Compact.facts v₀
    (fun q hq => match q with | 0 => nomatch hq)
    (fun q _ => match q with | 0 => tileObl m Compact.facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Compact

end
-- ==== Proof.Places.lean ====
/-
  The places of the written elements, in ascending order.

  `on i` says that element `i < n` is written. Sorting the words "`i` where element `i` is written, `n` where it is not"
  puts the place of the written element with `k` written before it at position `k`, and `n` behind them all; the largest of
  the words "`i` where element `i` is written, −1 where it is not" is the place of the last written element.
-/
module

public import proofs.«01_k».proof.Proof.Fill
public import Idealize.ShloMosaic.Lib.SortFacts
public import Idealize.ShloMosaic.Lib.Pointwise.Reduce
public import Idealize.ShloMosaic.Lib.ValueIdxCore
public import Idealize.ShloMosaic.Lib.Pipeline.Value

@[expose] public section

noncomputable section

namespace Cert.Proof.Places

open Idealize.ShloMosaic Cert.Proof.Fill

theorem toInt_ofNat {a : ℕ} (h : a < 2 ^ 31) : (BitVec.ofNat 32 a).toInt = a := by
  rw [BitVec.toInt_eq_toNat_of_lt] <;> simp <;> omega

theorem slt_ofNat {a b : ℕ} (ha : a < 2 ^ 31) (hb : b < 2 ^ 31) : (IntOp.cmpi .slt (BitVec.ofNat 32 a) (BitVec.ofNat 32 b) == 1#1) = decide (a < b) := by
  have : (BitVec.ofNat 32 a).slt (BitVec.ofNat 32 b) = decide (a < b) := by
    unfold BitVec.slt; rw [toInt_ofNat ha, toInt_ofNat hb]; simp
  unfold IntOp.cmpi
  simp only [this]
  cases decide (a < b) <;> rfl

/-- The element a sort puts at position `k`, from the numbers of smaller and of no larger elements. -/
theorem sorted_at {n : ℕ} (g : Fin n → ℕ) (w : Fin n → BitVec 32) (hw : ∀ i, w i = BitVec.ofNat 32 (g i)) (hg : ∀ i, g i < 2 ^ 31)
    (k : Fin n) (v : ℕ) (h1 : (Finset.univ.filter fun i => g i < v).card ≤ k.val) (h2 : k.val < (Finset.univ.filter fun i => g i ≤ v).card) :
    w (sortedFrom (fun a b => IntOp.cmpi .slt (w a) (w b) == 1#1) k) = BitVec.ofNat 32 v := by
  have hB : (fun a b => IntOp.cmpi .slt (w a) (w b) == 1#1) = fun a b => decide (g a < g b) := by
    funext a b; rw [hw, hw, slt_ofNat (hg a) (hg b)]
  rw [hB, hw]
  congr 1
  have hmono : ∀ i j : Fin n, i ≤ j → g (sortedFrom (fun a b => decide (g a < g b)) i) ≤ g (sortedFrom (fun a b => decide (g a < g b)) j) := by
    intro i j hij
    rcases eq_or_lt_of_le hij with rfl | hlt
    · exact le_rfl
    · have := sortedFrom_noInversion (fun a b => decide (g a < g b)) (fun a b => decide (g a < g b))
        (by simp; omega) (by simp) (by simp; omega) i j hlt
      simpa using this
  have hinj := sortedFrom_injective (fun a b => decide (g a < g b))
  generalize sortedFrom (fun a b => decide (g a < g b)) = σ at *
  rcases lt_trichotomy (g (σ k)) v with hlt | heq | hgt
  · exfalso
    have : ((Finset.Iic k).image σ) ⊆ Finset.univ.filter fun i => g i < v := by
      intro i hi
      obtain ⟨j, hj, rfl⟩ := Finset.mem_image.mp hi
      exact Finset.mem_filter.mpr ⟨Finset.mem_univ _, lt_of_le_of_lt (hmono j k (Finset.mem_Iic.mp hj)) hlt⟩
    have hc := Finset.card_le_card this
    rw [Finset.card_image_of_injective _ hinj, Fin.card_Iic] at hc
    omega
  · exact heq
  · exfalso
    have hsur : Function.Surjective σ := Finite.injective_iff_surjective.mp hinj
    have : (Finset.univ.filter fun i => g i ≤ v) ⊆ (Finset.Iio k).image σ := by
      intro i hi
      obtain ⟨j, rfl⟩ := hsur i
      refine Finset.mem_image.mpr ⟨j, Finset.mem_Iio.mpr ?_, rfl⟩
      by_contra hjk
      have h3 := (Finset.mem_filter.mp hi).2
      have h4 := hmono k j (not_lt.mp hjk)
      omega
    have hc := Finset.card_le_card this
    rw [Finset.card_image_of_injective _ hinj, Fin.card_Iio] at hc
    omega

/-- The sorted number of element `i`: its place where it is written, `n` where it is not. -/
def key (on : ℕ → Bool) (n i : ℕ) : ℕ := if on i = true then i else n

theorem card_key_lt (on : ℕ → Bool) (n p : ℕ) (hp : p ≤ n) : (Finset.univ.filter fun i : Fin n => key on n i.val < p).card = cnt on p := by
  rw [cnt, Nat.count_eq_card_filter_range]
  refine Finset.card_bij (fun i _ => i.val) ?_ (fun _ _ _ _ h => Fin.ext h) ?_
  · intro i hi
    have h := (Finset.mem_filter.mp hi).2
    have hi' := i.isLt
    unfold key at h
    split_ifs at h with hon
    · exact Finset.mem_filter.mpr ⟨Finset.mem_range.mpr h, hon⟩
    · omega
  · intro i hi
    obtain ⟨h1, h2⟩ := Finset.mem_filter.mp hi
    have h1 := Finset.mem_range.mp h1
    exact ⟨⟨i, by omega⟩, Finset.mem_filter.mpr ⟨Finset.mem_univ _, by simp only [key, if_pos h2]; exact h1⟩, rfl⟩

variable {on : ℕ → Bool} {n : ℕ} {w : Fin n → BitVec 32}

theorem place_found (hn : n < 2 ^ 31) (hw : ∀ i : Fin n, w i = BitVec.ofNat 32 (key on n i.val)) {p : ℕ} (hp : p < n) (hon : on p = true) (k : Fin n)
    (hk : cnt on p = k.val) : w (sortedFrom (fun a b => IntOp.cmpi .slt (w a) (w b) == 1#1) k) = BitVec.ofNat 32 p := by
  refine sorted_at (fun i => key on n i.val) w hw (fun i => ?_) k p ?_ ?_
  · have := i.isLt; unfold key; split_ifs <;> omega
  · rw [card_key_lt on n p (by omega)]; omega
  · have := card_key_lt on n (p + 1) (by omega)
    simp only [Nat.lt_succ_iff] at this
    rw [this, cnt_on hon]; omega

theorem place_none (hn : n < 2 ^ 31) (hw : ∀ i : Fin n, w i = BitVec.ofNat 32 (key on n i.val)) (k : Fin n)
    (hk : cnt on n ≤ k.val) : w (sortedFrom (fun a b => IntOp.cmpi .slt (w a) (w b) == 1#1) k) = BitVec.ofNat 32 n := by
  refine sorted_at (fun i => key on n i.val) w hw (fun i => ?_) k n ?_ ?_
  · have := i.isLt; unfold key; split_ifs <;> omega
  · rw [card_key_lt on n n le_rfl]; exact hk
  · rw [Finset.filter_true_of_mem (fun i _ => by have := i.isLt; unfold key; split_ifs <;> omega)]
    simp

theorem maxsi_le {a b v : BitVec 32} (ha : a.toInt ≤ v.toInt) (hb : b.toInt ≤ v.toInt) : (IntOp.maxsi a b).toInt ≤ v.toInt := by
  unfold IntOp.maxsi; split_ifs <;> assumption

theorem maxsi_left {v b : BitVec 32} (hb : b.toInt ≤ v.toInt) : IntOp.maxsi v b = v := by
  unfold IntOp.maxsi BitVec.slt
  split_ifs with h
  · rfl
  · have h : ¬ b.toInt < v.toInt := by simpa using h
    exact BitVec.eq_of_toInt_eq (by omega)

theorem maxsi_right {v a : BitVec 32} (ha : a.toInt ≤ v.toInt) : IntOp.maxsi a v = v := by
  unfold IntOp.maxsi BitVec.slt
  split_ifs with h
  · have h : v.toInt < a.toInt := by simpa using h
    omega
  · rfl

/-- The largest of a list of words, from a word that is among them and below none of them. -/
theorem foldl_max {ι : Type} (f : ι → BitVec 32) (v : BitVec 32) :
    ∀ (l : List ι) (a : BitVec 32), a.toInt ≤ v.toInt → (∀ i ∈ l, (f i).toInt ≤ v.toInt) → (a = v ∨ ∃ i ∈ l, f i = v) →
      l.foldl (fun r i => IntOp.maxsi r (f i)) a = v
  | [], a, _, _, h => by
      rcases h with h | ⟨i, hi, _⟩
      · exact h
      · cases hi
  | i :: l, a, ha, hl, h => by
      have hi := hl i List.mem_cons_self
      refine foldl_max f v l _ (maxsi_le ha hi) (fun j hj => hl j (List.mem_cons_of_mem _ hj)) ?_
      rcases h with rfl | ⟨j, hj, hf⟩
      · exact Or.inl (maxsi_left hi)
      · rcases List.mem_cons.mp hj with rfl | hj
        · exact Or.inl (by show IntOp.maxsi a (f j) = v; rw [hf]; exact maxsi_right ha)
        · exact Or.inr ⟨j, hj, hf⟩

/-- The largest word of a row, by the reduction along axis 1. -/
theorem reduce_max {R N : ℕ} {u : Shape} (h : (⟨2, ![R, N]⟩ : Shape).ReducesTo [1] ⟨1, ![R]⟩) (hu : 0 < u.numel) (x : (⟨2, ![R, N]⟩ : Shape).Idx → BitVec 32)
    (init : u.Idx → BitVec 32) (j : (⟨1, ![R]⟩ : Shape).Idx) (v : BitVec 32) (h0 : (init (Shape.Idx.first hu)).toInt ≤ v.toInt)
    (hle : ∀ i, i 0 = j 0 → (x i).toInt ≤ v.toInt) (hex : ∃ i, i 0 = j 0 ∧ x i = v) :
    Host.reduce IntOp.maxsi x init h hu j = v := by
  unfold Host.reduce
  have hdrop : ∀ i : (⟨2, ![R, N]⟩ : Shape).Idx, h.drop i = j ↔ i 0 = j 0 := by
    intro i
    have hd : h.drop i 0 = i 0 := Fin.ext rfl
    constructor
    · intro e; rw [← e, hd]
    · intro e; funext a
      obtain rfl : a = 0 := Subsingleton.elim _ _
      rw [hd, e]
  refine foldl_max _ v _ _ h0 (fun n hn => ?_) (Or.inr ?_)
  · have hn := (List.mem_filter.mp hn).2
    have hn := (hdrop _).mp (by simpa using hn)
    exact hle _ hn
  · obtain ⟨i, hi, hk⟩ := hex
    refine ⟨(⟨2, ![R, N]⟩ : Shape).rowMajor i, List.mem_filter.mpr ⟨List.mem_finRange _, ?_⟩, ?_⟩
    · rw [Equiv.symm_apply_apply]; exact decide_eq_true ((hdrop _).mpr hi)
    · rw [Equiv.symm_apply_apply]; exact hk

end Cert.Proof.Places

end
-- ==== Proof.RefValue.lean ====
/-
  The reference's results, slot by slot.

  Row `w` of the reference holds the scores `r 0, r 1, …` of one range. Its slot `k` is the slot `k` that the kernel's
  element-by-element writing leaves: `vals r 200000 k`, `idxs r (base w) 200000 k`.
-/
module

public import proofs.«01_k».proof.Proof.Gen.ReferenceIdeal.Run
public import proofs.«01_k».proof.Proof.Places
public import proofs.«01_k».proof.Proof.Setup

@[expose] public section

noncomputable section

namespace Cert.Proof.RefValue

open Idealize.ShloMosaic Cert.ReferenceIdeal Cert.ReferenceIdeal.Gen Cert.Proof.Fill Cert.Proof.Group Cert.Proof.Places
open Cert.Proof.Compact (base)

variable {F : FTy → Type} [FloatOps F]

/-! ## The reference's intermediate arrays -/

/-- Each score's number in its row where it is positive, `c` where it is not. -/
def marked (x : Vec F S32x200000 .f32) (c : BitVec 32) : IVec S32x200000 32 :=
  select (cmpf .ogt x (broadcastInDim S32x200000 ![] bcast_S_S32x200000 (constant S_ .f32 0x00000000#32)))
    (broadcastInDim S32x200000 ![0, 1] bcast_S1x200000_S32x200000_0_1 (broadcastInDim S1x200000 ![1] bcast_S200000_S1x200000_1 (iotaInDim S200000 32 0)))
    (broadcastInDim S32x200000 ![] bcast_S_S32x200000 (id (constantI S_ 32 c)))

def placesR (x : Vec F S32x200000 .f32) : IVec S32x2048 32 :=
  extractStridedSlice S32x2048 ![0, 0] (Host.sort S32x200000 1 comparator_i32_d1 (marked x 200000#32)) slices_S32x200000_S32x2048_0_0

def foundR (x : Vec F S32x200000 .f32) : IVec S32x2048 1 :=
  cmpi .slt (placesR x) (broadcastInDim S32x2048 ![] bcast_S_S32x2048 (constantI S_ 32 200000#32))

def lastR (x : Vec F S32x200000 .f32) : IVec S32 32 :=
  Host.reduce IntOp.maxsi (marked x 4294967295#32) (constantI S_ 32 2147483648#32) reducesTo_S32x200000_S32_d1 h_S_

def posR (x : Vec F S32x200000 .f32) : IVec S32x2048 32 :=
  select (broadcastInDim S32x2048 ![0, 1] bcast_S1x2048_S32x2048_0_1
      (cmpi .slt (broadcastInDim S1x2048 ![1] bcast_S2048_S1x2048_1 (iotaInDim S2048 32 0)) (broadcastInDim S1x2048 ![] bcast_S_S1x2048 (constantI S_ 32 2047#32))))
    (placesR x)
    (broadcastInDim S32x2048 ![0, 1] bcast_S32x1_S32x2048_0_1 (broadcastInDim S32x1 ![0] bcast_S32_S32x1_0 (lastR x)))

def firstR : IVec S32 32 :=
  muli (Host.remsi (iotaInDim S32 32 0) (broadcastInDim S32 ![] bcast_S_S32 (constantI S_ 32 8#32))) (broadcastInDim S32 ![] bcast_S_S32 (constantI S_ 32 200000#32))

def fromEnd (p : IVec S32x2048 32) : IVec S32x2048 32 :=
  select (cmpi .slt p (broadcastInDim S32x2048 ![] bcast_S_S32x2048 (constantI S_ 32 0#32)))
    (addi p (broadcastInDim S32x2048 ![] bcast_S_S32x2048 (constantI S_ 32 200000#32))) p

def valsR (x : Vec F S32x200000 .f32) : Vec F S32x2048 .f32 :=
  select (foundR x)
    (Host.gather gather_S32x200000_S32x2048x1_S32x2048_n_1_0_0_1_2_11 x (shapeCast _ (fromEnd (posR x)) shapeCasts_S32x2048_S32x2048x1))
    (broadcastInDim S32x2048 ![] bcast_S_S32x2048 (id (constant S_ .f32 0xBF800000#32)))

def idxsR (x : Vec F S32x200000 .f32) : IVec S32x2048 32 :=
  select (foundR x) (addi (broadcastInDim S32x2048 ![0, 1] bcast_S32x1_S32x2048_0_1 (broadcastInDim S32x1 ![0] bcast_S32_S32x1_0 firstR)) (posR x))
    (broadcastInDim S32x2048 ![] bcast_S_S32x2048 (id (constantI S_ 32 0#32)))

/-! ## One row -/

variable {x : Vec F S32x200000 .f32} {r : ℕ → F .f32} {w : Fin 32}

theorem marked_at (hr : ∀ i : Fin 200000, x (ValueIdx.ix2 w i) = r i.val) (c : BitVec 32) (i : Fin 200000) :
    marked x c (ValueIdx.ix2 w i) = if on r i.val = true then BitVec.ofNat 32 i.val else c := by
  show (if FloatOps.cmpf .ogt (x (ValueIdx.ix2 w i)) (Scalar.ofBits .f32 0x00000000#32) = 1 then BitVec.ofNat 32 i.val else c) = _
  rw [hr i]
  unfold on hit
  simp only [decide_eq_true_eq]

theorem along_row (i : Fin 200000) (k : Fin 200000) : (ValueIdx.ix2 w i : S32x200000.Idx).along 1 k = ValueIdx.ix2 w k := by
  funext a
  match a with
  | ⟨0, _⟩ => rfl
  | ⟨1, _⟩ => rfl

theorem sort_row (y : IVec S32x200000 32) (k : Fin 200000) :
    Host.sort S32x200000 1 comparator_i32_d1 y (ValueIdx.ix2 w k)
      = y (ValueIdx.ix2 w (sortedFrom (fun a b => IntOp.cmpi .slt (y (ValueIdx.ix2 w a)) (y (ValueIdx.ix2 w b)) == 1#1) k)) := by
  unfold Host.sort
  rw [dif_pos (show (1 : ℕ) < S32x200000.rank by decide)]
  have e : ∀ i : Fin 200000, (ValueIdx.ix2 w k : S32x200000.Idx).along (⟨1, Nat.lt_succ_self 1⟩ : Fin S32x200000.rank) i = ValueIdx.ix2 w i := along_row k
  refine (congrArg y (e _)).trans ?_
  refine congrArg (fun q => y (ValueIdx.ix2 w q)) ?_
  refine congrArg (fun f => sortedFrom f k) (funext fun a => funext fun b => ?_)
  exact congrArg₂ (fun u v => comparator_i32_d1 (y u) (y v) == 1#1) (e a) (e b)

theorem places_at (k : Fin 2048) :
    placesR x (ValueIdx.ix2 w k) = Host.sort S32x200000 1 comparator_i32_d1 (marked x 200000#32) (ValueIdx.ix2 w ⟨k.val, by omega⟩) := by
  unfold placesR
  refine extractStridedSlice_apply _ _ _ _ _ fun a => ?_
  match a with
  | ⟨0, _⟩ => exact (Nat.zero_add _).symm
  | ⟨1, _⟩ => exact (Nat.zero_add _).symm

theorem keys (hr : ∀ i : Fin 200000, x (ValueIdx.ix2 w i) = r i.val) (i : Fin 200000) :
    marked x 200000#32 (ValueIdx.ix2 w i) = BitVec.ofNat 32 (key (on r) 200000 i.val) := by
  rw [marked_at hr]; unfold key; split_ifs <;> rfl

theorem places_found (hr : ∀ i : Fin 200000, x (ValueIdx.ix2 w i) = r i.val) (k : Fin 2048) {p : ℕ} (hp : p < 200000) (hon : on r p = true)
    (hk : cnt (on r) p = k.val) : placesR x (ValueIdx.ix2 w k) = BitVec.ofNat 32 p := by
  rw [places_at, sort_row]
  exact place_found (n := 200000) (w := fun i => marked x 200000#32 (ValueIdx.ix2 w i)) (by omega) (keys hr) hp hon _ hk

theorem places_none (hr : ∀ i : Fin 200000, x (ValueIdx.ix2 w i) = r i.val) (k : Fin 2048) (hk : cnt (on r) 200000 ≤ k.val) :
    placesR x (ValueIdx.ix2 w k) = 200000#32 := by
  rw [places_at, sort_row]
  exact place_none (n := 200000) (w := fun i => marked x 200000#32 (ValueIdx.ix2 w i)) (by omega) (keys hr) _ hk

/-- The last candidate's place. -/
theorem last_at (hr : ∀ i : Fin 200000, x (ValueIdx.ix2 w i) = r i.val) {p : ℕ} (hp : p < 200000) (hon : on r p = true)
    (hl : ∀ i, p < i → i < 200000 → on r i = false) : lastR x (Shape.ofLane w) = BitVec.ofNat 32 p := by
  unfold lastR
  have hpi := toInt_ofNat (a := p) (by omega)
  refine reduce_max (R := 32) (N := 200000) _ _ _ _ _ _ ?_ ?_ ⟨ValueIdx.ix2 w ⟨p, hp⟩, rfl, ?_⟩
  · rw [hpi]; exact le_trans (show (2147483648#32).toInt ≤ 0 by decide) (by omega)
  · intro i hi
    obtain ⟨b, hb⟩ : ∃ b : Fin 200000, b = i 1 := ⟨_, rfl⟩
    have hi1 := b.isLt
    have hiw : i = (ValueIdx.ix2 w b : S32x200000.Idx) := by
      funext a
      match a with
      | ⟨0, _⟩ => exact hi
      | ⟨1, _⟩ => exact hb.symm
    rw [hiw, marked_at hr (4294967295#32) b, hpi]
    split_ifs with h
    · rw [toInt_ofNat (by omega)]
      by_contra hc
      have := hl b.val (by omega) hi1
      rw [h] at this; cases this
    · exact le_trans (show (4294967295#32).toInt ≤ 0 by decide) (by omega)
  · rw [marked_at hr, if_pos hon]

theorem pos_at (k : Fin 2048) : posR x (ValueIdx.ix2 w k) = if k.val < 2047 then placesR x (ValueIdx.ix2 w k) else lastR x (Shape.ofLane w) := by
  have hl : (broadcastInDim S32x2048 ![0, 1] bcast_S32x1_S32x2048_0_1 (broadcastInDim S32x1 ![0] bcast_S32_S32x1_0 (lastR x))) (ValueIdx.ix2 w k)
      = lastR x (Shape.ofLane w) := by
    generalize lastR x = l
    unfold broadcastInDim
    refine congrArg l ?_
    funext a
    obtain rfl : a = 0 := Subsingleton.elim _ _
    rfl
  unfold posR
  show (if IntOp.cmpi .slt (BitVec.ofNat 32 k.val) (BitVec.ofNat 32 2047) = 1 then placesR x (ValueIdx.ix2 w k) else _) = _
  rw [hl]
  have h := slt_ofNat (a := k.val) (b := 2047) (by omega) (by omega)
  refine if_congr ?_ rfl rfl
  rw [beq_eq_decide] at h
  exact decide_eq_decide.mp h

/-- Where slot `k` is filled: by one candidate, found at `posR`; the same one that the kernel leaves there. -/
theorem slot_cases (hr : ∀ i : Fin 200000, x (ValueIdx.ix2 w i) = r i.val) (k : Fin 2048) {β : Type} (v : ℕ → β) (f₀ : ℕ → β) :
    (foundR x (ValueIdx.ix2 w k) = 1 ∧ ∃ p < 200000, posR x (ValueIdx.ix2 w k) = BitVec.ofNat 32 p ∧ fill (on r) (slot r) v f₀ 200000 k.val = v p)
      ∨ (foundR x (ValueIdx.ix2 w k) = 0 ∧ fill (on r) (slot r) v f₀ 200000 k.val = f₀ k.val) := by
  have hfound : ∀ p : ℕ, p < 200000 → placesR x (ValueIdx.ix2 w k) = BitVec.ofNat 32 p → foundR x (ValueIdx.ix2 w k) = 1 := by
    intro p hp h
    show IntOp.cmpi .slt (placesR x (ValueIdx.ix2 w k)) (BitVec.ofNat 32 200000) = 1
    rw [h]
    have h := slt_ofNat (a := p) (b := 200000) (by omega) (by omega)
    rw [decide_eq_true hp] at h
    exact eq_of_beq h
  have hnone : placesR x (ValueIdx.ix2 w k) = 200000#32 → foundR x (ValueIdx.ix2 w k) = 0 := by
    intro h
    show IntOp.cmpi .slt (placesR x (ValueIdx.ix2 w k)) (BitVec.ofNat 32 200000) = 0
    rw [h]; decide
  have hk := k.isLt
  rcases Nat.lt_or_ge k.val (cnt (on r) 200000) with hc | hc
  · left
    obtain ⟨p', hp', hon', hcnt', -⟩ := (fill_below (on := on r) (v := v) (f₀ := f₀) (M := k.val + 1) (Nat.lt_succ_self k.val) 200000).1 hc
    have hpl := places_found hr k hp' hon' hcnt'
    refine ⟨hfound p' hp' hpl, ?_⟩
    rw [pos_at]
    split_ifs with hlt
    · obtain ⟨p, hp, hon, hcnt, hv⟩ := (fill_below (on := on r) (v := v) (f₀ := f₀) (M := 2047) hlt 200000).1 hc
      exact ⟨p, hp, places_found hr k hp hon hcnt, hv⟩
    · have h47 : k.val = 2047 := by omega
      rw [h47] at hc ⊢
      obtain ⟨p, hp, hon, hcnt, hv⟩ := (fill_last (on := on r) (v := v) (f₀ := f₀) (M := 2047) 200000).1 hc
      refine ⟨p, hp, last_at hr hp hon fun i hpi hi => ?_, hv⟩
      by_contra hoi
      have hoi : on r i = true := by simpa using hoi
      have h1 := cnt_on hoi
      have h2 := cnt_on hon
      have h3 : cnt (on r) (p + 1) ≤ cnt (on r) i := Nat.count_monotone _ hpi
      have h4 : cnt (on r) (i + 1) ≤ cnt (on r) 200000 := Nat.count_monotone _ hi
      omega
  · right
    refine ⟨hnone (places_none hr k hc), ?_⟩
    by_cases hlt : k.val < 2047
    · exact (fill_below (on := on r) (v := v) (f₀ := f₀) (M := 2047) hlt 200000).2 hc
    · have h47 : k.val = 2047 := by omega
      rw [h47] at hc ⊢
      exact (fill_last (on := on r) (v := v) (f₀ := f₀) (M := 2047) 200000).2 hc

theorem first_at (k : Fin 2048) : (broadcastInDim S32x2048 ![0, 1] bcast_S32x1_S32x2048_0_1 (broadcastInDim S32x1 ![0] bcast_S32_S32x1_0 firstR) : IVec S32x2048 32) (ValueIdx.ix2 w k)
    = BitVec.ofNat 32 (base w.val) := by
  show IntOp.muli (IntOp.remsi .host (BitVec.ofNat 32 w.val) 8#32) 200000#32 = _
  revert w; decide

/-- Where result `(w, k)` of the gather reads its start index. -/
theorem start_idx (w : Fin 32) (k : Fin 2048) (c : Fin 1) :
    gather_S32x200000_S32x2048x1_S32x2048_n_1_0_0_1_2_11.siIdx (ValueIdx.ix2 w k) c = (ValueIdx.ix3 w k c : S32x2048x1.Idx) := by
  funext b
  match b with
  | ⟨0, _⟩ => rfl
  | ⟨1, _⟩ => rfl
  | ⟨2, _⟩ => rfl

theorem column_at {α : Type} (p : S32x2048.Idx → α) (k : Fin 2048) (c : Fin 1) :
    shapeCast S32x2048x1 p shapeCasts_S32x2048_S32x2048x1 (ValueIdx.ix3 w k c) = p (ValueIdx.ix2 w k) := by
  refine shapeCast_apply _ _ _ _ ?_
  rw [Shape.rowMajor_val_two, Shape.rowMajor_val_three]
  have hc := c.isLt
  show w.val * 2048 + k.val = (w.val * 2048 + k.val) * 1 + c.val
  omega

theorem gather_at (y : Vec F S32x200000 .f32) (p : IVec S32x2048 32) (k : Fin 2048) {n : ℕ} (hn : n < 200000) (hp : p (ValueIdx.ix2 w k) = BitVec.ofNat 32 n) :
    Host.gather gather_S32x200000_S32x2048x1_S32x2048_n_1_0_0_1_2_11 y (shapeCast _ (fromEnd p) shapeCasts_S32x2048_S32x2048x1) (ValueIdx.ix2 w k)
      = y (ValueIdx.ix2 w ⟨n, hn⟩) := by
  have hfe : fromEnd p (ValueIdx.ix2 w k) = BitVec.ofNat 32 n := by
    unfold fromEnd
    show (if IntOp.cmpi .slt (p (ValueIdx.ix2 w k)) (BitVec.ofNat 32 0) = 1 then _ else p (ValueIdx.ix2 w k)) = _
    rw [hp, if_neg]
    have h := slt_ofNat (a := n) (b := 0) (by omega) (by omega)
    rw [beq_eq_decide] at h
    simpa using h
  unfold Host.gather
  refine congrArg y ?_
  funext a
  apply Fin.ext
  unfold GatherDims.operandIdx
  fin_cases a
  · show gather_S32x200000_S32x2048x1_S32x2048_n_1_0_0_1_2_11.start _ _ (0 : Fin 2) + gather_S32x200000_S32x2048x1_S32x2048_n_1_0_0_1_2_11.batchCoord _ (0 : Fin 2)
      + gather_S32x200000_S32x2048x1_S32x2048_n_1_0_0_1_2_11.offCoord _ (0 : Fin 2) = w.val
    rw [gather_S32x200000_S32x2048x1_S32x2048_n_1_0_0_1_2_11.start_batching _ _ (0 : Fin 2) (by decide), gather_S32x200000_S32x2048x1_S32x2048_n_1_0_0_1_2_11.offCoord_eq_zero _ (0 : Fin 2) (by decide), Nat.zero_add]
    rfl
  · show gather_S32x200000_S32x2048x1_S32x2048_n_1_0_0_1_2_11.start _ _ (1 : Fin 2) + gather_S32x200000_S32x2048x1_S32x2048_n_1_0_0_1_2_11.batchCoord _ (1 : Fin 2)
      + gather_S32x200000_S32x2048x1_S32x2048_n_1_0_0_1_2_11.offCoord _ (1 : Fin 2) = n
    rw [gather_S32x200000_S32x2048x1_S32x2048_n_1_0_0_1_2_11.batchCoord_eq_zero _ (1 : Fin 2) (by decide), gather_S32x200000_S32x2048x1_S32x2048_n_1_0_0_1_2_11.offCoord_eq_zero _ (1 : Fin 2) (by decide)]
    have hm : (1 : Fin 2) ∈ gather_S32x200000_S32x2048x1_S32x2048_n_1_0_0_1_2_11.startIndexMap := by decide
    have hs : gather_S32x200000_S32x2048x1_S32x2048_n_1_0_0_1_2_11.start (ValueIdx.ix2 w k : S32x2048.Idx)
        (shapeCast S32x2048x1 (fromEnd p) shapeCasts_S32x2048_S32x2048x1) (1 : Fin 2) = n := by
      unfold GatherDims.start
      rw [dif_pos hm]
      have hi : (shapeCast S32x2048x1 (fromEnd p) shapeCasts_S32x2048_S32x2048x1)
          (gather_S32x200000_S32x2048x1_S32x2048_n_1_0_0_1_2_11.siIdx (ValueIdx.ix2 w k)
            ⟨gather_S32x200000_S32x2048x1_S32x2048_n_1_0_0_1_2_11.startIndexMap.idxOf (1 : Fin 2), List.idxOf_lt_length_iff.2 hm⟩) = BitVec.ofNat 32 n :=
        (congrArg _ (start_idx w k _)).trans ((column_at _ _ _).trans hfe)
      refine (congrArg (fun b : BitVec 32 => min b.toInt.toNat (200000 - 1)) hi).trans ?_
      show min (BitVec.ofNat 32 n).toInt.toNat (200000 - 1) = n
      rw [toInt_ofNat (by omega)]
      omega
    rw [hs]
    rfl

/-- The reference's values are the kernel's. -/
theorem vals_ref (hr : ∀ i : Fin 200000, x (ValueIdx.ix2 w i) = r i.val) (k : Fin 2048) : valsR x (ValueIdx.ix2 w k) = vals r 200000 k.val := by
  show (if foundR x (ValueIdx.ix2 w k) = 1 then Host.gather gather_S32x200000_S32x2048x1_S32x2048_n_1_0_0_1_2_11 x _ (ValueIdx.ix2 w k) else Scalar.ofBits .f32 0xBF800000#32) = _
  unfold vals
  rcases slot_cases hr k r (fun _ => Scalar.ofBits .f32 0xBF800000#32) with ⟨hf, p, hp, hpos, hv⟩ | ⟨hf, hv⟩
  · rw [if_pos hf, hv, gather_at x _ k hp hpos, hr]
  · rw [if_neg (by rw [hf]; decide), hv]

theorem idxs_ref (hr : ∀ i : Fin 200000, x (ValueIdx.ix2 w i) = r i.val) (k : Fin 2048) : idxsR x (ValueIdx.ix2 w k) = idxs r (base w.val) 200000 k.val := by
  have h : idxsR x (ValueIdx.ix2 w k) = if foundR x (ValueIdx.ix2 w k) = 1 then BitVec.ofNat 32 (base w.val) + posR x (ValueIdx.ix2 w k) else 0#32 := by
    rw [← first_at (w := w) k]; rfl
  rw [h]
  unfold idxs
  rcases slot_cases hr k (fun i => BitVec.ofNat 32 (base w.val + i)) (fun _ => 0#32) with ⟨hf, p, hp, hpos, hv⟩ | ⟨hf, hv⟩
  · rw [if_pos hf, hv, hpos, BitVec.ofNat_add]
  · rw [if_neg (by rw [hf]; decide), hv]

end Cert.Proof.RefValue

end
-- ==== Proof.Result.lean ====
/-
  The program's two results against the reference's, as functions of the scores.
-/
module

public import proofs.«01_k».proof.Proof.Launch
public import proofs.«01_k».proof.Proof.RefValue

@[expose] public section

noncomputable section

namespace Cert.Proof.Result

open Idealize.ShloMosaic Cert.ReferenceIdeal Cert.ReferenceIdeal.Gen Cert.Proof.Fill Cert.Proof.Group Cert.Proof.RefValue
open Cert.Proof.Compact (base range outV outI)

variable {F : FTy → Type} [FloatOps F]

abbrev Flat : Shape := Cert.KernelIdeal.S6400000

/-- The reference's rows and the program's flat scores read the same score. -/
theorem rows_range (a : Vec F S4x1600000 .f32) (X : Vec F Flat .f32) (h : S4x1600000.ShapeCasts Flat) (hX : X = shapeCast Flat a h) (w : Fin 32) (i : Fin 200000) :
    shapeCast S32x200000 a shapeCasts_S4x1600000_S32x200000 (ValueIdx.ix2 w i) = range X w.val i.val := by
  subst hX
  unfold range
  have hw := w.isLt
  have hi := i.isLt
  have e : (200000 * w.val + i.val) % 6400000 = 200000 * w.val + i.val := Nat.mod_eq_of_lt (by omega)
  let q : Fin 4 := ⟨(200000 * w.val + i.val) / 1600000, by omega⟩
  let t : Fin 1600000 := ⟨(200000 * w.val + i.val) % 1600000, by omega⟩
  have hqt : q.val * 1600000 + t.val = 200000 * w.val + i.val := by
    show (200000 * w.val + i.val) / 1600000 * 1600000 + (200000 * w.val + i.val) % 1600000 = _
    omega
  rw [shapeCast_apply a shapeCasts_S4x1600000_S32x200000 (ValueIdx.ix2 w i) (ValueIdx.ix2 q t) (by
    rw [Shape.rowMajor_val_two, Shape.rowMajor_val_two]
    show q.val * 1600000 + t.val = w.val * 200000 + i.val
    omega)]
  refine (shapeCast_apply a h _ (ValueIdx.ix2 q t) ?_).symm
  rw [Shape.rowMajor_val_two, Shape.rowMajor_val_one]
  show q.val * 1600000 + t.val = (200000 * w.val + i.val) % 6400000
  omega

/-- Slot `j` of a result of the reference and of the program's flat result. -/
theorem slot_eq {α : Type} (f : S32x2048.Idx → α) (g : Cert.KernelIdeal.S65536.Idx → α) (h : Cert.KernelIdeal.S65536.ShapeCasts S4x16384)
    (hfg : ∀ (w : Fin 32) (k : Fin 2048) (n : Cert.KernelIdeal.S65536.Idx), (n 0).val = w.val * 2048 + k.val → g n = f (ValueIdx.ix2 w k)) :
    shapeCast S4x16384 g h = shapeCast S4x16384 f shapeCasts_S32x2048_S4x16384 := by
  funext j
  have h0 : (j 0).val < 4 := (j 0).isLt
  have h1 : (j 1).val < 16384 := (j 1).isLt
  let w : Fin 32 := ⟨((j 0).val * 16384 + (j 1).val) / 2048, by omega⟩
  let k : Fin 2048 := ⟨((j 0).val * 16384 + (j 1).val) % 2048, by omega⟩
  have hwk : w.val * 2048 + k.val = (j 0).val * 16384 + (j 1).val := by
    show ((j 0).val * 16384 + (j 1).val) / 2048 * 2048 + ((j 0).val * 16384 + (j 1).val) % 2048 = _
    omega
  have hn : w.val * 2048 + k.val < 65536 := by have := w.isLt; have := k.isLt; omega
  rw [shapeCast_apply f shapeCasts_S32x2048_S4x16384 j (ValueIdx.ix2 w k) (by
    rw [Shape.rowMajor_val_two, Shape.rowMajor_val_two]; exact hwk)]
  rw [shapeCast_apply g h j (Shape.ofLane (d := ![65536]) ⟨w.val * 2048 + k.val, hn⟩) (by
    rw [Shape.rowMajor_val_one, Shape.rowMajor_val_two]; exact hwk)]
  exact hfg w k _ rfl

variable (a : Vec F S4x1600000 .f32) (X : Vec F Flat .f32) (h : S4x1600000.ShapeCasts Flat) (hX : X = shapeCast Flat a h)
  (h' : Cert.KernelIdeal.S65536.ShapeCasts S4x16384)
include hX

theorem values : shapeCast S4x16384 (outV X) h'
    = shapeCast S4x16384 (valsR (shapeCast S32x200000 a shapeCasts_S4x1600000_S32x200000)) shapeCasts_S32x2048_S4x16384 := by
  refine slot_eq _ _ h' fun w k n hn => ?_
  rw [vals_ref (r := range X w.val) (rows_range a X h hX w) k]
  unfold outV
  have hk := k.isLt
  rw [show (n 0).val / 2048 = w.val by omega, show (n 0).val % 2048 = k.val by omega]

theorem numbers : shapeCast S4x16384 (outI X) h'
    = shapeCast S4x16384 (idxsR (shapeCast S32x200000 a shapeCasts_S4x1600000_S32x200000)) shapeCasts_S32x2048_S4x16384 := by
  refine slot_eq _ _ h' fun w k n hn => ?_
  rw [idxs_ref (r := range X w.val) (rows_range a X h hX w) k]
  unfold outI
  have hk := k.isLt
  rw [show (n 0).val / 2048 = w.val by omega, show (n 0).val % 2048 = k.val by omega]

end Cert.Proof.Result

end
-- ==== Proof.CandidatesRun.lean ====
/-
  The candidates' scores and boxes, at every index, and the run of the pipelined kernel that computes them.

  `score P w n k` and `corner P w n k` say what one element of each result is, from the prediction array `P`. Grid point
  (i, j) writes the rows 4000·j … 4000·j + 3999 of image i, and the twenty points' blocks tile both results.
-/
module

public import proofs.«01_k».proof.Proof.Gen.CandidatesIdeal.Value
public import Idealize.ShloMosaic.Lib.ValueIdxCore
public import Idealize.ShloMosaic.Lib.Pipeline.Value
public import Idealize.ShloMosaic.Lib.Quiescent

@[expose] public section

noncomputable section

namespace Cert.Proof.Candidates

open Idealize.ShloMosaic Idealize.ShloMosaic.TcCoe Idealize.SL.Sem Cert.CandidatesIdeal Cert.CandidatesIdeal.Gen

variable {F : FTy → Type} [FloatOps F]

/-- The score of class `k` of box `n` of image `w`: its confidence where that and the box's own are above the threshold, else −1. -/
def score (P : Vec F S4x20000x85 .f32) (w : Fin 4) (n : Fin 20000) (k : Fin 80) : F .f32 :=
  Scalar.select (IntOp.andi (FloatOps.cmpf .ogt (P (ValueIdx.ix3 w n (4 : Fin 85))) (Scalar.ofBits .f32 0x3F666666#32))
      (FloatOps.cmpf .ogt (FloatOps.mulf (P (ValueIdx.ix3 w n (⟨k.val + 5, by omega⟩ : Fin 85))) (P (ValueIdx.ix3 w n (4 : Fin 85)))) (Scalar.ofBits .f32 0x3F666666#32)))
    (FloatOps.mulf (P (ValueIdx.ix3 w n (⟨k.val + 5, by omega⟩ : Fin 85))) (P (ValueIdx.ix3 w n (4 : Fin 85)))) (Scalar.ofBits .f32 0xBF800000#32)

/-- Half of a box's size along axis `q`. -/
def half (P : Vec F S4x20000x85 .f32) (w : Fin 4) (n : Fin 20000) (q : Fin 2) : F .f32 :=
  FloatOps.divf (P (ValueIdx.ix3 w n (⟨q.val + 2, by omega⟩ : Fin 85))) (Scalar.ofBits .f32 0x40000000#32)

/-- Coordinate `k` of box `n` of image `w`: the lower corner's two, then the upper corner's. -/
def corner (P : Vec F S4x20000x85 .f32) (w : Fin 4) (n : Fin 20000) (k : Fin 4) : F .f32 :=
  if k.val / 2 = 0 then FloatOps.subf (P (ValueIdx.ix3 w n (⟨k.val % 2, by omega⟩ : Fin 85))) (half P w n ⟨k.val % 2, by omega⟩)
  else FloatOps.addf (P (ValueIdx.ix3 w n (⟨k.val % 2, by omega⟩ : Fin 85))) (half P w n ⟨k.val % 2, by omega⟩)

def scores (P : Vec F S4x20000x85 .f32) : Vec F S4x20000x80 .f32 := fun i => score P (i 0) (i 1) (i 2)
def corners (P : Vec F S4x20000x85 .f32) : Vec F S4x20000x4 .f32 := fun i => corner P (i 0) (i 1) (i 2)

/-! ## One block -/

theorem zeros : (![0, 0, 0] : Fin 3 → ℕ) = fun _ => 0 := funext fun a => by fin_cases a <;> rfl

/-- Grid point `t` has image `t / 5` and rows from `4000 · (t % 5)`; all three windows move together. -/
theorem index0 : ∀ t : Fin cfg0.N, win0_0.index t = ![t.val / 5, t.val % 5, 0] := (by decide +kernel : ∀ t : Fin grid0.N, win0_0.index t = ![t.val / 5, t.val % 5, 0])
theorem index1 : ∀ t : Fin cfg0.N, win0_1.index t = ![t.val / 5, t.val % 5, 0] := (by decide +kernel : ∀ t : Fin grid0.N, win0_1.index t = ![t.val / 5, t.val % 5, 0])
theorem index2 : ∀ t : Fin cfg0.N, win0_2.index t = ![t.val / 5, t.val % 5, 0] := (by decide +kernel : ∀ t : Fin grid0.N, win0_2.index t = ![t.val / 5, t.val % 5, 0])
theorem points : cfg0.N = 20 := N_0

variable (m : (ℓ : Loc nD τ sig) → Buf (Elt F) ℓ) (ρ : Dev nD → PrngReg)

abbrev pred (c : Dev nD) : Vec F S4x20000x85 .f32 := m ((c.tc : Thread nD τ).loc main_arg0)

/-- An element of the input block of point `t`. -/
theorem block_at (c : Dev nD) (t : Fin cfg0.N) (y : S1x4000x85.Idx) (w : Fin 4) (n : Fin 20000) (k : Fin 85) (hw : w.val = t.val / 5)
    (hn : n.val = t.val % 5 * 4000 + (y 1).val) (hk : k.val = (y 2).val) : iblk m c 0 t y = pred m c (ValueIdx.ix3 w n k) := by
  show pred m c ((win0_0.rect t).emb y) = _
  refine congrArg (pred m c) ?_
  funext a
  apply Fin.ext
  have h0 : (y 0).val < 1 := (y 0).isLt
  rw [Pipeline.Window.rect_emb_val win0_0 t y a, index0]
  match a with
  | ⟨0, _⟩ =>
    show t.val / 5 * 1 + (y 0).val = w.val
    omega
  | ⟨1, _⟩ => exact hn.symm
  | ⟨2, _⟩ =>
    show 0 * 85 + (y 2).val = k.val
    omega

/-- Two neighbouring columns of a block, cut out and read. -/
theorem cols_at (P0 : Vec F S1x4000x85 .f32) {o : ℕ} (h : S4000x85.Slices ![0, o] S4000x2) (x : S4000x2.Idx) (y : S1x4000x85.Idx) (h0 : (y 1).val = (x 0).val)
    (h1 : (y 2).val = o + (x 1).val) : extractStridedSlice S4000x2 ![0, o] (shapeCast S4000x85 P0 shapeCasts_S1x4000x85_S4000x85) h x = P0 y := by
  have hy : (y 0).val < 1 := (y 0).isLt
  have hy2 : (y 2).val < 85 := (y 2).isLt
  have hx0 : (x 0).val < 4000 := (x 0).isLt
  refine (extractStridedSlice_apply _ _ h x (ValueIdx.ix2 (⟨(x 0).val, hx0⟩ : Fin 4000) (⟨o + (x 1).val, by omega⟩ : Fin 85)) fun a => ?_).trans ?_
  · match a with
    | ⟨0, _⟩ => exact (Nat.zero_add _).symm
    | ⟨1, _⟩ => rfl
  · refine shapeCast_apply P0 _ _ y ?_
    rw [Shape.rowMajor_val_two, Shape.rowMajor_val_three]
    show ((y 0).val * 4000 + (y 1).val) * 85 + (y 2).val = (x 0).val * 85 + (o + (x 1).val)
    omega

theorem flushed_scores (c : Dev nD) (t : Fin cfg0.N) :
    (dats m 0 c).flushed 1 t = ((cfg0.win 1).blk t).view.read (Elt F) (scores (pred m c)) := by
  rw [Value.flushed1]
  funext y
  have h0 : (y 0).val < 1 := (y 0).isLt
  have e : ∀ a, ((win0_1.rect t).emb y a : ℕ) = ![t.val / 5, t.val % 5, 0] a * win0_1.size a + y a := fun a => by
    rw [Pipeline.Window.rect_emb_val win0_1 t y a, index1]
  have e0 : ((win0_1.rect t).emb y 0 : ℕ) = t.val / 5 := (e 0).trans (by show t.val / 5 * 1 + (y 0).val = _; omega)
  have e1 : ((win0_1.rect t).emb y 1 : ℕ) = t.val % 5 * 4000 + (y 1).val := e 1
  have e2 : ((win0_1.rect t).emb y 2 : ℕ) = (y 2).val := (e 2).trans (by show 0 * 80 + (y 2).val = _; omega)
  show out0_1 (iblk m c 0 t) y = score (pred m c) ((win0_1.rect t).emb y 0) ((win0_1.rect t).emb y 1) ((win0_1.rect t).emb y 2)
  unfold out0_1
  rw [View.ld_unit_zero zeros, Value.canon1_eq]
  unfold score
  show Scalar.select (IntOp.andi (FloatOps.cmpf .ogt (iblk m c 0 t (Value.ix1_0 y)) _) (FloatOps.cmpf .ogt (FloatOps.mulf (iblk m c 0 t (Value.ix1_1 y)) (iblk m c 0 t (Value.ix1_2 y))) _))
    (FloatOps.mulf (iblk m c 0 t (Value.ix1_3 y)) (iblk m c 0 t (Value.ix1_4 y))) _ = _
  rw [block_at m c t (Value.ix1_0 y) _ _ 4 e0 e1 rfl, block_at m c t (Value.ix1_1 y) _ _ ⟨((win0_1.rect t).emb y 2 : ℕ) + 5, by rw [e2]; have h2 : (y 2).val < 80 := (y 2).isLt; omega⟩ e0 e1 (congrArg (· + 5) e2)]

theorem flushed_corners (c : Dev nD) (t : Fin cfg0.N) :
    (dats m 0 c).flushed 2 t = ((cfg0.win 2).blk t).view.read (Elt F) (corners (pred m c)) := by
  rw [Value.flushed2]
  funext y
  have h0 : (y 0).val < 1 := (y 0).isLt
  have h1 : (y 1).val < 4000 := (y 1).isLt
  have h2 : (y 2).val < 4 := (y 2).isLt
  have e : ∀ a, ((win0_2.rect t).emb y a : ℕ) = ![t.val / 5, t.val % 5, 0] a * win0_2.size a + y a := fun a => by
    rw [Pipeline.Window.rect_emb_val win0_2 t y a, index2]
  have e0 : ((win0_2.rect t).emb y 0 : ℕ) = t.val / 5 := (e 0).trans (by show t.val / 5 * 1 + (y 0).val = _; omega)
  have e1 : ((win0_2.rect t).emb y 1 : ℕ) = t.val % 5 * 4000 + (y 1).val := e 1
  have e2 : ((win0_2.rect t).emb y 2 : ℕ) = (y 2).val := (e 2).trans (by show 0 * 4 + (y 2).val = _; omega)
  show out0_2 (iblk m c 0 t) y = corner (pred m c) ((win0_2.rect t).emb y 0) ((win0_2.rect t).emb y 1) ((win0_2.rect t).emb y 2)
  unfold out0_2
  rw [View.ld_unit_zero zeros, Value.canon2_eq]
  generalize (win0_2.rect t).emb y 0 = w at *
  generalize (win0_2.rect t).emb y 1 = n at *
  generalize (win0_2.rect t).emb y 2 = k at *
  -- the block's element in column `o + k % 2`
  have col : ∀ (o : ℕ) (ho : o + (y 2).val % 2 < 85) (h : S4000x85.Slices ![0, o] S4000x2) (j : Fin 85), j.val = o + (y 2).val % 2 →
      extractStridedSlice S4000x2 ![0, o] (shapeCast S4000x85 (iblk m c 0 t) shapeCasts_S1x4000x85_S4000x85) h (Value.ix2_0 y) = pred m c (ValueIdx.ix3 w n j) :=
    fun o ho h j hj => (cols_at (iblk m c 0 t) h (Value.ix2_0 y) (ValueIdx.ix3 (0 : Fin 1) (⟨(y 1).val, h1⟩ : Fin 4000) (⟨o + (y 2).val % 2, ho⟩ : Fin 85)) rfl rfl).trans
      (block_at m c t _ w n j e0 e1 hj)
  have hx := col 0 (by omega) slices_S4000x85_o0_0_S4000x2 ⟨k.val % 2, by omega⟩ (by show (k : ℕ) % 2 = 0 + (y 2).val % 2; omega)
  have hs := col 2 (by omega) slices_S4000x85_o0_2_S4000x2 ⟨k.val % 2 + 2, by omega⟩ (by show (k : ℕ) % 2 + 2 = 2 + (y 2).val % 2; omega)
  unfold corner half
  show Value.Cat2_0 (iblk m c 0 t) (Value.csel2_0 y) (Value.ix2_0 y) = _
  by_cases hk : k.val / 2 = 0
  · rw [if_pos hk, show Value.csel2_0 y = (0 : Fin 2) from Fin.ext (by show (y 2).val / 2 = 0; omega), ← hx, ← hs]
    rfl
  · rw [if_neg hk, show Value.csel2_0 y = (1 : Fin 2) from Fin.ext (by show (y 2).val / 2 = 1; omega), ← hx, ← hs]
    rfl

/-! ## The blocks tile the results -/

theorem cover_scores (i : S4x20000x80.Idx) : ∃ t : Fin cfg0.N, (cfg0.win 1).flush t = true ∧ i ∈ ((cfg0.win 1).blk t).view.set := by
  have h0 : (i 0).val < 4 := (i 0).isLt
  have h1 : (i 1).val < 20000 := (i 1).isLt
  have h2 : (i 2).val < 80 := (i 2).isLt
  obtain ⟨t, ht⟩ : ∃ t : Fin cfg0.N, t.val = 5 * (i 0).val + (i 1).val / 4000 := ⟨⟨5 * (i 0).val + (i 1).val / 4000, by rw [points]; omega⟩, rfl⟩
  refine ⟨t, flush0_1 t, ?_⟩
  show i ∈ ((View.whole main_v0_0).slice (win0_1.rect t)).set
  rw [View.set_slice_whole, Rect.mem_set_unit]
  intro a
  show win0_1.index t a * win0_1.size a ≤ (i a).val ∧ (i a).val < win0_1.index t a * win0_1.size a + win0_1.size a
  rw [index1]
  match a with
  | ⟨0, _⟩ => show t.val / 5 * 1 ≤ (i 0).val ∧ (i 0).val < t.val / 5 * 1 + 1; omega
  | ⟨1, _⟩ => show t.val % 5 * 4000 ≤ (i 1).val ∧ (i 1).val < t.val % 5 * 4000 + 4000; omega
  | ⟨2, _⟩ => show 0 * 80 ≤ (i 2).val ∧ (i 2).val < 0 * 80 + 80; omega

theorem cover_corners (i : S4x20000x4.Idx) : ∃ t : Fin cfg0.N, (cfg0.win 2).flush t = true ∧ i ∈ ((cfg0.win 2).blk t).view.set := by
  have h0 : (i 0).val < 4 := (i 0).isLt
  have h1 : (i 1).val < 20000 := (i 1).isLt
  have h2 : (i 2).val < 4 := (i 2).isLt
  obtain ⟨t, ht⟩ : ∃ t : Fin cfg0.N, t.val = 5 * (i 0).val + (i 1).val / 4000 := ⟨⟨5 * (i 0).val + (i 1).val / 4000, by rw [points]; omega⟩, rfl⟩
  refine ⟨t, flush0_2 t, ?_⟩
  show i ∈ ((View.whole main_v0_1).slice (win0_2.rect t)).set
  rw [View.set_slice_whole, Rect.mem_set_unit]
  intro a
  show win0_2.index t a * win0_2.size a ≤ (i a).val ∧ (i a).val < win0_2.index t a * win0_2.size a + win0_2.size a
  rw [index2]
  match a with
  | ⟨0, _⟩ => show t.val / 5 * 1 ≤ (i 0).val ∧ (i 0).val < t.val / 5 * 1 + 1; omega
  | ⟨1, _⟩ => show t.val % 5 * 4000 ≤ (i 1).val ∧ (i 1).val < t.val % 5 * 4000 + 4000; omega
  | ⟨2, _⟩ => show 0 * 4 ≤ (i 2).val ∧ (i 2).val < 0 * 4 + 4; omega

/-- The run: both results hold, at every index, what is said above, and the argument is unchanged. -/
theorem run : θ_run defs (onTc (τ := τ) (main (F := F))) ⟨m, fun _ => 0, ρ⟩ fun r => ∀ c : Dev nD,
      r.2.mem ((c.tc : Thread nD τ).loc main_v0_0) = scores (pred m c)
      ∧ r.2.mem ((c.tc : Thread nD τ).loc main_v0_1) = corners (pred m c)
      ∧ r.2.mem ((c.tc : Thread nD τ).loc main_arg0) = m ((c.tc : Thread nD τ).loc main_arg0) :=
  (θ_run defs _ _).mono (fun _ h c => ⟨(h c).1.trans ((dats m 0 c).arrAt_eq_of_cover 1 _ (fun t _ => flushed_scores m c t) cover_scores),
      (h c).2.1.trans ((dats m 0 c).arrAt_eq_of_cover 2 _ (fun t _ => flushed_corners m c t) cover_corners), (h c).2.2⟩)
    (Value.run_blocks m ρ)

end Cert.Proof.Candidates

end
-- ==== Proof.CandidatesResult.lean ====
/-
  The candidates' reference at every index: its results are `scores` and `corners` (Proof/CandidatesRun.lean) of the prediction array.
-/
module

public import proofs.«01_k».proof.Proof.CandidatesRun
public import proofs.«01_k».proof.Proof.Gen.CandidatesReferenceIdeal.Run
public import Idealize.ShloMosaic.PureOps.Ideal
public import Idealize.ShloMosaic.Lib.IdealHost

@[expose] public section

noncomputable section

namespace Cert.Proof.CandidatesResult

open Idealize.ShloMosaic Cert.CandidatesReferenceIdeal Cert.CandidatesReferenceIdeal.Gen Cert.Proof.Candidates

variable {F : FTy → Type} [FloatOps F]

/-! ## The reference's results, part by part -/

/-- A box's own confidence, as a column. -/
def own (P : Vec F S4x20000x85 .f32) : Vec F S4x20000x1 .f32 := extractStridedSlice S4x20000x1 ![0, 0, 4] P slices_S4x20000x85_S4x20000x1_0_0_4

/-- The classes' confidences, each times the box's own. -/
def conf (P : Vec F S4x20000x85 .f32) : Vec F S4x20000x80 .f32 :=
  mulf (extractStridedSlice S4x20000x80 ![0, 0, 5] P slices_S4x20000x85_S4x20000x80_0_0_5) (broadcastInDim S4x20000x80 ![0, 1, 2] bcast_S4x20000x1_S4x20000x80_0_1_2 (own P))

def scoresR (P : Vec F S4x20000x85 .f32) : Vec F S4x20000x80 .f32 :=
  select (andi (broadcastInDim S4x20000x80 ![0, 1, 2] bcast_S4x20000x1_S4x20000x80_0_1_2 (cmpf .ogt (own P) (broadcastInDim S4x20000x1 ![] bcast_S_S4x20000x1 (constant S_ .f32 0x3F666666#32))))
      (cmpf .ogt (conf P) (broadcastInDim S4x20000x80 ![] bcast_S_S4x20000x80 (constant S_ .f32 0x3F666666#32))))
    (conf P) (broadcastInDim S4x20000x80 ![] bcast_S_S4x20000x80 (id (constant S_ .f32 0xBF800000#32)))

def centers (P : Vec F S4x20000x85 .f32) : Vec F S4x20000x2 .f32 := extractStridedSlice S4x20000x2 ![0, 0, 0] P slices_S4x20000x85_S4x20000x2_0_0_0

def halves (P : Vec F S4x20000x85 .f32) : Vec F S4x20000x2 .f32 :=
  Host.divf (extractStridedSlice S4x20000x2 ![0, 0, 2] P slices_S4x20000x85_S4x20000x2_0_0_2) (broadcastInDim S4x20000x2 ![] bcast_S_S4x20000x2 (constant S_ .f32 0x40000000#32))

def cornersR (P : Vec F S4x20000x85 .f32) : Vec F S4x20000x4 .f32 :=
  concatenate S4x20000x4 2 [⟨S4x20000x2, subf (centers P) (halves P)⟩, ⟨S4x20000x2, addf (centers P) (halves P)⟩] concatenates_S4x20000x2_S4x20000x2_S4x20000x4_d2

/-! ## Each part at an index -/

theorem bcast_at {α : Type} (x : S4x20000x1.Idx → α) (w : Fin 4) (n : Fin 20000) (k : Fin 80) :
    broadcastInDim S4x20000x80 ![0, 1, 2] bcast_S4x20000x1_S4x20000x80_0_1_2 x (ValueIdx.ix3 w n k) = x (ValueIdx.ix3 w n (0 : Fin 1)) := by
  unfold broadcastInDim
  refine congrArg x ?_
  funext a
  match a with
  | ⟨0, _⟩ => rfl
  | ⟨1, _⟩ => rfl
  | ⟨2, _⟩ => rfl

variable (P : Vec F S4x20000x85 .f32) (w : Fin 4) (n : Fin 20000)

theorem own_at : own P (ValueIdx.ix3 w n (0 : Fin 1)) = P (ValueIdx.ix3 w n (4 : Fin 85)) :=
  extractStridedSlice_apply _ _ _ _ _ fun a => match a with
    | ⟨0, _⟩ => (Nat.zero_add _).symm
    | ⟨1, _⟩ => (Nat.zero_add _).symm
    | ⟨2, _⟩ => rfl

theorem conf_at (k : Fin 80) : conf P (ValueIdx.ix3 w n k) = FloatOps.mulf (P (ValueIdx.ix3 w n (⟨k.val + 5, by omega⟩ : Fin 85))) (P (ValueIdx.ix3 w n (4 : Fin 85))) := by
  unfold conf
  refine congrArg₂ FloatOps.mulf (extractStridedSlice_apply _ _ _ _ _ fun a => ?_) ((bcast_at _ w n k).trans (own_at P w n))
  match a with
  | ⟨0, _⟩ => exact (Nat.zero_add _).symm
  | ⟨1, _⟩ => exact (Nat.zero_add _).symm
  | ⟨2, _⟩ => exact Nat.add_comm _ _

theorem pair_at {o : ℕ} (h : S4x20000x85.Slices ![0, 0, o] S4x20000x2) (q : Fin 2) (j : Fin 85) (hj : j.val = o + q.val) :
    extractStridedSlice S4x20000x2 ![0, 0, o] P h (ValueIdx.ix3 w n q) = P (ValueIdx.ix3 w n j) :=
  extractStridedSlice_apply _ _ _ _ _ fun a => match a with
    | ⟨0, _⟩ => (Nat.zero_add _).symm
    | ⟨1, _⟩ => (Nat.zero_add _).symm
    | ⟨2, _⟩ => hj

/-- An index of three coordinates, from them. -/
theorem of_coords {a b c : ℕ} (i : (⟨3, ![a, b, c]⟩ : Shape).Idx) : i = ValueIdx.ix3 (i 0 : Fin a) (i 1 : Fin b) (i 2 : Fin c) := by
  funext d
  match d with
  | ⟨0, _⟩ => rfl
  | ⟨1, _⟩ => rfl
  | ⟨2, _⟩ => rfl

theorem scoresR_at (k : Fin 80) : scoresR P (ValueIdx.ix3 w n k) = score P w n k := by
  show Scalar.select (IntOp.andi (broadcastInDim S4x20000x80 ![0, 1, 2] bcast_S4x20000x1_S4x20000x80_0_1_2
      (cmpf .ogt (own P) (broadcastInDim S4x20000x1 ![] bcast_S_S4x20000x1 (constant S_ .f32 0x3F666666#32))) (ValueIdx.ix3 w n k))
    (FloatOps.cmpf .ogt (conf P (ValueIdx.ix3 w n k)) (Scalar.ofBits .f32 0x3F666666#32))) (conf P (ValueIdx.ix3 w n k)) (Scalar.ofBits .f32 0xBF800000#32) = score P w n k
  rw [bcast_at, conf_at]
  show Scalar.select (IntOp.andi (FloatOps.cmpf .ogt (own P (ValueIdx.ix3 w n (0 : Fin 1))) _) _) _ _ = _
  rw [own_at]
  rfl

theorem scoresR_eq : scoresR P = scores P := funext fun i => (congrArg (scoresR P) (of_coords i)).trans (scoresR_at P (i 0) (i 1) (i 2))

/-- Half of a box's size: the reference's quotient and the kernel's are one over the exact numbers. -/
theorem halves_at (P : Vec Ideal S4x20000x85 .f32) (q : Fin 2) : halves P (ValueIdx.ix3 w n q) = half P w n q := by
  unfold half
  rw [← pair_at P w n slices_S4x20000x85_S4x20000x2_0_0_2 q ⟨q.val + 2, by omega⟩ (Nat.add_comm _ _)]
  unfold halves
  simp only [Host.divf, Ideal.divf_def, Ideal.hostDivf_def]
  rfl

theorem cornersR_at (P : Vec Ideal S4x20000x85 .f32) (k : Fin 4) : cornersR P (ValueIdx.ix3 w n k) = corner P w n k := by
  have hk := k.isLt
  have hc : ∀ q : Fin 2, centers P (ValueIdx.ix3 w n q) = P (ValueIdx.ix3 w n (⟨q.val, by omega⟩ : Fin 85)) := fun q =>
    pair_at P w n slices_S4x20000x85_S4x20000x2_0_0_0 q _ (Nat.zero_add _).symm
  unfold cornersR corner
  by_cases h : k.val / 2 = 0
  · rw [if_pos h, concatenate_pair_apply_left (t := S4x20000x4) (s₁ := S4x20000x2) (s₂ := S4x20000x2) 2 _ _ _ (ValueIdx.ix3 w n k) rfl
      (ValueIdx.ix3 w n (⟨k.val % 2, by omega⟩ : Fin 2)) (fun b => by
        match b with | ⟨0, _⟩ => rfl | ⟨1, _⟩ => rfl | ⟨2, _⟩ => show k.val % 2 = k.val; omega)]
    exact congrArg₂ FloatOps.subf (hc _) (halves_at w n P _)
  · rw [if_neg h, concatenate_pair_apply_right (t := S4x20000x4) (s₁ := S4x20000x2) (s₂ := S4x20000x2) 2 _ _ _ (ValueIdx.ix3 w n k) rfl rfl
      (ValueIdx.ix3 w n (⟨k.val % 2, by omega⟩ : Fin 2)) (fun b hb => by
        match b with | ⟨0, _⟩ => rfl | ⟨1, _⟩ => rfl | ⟨2, _⟩ => exact absurd rfl hb) (by show k.val % 2 + 2 = k.val; omega)]
    exact congrArg₂ FloatOps.addf (hc _) (halves_at w n P _)

theorem cornersR_eq (P : Vec Ideal S4x20000x85 .f32) : cornersR P = corners P :=
  funext fun i => (congrArg (cornersR P) (of_coords i)).trans (cornersR_at (i 0) (i 1) P (i 2))

end Cert.Proof.CandidatesResult

end
-- ==== Proof.KeepTrip.lean ====
/-
  One trip of a block's loop in the suppression, as plain functions of the block's free marks, its kept marks and
  eight rows of the block's table of near candidates.

  A trip decides eight candidates in two groups of four. The sixteen blocks' loops are the same function; each of the
  sixteen equations below says so of one of them.
-/
module

public import proofs.«01_k».proof.Proof.Gen.KeepIdeal.Frame

@[expose] public section

noncomputable section

namespace Cert.Proof.Keep

open Idealize.ShloMosaic Idealize.ShloMosaic.TcCoe Cert.KeepIdeal Cert.KeepIdeal.Gen

variable {F : FTy → Type} [FloatOps F]

abbrev one : F .f32 := Scalar.ofBits .f32 0x3F800000#32
abbrev zero : F .f32 := Scalar.ofBits .f32 0x00000000#32

/-- The row that is one at lane `i` and zero elsewhere. -/
def hot (v24 : IVec S1x128 32) (i : BitVec 32) : FVec F S1x128 .f32 := select (cmpi .eq v24 (broadcast S1x128 i)) (broadcast S1x128 one) (broadcast S1x128 zero)

/-- The entry that a hot row points at, in each image: the greatest of the products. -/
def pick (e : FVec F S1x128 .f32) (x : FVec F S4x128 .f32) : FVec F S4x1 .f32 :=
  shapeCast S4x1 (multiReduction .maximumf [1] S4 (mulf (broadcastTo S4x128 e broadcasts_S1x128_S4x128) x) 0xFF800000#32 reduces_S4x128_S4 (.inl rfl) rfl) shapeCasts_S4_S4x1

/-- One less a product, in each image. -/
def less (r s : FVec F S4x1 .f32) : FVec F S4x1 .f32 := subf (broadcast S4x1 one) (mulf r s)

/-- One less a product, in each image and lane. -/
def clear (r : FVec F S4x1 .f32) (s : FVec F S4x128 .f32) : FVec F S4x128 .f32 := subf (broadcast S4x128 one) (mulf (broadcastTo S4x128 r broadcasts_S4x1_S4x128) s)

/-- A candidate's mark, in its lane. -/
def put (e : FVec F S1x128 .f32) (r : FVec F S4x1 .f32) : FVec F S4x128 .f32 :=
  mulf (broadcastTo S4x128 e broadcasts_S1x128_S4x128) (broadcastTo S4x128 r broadcasts_S4x1_S4x128)

/-- The four marks of a group. -/
def mark0 (e0 : FVec F S1x128 .f32) (f : FVec F S4x128 .f32) : FVec F S4x1 .f32 := pick e0 f
def mark1 (e0 e1 : FVec F S1x128 .f32) (s0 f : FVec F S4x128 .f32) : FVec F S4x1 .f32 := mulf (pick e1 f) (less (mark0 e0 f) (pick e1 s0))
def mark2 (e0 e1 e2 : FVec F S1x128 .f32) (s0 s1 f : FVec F S4x128 .f32) : FVec F S4x1 .f32 :=
  mulf (mulf (pick e2 f) (less (mark0 e0 f) (pick e2 s0))) (less (mark1 e0 e1 s0 f) (pick e2 s1))
def mark3 (e0 e1 e2 e3 : FVec F S1x128 .f32) (s0 s1 s2 f : FVec F S4x128 .f32) : FVec F S4x1 .f32 :=
  mulf (mulf (mulf (pick e3 f) (less (mark0 e0 f) (pick e3 s0))) (less (mark1 e0 e1 s0 f) (pick e3 s1))) (less (mark2 e0 e1 e2 s0 s1 f) (pick e3 s2))

/-- A group's new free marks and kept marks. -/
def group (e0 e1 e2 e3 : FVec F S1x128 .f32) (s0 s1 s2 s3 : FVec F S4x128 .f32) (acc : FVec F S4x128 .f32 × FVec F S4x128 .f32) : FVec F S4x128 .f32 × FVec F S4x128 .f32 :=
  (mulf acc.1 (mulf (mulf (clear (mark0 e0 acc.1) s0) (clear (mark1 e0 e1 s0 acc.1) s1)) (mulf (clear (mark2 e0 e1 e2 s0 s1 acc.1) s2) (clear (mark3 e0 e1 e2 e3 s0 s1 s2 acc.1) s3))),
    addf acc.2 (addf (addf (put e0 (mark0 e0 acc.1)) (put e1 (mark1 e0 e1 s0 acc.1))) (addf (put e2 (mark2 e0 e1 e2 s0 s1 acc.1)) (put e3 (mark3 e0 e1 e2 e3 s0 s1 s2 acc.1)))))

/-- Row `q` of eight rows. -/
def row (q : ℕ) (h : S4x8x128.Slices ![0, q, 0] S4x1x128) (s8 : Vec F S4x8x128 .f32) : FVec F S4x128 .f32 :=
  shapeCast S4x128 (extractStridedSlice S4x1x128 ![0, q, 0] s8 h) shapeCasts_S4x1x128_S4x128

/-- The number of a group's candidate `q` in its block: `8 k + h + q`. -/
def lane (k : ℕ) (h q : BitVec 32) : BitVec 32 := Scalar.addi (Scalar.addi (Scalar.muli (0#32 + BitVec.ofNat 32 k * 1#32) 8#32) h) q

def half0 (v24 : IVec S1x128 32) (k : ℕ) (s8 : Vec F S4x8x128 .f32) (acc : FVec F S4x128 .f32 × FVec F S4x128 .f32) : FVec F S4x128 .f32 × FVec F S4x128 .f32 :=
  group (hot v24 (lane k 0#32 0#32)) (hot v24 (lane k 0#32 1#32)) (hot v24 (lane k 0#32 2#32)) (hot v24 (lane k 0#32 3#32))
    (row 0 slices_S4x8x128_o0_0_0_S4x1x128 s8) (row 1 slices_S4x8x128_o0_1_0_S4x1x128 s8) (row 2 slices_S4x8x128_o0_2_0_S4x1x128 s8) (row 3 slices_S4x8x128_o0_3_0_S4x1x128 s8) acc

def half1 (v24 : IVec S1x128 32) (k : ℕ) (s8 : Vec F S4x8x128 .f32) (acc : FVec F S4x128 .f32 × FVec F S4x128 .f32) : FVec F S4x128 .f32 × FVec F S4x128 .f32 :=
  group (hot v24 (lane k 4#32 0#32)) (hot v24 (lane k 4#32 1#32)) (hot v24 (lane k 4#32 2#32)) (hot v24 (lane k 4#32 3#32))
    (row 4 slices_S4x8x128_o0_4_0_S4x1x128 s8) (row 5 slices_S4x8x128_o0_5_0_S4x1x128 s8) (row 6 slices_S4x8x128_o0_6_0_S4x1x128 s8) (row 7 slices_S4x8x128_o0_7_0_S4x1x128 s8) acc

/-- A trip: two groups of four. -/
def trip (v24 : IVec S1x128 32) (k : ℕ) (s8 : Vec F S4x8x128 .f32) (acc : FVec F S4x128 .f32 × FVec F S4x128 .f32) : FVec F S4x128 .f32 × FVec F S4x128 .f32 :=
  half1 v24 k s8 (half0 v24 k s8 acc)

variable (c : Dev nD) (arg0 : Memref sig .tc .vmem S4x4x2048 .f32) (harg0 : arg0.IsWhole) (arg1 : Memref sig .tc .vmem S4x2048 .f32) (harg1 : arg1.IsWhole)
  (arg2 : Memref sig .tc .vmem S4x2048 .f32) (harg2 : arg2.IsWhole) (arg3 : Memref sig .tc .vmem S4x2048 .f32) (harg3 : arg3.IsWhole)
  (arg4 : Memref sig .tc .vmem S4x128x2048 .f32) (harg4 : arg4.IsWhole) (𝒱 : Variants) (bd : Option 𝒱.V) (v24 : IVec S1x128 32)
  (X : BufTy.Contents (Elt F) arg4.view.ty)

theorem rows_inb (k : Fin 16) : ∀ a, (![0, 8 * k.val, 0] : Fin 3 → ℕ) a + S4x8x128.size a ≤ S4x128x2048.size a := by
  revert k; decide +kernel

/-- Eight rows of the table, at trip `k`. -/
def rows (k : Fin 16) : Vec F S4x8x128 .f32 := View.readAt (Elt F) arg4.view (Rect.unit (s := S4x128x2048) ![0, 8 * k.val, 0] S4x8x128.size (rows_inb k)).toLoadRect X

theorem rows_eq {off : Fin 3 → ℕ} (inb : ∀ a, off a + S4x8x128.size a ≤ S4x128x2048.size a) (k : Fin 16) (h : off = ![0, 8 * k.val, 0]) :
    View.readAt (Elt F) arg4.view (Rect.unit (s := S4x128x2048) off S4x8x128.size inb).toLoadRect X = rows arg4 X k := by
  subst h; rfl

/-- The block's marks before trip `k`. -/
def iter (s8 : Fin 16 → Vec F S4x8x128 .f32) (init : FVec F S4x128 .f32 × FVec F S4x128 .f32) : ℕ → FVec F S4x128 .f32 × FVec F S4x128 .f32
  | 0 => init
  | k + 1 => if h : k < 16 then trip v24 k (s8 ⟨k, h⟩) (iter s8 init k) else iter s8 init k

theorem iter_of (s8 : Fin 16 → Vec F S4x8x128 .f32) (st : ℕ → FVec F S4x128 .f32 × FVec F S4x128 .f32)
    (hs : ∀ k : Fin 16, st (k.val + 1) = trip v24 k.val (s8 k) (st k.val)) : st 16 = iter v24 s8 (st 0) 16 := by
  have h : ∀ n ≤ 16, st n = iter v24 s8 (st 0) n := by
    intro n
    induction n with
    | zero => exact fun _ => rfl
    | succ n ih =>
      intro hn
      rw [hs ⟨n, hn⟩, ih (by omega), iter, dif_pos (show n < 16 from hn)]
  exact h 16 le_rfl

/-! ## The sixteen blocks' loops -/

theorem loop1 (v11 v14 v17 v23 v25 v28 v29 v30 v35 v37 v38) (init : FVec F S4x128 .f32 × FVec F S4x128 .f32) :
    st_k0_t1 (F := F) 𝒱 c bd arg0 harg0 arg1 harg1 arg2 harg2 arg3 harg3 arg4 harg4 v11 v14 v17 v23 v24 v25 v28 v29 v30 v35 v37 v38 X init (Scf.trips k0_t1_loop.lb k0_t1_loop.ub k0_t1_loop.st) = iter v24 (rows arg4 X) init 16 :=
  iter_of v24 (rows arg4 X) _ fun k => (st_k0_t1_succ ..).trans (by
    unfold tripR_k0_t1 trip_k0_t1; rw [← rows_eq arg4 X (k0_off1_inb k) k (k0_off1_eq k)]; rfl)

theorem loop2 (v5 v8 v11 v14 v17 v23 v88 v134 cst_35) (init : FVec F S4x128 .f32 × FVec F S4x128 .f32) :
    st_k0_t2 (F := F) 𝒱 c bd arg0 harg0 arg1 harg1 arg2 harg2 arg3 harg3 arg4 harg4 v5 v8 v11 v14 v17 v23 v24 v88 v134 cst_35 X init (Scf.trips k0_t2_loop.lb k0_t2_loop.ub k0_t2_loop.st) = iter v24 (rows arg4 X) init 16 :=
  iter_of v24 (rows arg4 X) _ fun k => (st_k0_t2_succ ..).trans (by
    unfold tripR_k0_t2 trip_k0_t2; rw [← rows_eq arg4 X (k0_off2_inb k) k (k0_off2_eq k)]; rfl)

theorem loop3 (v23 v158 v161 v162 v163 v166 v167 v168 v173 v176 v177) (init : FVec F S4x128 .f32 × FVec F S4x128 .f32) :
    st_k0_t3 (F := F) 𝒱 c bd arg0 harg0 arg1 harg1 arg2 harg2 arg3 harg3 arg4 harg4 v23 v24 v158 v161 v162 v163 v166 v167 v168 v173 v176 v177 X init (Scf.trips k0_t3_loop.lb k0_t3_loop.ub k0_t3_loop.st) = iter v24 (rows arg4 X) init 16 :=
  iter_of v24 (rows arg4 X) _ fun k => (st_k0_t3_succ ..).trans (by
    unfold tripR_k0_t3 trip_k0_t3; rw [← rows_eq arg4 X (k0_off3_inb k) k (k0_off3_eq k)]; rfl)

theorem loop4 (v5 v8 v11 v14 v17 v23 v228 v265 v273) (init : FVec F S4x128 .f32 × FVec F S4x128 .f32) :
    st_k0_t4 (F := F) 𝒱 c bd arg0 harg0 arg1 harg1 arg2 harg2 arg3 harg3 arg4 harg4 v5 v8 v11 v14 v17 v23 v24 v228 v265 v273 X init (Scf.trips k0_t4_loop.lb k0_t4_loop.ub k0_t4_loop.st) = iter v24 (rows arg4 X) init 16 :=
  iter_of v24 (rows arg4 X) _ fun k => (st_k0_t4_succ ..).trans (by
    unfold tripR_k0_t4 trip_k0_t4; rw [← rows_eq arg4 X (k0_off4_inb k) k (k0_off4_eq k)]; rfl)

theorem loop5 (v23 v298 v301 v302 v303 v306 v307 v308 v313 v314 v315) (init : FVec F S4x128 .f32 × FVec F S4x128 .f32) :
    st_k0_t5 (F := F) 𝒱 c bd arg0 harg0 arg1 harg1 arg2 harg2 arg3 harg3 arg4 harg4 v23 v24 v298 v301 v302 v303 v306 v307 v308 v313 v314 v315 X init (Scf.trips k0_t5_loop.lb k0_t5_loop.ub k0_t5_loop.st) = iter v24 (rows arg4 X) init 16 :=
  iter_of v24 (rows arg4 X) _ fun k => (st_k0_t5_succ ..).trans (by
    unfold tripR_k0_t5 trip_k0_t5; rw [← rows_eq arg4 X (k0_off5_inb k) k (k0_off5_eq k)]; rfl)

theorem loop6 (v5 v8 v11 v14 v17 v23 v368 v405 v411 cst_114) (init : FVec F S4x128 .f32 × FVec F S4x128 .f32) :
    st_k0_t6 (F := F) 𝒱 c bd arg0 harg0 arg1 harg1 arg2 harg2 arg3 harg3 arg4 harg4 v5 v8 v11 v14 v17 v23 v24 v368 v405 v411 cst_114 X init (Scf.trips k0_t6_loop.lb k0_t6_loop.ub k0_t6_loop.st) = iter v24 (rows arg4 X) init 16 :=
  iter_of v24 (rows arg4 X) _ fun k => (st_k0_t6_succ ..).trans (by
    unfold tripR_k0_t6 trip_k0_t6; rw [← rows_eq arg4 X (k0_off6_inb k) k (k0_off6_eq k)]; rfl)

theorem loop7 (v5 v8 v11 v14 v17 v438 v497 v498) (init : FVec F S4x128 .f32 × FVec F S4x128 .f32) :
    st_k0_t7 (F := F) 𝒱 c bd arg0 harg0 arg1 harg1 arg2 harg2 arg3 harg3 arg4 harg4 v5 v8 v11 v14 v17 v24 v438 v497 v498 0#32 X init (Scf.trips k0_t7_loop.lb k0_t7_loop.ub k0_t7_loop.st) = iter v24 (rows arg4 X) init 16 :=
  iter_of v24 (rows arg4 X) _ fun k => (st_k0_t7_succ ..).trans (by
    unfold tripR_k0_t7 trip_k0_t7; rw [← rows_eq arg4 X (k0_off7_inb k) k (k0_off7_eq k)]; rfl)

theorem loop8 (v5 v8 v11 v14 v17 v23 v508 v545 v550) (init : FVec F S4x128 .f32 × FVec F S4x128 .f32) :
    st_k0_t8 (F := F) 𝒱 c bd arg0 harg0 arg1 harg1 arg2 harg2 arg3 harg3 arg4 harg4 v5 v8 v11 v14 v17 v23 v24 v508 v545 v550 X init (Scf.trips k0_t8_loop.lb k0_t8_loop.ub k0_t8_loop.st) = iter v24 (rows arg4 X) init 16 :=
  iter_of v24 (rows arg4 X) _ fun k => (st_k0_t8_succ ..).trans (by
    unfold tripR_k0_t8 trip_k0_t8; rw [← rows_eq arg4 X (k0_off8_inb k) k (k0_off8_eq k)]; rfl)

theorem loop9 (v5 v8 v11 v14 v17 v578 v637 v638) (init : FVec F S4x128 .f32 × FVec F S4x128 .f32) :
    st_k0_t9 (F := F) 𝒱 c bd arg0 harg0 arg1 harg1 arg2 harg2 arg3 harg3 arg4 harg4 v5 v8 v11 v14 v17 v24 v578 v637 v638 0#32 X init (Scf.trips k0_t9_loop.lb k0_t9_loop.ub k0_t9_loop.st) = iter v24 (rows arg4 X) init 16 :=
  iter_of v24 (rows arg4 X) _ fun k => (st_k0_t9_succ ..).trans (by
    unfold tripR_k0_t9 trip_k0_t9; rw [← rows_eq arg4 X (k0_off9_inb k) k (k0_off9_eq k)]; rfl)

theorem loop10 (v5 v8 v11 v14 v17 v23 v648 v685 v687 v688) (init : FVec F S4x128 .f32 × FVec F S4x128 .f32) :
    st_k0_t10 (F := F) 𝒱 c bd arg0 harg0 arg1 harg1 arg2 harg2 arg3 harg3 arg4 harg4 v5 v8 v11 v14 v17 v23 v24 v648 v685 v687 v688 X init (Scf.trips k0_t10_loop.lb k0_t10_loop.ub k0_t10_loop.st) = iter v24 (rows arg4 X) init 16 :=
  iter_of v24 (rows arg4 X) _ fun k => (st_k0_t10_succ ..).trans (by
    unfold tripR_k0_t10 trip_k0_t10; rw [← rows_eq arg4 X (k0_off10_inb k) k (k0_off10_eq k)]; rfl)

theorem loop11 (v5 v8 v11 v14 v17 v718 v777 cst_222) (init : FVec F S4x128 .f32 × FVec F S4x128 .f32) :
    st_k0_t11 (F := F) 𝒱 c bd arg0 harg0 arg1 harg1 arg2 harg2 arg3 harg3 arg4 harg4 v5 v8 v11 v14 v17 v24 v718 v777 cst_222 X init (Scf.trips k0_t11_loop.lb k0_t11_loop.ub k0_t11_loop.st) = iter v24 (rows arg4 X) init 16 :=
  iter_of v24 (rows arg4 X) _ fun k => (st_k0_t11_succ ..).trans (by
    unfold tripR_k0_t11 trip_k0_t11; rw [← rows_eq arg4 X (k0_off11_inb k) k (k0_off11_eq k)]; rfl)

theorem loop12 (v5 v8 v11 v14 v17 v23 v788 v798 v825 v826) (init : FVec F S4x128 .f32 × FVec F S4x128 .f32) :
    st_k0_t12 (F := F) 𝒱 c bd arg0 harg0 arg1 harg1 arg2 harg2 arg3 harg3 arg4 harg4 v5 v8 v11 v14 v17 v23 v24 v788 v798 v825 v826 X init (Scf.trips k0_t12_loop.lb k0_t12_loop.ub k0_t12_loop.st) = iter v24 (rows arg4 X) init 16 :=
  iter_of v24 (rows arg4 X) _ fun k => (st_k0_t12_succ ..).trans (by
    unfold tripR_k0_t12 trip_k0_t12; rw [← rows_eq arg4 X (k0_off12_inb k) k (k0_off12_eq k)]; rfl)

theorem loop13 (v5 v8 v11 v14 v17 v858 v913 v916) (init : FVec F S4x128 .f32 × FVec F S4x128 .f32) :
    st_k0_t13 (F := F) 𝒱 c bd arg0 harg0 arg1 harg1 arg2 harg2 arg3 harg3 arg4 harg4 v5 v8 v11 v14 v17 v24 v858 v913 v916 X init (Scf.trips k0_t13_loop.lb k0_t13_loop.ub k0_t13_loop.st) = iter v24 (rows arg4 X) init 16 :=
  iter_of v24 (rows arg4 X) _ fun k => (st_k0_t13_succ ..).trans (by
    unfold tripR_k0_t13 trip_k0_t13; rw [← rows_eq arg4 X (k0_off13_inb k) k (k0_off13_eq k)]; rfl)

theorem loop14 (v5 v8 v11 v14 v17 v23 v928 v933 v938 v961 v964) (init : FVec F S4x128 .f32 × FVec F S4x128 .f32) :
    st_k0_t14 (F := F) 𝒱 c bd arg0 harg0 arg1 harg1 arg2 harg2 arg3 harg3 arg4 harg4 v5 v8 v11 v14 v17 v23 v24 v928 v933 v938 v961 v964 X init (Scf.trips k0_t14_loop.lb k0_t14_loop.ub k0_t14_loop.st) = iter v24 (rows arg4 X) init 16 :=
  iter_of v24 (rows arg4 X) _ fun k => (st_k0_t14_succ ..).trans (by
    unfold tripR_k0_t14 trip_k0_t14; rw [← rows_eq arg4 X (k0_off14_inb k) k (k0_off14_eq k)]; rfl)

theorem loop15 (v5 v8 v11 v14 v17 v998 v1053 v1054 cst_301) (init : FVec F S4x128 .f32 × FVec F S4x128 .f32) :
    st_k0_t15 (F := F) 𝒱 c bd arg0 harg0 arg1 harg1 arg2 harg2 arg3 harg3 arg4 harg4 v5 v8 v11 v14 v17 v24 v998 v1053 v1054 cst_301 X init (Scf.trips k0_t15_loop.lb k0_t15_loop.ub k0_t15_loop.st) = iter v24 (rows arg4 X) init 16 :=
  iter_of v24 (rows arg4 X) _ fun k => (st_k0_t15_succ ..).trans (by
    unfold tripR_k0_t15 trip_k0_t15; rw [← rows_eq arg4 X (k0_off15_inb k) k (k0_off15_eq k)]; rfl)

theorem loop16 (init : FVec F S4x128 .f32 × FVec F S4x128 .f32) :
    st_k0_t16 (F := F) 𝒱 c bd arg0 harg0 arg1 harg1 arg2 harg2 arg3 harg3 arg4 harg4 v24 X init (Scf.trips k0_t16_loop.lb k0_t16_loop.ub k0_t16_loop.st) = iter v24 (rows arg4 X) init 16 :=
  iter_of v24 (rows arg4 X) _ fun k => (st_k0_t16_succ ..).trans (by
    unfold tripR_k0_t16 trip_k0_t16; rw [← rows_eq arg4 X (k0_off16_inb k) k (k0_off16_eq k)]; rfl)

end Cert.Proof.Keep

end
-- ==== Proof.KeepGreedy.lean ====
/-
  Greedy suppression over candidates in order, and a block's loop at the extended reals.

  `Kept valid near n`: candidate `n` is valid and no earlier kept candidate is near it. A block's marks are zeros and
  ones: `Free` is what a candidate's free mark says before step `i` of the block that starts at `lo`, `Mark` what its
  kept mark says. The trips carry both through.
-/
module

public import proofs.«01_k».proof.Proof.KeepTrip
public import Idealize.ShloMosaic.PureOps.Ideal
public import Idealize.ShloMosaic.PureOps.Ideal.Laws
public import Idealize.ShloMosaic.Lib.IdealHost
public import Idealize.ShloMosaic.Lib.ValueIdxCore
public import Idealize.ShloMosaic.Lib.ValueIdxCoords
public import Idealize.ShloMosaic.Lib.Pipeline.Value

@[expose] public section

noncomputable section

namespace Cert.Proof.Keep

open Idealize.ShloMosaic Cert.KeepIdeal Cert.KeepIdeal.Gen Classical

/-! ## Marks -/

/-- One where `p` holds, else zero. -/
def ind (p : Prop) : EReal := if p then 1 else 0

theorem ind_congr {p q : Prop} (h : p ↔ q) : ind p = ind q := by rw [propext h]
theorem ind_mul (p q : Prop) : ind p * ind q = ind (p ∧ q) := by
  unfold ind; by_cases hp : p <;> by_cases hq : q <;> simp [hp, hq]
theorem one_sub_ind (p : Prop) : (1 : EReal) - ind p = ind ¬p := by
  unfold ind; by_cases hp : p
  · rw [if_pos hp, if_neg (not_not.2 hp)]; exact EReal.sub_self (by decide) (by decide)
  · rw [if_neg hp, if_pos hp]; exact sub_zero _
theorem ind_add (p q : Prop) (h : ¬(p ∧ q)) : ind p + ind q = ind (p ∨ q) := by
  unfold ind; by_cases hp : p <;> by_cases hq : q <;> simp [hp, hq] at h ⊢
theorem max_ind (p q : Prop) : max (ind p) (ind q) = ind (p ∨ q) := by
  unfold ind; by_cases hp : p <;> by_cases hq : q <;> simp [hp, hq]
theorem ind_true {p : Prop} (h : p) : ind p = 1 := if_pos h
theorem ind_false {p : Prop} (h : ¬p) : ind p = 0 := if_neg h

theorem fold_max_ind {n : ℕ} (hn : 0 < n) (P : Fin n → Prop) : (Finset.univ : Finset (Fin n)).fold max ⊥ (fun k => ind (P k)) = ind (∃ k, P k) := by
  apply le_antisymm
  · refine Finset.fold_max_le _ |>.2 ⟨bot_le, fun k _ => ?_⟩
    unfold ind
    by_cases h : P k
    · rw [if_pos h, if_pos ⟨k, h⟩]
    · rw [if_neg h]; split_ifs
      · exact zero_le_one
      · exact le_rfl
  · refine (Finset.le_fold_max _).2 (Or.inr ?_)
    by_cases h : ∃ k, P k
    · obtain ⟨k, hk⟩ := h
      exact ⟨k, Finset.mem_univ _, by rw [ind_true ⟨k, hk⟩, ind_true hk]⟩
    · exact ⟨⟨0, hn⟩, Finset.mem_univ _, by rw [ind_false h, ind_false fun hk => h ⟨_, hk⟩]⟩

theorem one_eq : (one : Ideal .f32) = 1 := Ideal.ofBits_one_f32
theorem zero_eq : (zero : Ideal .f32) = 0 := by
  show Ideal.ofBits .f32 0x00000000#32 = 0
  simp
theorem bot_eq : (FloatOps.ofBits .f32 0xFF800000#32 : Ideal .f32) = (⊥ : EReal) := by
  show Ideal.ofBits .f32 0xFF800000#32 = ⊥
  simp [Ideal.ofBits, Ideal.ieee]

/-! ## The greedy choice -/

/-- Candidate `n` is kept: it is valid and no earlier kept candidate is near it. -/
def Kept (valid : ℕ → Prop) (near : ℕ → ℕ → Prop) (n : ℕ) : Prop := valid n ∧ ∀ j, j < n → Kept valid near j → ¬near j n

variable (valid : ℕ → Prop) (near : ℕ → ℕ → Prop)

theorem kept_iff (n : ℕ) : Kept valid near n ↔ valid n ∧ ∀ j, j < n → Kept valid near j → ¬near j n := by
  conv_lhs => rw [Kept]

/-- Candidate `n` is valid and no kept candidate below `i` is near it. -/
def Free (i n : ℕ) : Prop := valid n ∧ ∀ j, j < i → Kept valid near j → ¬near j n

theorem free_self (n : ℕ) : Free valid near n n ↔ Kept valid near n := (kept_iff valid near n).symm

theorem free_succ (i n : ℕ) : Free valid near (i + 1) n ↔ Free valid near i n ∧ ¬(Kept valid near i ∧ near i n) := by
  unfold Free
  constructor
  · rintro ⟨hv, h⟩
    exact ⟨⟨hv, fun j hj => h j (by omega)⟩, fun ⟨hk, hn⟩ => h i (by omega) hk hn⟩
  · rintro ⟨⟨hv, h⟩, h'⟩
    refine ⟨hv, fun j hj hk hn => ?_⟩
    rcases Nat.lt_succ_iff_lt_or_eq.1 hj with h1 | h1
    · exact h j h1 hk hn
    · subst h1; exact h' ⟨hk, hn⟩

/-! ## A group of four -/

theorem mul_at {s : Shape} (x y : FVec Ideal s .f32) (j : s.Idx) {p q : Prop} (hx : x j = ind p) (hy : y j = ind q) : mulf x y j = ind (p ∧ q) := by
  show FloatOps.mulf (x j) (y j) = _
  rw [hx, hy]
  exact ind_mul p q

theorem col_at (r : FVec Ideal S4x1 .f32) (c : Fin 4) (l : Fin 128) : broadcastTo S4x128 r broadcasts_S4x1_S4x128 (ValueIdx.ix2 c l) = r (ValueIdx.ix2 c 0) :=
  broadcastTo_apply r broadcasts_S4x1_S4x128 _ (ValueIdx.ix2 c 0) (fun a => by match a with | ⟨0, _⟩ => rfl | ⟨1, _⟩ => rfl)

theorem row_at (e : FVec Ideal S1x128 .f32) (c : Fin 4) (l : Fin 128) : broadcastTo S4x128 e broadcasts_S1x128_S4x128 (ValueIdx.ix2 c l) = e (ValueIdx.ix2 0 l) :=
  broadcastTo_apply e broadcasts_S1x128_S4x128 _ (ValueIdx.ix2 0 l) (fun a => by match a with | ⟨0, _⟩ => rfl | ⟨1, _⟩ => rfl)

theorem pick_at (e : FVec Ideal S1x128 .f32) (x : FVec Ideal S4x128 .f32) (c : Fin 4) (i : ℕ) (hi : i < 128) (X : ℕ → Prop)
    (he : ∀ l : Fin 128, e (ValueIdx.ix2 0 l) = ind (l.val = i)) (hx : ∀ l : Fin 128, x (ValueIdx.ix2 c l) = ind (X l.val)) :
    pick e x (ValueIdx.ix2 c 0) = ind (X i) := by
  unfold pick
  rw [shapeCast_apply _ _ _ (ValueIdx.ix1 c) (by
    rw [Shape.rowMajor_val_one, Shape.rowMajor_val_two]
    show c.val = c.val * 1 + 0
    omega)]
  refine (Ideal.multiReduction_maximumf_single _ _ _ _ _ _).trans ?_
  rw [bot_eq]
  have hf : (mulf (broadcastTo S4x128 e broadcasts_S1x128_S4x128) x ∘ reduces_S4x128_S4.lift (ValueIdx.ix1 c)) = fun l : Fin 128 => ind (l.val = i ∧ X l.val) := by
    funext l
    have hl : reduces_S4x128_S4.lift (ValueIdx.ix1 c) l = (ValueIdx.ix2 c (l : Fin 128) : S4x128.Idx) := by
      funext a; match a with | ⟨0, _⟩ => rfl | ⟨1, _⟩ => rfl
    exact (congrArg (mulf (broadcastTo S4x128 e broadcasts_S1x128_S4x128) x) hl).trans (mul_at _ _ _ ((row_at e c l).trans (he l)) (hx l))
  rw [hf]
  refine (fold_max_ind (by decide) _).trans (ind_congr ⟨?_, fun h => ⟨⟨i, hi⟩, rfl, h⟩⟩)
  rintro ⟨l, h1, h2⟩
  exact h1 ▸ h2

theorem less_at (r s : FVec Ideal S4x1 .f32) (j : S4x1.Idx) {p q : Prop} (hr : r j = ind p) (hs : s j = ind q) : less r s j = ind ¬(p ∧ q) := by
  show FloatOps.subf (one : Ideal .f32) (FloatOps.mulf (r j) (s j)) = _
  rw [hr, hs, one_eq]
  show (1 : EReal) - ind p * ind q = _
  rw [ind_mul, one_sub_ind]

theorem clear_at (r : FVec Ideal S4x1 .f32) (s : FVec Ideal S4x128 .f32) (c : Fin 4) (l : Fin 128) {p q : Prop} (hr : r (ValueIdx.ix2 c 0) = ind p)
    (hs : s (ValueIdx.ix2 c l) = ind q) : clear r s (ValueIdx.ix2 c l) = ind ¬(p ∧ q) := by
  show FloatOps.subf (one : Ideal .f32) (FloatOps.mulf (broadcastTo S4x128 r broadcasts_S4x1_S4x128 (ValueIdx.ix2 c l)) (s (ValueIdx.ix2 c l))) = _
  rw [col_at, hr, hs, one_eq]
  show (1 : EReal) - ind p * ind q = _
  rw [ind_mul, one_sub_ind]

theorem put_at (e : FVec Ideal S1x128 .f32) (r : FVec Ideal S4x1 .f32) (c : Fin 4) (l : Fin 128) {p q : Prop} (he : e (ValueIdx.ix2 0 l) = ind p)
    (hr : r (ValueIdx.ix2 c 0) = ind q) : put e r (ValueIdx.ix2 c l) = ind (p ∧ q) :=
  mul_at _ _ _ ((row_at e c l).trans he) ((col_at r c l).trans hr)

/-- What a block's marks say in image `c` before step `i` of the block that starts at candidate `lo`. -/
def Says (lo i : ℕ) (c : Fin 4) (acc : FVec Ideal S4x128 .f32 × FVec Ideal S4x128 .f32) : Prop :=
  (∀ l : Fin 128, acc.1 (ValueIdx.ix2 c l) = ind (Free valid near (lo + i) (lo + l.val)))
    ∧ ∀ l : Fin 128, acc.2 (ValueIdx.ix2 c l) = ind (l.val < i ∧ Kept valid near (lo + l.val))

theorem group_says (lo i : ℕ) (hi : i + 3 < 128) (c : Fin 4) (e0 e1 e2 e3 : FVec Ideal S1x128 .f32) (s0 s1 s2 s3 : FVec Ideal S4x128 .f32)
    (acc : FVec Ideal S4x128 .f32 × FVec Ideal S4x128 .f32)
    (he0 : ∀ l : Fin 128, e0 (ValueIdx.ix2 0 l) = ind (l.val = i)) (he1 : ∀ l : Fin 128, e1 (ValueIdx.ix2 0 l) = ind (l.val = i + 1))
    (he2 : ∀ l : Fin 128, e2 (ValueIdx.ix2 0 l) = ind (l.val = i + 2)) (he3 : ∀ l : Fin 128, e3 (ValueIdx.ix2 0 l) = ind (l.val = i + 3))
    (hs0 : ∀ l : Fin 128, s0 (ValueIdx.ix2 c l) = ind (near (lo + i) (lo + l.val))) (hs1 : ∀ l : Fin 128, s1 (ValueIdx.ix2 c l) = ind (near (lo + i + 1) (lo + l.val)))
    (hs2 : ∀ l : Fin 128, s2 (ValueIdx.ix2 c l) = ind (near (lo + i + 2) (lo + l.val))) (hs3 : ∀ l : Fin 128, s3 (ValueIdx.ix2 c l) = ind (near (lo + i + 3) (lo + l.val)))
    (h : Says valid near lo i c acc) : Says valid near lo (i + 4) c (group e0 e1 e2 e3 s0 s1 s2 s3 acc) := by
  obtain ⟨hf, hk⟩ := h
  have m0 : mark0 e0 acc.1 (ValueIdx.ix2 c 0) = ind (Kept valid near (lo + i)) :=
    (pick_at e0 acc.1 c i (by omega) (fun l => Free valid near (lo + i) (lo + l)) he0 hf).trans (ind_congr (free_self valid near _))
  have m1 : mark1 e0 e1 s0 acc.1 (ValueIdx.ix2 c 0) = ind (Kept valid near (lo + i + 1)) :=
    (mul_at _ _ _ (pick_at e1 acc.1 c (i + 1) (by omega) (fun l => Free valid near (lo + i) (lo + l)) he1 hf)
      (less_at _ _ _ m0 (pick_at e1 s0 c (i + 1) (by omega) (fun l => near (lo + i) (lo + l)) he1 hs0))).trans
      (ind_congr ((free_succ valid near _ _).symm.trans (free_self valid near _)))
  have m2 : mark2 e0 e1 e2 s0 s1 acc.1 (ValueIdx.ix2 c 0) = ind (Kept valid near (lo + i + 2)) :=
    (mul_at _ _ _ (mul_at _ _ _ (pick_at e2 acc.1 c (i + 2) (by omega) (fun l => Free valid near (lo + i) (lo + l)) he2 hf)
      (less_at _ _ _ m0 (pick_at e2 s0 c (i + 2) (by omega) (fun l => near (lo + i) (lo + l)) he2 hs0)))
      (less_at _ _ _ m1 (pick_at e2 s1 c (i + 2) (by omega) (fun l => near (lo + i + 1) (lo + l)) he2 hs1))).trans
      (ind_congr (by
        rw [← free_self valid near (lo + i + 2), show lo + (i + 2) = lo + i + 2 from rfl, free_succ valid near (lo + i + 1), free_succ valid near (lo + i)]))
  have m3 : mark3 e0 e1 e2 e3 s0 s1 s2 acc.1 (ValueIdx.ix2 c 0) = ind (Kept valid near (lo + i + 3)) :=
    (mul_at _ _ _ (mul_at _ _ _ (mul_at _ _ _ (pick_at e3 acc.1 c (i + 3) (by omega) (fun l => Free valid near (lo + i) (lo + l)) he3 hf)
      (less_at _ _ _ m0 (pick_at e3 s0 c (i + 3) (by omega) (fun l => near (lo + i) (lo + l)) he3 hs0)))
      (less_at _ _ _ m1 (pick_at e3 s1 c (i + 3) (by omega) (fun l => near (lo + i + 1) (lo + l)) he3 hs1)))
      (less_at _ _ _ m2 (pick_at e3 s2 c (i + 3) (by omega) (fun l => near (lo + i + 2) (lo + l)) he3 hs2))).trans
      (ind_congr (by
        rw [← free_self valid near (lo + i + 3), show lo + (i + 3) = lo + i + 3 from rfl, free_succ valid near (lo + i + 2), free_succ valid near (lo + i + 1),
          free_succ valid near (lo + i)]))
  refine ⟨fun l => ?_, fun l => ?_⟩
  · refine (mul_at _ _ _ (hf l) (mul_at _ _ _ (mul_at _ _ _ (clear_at _ _ c l m0 (hs0 l)) (clear_at _ _ c l m1 (hs1 l)))
      (mul_at _ _ _ (clear_at _ _ c l m2 (hs2 l)) (clear_at _ _ c l m3 (hs3 l))))).trans (ind_congr ?_)
    rw [show lo + (i + 4) = lo + i + 3 + 1 from rfl, free_succ valid near (lo + i + 3), free_succ valid near (lo + i + 2), free_succ valid near (lo + i + 1),
      free_succ valid near (lo + i)]
    tauto
  · have p0 := put_at e0 _ c l (he0 l) m0
    have p1 := put_at e1 _ c l (he1 l) m1
    have p2 := put_at e2 _ c l (he2 l) m2
    have p3 := put_at e3 _ c l (he3 l) m3
    show acc.2 (ValueIdx.ix2 c l) + ((put e0 (mark0 e0 acc.1) (ValueIdx.ix2 c l) + put e1 (mark1 e0 e1 s0 acc.1) (ValueIdx.ix2 c l))
      + (put e2 (mark2 e0 e1 e2 s0 s1 acc.1) (ValueIdx.ix2 c l) + put e3 (mark3 e0 e1 e2 e3 s0 s1 s2 acc.1) (ValueIdx.ix2 c l))) = _
    rw [hk, p0, p1, p2, p3, ind_add _ _ (by omega), ind_add _ _ (by omega), ind_add _ _ (by omega), ind_add _ _ (by omega)]
    refine ind_congr ⟨?_, ?_⟩
    · rintro (⟨h1, h2⟩ | (⟨h1, h2⟩ | ⟨h1, h2⟩) | (⟨h1, h2⟩ | ⟨h1, h2⟩))
      · exact ⟨by omega, h2⟩
      · exact ⟨by omega, by rw [h1]; exact h2⟩
      · exact ⟨by omega, by rw [h1]; exact h2⟩
      · exact ⟨by omega, by rw [h1]; exact h2⟩
      · exact ⟨by omega, by rw [h1]; exact h2⟩
    · rintro ⟨h1, h2⟩
      rcases (by omega : l.val < i ∨ l.val = i ∨ l.val = i + 1 ∨ l.val = i + 2 ∨ l.val = i + 3) with h | h | h | h | h
      · exact .inl ⟨h, h2⟩
      · exact .inr (.inl (.inl ⟨h, by rw [h] at h2; exact h2⟩))
      · exact .inr (.inl (.inr ⟨h, by rw [h] at h2; exact h2⟩))
      · exact .inr (.inr (.inl ⟨h, by rw [h] at h2; exact h2⟩))
      · exact .inr (.inr (.inr ⟨h, by rw [h] at h2; exact h2⟩))

/-! ## A trip and a block -/

theorem lane_toNat : ∀ (k : Fin 16) (h : Fin 2) (q : Fin 4), lane k.val (BitVec.ofNat 32 (4 * h.val)) (BitVec.ofNat 32 q.val) = BitVec.ofNat 32 (8 * k.val + 4 * h.val + q.val) := by
  decide +kernel

theorem hot_at (v24 : IVec S1x128 32) (hv : ∀ l : Fin 128, v24 (ValueIdx.ix2 0 l) = BitVec.ofNat 32 l.val) (i : ℕ) (hi : i < 128) (l : Fin 128) :
    hot (F := Ideal) v24 (BitVec.ofNat 32 i) (ValueIdx.ix2 0 l) = ind (l.val = i) := by
  have h : hot (F := Ideal) v24 (BitVec.ofNat 32 i) (ValueIdx.ix2 0 l) = Scalar.select (IntOp.cmpi .eq (v24 (ValueIdx.ix2 0 l)) (BitVec.ofNat 32 i)) one zero := rfl
  rw [h, hv, one_eq, zero_eq]
  by_cases e : l.val = i
  · rw [e, ind_true rfl]
    simp [Scalar.select, IntOp.cmpi]
  · rw [ind_false e]
    have : BitVec.ofNat 32 l.val ≠ BitVec.ofNat 32 i := fun h' => e (by
      have := congrArg BitVec.toNat h'
      simp only [BitVec.toNat_ofNat] at this
      omega)
    simp [Scalar.select, IntOp.cmpi, beq_eq_false_iff_ne.2 this]

theorem cut_at (q : ℕ) (hq : q < 8) (h : S4x8x128.Slices ![0, q, 0] S4x1x128) (s8 : Vec Ideal S4x8x128 .f32) (c : Fin 4) (l : Fin 128) :
    row q h s8 (ValueIdx.ix2 c l) = s8 (ValueIdx.ix3 c ⟨q, hq⟩ l) := by
  unfold row
  refine (shapeCast_apply _ _ _ (ValueIdx.ix3 c (0 : Fin 1) l) (by
    rw [Shape.rowMajor_val_two, Shape.rowMajor_val_three]
    show (c.val * 1 + 0) * 128 + l.val = c.val * 128 + l.val
    omega)).trans ?_
  exact extractStridedSlice_apply _ _ h _ _ (fun a => by
    match a with
    | ⟨0, _⟩ => exact (Nat.zero_add _).symm
    | ⟨1, _⟩ => rfl
    | ⟨2, _⟩ => exact (Nat.zero_add _).symm)

theorem trip_says (v24 : IVec S1x128 32) (hv : ∀ l : Fin 128, v24 (ValueIdx.ix2 0 l) = BitVec.ofNat 32 l.val) (lo : ℕ) (k : Fin 16) (c : Fin 4) (s8 : Vec Ideal S4x8x128 .f32)
    (hs : ∀ (q : Fin 8) (l : Fin 128), s8 (ValueIdx.ix3 c q l) = ind (near (lo + 8 * k.val + q.val) (lo + l.val)))
    (acc : FVec Ideal S4x128 .f32 × FVec Ideal S4x128 .f32) (h : Says valid near lo (8 * k.val) c acc) :
    Says valid near lo (8 * (k.val + 1)) c (trip v24 k.val s8 acc) := by
  have ha : ∀ (h : Fin 2) (q : Fin 4) (l : Fin 128),
      hot (F := Ideal) v24 (lane k.val (BitVec.ofNat 32 (4 * h.val)) (BitVec.ofNat 32 q.val)) (ValueIdx.ix2 0 l) = ind (l.val = 8 * k.val + 4 * h.val + q.val) :=
    fun h q l => by rw [lane_toNat]; exact hot_at v24 hv _ (by omega) l
  have hr : ∀ (q : ℕ) (hq : q < 8) (h : S4x8x128.Slices ![0, q, 0] S4x1x128) (l : Fin 128), row q h s8 (ValueIdx.ix2 c l) = ind (near (lo + 8 * k.val + q) (lo + l.val)) :=
    fun q hq h l => (cut_at q hq h s8 c l).trans (hs ⟨q, hq⟩ l)
  have h0 : Says valid near lo (8 * k.val + 4) c (half0 v24 k.val s8 acc) :=
    group_says valid near lo (8 * k.val) (by omega) c _ _ _ _ _ _ _ _ acc (ha 0 0) (ha 0 1) (ha 0 2) (ha 0 3)
      (hr 0 (by omega) _) (hr 1 (by omega) _) (hr 2 (by omega) _) (hr 3 (by omega) _) h
  exact group_says valid near lo (8 * k.val + 4) (by omega) c _ _ _ _ _ _ _ _ _ (ha 1 0) (ha 1 1) (ha 1 2) (ha 1 3)
      (hr 4 (by omega) _) (hr 5 (by omega) _) (hr 6 (by omega) _) (hr 7 (by omega) _) h0

/-- A block: its kept marks say which of its candidates are kept. -/
theorem block_says (v24 : IVec S1x128 32) (hv : ∀ l : Fin 128, v24 (ValueIdx.ix2 0 l) = BitVec.ofNat 32 l.val) (lo : ℕ) (c : Fin 4) (s8 : Fin 16 → Vec Ideal S4x8x128 .f32)
    (hs : ∀ (k : Fin 16) (q : Fin 8) (l : Fin 128), s8 k (ValueIdx.ix3 c q l) = ind (near (lo + 8 * k.val + q.val) (lo + l.val)))
    (init : FVec Ideal S4x128 .f32 × FVec Ideal S4x128 .f32) (h : Says valid near lo 0 c init) (l : Fin 128) :
    (iter v24 s8 init 16).2 (ValueIdx.ix2 c l) = ind (Kept valid near (lo + l.val)) := by
  have h' : ∀ n ≤ 16, Says valid near lo (8 * n) c (iter v24 s8 init n) := by
    intro n
    induction n with
    | zero => exact fun _ => h
    | succ n ih =>
      intro hn
      rw [iter, dif_pos (show n < 16 from hn)]
      exact trip_says valid near v24 hv lo ⟨n, hn⟩ c _ (hs ⟨n, hn⟩) _ (ih (by omega))
  exact ((h' 16 le_rfl).2 l).trans (ind_congr ⟨fun h => h.2, fun h => ⟨by omega, h⟩⟩)

end Cert.Proof.Keep

end
-- ==== Proof.KeepBlock.lean ====
/-
  One block of the suppression: the table of near candidates, the free marks it starts from, and the suppressed marks it
  leaves, for a block of 128 candidates from `lo` and the `W` candidates from `lo` on.
-/
module

public import proofs.«01_k».proof.Proof.KeepGreedy
public import Idealize.ShloMosaic.Lib.WritesUnit
public import Idealize.ShloMosaic.Lib.VecWindow

@[expose] public section

noncomputable section

namespace Cert.Proof.Keep

open Idealize.ShloMosaic Cert.KeepIdeal Cert.KeepIdeal.Gen Classical

abbrev W2 (W : ℕ) : Shape := ⟨2, ![4, W]⟩
abbrev W3 (W : ℕ) : Shape := ⟨3, ![4, 128, W]⟩
abbrev W13 (W : ℕ) : Shape := ⟨3, ![4, 1, W]⟩

section AnyFloat

variable {F : FTy → Type} [FloatOps F]

/-- The overlap of two boxes, over their union. -/
def ratio (ax1 ay1 ax2 ay2 aa bx1 by1 bx2 by2 ba : F .f32) : F .f32 :=
  FloatOps.divf
    (FloatOps.mulf (FloatOps.maximumf zero (FloatOps.subf (FloatOps.minimumf ax2 bx2) (FloatOps.maximumf ax1 bx1)))
      (FloatOps.maximumf zero (FloatOps.subf (FloatOps.minimumf ay2 by2) (FloatOps.maximumf ay1 by1))))
    (FloatOps.addf (FloatOps.subf (FloatOps.addf aa ba)
      (FloatOps.mulf (FloatOps.maximumf zero (FloatOps.subf (FloatOps.minimumf ax2 bx2) (FloatOps.maximumf ax1 bx1)))
        (FloatOps.maximumf zero (FloatOps.subf (FloatOps.minimumf ay2 by2) (FloatOps.maximumf ay1 by1)))))
      (Scalar.ofBits .f32 0x3089705F#32))

/-- Whether two boxes are near. -/
def nearBit (ax1 ay1 ax2 ay2 aa bx1 by1 bx2 by2 ba : F .f32) : BitVec 1 :=
  FloatOps.cmpf .ogt (ratio ax1 ay1 ax2 ay2 aa bx1 by1 bx2 by2 ba) (Scalar.ofBits .f32 0x3EE66666#32)

variable {W : ℕ} (b1 : S4x128x1.Broadcasts (W3 W)) (c2 : (W2 W).ShapeCasts (W13 W)) (b2 : (W13 W).Broadcasts (W3 W)) (cc : (W3 W).ShapeCasts (W3 W))

/-- A block's own candidates down the rows, and the candidates from its start on along the columns. -/
def down (a : FVec F S4x128 .f32) : FVec F (W3 W) .f32 := broadcastTo (W3 W) (shapeCast S4x128x1 a shapeCasts_S4x128_S4x128x1) b1
def along (t : FVec F (W2 W) .f32) : FVec F (W3 W) .f32 := broadcastTo (W3 W) (shapeCast (W13 W) t c2) b2

theorem down_at (a : FVec F S4x128 .f32) (c : Fin 4) (i : Fin 128) (t : Fin W) : down b1 a (ValueIdx.ix3 c i t) = a (ValueIdx.ix2 c i) := by
  unfold down
  refine (broadcastTo_apply _ b1 _ (ValueIdx.ix3 c i (0 : Fin 1)) fun a => ?_).trans (shapeCast_apply _ _ _ (ValueIdx.ix2 c i) ?_)
  · match a with
    | ⟨0, _⟩ => rfl
    | ⟨1, _⟩ => rfl
    | ⟨2, _⟩ => rfl
  · rw [Shape.rowMajor_val_two, Shape.rowMajor_val_three]
    show c.val * 128 + i.val = (c.val * 128 + i.val) * 1 + 0
    omega

theorem along_at (x : FVec F (W2 W) .f32) (c : Fin 4) (i : Fin 128) (t : Fin W) : along c2 b2 x (ValueIdx.ix3 c i t) = x (ValueIdx.ix2 c t) := by
  unfold along
  refine (broadcastTo_apply _ b2 _ (ValueIdx.ix3 c (0 : Fin 1) t) fun a => ?_).trans (shapeCast_apply _ _ _ (ValueIdx.ix2 c t) ?_)
  · match a with
    | ⟨0, _⟩ => rfl
    | ⟨1, _⟩ => rfl
    | ⟨2, _⟩ =>
      show t.val = if W = 1 then 0 else t.val
      split
      · have := t.isLt; omega
      · rfl
  · rw [Shape.rowMajor_val_two, Shape.rowMajor_val_three]
    show c.val * W + t.val = (c.val * 1 + 0) * W + t.val
    rw [Nat.mul_one, Nat.add_zero]

/-- Two boxes' overlap, at every row and column. -/
def both (a1 a2 a3 a4 : FVec F S4x128 .f32) (t1 t2 t3 t4 : FVec F (W2 W) .f32) : FVec F (W3 W) .f32 :=
  mulf (maximumf (broadcast (W3 W) zero) (subf (minimumf (down b1 a3) (along c2 b2 t3)) (maximumf (down b1 a1) (along c2 b2 t1))))
    (maximumf (broadcast (W3 W) zero) (subf (minimumf (down b1 a4) (along c2 b2 t4)) (maximumf (down b1 a2) (along c2 b2 t2))))

/-- The block's table: one where two candidates are near. -/
def table (a1 a2 a3 a4 a5 : FVec F S4x128 .f32) (t1 t2 t3 t4 t5 : FVec F (W2 W) .f32) : FVec F (W3 W) .f32 :=
  shapeCast (W3 W) (select (cmpf .ogt (divf (both b1 c2 b2 a1 a2 a3 a4 t1 t2 t3 t4)
      (addf (subf (addf (down b1 a5) (along c2 b2 t5)) (both b1 c2 b2 a1 a2 a3 a4 t1 t2 t3 t4)) (broadcast (W3 W) (Scalar.ofBits .f32 0x3089705F#32))))
    (broadcast (W3 W) (Scalar.ofBits .f32 0x3EE66666#32))) (broadcast (W3 W) one) (broadcast (W3 W) zero)) cc

theorem table_at (a1 a2 a3 a4 a5 : FVec F S4x128 .f32) (t1 t2 t3 t4 t5 : FVec F (W2 W) .f32) (c : Fin 4) (i : Fin 128) (t : Fin W) :
    table b1 c2 b2 cc a1 a2 a3 a4 a5 t1 t2 t3 t4 t5 (ValueIdx.ix3 c i t)
      = Scalar.select (nearBit (a1 (ValueIdx.ix2 c i)) (a2 (ValueIdx.ix2 c i)) (a3 (ValueIdx.ix2 c i)) (a4 (ValueIdx.ix2 c i)) (a5 (ValueIdx.ix2 c i))
          (t1 (ValueIdx.ix2 c t)) (t2 (ValueIdx.ix2 c t)) (t3 (ValueIdx.ix2 c t)) (t4 (ValueIdx.ix2 c t)) (t5 (ValueIdx.ix2 c t))) one zero := by
  unfold table
  refine (shapeCast_apply _ cc _ (ValueIdx.ix3 c i t) rfl).trans ?_
  rw [← down_at b1 a1 c i t, ← down_at b1 a2 c i t, ← down_at b1 a3 c i t, ← down_at b1 a4 c i t, ← down_at b1 a5 c i t,
    ← along_at c2 b2 t1 c i t, ← along_at c2 b2 t2 c i t, ← along_at c2 b2 t3 c i t, ← along_at c2 b2 t4 c i t, ← along_at c2 b2 t5 c i t]
  rfl

/-- The columns from `lo` on. -/
abbrev cols (W lo : ℕ) (h : S4x2048.Slices ![0, lo] (W2 W)) (x : FVec F S4x2048 .f32) : FVec F (W2 W) .f32 := extractStridedSlice (W2 W) ![0, lo] x h

theorem cols_at {lo : ℕ} (h : S4x2048.Slices ![0, lo] (W2 W)) (x : FVec F S4x2048 .f32) (c : Fin 4) (t : Fin W) (ht : lo + t.val < 2048) :
    cols W lo h x (ValueIdx.ix2 c t) = x (ValueIdx.ix2 c ⟨lo + t.val, ht⟩) :=
  extractStridedSlice_apply _ _ h _ _ fun a => by
    match a with
    | ⟨0, _⟩ => exact (Nat.zero_add _).symm
    | ⟨1, _⟩ => rfl

/-- The free marks a block starts from. -/
def fresh (lo : ℕ) (h : S4x2048.Slices ![0, lo] S4x128) (valid supp : FVec F S4x2048 .f32) : FVec F S4x128 .f32 :=
  mulf (extractStridedSlice S4x128 ![0, lo] valid h) (subf (broadcast S4x128 one) (extractStridedSlice S4x128 ![0, lo] supp h))

/-- For each candidate from the block on, whether a kept one of the block is near it: the greatest product. -/
def hits (b1 : S4x128x1.Broadcasts (W3 W)) (rd : (W3 W).Reduces [1] (W2 W)) (keep : FVec F S4x128 .f32) (w : FVec F (W3 W) .f32) : FVec F (W2 W) .f32 :=
  multiReduction .maximumf [1] (W2 W) (mulf (down b1 keep) w) 0xFF800000#32 rd (.inl rfl) rfl

/-- A block's eight rows, read from the scratch it has just written. -/
theorem rows_written (arg4 : Memref sig .tc .vmem S4x128x2048 .f32) (f : BufTy.Contents (Elt F) arg4.view.ty) (L : List (View.Piece (Elt F) S4x128x2048 .f32))
    (inb : ∀ a, (![0, 0, 0] : Fin 3 → ℕ) a + (W3 W).size a ≤ S4x128x2048.size a) (w : FVec F (W3 W) .f32) (hW : 128 ≤ W) (k : Fin 16) (c : Fin 4) (q : Fin 8) (l : Fin 128) :
    rows arg4 (arg4.view.writes (Elt F) f (⟨Rect.unit (s := S4x128x2048) ![0, 0, 0] (W3 W).size inb, w⟩ :: L)) k (ValueIdx.ix3 c q l)
      = w (ValueIdx.ix3 c (⟨8 * k.val + q.val, by omega⟩ : Fin 128) (⟨l.val, by omega⟩ : Fin W)) := by
  unfold rows
  rw [View.readAt_unit arg4.view _ _ rfl (rows_inb k)]
  refine View.read_writes_cons_unit_of_mem _ _ inb w L _ (ValueIdx.ix3 c (⟨8 * k.val + q.val, by omega⟩ : Fin 128) (⟨l.val, by omega⟩ : Fin W)) rfl fun a => ?_
  match a with
  | ⟨0, _⟩ => show 0 + 1 * c.val = 0 + c.val; omega
  | ⟨1, _⟩ => show 8 * k.val + 1 * q.val = 0 + (8 * k.val + q.val); omega
  | ⟨2, _⟩ => show 0 + 1 * l.val = 0 + l.val; omega

/-- The block's whole table, read back. -/
theorem table_written (arg4 : Memref sig .tc .vmem S4x128x2048 .f32) (f : BufTy.Contents (Elt F) arg4.view.ty) (L : List (View.Piece (Elt F) S4x128x2048 .f32))
    (inb : ∀ a, (![0, 0, 0] : Fin 3 → ℕ) a + (W3 W).size a ≤ S4x128x2048.size a) (w : FVec F (W3 W) .f32) (c : Fin 4) (i : Fin 128) (t : Fin W) :
    View.readAt (Elt F) arg4.view (Rect.unit (s := S4x128x2048) ![0, 0, 0] (W3 W).size inb).toLoadRect
      (arg4.view.writes (Elt F) f (⟨Rect.unit (s := S4x128x2048) ![0, 0, 0] (W3 W).size inb, w⟩ :: L)) (ValueIdx.ix3 c i t) = w (ValueIdx.ix3 c i t) := by
  rw [View.readAt_unit arg4.view _ _ rfl inb]
  unfold VecWindow.window
  refine View.read_writes_cons_unit_of_mem arg4.view f inb w L _ (ValueIdx.ix3 c i t : (W3 W).Idx) rfl fun a => ?_
  match a with
  | ⟨0, _⟩ => show 0 + 1 * c.val = 0 + c.val; omega
  | ⟨1, _⟩ => show 0 + 1 * i.val = 0 + i.val; omega
  | ⟨2, _⟩ => show 0 + 1 * t.val = 0 + t.val; omega

end AnyFloat

end Cert.Proof.Keep

end
-- ==== Proof.KeepSays.lean ====
/-
  One block of the suppression at the extended reals: what its table, its kept marks and the suppressed marks it leaves say.
-/
module

public import proofs.«01_k».proof.Proof.KeepBlock

@[expose] public section

noncomputable section

namespace Cert.Proof.Keep

open Idealize.ShloMosaic Cert.KeepIdeal Cert.KeepIdeal.Gen Classical

theorem select_ind (b : BitVec 1) : (Scalar.select b one zero : Ideal .f32) = ind (b = 1#1) := by
  rw [one_eq, zero_eq]
  unfold Scalar.select ind
  by_cases h : b = 1#1
  · exact (if_pos h).trans (if_pos h).symm
  · exact (if_neg h).trans (if_neg h).symm

/-- Entry `n` of image `c`. -/
def co (x : FVec Ideal S4x2048 .f32) (c : Fin 4) (n : ℕ) : Ideal .f32 := if h : n < 2048 then x (ValueIdx.ix2 c ⟨n, h⟩) else zero

theorem co_eq (x : FVec Ideal S4x2048 .f32) (c : Fin 4) (n : ℕ) (h : n < 2048) : co x c n = x (ValueIdx.ix2 c ⟨n, h⟩) := dif_pos h

/-- Candidates `m` and `n` of image `c` are near, from the corners and the areas. -/
def Near (x1 y1 x2 y2 ar : FVec Ideal S4x2048 .f32) (c : Fin 4) (m n : ℕ) : Prop :=
  nearBit (co x1 c m) (co y1 c m) (co x2 c m) (co y2 c m) (co ar c m) (co x1 c n) (co y1 c n) (co x2 c n) (co y2 c n) (co ar c n) = 1#1

theorem cut_co {lo : ℕ} (h : S4x2048.Slices ![0, lo] S4x128) (x : FVec Ideal S4x2048 .f32) (c : Fin 4) (i : Fin 128) (hlo : lo + 128 ≤ 2048) :
    extractStridedSlice S4x128 ![0, lo] x h (ValueIdx.ix2 c i) = co x c (lo + i.val) := by
  rw [co_eq x c _ (by omega)]
  exact cols_at (W := 128) h x c i (by omega)

theorem cols_co {W lo : ℕ} (h : S4x2048.Slices ![0, lo] (W2 W)) (x : FVec Ideal S4x2048 .f32) (c : Fin 4) (t : Fin W) (hlo : lo + W = 2048) :
    cols W lo h x (ValueIdx.ix2 c t) = co x c (lo + t.val) := by
  rw [co_eq x c _ (by omega)]
  exact cols_at h x c t (by omega)

variable (x1 y1 x2 y2 ar : FVec Ideal S4x2048 .f32) (c : Fin 4)

theorem table_says {W lo : ℕ} (hlo : lo + W = 2048) (hW : 128 ≤ W) (b1 : S4x128x1.Broadcasts (W3 W)) (c2 : (W2 W).ShapeCasts (W13 W)) (b2 : (W13 W).Broadcasts (W3 W))
    (cc : (W3 W).ShapeCasts (W3 W)) (h : S4x2048.Slices ![0, lo] S4x128) (hc : S4x2048.Slices ![0, lo] (W2 W)) (i : Fin 128) (t : Fin W) :
    table b1 c2 b2 cc (extractStridedSlice S4x128 ![0, lo] x1 h) (extractStridedSlice S4x128 ![0, lo] y1 h) (extractStridedSlice S4x128 ![0, lo] x2 h)
        (extractStridedSlice S4x128 ![0, lo] y2 h) (extractStridedSlice S4x128 ![0, lo] ar h) (cols W lo hc x1) (cols W lo hc y1) (cols W lo hc x2) (cols W lo hc y2) (cols W lo hc ar)
        (ValueIdx.ix3 c i t)
      = ind (Near x1 y1 x2 y2 ar c (lo + i.val) (lo + t.val)) := by
  rw [table_at, select_ind]
  unfold Near
  simp only [cut_co h _ c i (by omega), cols_co hc _ c t hlo]

/-- The first block's columns are the whole row. -/
theorem table_first (b1 : S4x128x1.Broadcasts (W3 2048)) (c2 : (W2 2048).ShapeCasts (W13 2048)) (b2 : (W13 2048).Broadcasts (W3 2048))
    (cc : (W3 2048).ShapeCasts (W3 2048)) (h : S4x2048.Slices ![0, 0] S4x128) (i : Fin 128) (t : Fin 2048) :
    table b1 c2 b2 cc (extractStridedSlice S4x128 ![0, 0] x1 h) (extractStridedSlice S4x128 ![0, 0] y1 h) (extractStridedSlice S4x128 ![0, 0] x2 h)
        (extractStridedSlice S4x128 ![0, 0] y2 h) (extractStridedSlice S4x128 ![0, 0] ar h) x1 y1 x2 y2 ar (ValueIdx.ix3 c i t)
      = ind (Near x1 y1 x2 y2 ar c (0 + i.val) (0 + t.val)) := by
  have hx : ∀ x : FVec Ideal S4x2048 .f32, x (ValueIdx.ix2 c t) = co x c (0 + t.val) := fun x => by
    rw [co_eq x c _ (by omega)]; exact congrArg (fun k => x (ValueIdx.ix2 c k)) (Fin.ext (Nat.zero_add _).symm)
  rw [table_at, select_ind]
  unfold Near
  simp only [cut_co h _ c i (by omega), hx]

variable (valid : ℕ → Prop) (near : ℕ → ℕ → Prop)

/-- A kept candidate below `lo` is near candidate `n`. -/
def Hit (lo n : ℕ) : Prop := ∃ j, j < lo ∧ Kept valid near j ∧ near j n

theorem free_iff (lo n : ℕ) : Free valid near lo n ↔ valid n ∧ ¬Hit valid near lo n := by
  unfold Free Hit
  refine and_congr_right fun _ => ⟨fun h ⟨j, hj, hk, hn⟩ => h j hj hk hn, fun h j hj hk hn => h ⟨j, hj, hk, hn⟩⟩

theorem hit_zero (n : ℕ) : ¬Hit valid near 0 n := fun ⟨_, h, _⟩ => absurd h (Nat.not_lt_zero _)

theorem hit_block (lo n : ℕ) : Hit valid near (lo + 128) n ↔ Hit valid near lo n ∨ ∃ i : Fin 128, Kept valid near (lo + i.val) ∧ near (lo + i.val) n := by
  constructor
  · rintro ⟨j, hj, hk, hn⟩
    by_cases h : j < lo
    · exact .inl ⟨j, h, hk, hn⟩
    · refine .inr ⟨⟨j - lo, by omega⟩, ?_⟩
      have e : lo + (j - lo) = j := by omega
      show Kept valid near (lo + (j - lo)) ∧ near (lo + (j - lo)) n
      rw [e]; exact ⟨hk, hn⟩
  · rintro (⟨j, hj, hk, hn⟩ | ⟨i, hk, hn⟩)
    · exact ⟨j, by omega, hk, hn⟩
    · exact ⟨lo + i.val, by omega, hk, hn⟩

/-- The kept marks of the block that starts at `lo`. -/
theorem keep_says {W lo : ℕ} (hlo : lo + W = 2048) (hW : 128 ≤ W) (v24 : IVec S1x128 32) (hv : ∀ l : Fin 128, v24 (ValueIdx.ix2 0 l) = BitVec.ofNat 32 l.val)
    (arg4 : Memref sig .tc .vmem S4x128x2048 .f32) (f : BufTy.Contents (Elt Ideal) arg4.view.ty) (L : List (View.Piece (Elt Ideal) S4x128x2048 .f32))
    (inb : ∀ a, (![0, 0, 0] : Fin 3 → ℕ) a + (W3 W).size a ≤ S4x128x2048.size a) (w : FVec Ideal (W3 W) .f32) (h : S4x2048.Slices ![0, lo] S4x128)
    (va supp : FVec Ideal S4x2048 .f32)
    (hw : ∀ (i : Fin 128) (t : Fin W), w (ValueIdx.ix3 c i t) = ind (near (lo + i.val) (lo + t.val)))
    (hva : ∀ n : ℕ, n < 2048 → co va c n = ind (valid n)) (hs : ∀ n : ℕ, lo ≤ n → n < 2048 → co supp c n = ind (Hit valid near lo n)) (l : Fin 128) :
    (iter v24 (rows arg4 (arg4.view.writes (Elt Ideal) f (⟨Rect.unit (s := S4x128x2048) ![0, 0, 0] (W3 W).size inb, w⟩ :: L)))
      (fresh lo h va supp, broadcast S4x128 zero) 16).2 (ValueIdx.ix2 c l) = ind (Kept valid near (lo + l.val)) := by
  refine block_says valid near v24 hv lo c _ (fun k q l => ?_) _ ⟨fun l => ?_, fun l => ?_⟩ l
  · rw [rows_written arg4 f L inb w hW k c q l, hw]
    exact ind_congr (by rw [Nat.add_assoc])
  · refine (mul_at _ _ (ValueIdx.ix2 c l) (p := valid (lo + l.val)) (q := ¬Hit valid near lo (lo + l.val)) ?_ ?_).trans (ind_congr (free_iff valid near lo _).symm)
    · rw [cut_co h va c l (by omega)]; exact hva _ (by omega)
    · show FloatOps.subf (one : Ideal .f32) (extractStridedSlice S4x128 ![0, lo] supp h (ValueIdx.ix2 c l)) = _
      rw [cut_co h supp c l (by omega), hs _ (by omega) (by omega), one_eq]
      exact one_sub_ind _
  · rw [ind_false (fun h => absurd h.1 (Nat.not_lt_zero _))]
    exact zero_eq

theorem hits_says {W lo : ℕ} (b1 : S4x128x1.Broadcasts (W3 W)) (rd : (W3 W).Reduces [1] (W2 W)) (keep : FVec Ideal S4x128 .f32) (w : FVec Ideal (W3 W) .f32)
    (hk : ∀ i : Fin 128, keep (ValueIdx.ix2 c i) = ind (Kept valid near (lo + i.val)))
    (hw : ∀ (i : Fin 128) (t : Fin W), w (ValueIdx.ix3 c i t) = ind (near (lo + i.val) (lo + t.val))) (t : Fin W) :
    hits b1 rd keep w (ValueIdx.ix2 c t) = ind (∃ i : Fin 128, Kept valid near (lo + i.val) ∧ near (lo + i.val) (lo + t.val)) := by
  unfold hits
  refine (Ideal.multiReduction_maximumf_single _ _ _ _ _ _).trans ?_
  rw [bot_eq]
  have hf : (mulf (down b1 keep) w ∘ rd.lift (ValueIdx.ix2 c t)) = fun i : Fin 128 => ind (Kept valid near (lo + i.val) ∧ near (lo + i.val) (lo + t.val)) := by
    funext i
    have hl : rd.lift (ValueIdx.ix2 c t) i = (ValueIdx.ix3 c (i : Fin 128) t : (W3 W).Idx) := by
      funext a; match a with | ⟨0, _⟩ => rfl | ⟨1, _⟩ => rfl | ⟨2, _⟩ => rfl
    exact (congrArg (mulf (down b1 keep) w) hl).trans (mul_at _ _ _ ((down_at b1 keep c i t).trans (hk i)) (hw i t))
  rw [hf]
  exact fold_max_ind (by decide) _

/-- The suppressed marks the block leaves, for the candidates from it on. -/
theorem supp_says {W lo : ℕ} (hlo : lo + W = 2048) (b1 : S4x128x1.Broadcasts (W3 W)) (rd : (W3 W).Reduces [1] (W2 W))
    (cat : Shape.Concatenates [W2 lo, W2 W] S4x2048 1) (supp : FVec Ideal S4x2048 .f32) (keep : FVec Ideal S4x128 .f32) (w : FVec Ideal (W3 W) .f32)
    (hk : ∀ i : Fin 128, keep (ValueIdx.ix2 c i) = ind (Kept valid near (lo + i.val)))
    (hw : ∀ (i : Fin 128) (t : Fin W), w (ValueIdx.ix3 c i t) = ind (near (lo + i.val) (lo + t.val)))
    (hs : ∀ n : ℕ, lo ≤ n → n < 2048 → co supp c n = ind (Hit valid near lo n)) (n : ℕ) (h1 : lo + 128 ≤ n) (h2 : n < 2048) :
    co (maximumf supp (concatenate S4x2048 1 [⟨W2 lo, broadcast (W2 lo) zero⟩, ⟨W2 W, hits b1 rd keep w⟩] cat)) c n = ind (Hit valid near (lo + 128) n) := by
  have e : lo + (n - lo) = n := by omega
  rw [co_eq _ c n h2]
  show max (supp (ValueIdx.ix2 c ⟨n, h2⟩)) (concatenate S4x2048 1 [⟨W2 lo, broadcast (W2 lo) zero⟩, ⟨W2 W, hits b1 rd keep w⟩] cat (ValueIdx.ix2 c ⟨n, h2⟩)) = _
  have hc : concatenate S4x2048 1 [⟨W2 lo, broadcast (W2 lo) zero⟩, ⟨W2 W, hits b1 rd keep w⟩] cat (ValueIdx.ix2 c ⟨n, h2⟩)
      = hits b1 rd keep w (ValueIdx.ix2 c ⟨n - lo, by omega⟩) :=
    concatenate_pair_apply_right (t := S4x2048) (s₁ := W2 lo) (s₂ := W2 W) 1 (broadcast (W2 lo) zero) (hits b1 rd keep w) cat (ValueIdx.ix2 c ⟨n, h2⟩) rfl rfl
      (ValueIdx.ix2 c ⟨n - lo, by omega⟩)
      (fun b hb => by
        match b with
        | ⟨0, _⟩ => rfl
        | ⟨1, _⟩ => exact absurd rfl hb)
      (show n - lo + lo = n by omega)
  rw [← co_eq supp c n h2, hs n (by omega) h2, hc, hits_says c valid near b1 rd keep w hk hw]
  refine (max_ind _ _).trans (ind_congr ?_)
  show Hit valid near lo n ∨ (∃ i : Fin 128, Kept valid near (lo + i.val) ∧ near (lo + i.val) (lo + (n - lo))) ↔ _
  rw [e, hit_block]

/-- The first block's, which has no candidates before it. -/
theorem supp_first (b1 : S4x128x1.Broadcasts (W3 2048)) (rd : (W3 2048).Reduces [1] (W2 2048)) (keep : FVec Ideal S4x128 .f32) (w : FVec Ideal (W3 2048) .f32)
    (hk : ∀ i : Fin 128, keep (ValueIdx.ix2 c i) = ind (Kept valid near (0 + i.val)))
    (hw : ∀ (i : Fin 128) (t : Fin 2048), w (ValueIdx.ix3 c i t) = ind (near (0 + i.val) (0 + t.val))) (n : ℕ) (h2 : n < 2048) :
    co (maximumf (broadcast S4x2048 zero) (hits b1 rd keep w)) c n = ind (Hit valid near 128 n) := by
  rw [co_eq _ c n h2]
  show max (zero : Ideal .f32) (hits b1 rd keep w (ValueIdx.ix2 c ⟨n, h2⟩)) = _
  rw [hits_says c valid near b1 rd keep w hk hw, zero_eq, ← ind_false (hit_zero valid near n)]
  refine (max_ind _ _).trans (ind_congr ?_)
  rw [show (128 : ℕ) = 0 + 128 from rfl, hit_block]
  show _ ∨ (∃ i : Fin 128, Kept valid near (0 + i.val) ∧ near (0 + i.val) (0 + n)) ↔ _
  rw [Nat.zero_add n]

end Cert.Proof.Keep

end
-- ==== Proof.KeepBlocks1.lean ====
/-
  The suppression block by block: what is known before a block and after it, and blocks 1 to 8.
-/
module

public import proofs.«01_k».proof.Proof.KeepSays

@[expose] public section

noncomputable section

namespace Cert.Proof.Keep

open Idealize.ShloMosaic Cert.KeepIdeal Cert.KeepIdeal.Gen Cert.KeepIdeal.Gen.kernelRun0_A.sl Classical

variable (c : Dev nD) (arg0 : Memref sig .tc .vmem S4x4x2048 .f32) (harg0 : arg0.IsWhole) (arg1 : Memref sig .tc .vmem S4x2048 .f32) (harg1 : arg1.IsWhole)
  (arg2 : Memref sig .tc .vmem S4x2048 .f32) (harg2 : arg2.IsWhole) (arg3 : Memref sig .tc .vmem S4x2048 .f32) (harg3 : arg3.IsWhole)
  (arg4 : Memref sig .tc .vmem S4x128x2048 .f32) (harg4 : arg4.IsWhole) (x0 : Vec Ideal S4x4x2048 .f32) (x1 : Vec Ideal S4x2048 .f32) (x2 : Vec Ideal S4x2048 .f32)
  (w : Fin 4) (valid : ℕ → Prop)

theorem lanes (l : Fin 128) : v24 (ValueIdx.ix2 (0 : Fin 1) l) = BitVec.ofNat 32 l.val := by
  show BitVec.ofNat 32 (0 * 128 + l.val) = _
  rw [Nat.zero_mul, Nat.zero_add]

/-- Candidates `m` and `n` of image `w` are near, from the corners and areas the call computes. -/
def nearP (m n : ℕ) : Prop :=
  Near (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w m n

/-- The marks `keep` are those of the kept candidates of the block from `lo`, in image `w`. -/
def Marks (near : ℕ → ℕ → Prop) (lo : ℕ) (keep : FVec Ideal S4x128 .f32) : Prop := ∀ i : Fin 128, keep (ValueIdx.ix2 w i) = ind (Kept valid near (lo + i.val))

/-- The marks `supp` are, from `lo` on, those of the candidates near a kept one below `lo`. -/
def Struck (near : ℕ → ℕ → Prop) (lo : ℕ) (supp : FVec Ideal S4x2048 .f32) : Prop := ∀ n : ℕ, lo ≤ n → n < 2048 → co supp w n = ind (Hit valid near lo n)

/-- The marks `va` are those of the valid candidates. -/
def Fit (va : FVec Ideal S4x2048 .f32) : Prop := ∀ n : ℕ, n < 2048 → co va w n = ind (valid n)

/-- Before the first block nothing is struck. -/
theorem struck1 (near : ℕ → ℕ → Prop) : Struck w valid near 0 (k0_pay604 (F := Ideal)) := fun n _ h => by
  rw [co_eq _ w n h, ind_false (hit_zero valid near n)]
  exact zero_eq

theorem read_written {W : ℕ} (L : List (View.Piece (Elt Ideal) S4x128x2048 .f32)) (inb : ∀ a, (![0, 0, 0] : Fin 3 → ℕ) a + (W3 W).size a ≤ S4x128x2048.size a)
    (x : FVec Ideal (W3 W) .f32) (i : Fin 128) (t : Fin W) :
    arg4.view.readCov (⟨Rect.unit (s := S4x128x2048) ![0, 0, 0] (W3 W).size inb, x⟩ :: L) (Rect.unit (s := S4x128x2048) ![0, 0, 0] (W3 W).size inb).toLoadRect (ValueIdx.ix3 w i t)
      = x (ValueIdx.ix3 w i t) :=
  table_written arg4 _ L inb x w i t

/-! ## Block 1: candidates 0 to 127 -/

theorem near1 (i : Fin 128) (t : Fin 2048) : (k0_pay611 (r_2 c arg0 harg0 arg1 harg1 x0 x1) (r_3 c arg0 harg0 arg1 harg1 x0 x1) (r_4 c arg0 harg0 arg1 harg1 x0 x1) (r_6 c arg0 harg0 arg1 harg1 x0 x1) (r_7 c arg0 harg0 arg1 harg1 x0 x1) (r_8 c arg0 harg0 arg1 harg1 x0 x1) (r_9 c arg0 harg0 arg1 harg1 x0 x1) (r_10 c arg0 harg0 arg1 harg1 x0 x1) (r_11 c arg0 harg0 arg1 harg1 x0 x1) : FVec Ideal S4x128x2048 .f32) (ValueIdx.ix3 w i t) = ind (nearP c arg0 harg0 arg1 harg1 x0 x1 w (0 + i.val) (0 + t.val)) :=
  table_first (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w
    broadcasts_S4x128x1_S4x128x2048 shapeCasts_S4x2048_S4x1x2048 broadcasts_S4x1x2048_S4x128x2048 shapeCasts_S4x128x2048_S4x128x2048 slices_S4x2048_o0_0_S4x128 i t

theorem keep1 (hva : Fit w valid (r_5 c arg2 harg2 x2)) (hs : Struck w valid (nearP c arg0 harg0 arg1 harg1 x0 x1 w) 0 k0_pay604) :
    Marks w valid (nearP c arg0 harg0 arg1 harg1 x0 x1 w) 0 (r_12 c arg0 harg0 arg1 harg1 arg2 harg2 arg3 harg3 arg4 harg4 x0 x1 x2) := fun i => by
  unfold r_12
  rw [loop1]
  exact keep_says w valid (nearP c arg0 harg0 arg1 harg1 x0 x1 w) (W := 2048) (lo := 0) rfl (by decide) v24 lanes arg4 _ _ inb_S4x128x2048_S4x128x2048_0_0_0 _ slices_S4x2048_o0_0_S4x128 (r_5 c arg2 harg2 x2) k0_pay604
    (near1 c arg0 harg0 arg1 harg1 x0 x1 w) hva hs i

theorem struck2 (hk : Marks w valid (nearP c arg0 harg0 arg1 harg1 x0 x1 w) 0 (r_12 c arg0 harg0 arg1 harg1 arg2 harg2 arg3 harg3 arg4 harg4 x0 x1 x2)) (hs : Struck w valid (nearP c arg0 harg0 arg1 harg1 x0 x1 w) 0 k0_pay604) :
    Struck w valid (nearP c arg0 harg0 arg1 harg1 x0 x1 w) 128 (r_13 c arg0 harg0 arg1 harg1 arg2 harg2 arg3 harg3 arg4 harg4 x0 x1 x2) := fun n h1 h2 =>
  supp_first w valid (nearP c arg0 harg0 arg1 harg1 x0 x1 w) broadcasts_S4x128x1_S4x128x2048 reduces_S4x128x2048_S4x2048 (r_12 c arg0 harg0 arg1 harg1 arg2 harg2 arg3 harg3 arg4 harg4 x0 x1 x2) (v83 c arg0 harg0 arg1 harg1 arg4 x0 x1) hk
    (fun i t => (read_written arg4 w _ inb_S4x128x2048_S4x128x2048_0_0_0 _ i t).trans (near1 c arg0 harg0 arg1 harg1 x0 x1 w i t)) n h2

/-! ## Block 2: candidates 128 to 255 -/

theorem near2 (i : Fin 128) (t : Fin 1920) : (k0_pay619 (r_14 c arg0 harg0 arg1 harg1 x0 x1) cst_35 : FVec Ideal S4x128x1920 .f32) (ValueIdx.ix3 w i t) = ind (nearP c arg0 harg0 arg1 harg1 x0 x1 w (128 + i.val) (128 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1920) (lo := 128) rfl (by decide)
    broadcasts_S4x128x1_S4x128x1920 shapeCasts_S4x1920_S4x1x1920 broadcasts_S4x1x1920_S4x128x1920 shapeCasts_S4x128x1920_S4x128x1920 slices_S4x2048_o0_128_S4x128 slices_S4x2048_o0_128_S4x1920 i t

theorem keep2 (hva : Fit w valid (r_5 c arg2 harg2 x2)) (hs : Struck w valid (nearP c arg0 harg0 arg1 harg1 x0 x1 w) 128 (r_13 c arg0 harg0 arg1 harg1 arg2 harg2 arg3 harg3 arg4 harg4 x0 x1 x2)) :
    Marks w valid (nearP c arg0 harg0 arg1 harg1 x0 x1 w) 128 (r_15 c arg0 harg0 arg1 harg1 arg2 harg2 arg3 harg3 arg4 harg4 x0 x1 x2) := fun i => by
  unfold r_15
  rw [loop2]
  exact keep_says w valid (nearP c arg0 harg0 arg1 harg1 x0 x1 w) (W := 1920) (lo := 128) rfl (by decide) v24 lanes arg4 _ _ inb_S4x128x2048_S4x128x1920_0_0_0 _ slices_S4x2048_o0_128_S4x128 (r_5 c arg2 harg2 x2) (r_13 c arg0 harg0 arg1 harg1 arg2 harg2 arg3 harg3 arg4 harg4 x0 x1 x2)
    (near2 c arg0 harg0 arg1 harg1 x0 x1 w) hva hs i

theorem struck3 (hk : Marks w valid (nearP c arg0 harg0 arg1 harg1 x0 x1 w) 128 (r_15 c arg0 harg0 arg1 harg1 arg2 harg2 arg3 harg3 arg4 harg4 x0 x1 x2)) (hs : Struck w valid (nearP c arg0 harg0 arg1 harg1 x0 x1 w) 128 (r_13 c arg0 harg0 arg1 harg1 arg2 harg2 arg3 harg3 arg4 harg4 x0 x1 x2)) :
    Struck w valid (nearP c arg0 harg0 arg1 harg1 x0 x1 w) 256 (r_16 c arg0 harg0 arg1 harg1 arg2 harg2 arg3 harg3 arg4 harg4 x0 x1 x2) := fun n h1 h2 =>
  supp_says w valid (nearP c arg0 harg0 arg1 harg1 x0 x1 w) (W := 1920) (lo := 128) rfl broadcasts_S4x128x1_S4x128x1920 reduces_S4x128x1920_S4x1920 concatenates_S4x128_S4x1920_S4x2048_d1
    (r_13 c arg0 harg0 arg1 harg1 arg2 harg2 arg3 harg3 arg4 harg4 x0 x1 x2) (r_15 c arg0 harg0 arg1 harg1 arg2 harg2 arg3 harg3 arg4 harg4 x0 x1 x2) (v151 c arg0 harg0 arg1 harg1 arg4 x0 x1) hk
    (fun i t => (read_written arg4 w _ inb_S4x128x2048_S4x128x1920_0_0_0 _ i t).trans (near2 c arg0 harg0 arg1 harg1 x0 x1 w i t)) hs n h1 h2

/-! ## Block 3: candidates 256 to 383 -/

theorem near3 (i : Fin 128) (t : Fin 1792) : (k0_pay635 (r_17 c arg0 harg0 arg1 harg1 x0 x1) (r_18 c arg0 harg0 arg1 harg1 x0 x1) (r_19 c arg0 harg0 arg1 harg1 x0 x1) (r_20 c arg0 harg0 arg1 harg1 x0 x1) (r_21 c arg0 harg0 arg1 harg1 x0 x1) (r_22 c arg0 harg0 arg1 harg1 x0 x1) (r_23 c arg0 harg0 arg1 harg1 x0 x1) (r_24 c arg0 harg0 arg1 harg1 x0 x1) (r_25 c arg0 harg0 arg1 harg1 x0 x1) : FVec Ideal S4x128x1792 .f32) (ValueIdx.ix3 w i t) = ind (nearP c arg0 harg0 arg1 harg1 x0 x1 w (256 + i.val) (256 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1792) (lo := 256) rfl (by decide)
    broadcasts_S4x128x1_S4x128x1792 shapeCasts_S4x1792_S4x1x1792 broadcasts_S4x1x1792_S4x128x1792 shapeCasts_S4x128x1792_S4x128x1792 slices_S4x2048_o0_256_S4x128 slices_S4x2048_o0_256_S4x1792 i t

theorem keep3 (hva : Fit w valid (r_5 c arg2 harg2 x2)) (hs : Struck w valid (nearP c arg0 harg0 arg1 harg1 x0 x1 w) 256 (r_16 c arg0 harg0 arg1 harg1 arg2 harg2 arg3 harg3 arg4 harg4 x0 x1 x2)) :
    Marks w valid (nearP c arg0 harg0 arg1 harg1 x0 x1 w) 256 (r_26 c arg0 harg0 arg1 harg1 arg2 harg2 arg3 harg3 arg4 harg4 x0 x1 x2) := fun i => by
  unfold r_26
  rw [loop3]
  exact keep_says w valid (nearP c arg0 harg0 arg1 harg1 x0 x1 w) (W := 1792) (lo := 256) rfl (by decide) v24 lanes arg4 _ _ inb_S4x128x2048_S4x128x1792_0_0_0 _ slices_S4x2048_o0_256_S4x128 (r_5 c arg2 harg2 x2) (r_16 c arg0 harg0 arg1 harg1 arg2 harg2 arg3 harg3 arg4 harg4 x0 x1 x2)
    (near3 c arg0 harg0 arg1 harg1 x0 x1 w) hva hs i

theorem struck4 (hk : Marks w valid (nearP c arg0 harg0 arg1 harg1 x0 x1 w) 256 (r_26 c arg0 harg0 arg1 harg1 arg2 harg2 arg3 harg3 arg4 harg4 x0 x1 x2)) (hs : Struck w valid (nearP c arg0 harg0 arg1 harg1 x0 x1 w) 256 (r_16 c arg0 harg0 arg1 harg1 arg2 harg2 arg3 harg3 arg4 harg4 x0 x1 x2)) :
    Struck w valid (nearP c arg0 harg0 arg1 harg1 x0 x1 w) 384 (r_27 c arg0 harg0 arg1 harg1 arg2 harg2 arg3 harg3 arg4 harg4 x0 x1 x2) := fun n h1 h2 =>
  supp_says w valid (nearP c arg0 harg0 arg1 harg1 x0 x1 w) (W := 1792) (lo := 256) rfl broadcasts_S4x128x1_S4x128x1792 reduces_S4x128x1792_S4x1792 concatenates_S4x256_S4x1792_S4x2048_d1
    (r_16 c arg0 harg0 arg1 harg1 arg2 harg2 arg3 harg3 arg4 harg4 x0 x1 x2) (r_26 c arg0 harg0 arg1 harg1 arg2 harg2 arg3 harg3 arg4 harg4 x0 x1 x2) (v221 c arg0 harg0 arg1 harg1 arg4 x0 x1) hk
    (fun i t => (read_written arg4 w _ inb_S4x128x2048_S4x128x1792_0_0_0 _ i t).trans (near3 c arg0 harg0 arg1 harg1 x0 x1 w i t)) hs n h1 h2

/-! ## Block 4: candidates 384 to 511 -/

theorem near4 (i : Fin 128) (t : Fin 1664) : (k0_pay644 (r_28 c arg0 harg0 arg1 harg1 x0 x1) (r_29 c arg0 harg0 arg1 harg1 x0 x1) : FVec Ideal S4x128x1664 .f32) (ValueIdx.ix3 w i t) = ind (nearP c arg0 harg0 arg1 harg1 x0 x1 w (384 + i.val) (384 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1664) (lo := 384) rfl (by decide)
    broadcasts_S4x128x1_S4x128x1664 shapeCasts_S4x1664_S4x1x1664 broadcasts_S4x1x1664_S4x128x1664 shapeCasts_S4x128x1664_S4x128x1664 slices_S4x2048_o0_384_S4x128 slices_S4x2048_o0_384_S4x1664 i t

theorem keep4 (hva : Fit w valid (r_5 c arg2 harg2 x2)) (hs : Struck w valid (nearP c arg0 harg0 arg1 harg1 x0 x1 w) 384 (r_27 c arg0 harg0 arg1 harg1 arg2 harg2 arg3 harg3 arg4 harg4 x0 x1 x2)) :
    Marks w valid (nearP c arg0 harg0 arg1 harg1 x0 x1 w) 384 (r_30 c arg0 harg0 arg1 harg1 arg2 harg2 arg3 harg3 arg4 harg4 x0 x1 x2) := fun i => by
  unfold r_30
  rw [loop4]
  exact keep_says w valid (nearP c arg0 harg0 arg1 harg1 x0 x1 w) (W := 1664) (lo := 384) rfl (by decide) v24 lanes arg4 _ _ inb_S4x128x2048_S4x128x1664_0_0_0 _ slices_S4x2048_o0_384_S4x128 (r_5 c arg2 harg2 x2) (r_27 c arg0 harg0 arg1 harg1 arg2 harg2 arg3 harg3 arg4 harg4 x0 x1 x2)
    (near4 c arg0 harg0 arg1 harg1 x0 x1 w) hva hs i

theorem struck5 (hk : Marks w valid (nearP c arg0 harg0 arg1 harg1 x0 x1 w) 384 (r_30 c arg0 harg0 arg1 harg1 arg2 harg2 arg3 harg3 arg4 harg4 x0 x1 x2)) (hs : Struck w valid (nearP c arg0 harg0 arg1 harg1 x0 x1 w) 384 (r_27 c arg0 harg0 arg1 harg1 arg2 harg2 arg3 harg3 arg4 harg4 x0 x1 x2)) :
    Struck w valid (nearP c arg0 harg0 arg1 harg1 x0 x1 w) 512 (r_31 c arg0 harg0 arg1 harg1 arg2 harg2 arg3 harg3 arg4 harg4 x0 x1 x2) := fun n h1 h2 =>
  supp_says w valid (nearP c arg0 harg0 arg1 harg1 x0 x1 w) (W := 1664) (lo := 384) rfl broadcasts_S4x128x1_S4x128x1664 reduces_S4x128x1664_S4x1664 concatenates_S4x384_S4x1664_S4x2048_d1
    (r_27 c arg0 harg0 arg1 harg1 arg2 harg2 arg3 harg3 arg4 harg4 x0 x1 x2) (r_30 c arg0 harg0 arg1 harg1 arg2 harg2 arg3 harg3 arg4 harg4 x0 x1 x2) (v291 c arg0 harg0 arg1 harg1 arg4 x0 x1) hk
    (fun i t => (read_written arg4 w _ inb_S4x128x2048_S4x128x1664_0_0_0 _ i t).trans (near4 c arg0 harg0 arg1 harg1 x0 x1 w i t)) hs n h1 h2

/-! ## Block 5: candidates 512 to 639 -/

theorem near5 (i : Fin 128) (t : Fin 1536) : (k0_pay660 (r_32 c arg0 harg0 arg1 harg1 x0 x1) (r_33 c arg0 harg0 arg1 harg1 x0 x1) (r_34 c arg0 harg0 arg1 harg1 x0 x1) (r_35 c arg0 harg0 arg1 harg1 x0 x1) (r_36 c arg0 harg0 arg1 harg1 x0 x1) (r_37 c arg0 harg0 arg1 harg1 x0 x1) (r_38 c arg0 harg0 arg1 harg1 x0 x1) (r_39 c arg0 harg0 arg1 harg1 x0 x1) (r_40 c arg0 harg0 arg1 harg1 x0 x1) : FVec Ideal S4x128x1536 .f32) (ValueIdx.ix3 w i t) = ind (nearP c arg0 harg0 arg1 harg1 x0 x1 w (512 + i.val) (512 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1536) (lo := 512) rfl (by decide)
    broadcasts_S4x128x1_S4x128x1536 shapeCasts_S4x1536_S4x1x1536 broadcasts_S4x1x1536_S4x128x1536 shapeCasts_S4x128x1536_S4x128x1536 slices_S4x2048_o0_512_S4x128 slices_S4x2048_o0_512_S4x1536 i t

theorem keep5 (hva : Fit w valid (r_5 c arg2 harg2 x2)) (hs : Struck w valid (nearP c arg0 harg0 arg1 harg1 x0 x1 w) 512 (r_31 c arg0 harg0 arg1 harg1 arg2 harg2 arg3 harg3 arg4 harg4 x0 x1 x2)) :
    Marks w valid (nearP c arg0 harg0 arg1 harg1 x0 x1 w) 512 (r_41 c arg0 harg0 arg1 harg1 arg2 harg2 arg3 harg3 arg4 harg4 x0 x1 x2) := fun i => by
  unfold r_41
  rw [loop5]
  exact keep_says w valid (nearP c arg0 harg0 arg1 harg1 x0 x1 w) (W := 1536) (lo := 512) rfl (by decide) v24 lanes arg4 _ _ inb_S4x128x2048_S4x128x1536_0_0_0 _ slices_S4x2048_o0_512_S4x128 (r_5 c arg2 harg2 x2) (r_31 c arg0 harg0 arg1 harg1 arg2 harg2 arg3 harg3 arg4 harg4 x0 x1 x2)
    (near5 c arg0 harg0 arg1 harg1 x0 x1 w) hva hs i

theorem struck6 (hk : Marks w valid (nearP c arg0 harg0 arg1 harg1 x0 x1 w) 512 (r_41 c arg0 harg0 arg1 harg1 arg2 harg2 arg3 harg3 arg4 harg4 x0 x1 x2)) (hs : Struck w valid (nearP c arg0 harg0 arg1 harg1 x0 x1 w) 512 (r_31 c arg0 harg0 arg1 harg1 arg2 harg2 arg3 harg3 arg4 harg4 x0 x1 x2)) :
    Struck w valid (nearP c arg0 harg0 arg1 harg1 x0 x1 w) 640 (r_42 c arg0 harg0 arg1 harg1 arg2 harg2 arg3 harg3 arg4 harg4 x0 x1 x2) := fun n h1 h2 =>
  supp_says w valid (nearP c arg0 harg0 arg1 harg1 x0 x1 w) (W := 1536) (lo := 512) rfl broadcasts_S4x128x1_S4x128x1536 reduces_S4x128x1536_S4x1536 concatenates_S4x512_S4x1536_S4x2048_d1
    (r_31 c arg0 harg0 arg1 harg1 arg2 harg2 arg3 harg3 arg4 harg4 x0 x1 x2) (r_41 c arg0 harg0 arg1 harg1 arg2 harg2 arg3 harg3 arg4 harg4 x0 x1 x2) (v361 c arg0 harg0 arg1 harg1 arg4 x0 x1) hk
    (fun i t => (read_written arg4 w _ inb_S4x128x2048_S4x128x1536_0_0_0 _ i t).trans (near5 c arg0 harg0 arg1 harg1 x0 x1 w i t)) hs n h1 h2

/-! ## Block 6: candidates 640 to 767 -/

theorem near6 (i : Fin 128) (t : Fin 1408) : (k0_pay669 (r_43 c arg0 harg0 arg1 harg1 x0 x1) (r_44 c arg0 harg0 arg1 harg1 x0 x1) cst_114 : FVec Ideal S4x128x1408 .f32) (ValueIdx.ix3 w i t) = ind (nearP c arg0 harg0 arg1 harg1 x0 x1 w (640 + i.val) (640 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1408) (lo := 640) rfl (by decide)
    broadcasts_S4x128x1_S4x128x1408 shapeCasts_S4x1408_S4x1x1408 broadcasts_S4x1x1408_S4x128x1408 shapeCasts_S4x128x1408_S4x128x1408 slices_S4x2048_o0_640_S4x128 slices_S4x2048_o0_640_S4x1408 i t

theorem keep6 (hva : Fit w valid (r_5 c arg2 harg2 x2)) (hs : Struck w valid (nearP c arg0 harg0 arg1 harg1 x0 x1 w) 640 (r_42 c arg0 harg0 arg1 harg1 arg2 harg2 arg3 harg3 arg4 harg4 x0 x1 x2)) :
    Marks w valid (nearP c arg0 harg0 arg1 harg1 x0 x1 w) 640 (r_45 c arg0 harg0 arg1 harg1 arg2 harg2 arg3 harg3 arg4 harg4 x0 x1 x2) := fun i => by
  unfold r_45
  rw [loop6]
  exact keep_says w valid (nearP c arg0 harg0 arg1 harg1 x0 x1 w) (W := 1408) (lo := 640) rfl (by decide) v24 lanes arg4 _ _ inb_S4x128x2048_S4x128x1408_0_0_0 _ slices_S4x2048_o0_640_S4x128 (r_5 c arg2 harg2 x2) (r_42 c arg0 harg0 arg1 harg1 arg2 harg2 arg3 harg3 arg4 harg4 x0 x1 x2)
    (near6 c arg0 harg0 arg1 harg1 x0 x1 w) hva hs i

theorem struck7 (hk : Marks w valid (nearP c arg0 harg0 arg1 harg1 x0 x1 w) 640 (r_45 c arg0 harg0 arg1 harg1 arg2 harg2 arg3 harg3 arg4 harg4 x0 x1 x2)) (hs : Struck w valid (nearP c arg0 harg0 arg1 harg1 x0 x1 w) 640 (r_42 c arg0 harg0 arg1 harg1 arg2 harg2 arg3 harg3 arg4 harg4 x0 x1 x2)) :
    Struck w valid (nearP c arg0 harg0 arg1 harg1 x0 x1 w) 768 (r_46 c arg0 harg0 arg1 harg1 arg2 harg2 arg3 harg3 arg4 harg4 x0 x1 x2) := fun n h1 h2 =>
  supp_says w valid (nearP c arg0 harg0 arg1 harg1 x0 x1 w) (W := 1408) (lo := 640) rfl broadcasts_S4x128x1_S4x128x1408 reduces_S4x128x1408_S4x1408 concatenates_S4x640_S4x1408_S4x2048_d1
    (r_42 c arg0 harg0 arg1 harg1 arg2 harg2 arg3 harg3 arg4 harg4 x0 x1 x2) (r_45 c arg0 harg0 arg1 harg1 arg2 harg2 arg3 harg3 arg4 harg4 x0 x1 x2) (v431 c arg0 harg0 arg1 harg1 arg4 x0 x1) hk
    (fun i t => (read_written arg4 w _ inb_S4x128x2048_S4x128x1408_0_0_0 _ i t).trans (near6 c arg0 harg0 arg1 harg1 x0 x1 w i t)) hs n h1 h2

/-! ## Block 7: candidates 768 to 895 -/

theorem near7 (i : Fin 128) (t : Fin 1280) : (k0_pay685 (r_47 c arg0 harg0 arg1 harg1 x0 x1) (r_48 c arg0 harg0 arg1 harg1 x0 x1) (r_49 c arg0 harg0 arg1 harg1 x0 x1) (r_50 c arg0 harg0 arg1 harg1 x0 x1) (r_51 c arg0 harg0 arg1 harg1 x0 x1) (r_52 c arg0 harg0 arg1 harg1 x0 x1) (r_53 c arg0 harg0 arg1 harg1 x0 x1) (r_54 c arg0 harg0 arg1 harg1 x0 x1) (r_55 c arg0 harg0 arg1 harg1 x0 x1) : FVec Ideal S4x128x1280 .f32) (ValueIdx.ix3 w i t) = ind (nearP c arg0 harg0 arg1 harg1 x0 x1 w (768 + i.val) (768 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1280) (lo := 768) rfl (by decide)
    broadcasts_S4x128x1_S4x128x1280 shapeCasts_S4x1280_S4x1x1280 broadcasts_S4x1x1280_S4x128x1280 shapeCasts_S4x128x1280_S4x128x1280 slices_S4x2048_o0_768_S4x128 slices_S4x2048_o0_768_S4x1280 i t

theorem keep7 (hva : Fit w valid (r_5 c arg2 harg2 x2)) (hs : Struck w valid (nearP c arg0 harg0 arg1 harg1 x0 x1 w) 768 (r_46 c arg0 harg0 arg1 harg1 arg2 harg2 arg3 harg3 arg4 harg4 x0 x1 x2)) :
    Marks w valid (nearP c arg0 harg0 arg1 harg1 x0 x1 w) 768 (r_57 c arg0 harg0 arg1 harg1 arg2 harg2 arg3 harg3 arg4 harg4 x0 x1 x2) := fun i => by
  unfold r_57
  rw [loop7]
  exact keep_says w valid (nearP c arg0 harg0 arg1 harg1 x0 x1 w) (W := 1280) (lo := 768) rfl (by decide) v24 lanes arg4 _ _ inb_S4x128x2048_S4x128x1280_0_0_0 _ slices_S4x2048_o0_768_S4x128 (r_5 c arg2 harg2 x2) (r_46 c arg0 harg0 arg1 harg1 arg2 harg2 arg3 harg3 arg4 harg4 x0 x1 x2)
    (near7 c arg0 harg0 arg1 harg1 x0 x1 w) hva hs i

theorem struck8 (hk : Marks w valid (nearP c arg0 harg0 arg1 harg1 x0 x1 w) 768 (r_57 c arg0 harg0 arg1 harg1 arg2 harg2 arg3 harg3 arg4 harg4 x0 x1 x2)) (hs : Struck w valid (nearP c arg0 harg0 arg1 harg1 x0 x1 w) 768 (r_46 c arg0 harg0 arg1 harg1 arg2 harg2 arg3 harg3 arg4 harg4 x0 x1 x2)) :
    Struck w valid (nearP c arg0 harg0 arg1 harg1 x0 x1 w) 896 (r_58 c arg0 harg0 arg1 harg1 arg2 harg2 arg3 harg3 arg4 harg4 x0 x1 x2) := fun n h1 h2 =>
  supp_says w valid (nearP c arg0 harg0 arg1 harg1 x0 x1 w) (W := 1280) (lo := 768) rfl broadcasts_S4x128x1_S4x128x1280 reduces_S4x128x1280_S4x1280 concatenates_S4x768_S4x1280_S4x2048_d1
    (r_46 c arg0 harg0 arg1 harg1 arg2 harg2 arg3 harg3 arg4 harg4 x0 x1 x2) (r_57 c arg0 harg0 arg1 harg1 arg2 harg2 arg3 harg3 arg4 harg4 x0 x1 x2) (v501 c arg0 harg0 arg1 harg1 arg4 x0 x1) hk
    (fun i t => (read_written arg4 w _ inb_S4x128x2048_S4x128x1280_0_0_0 _ i t).trans (near7 c arg0 harg0 arg1 harg1 x0 x1 w i t)) hs n h1 h2

/-! ## Block 8: candidates 896 to 1023 -/

theorem near8 (i : Fin 128) (t : Fin 1152) : (k0_pay694 (r_59 c arg0 harg0 arg1 harg1 x0 x1) (r_60 c arg0 harg0 arg1 harg1 x0 x1) : FVec Ideal S4x128x1152 .f32) (ValueIdx.ix3 w i t) = ind (nearP c arg0 harg0 arg1 harg1 x0 x1 w (896 + i.val) (896 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1152) (lo := 896) rfl (by decide)
    broadcasts_S4x128x1_S4x128x1152 shapeCasts_S4x1152_S4x1x1152 broadcasts_S4x1x1152_S4x128x1152 shapeCasts_S4x128x1152_S4x128x1152 slices_S4x2048_o0_896_S4x128 slices_S4x2048_o0_896_S4x1152 i t

theorem keep8 (hva : Fit w valid (r_5 c arg2 harg2 x2)) (hs : Struck w valid (nearP c arg0 harg0 arg1 harg1 x0 x1 w) 896 (r_58 c arg0 harg0 arg1 harg1 arg2 harg2 arg3 harg3 arg4 harg4 x0 x1 x2)) :
    Marks w valid (nearP c arg0 harg0 arg1 harg1 x0 x1 w) 896 (r_61 c arg0 harg0 arg1 harg1 arg2 harg2 arg3 harg3 arg4 harg4 x0 x1 x2) := fun i => by
  unfold r_61
  rw [loop8]
  exact keep_says w valid (nearP c arg0 harg0 arg1 harg1 x0 x1 w) (W := 1152) (lo := 896) rfl (by decide) v24 lanes arg4 _ _ inb_S4x128x2048_S4x128x1152_0_0_0 _ slices_S4x2048_o0_896_S4x128 (r_5 c arg2 harg2 x2) (r_58 c arg0 harg0 arg1 harg1 arg2 harg2 arg3 harg3 arg4 harg4 x0 x1 x2)
    (near8 c arg0 harg0 arg1 harg1 x0 x1 w) hva hs i

theorem struck9 (hk : Marks w valid (nearP c arg0 harg0 arg1 harg1 x0 x1 w) 896 (r_61 c arg0 harg0 arg1 harg1 arg2 harg2 arg3 harg3 arg4 harg4 x0 x1 x2)) (hs : Struck w valid (nearP c arg0 harg0 arg1 harg1 x0 x1 w) 896 (r_58 c arg0 harg0 arg1 harg1 arg2 harg2 arg3 harg3 arg4 harg4 x0 x1 x2)) :
    Struck w valid (nearP c arg0 harg0 arg1 harg1 x0 x1 w) 1024 (r_62 c arg0 harg0 arg1 harg1 arg2 harg2 arg3 harg3 arg4 harg4 x0 x1 x2) := fun n h1 h2 =>
  supp_says w valid (nearP c arg0 harg0 arg1 harg1 x0 x1 w) (W := 1152) (lo := 896) rfl broadcasts_S4x128x1_S4x128x1152 reduces_S4x128x1152_S4x1152 concatenates_S4x896_S4x1152_S4x2048_d1
    (r_58 c arg0 harg0 arg1 harg1 arg2 harg2 arg3 harg3 arg4 harg4 x0 x1 x2) (r_61 c arg0 harg0 arg1 harg1 arg2 harg2 arg3 harg3 arg4 harg4 x0 x1 x2) (v571 c arg0 harg0 arg1 harg1 arg4 x0 x1) hk
    (fun i t => (read_written arg4 w _ inb_S4x128x2048_S4x128x1152_0_0_0 _ i t).trans (near8 c arg0 harg0 arg1 harg1 x0 x1 w i t)) hs n h1 h2

end Cert.Proof.Keep

end
-- ==== Proof.KeepBlocks2.lean ====
/-
  The suppression block by block: blocks 9 to 16.
-/
module

public import proofs.«01_k».proof.Proof.KeepBlocks1

@[expose] public section

noncomputable section

namespace Cert.Proof.Keep

open Idealize.ShloMosaic Cert.KeepIdeal Cert.KeepIdeal.Gen Cert.KeepIdeal.Gen.kernelRun0_A.sl Classical

variable (c : Dev nD) (arg0 : Memref sig .tc .vmem S4x4x2048 .f32) (harg0 : arg0.IsWhole) (arg1 : Memref sig .tc .vmem S4x2048 .f32) (harg1 : arg1.IsWhole)
  (arg2 : Memref sig .tc .vmem S4x2048 .f32) (harg2 : arg2.IsWhole) (arg3 : Memref sig .tc .vmem S4x2048 .f32) (harg3 : arg3.IsWhole)
  (arg4 : Memref sig .tc .vmem S4x128x2048 .f32) (harg4 : arg4.IsWhole) (x0 : Vec Ideal S4x4x2048 .f32) (x1 : Vec Ideal S4x2048 .f32) (x2 : Vec Ideal S4x2048 .f32)
  (w : Fin 4) (valid : ℕ → Prop)

/-! ## Block 9: candidates 1024 to 1151 -/

theorem near9 (i : Fin 128) (t : Fin 1024) : (k0_pay711 (r_63 c arg0 harg0 arg1 harg1 x0 x1) (r_64 c arg0 harg0 arg1 harg1 x0 x1) (r_65 c arg0 harg0 arg1 harg1 x0 x1) (r_66 c arg0 harg0 arg1 harg1 x0 x1) (r_67 c arg0 harg0 arg1 harg1 x0 x1) (r_68 c arg0 harg0 arg1 harg1 x0 x1) (r_69 c arg0 harg0 arg1 harg1 x0 x1) (r_70 c arg0 harg0 arg1 harg1 x0 x1) (r_71 c arg0 harg0 arg1 harg1 x0 x1) (r_72 c arg0 harg0 arg1 harg1 x0 x1) : FVec Ideal S4x128x1024 .f32) (ValueIdx.ix3 w i t) = ind (nearP c arg0 harg0 arg1 harg1 x0 x1 w (1024 + i.val) (1024 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 1024) (lo := 1024) rfl (by decide)
    broadcasts_S4x128x1_S4x128x1024 shapeCasts_S4x1024_S4x1x1024 broadcasts_S4x1x1024_S4x128x1024 shapeCasts_S4x128x1024_S4x128x1024 slices_S4x2048_o0_1024_S4x128 slices_S4x2048_o0_1024_S4x1024 i t

theorem keep9 (hva : Fit w valid (r_5 c arg2 harg2 x2)) (hs : Struck w valid (nearP c arg0 harg0 arg1 harg1 x0 x1 w) 1024 (r_62 c arg0 harg0 arg1 harg1 arg2 harg2 arg3 harg3 arg4 harg4 x0 x1 x2)) :
    Marks w valid (nearP c arg0 harg0 arg1 harg1 x0 x1 w) 1024 (r_74 c arg0 harg0 arg1 harg1 arg2 harg2 arg3 harg3 arg4 harg4 x0 x1 x2) := fun i => by
  unfold r_74
  rw [loop9]
  exact keep_says w valid (nearP c arg0 harg0 arg1 harg1 x0 x1 w) (W := 1024) (lo := 1024) rfl (by decide) v24 lanes arg4 _ _ inb_S4x128x2048_S4x128x1024_0_0_0 _ slices_S4x2048_o0_1024_S4x128 (r_5 c arg2 harg2 x2) (r_62 c arg0 harg0 arg1 harg1 arg2 harg2 arg3 harg3 arg4 harg4 x0 x1 x2)
    (near9 c arg0 harg0 arg1 harg1 x0 x1 w) hva hs i

theorem struck10 (hk : Marks w valid (nearP c arg0 harg0 arg1 harg1 x0 x1 w) 1024 (r_74 c arg0 harg0 arg1 harg1 arg2 harg2 arg3 harg3 arg4 harg4 x0 x1 x2)) (hs : Struck w valid (nearP c arg0 harg0 arg1 harg1 x0 x1 w) 1024 (r_62 c arg0 harg0 arg1 harg1 arg2 harg2 arg3 harg3 arg4 harg4 x0 x1 x2)) :
    Struck w valid (nearP c arg0 harg0 arg1 harg1 x0 x1 w) 1152 (r_75 c arg0 harg0 arg1 harg1 arg2 harg2 arg3 harg3 arg4 harg4 x0 x1 x2) := fun n h1 h2 =>
  supp_says w valid (nearP c arg0 harg0 arg1 harg1 x0 x1 w) (W := 1024) (lo := 1024) rfl broadcasts_S4x128x1_S4x128x1024 reduces_S4x128x1024_S4x1024 concatenates_S4x1024_S4x1024_S4x2048_d1
    (r_62 c arg0 harg0 arg1 harg1 arg2 harg2 arg3 harg3 arg4 harg4 x0 x1 x2) (r_74 c arg0 harg0 arg1 harg1 arg2 harg2 arg3 harg3 arg4 harg4 x0 x1 x2) (v641 c arg0 harg0 arg1 harg1 arg4 x0 x1) hk
    (fun i t => (read_written arg4 w _ inb_S4x128x2048_S4x128x1024_0_0_0 _ i t).trans (near9 c arg0 harg0 arg1 harg1 x0 x1 w i t)) hs n h1 h2

/-! ## Block 10: candidates 1152 to 1279 -/

theorem near10 (i : Fin 128) (t : Fin 896) : (k0_pay721 (r_76 c arg0 harg0 arg1 harg1 x0 x1) (r_77 c arg0 harg0 arg1 harg1 x0 x1) (r_78 c arg0 harg0 arg1 harg1 x0 x1) : FVec Ideal S4x128x896 .f32) (ValueIdx.ix3 w i t) = ind (nearP c arg0 harg0 arg1 harg1 x0 x1 w (1152 + i.val) (1152 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 896) (lo := 1152) rfl (by decide)
    broadcasts_S4x128x1_S4x128x896 shapeCasts_S4x896_S4x1x896 broadcasts_S4x1x896_S4x128x896 shapeCasts_S4x128x896_S4x128x896 slices_S4x2048_o0_1152_S4x128 slices_S4x2048_o0_1152_S4x896 i t

theorem keep10 (hva : Fit w valid (r_5 c arg2 harg2 x2)) (hs : Struck w valid (nearP c arg0 harg0 arg1 harg1 x0 x1 w) 1152 (r_75 c arg0 harg0 arg1 harg1 arg2 harg2 arg3 harg3 arg4 harg4 x0 x1 x2)) :
    Marks w valid (nearP c arg0 harg0 arg1 harg1 x0 x1 w) 1152 (r_79 c arg0 harg0 arg1 harg1 arg2 harg2 arg3 harg3 arg4 harg4 x0 x1 x2) := fun i => by
  unfold r_79
  rw [loop10]
  exact keep_says w valid (nearP c arg0 harg0 arg1 harg1 x0 x1 w) (W := 896) (lo := 1152) rfl (by decide) v24 lanes arg4 _ _ inb_S4x128x2048_S4x128x896_0_0_0 _ slices_S4x2048_o0_1152_S4x128 (r_5 c arg2 harg2 x2) (r_75 c arg0 harg0 arg1 harg1 arg2 harg2 arg3 harg3 arg4 harg4 x0 x1 x2)
    (near10 c arg0 harg0 arg1 harg1 x0 x1 w) hva hs i

theorem struck11 (hk : Marks w valid (nearP c arg0 harg0 arg1 harg1 x0 x1 w) 1152 (r_79 c arg0 harg0 arg1 harg1 arg2 harg2 arg3 harg3 arg4 harg4 x0 x1 x2)) (hs : Struck w valid (nearP c arg0 harg0 arg1 harg1 x0 x1 w) 1152 (r_75 c arg0 harg0 arg1 harg1 arg2 harg2 arg3 harg3 arg4 harg4 x0 x1 x2)) :
    Struck w valid (nearP c arg0 harg0 arg1 harg1 x0 x1 w) 1280 (r_80 c arg0 harg0 arg1 harg1 arg2 harg2 arg3 harg3 arg4 harg4 x0 x1 x2) := fun n h1 h2 =>
  supp_says w valid (nearP c arg0 harg0 arg1 harg1 x0 x1 w) (W := 896) (lo := 1152) rfl broadcasts_S4x128x1_S4x128x896 reduces_S4x128x896_S4x896 concatenates_S4x1152_S4x896_S4x2048_d1
    (r_75 c arg0 harg0 arg1 harg1 arg2 harg2 arg3 harg3 arg4 harg4 x0 x1 x2) (r_79 c arg0 harg0 arg1 harg1 arg2 harg2 arg3 harg3 arg4 harg4 x0 x1 x2) (v711 c arg0 harg0 arg1 harg1 arg4 x0 x1) hk
    (fun i t => (read_written arg4 w _ inb_S4x128x2048_S4x128x896_0_0_0 _ i t).trans (near10 c arg0 harg0 arg1 harg1 x0 x1 w i t)) hs n h1 h2

/-! ## Block 11: candidates 1280 to 1407 -/

theorem near11 (i : Fin 128) (t : Fin 768) : (k0_pay738 (r_81 c arg0 harg0 arg1 harg1 x0 x1) (r_82 c arg0 harg0 arg1 harg1 x0 x1) (r_83 c arg0 harg0 arg1 harg1 x0 x1) (r_84 c arg0 harg0 arg1 harg1 x0 x1) (r_85 c arg0 harg0 arg1 harg1 x0 x1) (r_86 c arg0 harg0 arg1 harg1 x0 x1) (r_87 c arg0 harg0 arg1 harg1 x0 x1) (r_88 c arg0 harg0 arg1 harg1 x0 x1) (r_89 c arg0 harg0 arg1 harg1 x0 x1) (r_90 c arg0 harg0 arg1 harg1 x0 x1) : FVec Ideal S4x128x768 .f32) (ValueIdx.ix3 w i t) = ind (nearP c arg0 harg0 arg1 harg1 x0 x1 w (1280 + i.val) (1280 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 768) (lo := 1280) rfl (by decide)
    broadcasts_S4x128x1_S4x128x768 shapeCasts_S4x768_S4x1x768 broadcasts_S4x1x768_S4x128x768 shapeCasts_S4x128x768_S4x128x768 slices_S4x2048_o0_1280_S4x128 slices_S4x2048_o0_1280_S4x768 i t

theorem keep11 (hva : Fit w valid (r_5 c arg2 harg2 x2)) (hs : Struck w valid (nearP c arg0 harg0 arg1 harg1 x0 x1 w) 1280 (r_80 c arg0 harg0 arg1 harg1 arg2 harg2 arg3 harg3 arg4 harg4 x0 x1 x2)) :
    Marks w valid (nearP c arg0 harg0 arg1 harg1 x0 x1 w) 1280 (r_92 c arg0 harg0 arg1 harg1 arg2 harg2 arg3 harg3 arg4 harg4 x0 x1 x2) := fun i => by
  unfold r_92
  rw [loop11]
  exact keep_says w valid (nearP c arg0 harg0 arg1 harg1 x0 x1 w) (W := 768) (lo := 1280) rfl (by decide) v24 lanes arg4 _ _ inb_S4x128x2048_S4x128x768_0_0_0 _ slices_S4x2048_o0_1280_S4x128 (r_5 c arg2 harg2 x2) (r_80 c arg0 harg0 arg1 harg1 arg2 harg2 arg3 harg3 arg4 harg4 x0 x1 x2)
    (near11 c arg0 harg0 arg1 harg1 x0 x1 w) hva hs i

theorem struck12 (hk : Marks w valid (nearP c arg0 harg0 arg1 harg1 x0 x1 w) 1280 (r_92 c arg0 harg0 arg1 harg1 arg2 harg2 arg3 harg3 arg4 harg4 x0 x1 x2)) (hs : Struck w valid (nearP c arg0 harg0 arg1 harg1 x0 x1 w) 1280 (r_80 c arg0 harg0 arg1 harg1 arg2 harg2 arg3 harg3 arg4 harg4 x0 x1 x2)) :
    Struck w valid (nearP c arg0 harg0 arg1 harg1 x0 x1 w) 1408 (r_93 c arg0 harg0 arg1 harg1 arg2 harg2 arg3 harg3 arg4 harg4 x0 x1 x2) := fun n h1 h2 =>
  supp_says w valid (nearP c arg0 harg0 arg1 harg1 x0 x1 w) (W := 768) (lo := 1280) rfl broadcasts_S4x128x1_S4x128x768 reduces_S4x128x768_S4x768 concatenates_S4x1280_S4x768_S4x2048_d1
    (r_80 c arg0 harg0 arg1 harg1 arg2 harg2 arg3 harg3 arg4 harg4 x0 x1 x2) (r_92 c arg0 harg0 arg1 harg1 arg2 harg2 arg3 harg3 arg4 harg4 x0 x1 x2) (v781 c arg0 harg0 arg1 harg1 arg4 x0 x1) hk
    (fun i t => (read_written arg4 w _ inb_S4x128x2048_S4x128x768_0_0_0 _ i t).trans (near11 c arg0 harg0 arg1 harg1 x0 x1 w i t)) hs n h1 h2

/-! ## Block 12: candidates 1408 to 1535 -/

theorem near12 (i : Fin 128) (t : Fin 640) : (k0_pay748 (r_94 c arg0 harg0 arg1 harg1 x0 x1) (r_95 c arg0 harg0 arg1 harg1 x0 x1) (r_96 c arg0 harg0 arg1 harg1 x0 x1) : FVec Ideal S4x128x640 .f32) (ValueIdx.ix3 w i t) = ind (nearP c arg0 harg0 arg1 harg1 x0 x1 w (1408 + i.val) (1408 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 640) (lo := 1408) rfl (by decide)
    broadcasts_S4x128x1_S4x128x640 shapeCasts_S4x640_S4x1x640 broadcasts_S4x1x640_S4x128x640 shapeCasts_S4x128x640_S4x128x640 slices_S4x2048_o0_1408_S4x128 slices_S4x2048_o0_1408_S4x640 i t

theorem keep12 (hva : Fit w valid (r_5 c arg2 harg2 x2)) (hs : Struck w valid (nearP c arg0 harg0 arg1 harg1 x0 x1 w) 1408 (r_93 c arg0 harg0 arg1 harg1 arg2 harg2 arg3 harg3 arg4 harg4 x0 x1 x2)) :
    Marks w valid (nearP c arg0 harg0 arg1 harg1 x0 x1 w) 1408 (r_97 c arg0 harg0 arg1 harg1 arg2 harg2 arg3 harg3 arg4 harg4 x0 x1 x2) := fun i => by
  unfold r_97
  rw [loop12]
  exact keep_says w valid (nearP c arg0 harg0 arg1 harg1 x0 x1 w) (W := 640) (lo := 1408) rfl (by decide) v24 lanes arg4 _ _ inb_S4x128x2048_S4x128x640_0_0_0 _ slices_S4x2048_o0_1408_S4x128 (r_5 c arg2 harg2 x2) (r_93 c arg0 harg0 arg1 harg1 arg2 harg2 arg3 harg3 arg4 harg4 x0 x1 x2)
    (near12 c arg0 harg0 arg1 harg1 x0 x1 w) hva hs i

theorem struck13 (hk : Marks w valid (nearP c arg0 harg0 arg1 harg1 x0 x1 w) 1408 (r_97 c arg0 harg0 arg1 harg1 arg2 harg2 arg3 harg3 arg4 harg4 x0 x1 x2)) (hs : Struck w valid (nearP c arg0 harg0 arg1 harg1 x0 x1 w) 1408 (r_93 c arg0 harg0 arg1 harg1 arg2 harg2 arg3 harg3 arg4 harg4 x0 x1 x2)) :
    Struck w valid (nearP c arg0 harg0 arg1 harg1 x0 x1 w) 1536 (r_98 c arg0 harg0 arg1 harg1 arg2 harg2 arg3 harg3 arg4 harg4 x0 x1 x2) := fun n h1 h2 =>
  supp_says w valid (nearP c arg0 harg0 arg1 harg1 x0 x1 w) (W := 640) (lo := 1408) rfl broadcasts_S4x128x1_S4x128x640 reduces_S4x128x640_S4x640 concatenates_S4x1408_S4x640_S4x2048_d1
    (r_93 c arg0 harg0 arg1 harg1 arg2 harg2 arg3 harg3 arg4 harg4 x0 x1 x2) (r_97 c arg0 harg0 arg1 harg1 arg2 harg2 arg3 harg3 arg4 harg4 x0 x1 x2) (v851 c arg0 harg0 arg1 harg1 arg4 x0 x1) hk
    (fun i t => (read_written arg4 w _ inb_S4x128x2048_S4x128x640_0_0_0 _ i t).trans (near12 c arg0 harg0 arg1 harg1 x0 x1 w i t)) hs n h1 h2

/-! ## Block 13: candidates 1536 to 1663 -/

theorem near13 (i : Fin 128) (t : Fin 512) : (k0_pay764 (r_4 c arg0 harg0 arg1 harg1 x0 x1) (r_99 c arg0 harg0 arg1 harg1 x0 x1) (r_100 c arg0 harg0 arg1 harg1 x0 x1) (r_101 c arg0 harg0 arg1 harg1 x0 x1) (r_102 c arg0 harg0 arg1 harg1 x0 x1) (r_103 c arg0 harg0 arg1 harg1 x0 x1) (r_104 c arg0 harg0 arg1 harg1 x0 x1) (r_105 c arg0 harg0 arg1 harg1 x0 x1) (r_106 c arg0 harg0 arg1 harg1 x0 x1) (r_107 c arg0 harg0 arg1 harg1 x0 x1) : FVec Ideal S4x128x512 .f32) (ValueIdx.ix3 w i t) = ind (nearP c arg0 harg0 arg1 harg1 x0 x1 w (1536 + i.val) (1536 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 512) (lo := 1536) rfl (by decide)
    broadcasts_S4x128x1_S4x128x512 shapeCasts_S4x512_S4x1x512 broadcasts_S4x1x512_S4x128x512 shapeCasts_S4x128x512_S4x128x512 slices_S4x2048_o0_1536_S4x128 slices_S4x2048_o0_1536_S4x512 i t

theorem keep13 (hva : Fit w valid (r_5 c arg2 harg2 x2)) (hs : Struck w valid (nearP c arg0 harg0 arg1 harg1 x0 x1 w) 1536 (r_98 c arg0 harg0 arg1 harg1 arg2 harg2 arg3 harg3 arg4 harg4 x0 x1 x2)) :
    Marks w valid (nearP c arg0 harg0 arg1 harg1 x0 x1 w) 1536 (r_110 c arg0 harg0 arg1 harg1 arg2 harg2 arg3 harg3 arg4 harg4 x0 x1 x2) := fun i => by
  unfold r_110
  rw [loop13]
  exact keep_says w valid (nearP c arg0 harg0 arg1 harg1 x0 x1 w) (W := 512) (lo := 1536) rfl (by decide) v24 lanes arg4 _ _ inb_S4x128x2048_S4x128x512_0_0_0 _ slices_S4x2048_o0_1536_S4x128 (r_5 c arg2 harg2 x2) (r_98 c arg0 harg0 arg1 harg1 arg2 harg2 arg3 harg3 arg4 harg4 x0 x1 x2)
    (near13 c arg0 harg0 arg1 harg1 x0 x1 w) hva hs i

theorem struck14 (hk : Marks w valid (nearP c arg0 harg0 arg1 harg1 x0 x1 w) 1536 (r_110 c arg0 harg0 arg1 harg1 arg2 harg2 arg3 harg3 arg4 harg4 x0 x1 x2)) (hs : Struck w valid (nearP c arg0 harg0 arg1 harg1 x0 x1 w) 1536 (r_98 c arg0 harg0 arg1 harg1 arg2 harg2 arg3 harg3 arg4 harg4 x0 x1 x2)) :
    Struck w valid (nearP c arg0 harg0 arg1 harg1 x0 x1 w) 1664 (r_111 c arg0 harg0 arg1 harg1 arg2 harg2 arg3 harg3 arg4 harg4 x0 x1 x2) := fun n h1 h2 =>
  supp_says w valid (nearP c arg0 harg0 arg1 harg1 x0 x1 w) (W := 512) (lo := 1536) rfl broadcasts_S4x128x1_S4x128x512 reduces_S4x128x512_S4x512 concatenates_S4x1536_S4x512_S4x2048_d1
    (r_98 c arg0 harg0 arg1 harg1 arg2 harg2 arg3 harg3 arg4 harg4 x0 x1 x2) (r_110 c arg0 harg0 arg1 harg1 arg2 harg2 arg3 harg3 arg4 harg4 x0 x1 x2) (v921 c arg0 harg0 arg1 harg1 arg4 x0 x1) hk
    (fun i t => (read_written arg4 w _ inb_S4x128x2048_S4x128x512_0_0_0 _ i t).trans (near13 c arg0 harg0 arg1 harg1 x0 x1 w i t)) hs n h1 h2

/-! ## Block 14: candidates 1664 to 1791 -/

theorem near14 (i : Fin 128) (t : Fin 384) : (k0_pay777 (r_112 c arg0 harg0 arg1 harg1 x0 x1) (r_113 c arg0 harg0 arg1 harg1 x0 x1) (r_114 c arg0 harg0 arg1 harg1 x0 x1) (r_115 c arg0 harg0 arg1 harg1 x0 x1) : FVec Ideal S4x128x384 .f32) (ValueIdx.ix3 w i t) = ind (nearP c arg0 harg0 arg1 harg1 x0 x1 w (1664 + i.val) (1664 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 384) (lo := 1664) rfl (by decide)
    broadcasts_S4x128x1_S4x128x384 shapeCasts_S4x384_S4x1x384 broadcasts_S4x1x384_S4x128x384 shapeCasts_S4x128x384_S4x128x384 slices_S4x2048_o0_1664_S4x128 slices_S4x2048_o0_1664_S4x384 i t

theorem keep14 (hva : Fit w valid (r_5 c arg2 harg2 x2)) (hs : Struck w valid (nearP c arg0 harg0 arg1 harg1 x0 x1 w) 1664 (r_111 c arg0 harg0 arg1 harg1 arg2 harg2 arg3 harg3 arg4 harg4 x0 x1 x2)) :
    Marks w valid (nearP c arg0 harg0 arg1 harg1 x0 x1 w) 1664 (r_116 c arg0 harg0 arg1 harg1 arg2 harg2 arg3 harg3 arg4 harg4 x0 x1 x2) := fun i => by
  unfold r_116
  rw [loop14]
  exact keep_says w valid (nearP c arg0 harg0 arg1 harg1 x0 x1 w) (W := 384) (lo := 1664) rfl (by decide) v24 lanes arg4 _ _ inb_S4x128x2048_S4x128x384_0_0_0 _ slices_S4x2048_o0_1664_S4x128 (r_5 c arg2 harg2 x2) (r_111 c arg0 harg0 arg1 harg1 arg2 harg2 arg3 harg3 arg4 harg4 x0 x1 x2)
    (near14 c arg0 harg0 arg1 harg1 x0 x1 w) hva hs i

theorem struck15 (hk : Marks w valid (nearP c arg0 harg0 arg1 harg1 x0 x1 w) 1664 (r_116 c arg0 harg0 arg1 harg1 arg2 harg2 arg3 harg3 arg4 harg4 x0 x1 x2)) (hs : Struck w valid (nearP c arg0 harg0 arg1 harg1 x0 x1 w) 1664 (r_111 c arg0 harg0 arg1 harg1 arg2 harg2 arg3 harg3 arg4 harg4 x0 x1 x2)) :
    Struck w valid (nearP c arg0 harg0 arg1 harg1 x0 x1 w) 1792 (r_117 c arg0 harg0 arg1 harg1 arg2 harg2 arg3 harg3 arg4 harg4 x0 x1 x2) := fun n h1 h2 =>
  supp_says w valid (nearP c arg0 harg0 arg1 harg1 x0 x1 w) (W := 384) (lo := 1664) rfl broadcasts_S4x128x1_S4x128x384 reduces_S4x128x384_S4x384 concatenates_S4x1664_S4x384_S4x2048_d1
    (r_111 c arg0 harg0 arg1 harg1 arg2 harg2 arg3 harg3 arg4 harg4 x0 x1 x2) (r_116 c arg0 harg0 arg1 harg1 arg2 harg2 arg3 harg3 arg4 harg4 x0 x1 x2) (v991 c arg0 harg0 arg1 harg1 arg4 x0 x1) hk
    (fun i t => (read_written arg4 w _ inb_S4x128x2048_S4x128x384_0_0_0 _ i t).trans (near14 c arg0 harg0 arg1 harg1 x0 x1 w i t)) hs n h1 h2

/-! ## Block 15: candidates 1792 to 1919 -/

theorem near15 (i : Fin 128) (t : Fin 256) : (k0_pay791 (r_2 c arg0 harg0 arg1 harg1 x0 x1) (r_3 c arg0 harg0 arg1 harg1 x0 x1) (r_4 c arg0 harg0 arg1 harg1 x0 x1) (r_118 c arg0 harg0 arg1 harg1 x0 x1) (r_119 c arg0 harg0 arg1 harg1 x0 x1) (r_120 c arg0 harg0 arg1 harg1 x0 x1) (r_121 c arg0 harg0 arg1 harg1 x0 x1) (r_122 c arg0 harg0 arg1 harg1 x0 x1) (r_123 c arg0 harg0 arg1 harg1 x0 x1) (r_124 c arg0 harg0 arg1 harg1 x0 x1) : FVec Ideal S4x128x256 .f32) (ValueIdx.ix3 w i t) = ind (nearP c arg0 harg0 arg1 harg1 x0 x1 w (1792 + i.val) (1792 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 256) (lo := 1792) rfl (by decide)
    broadcasts_S4x128x1_S4x128x256 shapeCasts_S4x256_S4x1x256 broadcasts_S4x1x256_S4x128x256 shapeCasts_S4x128x256_S4x128x256 slices_S4x2048_o0_1792_S4x128 slices_S4x2048_o0_1792_S4x256 i t

theorem keep15 (hva : Fit w valid (r_5 c arg2 harg2 x2)) (hs : Struck w valid (nearP c arg0 harg0 arg1 harg1 x0 x1 w) 1792 (r_117 c arg0 harg0 arg1 harg1 arg2 harg2 arg3 harg3 arg4 harg4 x0 x1 x2)) :
    Marks w valid (nearP c arg0 harg0 arg1 harg1 x0 x1 w) 1792 (r_127 c arg0 harg0 arg1 harg1 arg2 harg2 arg3 harg3 arg4 harg4 x0 x1 x2) := fun i => by
  unfold r_127
  rw [loop15]
  exact keep_says w valid (nearP c arg0 harg0 arg1 harg1 x0 x1 w) (W := 256) (lo := 1792) rfl (by decide) v24 lanes arg4 _ _ inb_S4x128x2048_S4x128x256_0_0_0 _ slices_S4x2048_o0_1792_S4x128 (r_5 c arg2 harg2 x2) (r_117 c arg0 harg0 arg1 harg1 arg2 harg2 arg3 harg3 arg4 harg4 x0 x1 x2)
    (near15 c arg0 harg0 arg1 harg1 x0 x1 w) hva hs i

theorem struck16 (hk : Marks w valid (nearP c arg0 harg0 arg1 harg1 x0 x1 w) 1792 (r_127 c arg0 harg0 arg1 harg1 arg2 harg2 arg3 harg3 arg4 harg4 x0 x1 x2)) (hs : Struck w valid (nearP c arg0 harg0 arg1 harg1 x0 x1 w) 1792 (r_117 c arg0 harg0 arg1 harg1 arg2 harg2 arg3 harg3 arg4 harg4 x0 x1 x2)) :
    Struck w valid (nearP c arg0 harg0 arg1 harg1 x0 x1 w) 1920 (r_128 c arg0 harg0 arg1 harg1 arg2 harg2 arg3 harg3 arg4 harg4 x0 x1 x2) := fun n h1 h2 =>
  supp_says w valid (nearP c arg0 harg0 arg1 harg1 x0 x1 w) (W := 256) (lo := 1792) rfl broadcasts_S4x128x1_S4x128x256 reduces_S4x128x256_S4x256 concatenates_S4x1792_S4x256_S4x2048_d1
    (r_117 c arg0 harg0 arg1 harg1 arg2 harg2 arg3 harg3 arg4 harg4 x0 x1 x2) (r_127 c arg0 harg0 arg1 harg1 arg2 harg2 arg3 harg3 arg4 harg4 x0 x1 x2) (v1061 c arg0 harg0 arg1 harg1 arg4 x0 x1) hk
    (fun i t => (read_written arg4 w _ inb_S4x128x2048_S4x128x256_0_0_0 _ i t).trans (near15 c arg0 harg0 arg1 harg1 x0 x1 w i t)) hs n h1 h2

/-! ## Block 16: candidates 1920 to 2047 -/

theorem near16 (i : Fin 128) (t : Fin 128) : (k0_pay804 (r_129 c arg0 harg0 arg1 harg1 x0 x1) (r_130 c arg0 harg0 arg1 harg1 x0 x1) (r_131 c arg0 harg0 arg1 harg1 x0 x1) (r_132 c arg0 harg0 arg1 harg1 x0 x1) cst_313 : FVec Ideal S4x128x128 .f32) (ValueIdx.ix3 w i t) = ind (nearP c arg0 harg0 arg1 harg1 x0 x1 w (1920 + i.val) (1920 + t.val)) :=
  table_says (r c arg0 harg0 arg1 harg1 x0 x1) (r_1 c arg0 harg0 arg1 harg1 x0 x1) (r_2 c arg0 harg0 arg1 harg1 x0 x1) (r_3 c arg0 harg0 arg1 harg1 x0 x1) (r_4 c arg0 harg0 arg1 harg1 x0 x1) w (W := 128) (lo := 1920) rfl (by decide)
    broadcasts_S4x128x1_S4x128x128 shapeCasts_S4x128_S4x1x128 broadcasts_S4x1x128_S4x128x128 shapeCasts_S4x128x128_S4x128x128 slices_S4x2048_o0_1920_S4x128 slices_S4x2048_o0_1920_S4x128 i t

theorem keep16 (hva : Fit w valid (r_5 c arg2 harg2 x2)) (hs : Struck w valid (nearP c arg0 harg0 arg1 harg1 x0 x1 w) 1920 (r_128 c arg0 harg0 arg1 harg1 arg2 harg2 arg3 harg3 arg4 harg4 x0 x1 x2)) :
    ∃ k16 : FVec Ideal S4x128 .f32, (kernelRun0_A (F := Ideal) c arg0 harg0 arg1 harg1 arg2 harg2 arg3 harg3 arg4 harg4 x0 x1 x2).1 = [⟨Rect.unit ![0, 0] ![4, 2048] inb_S4x2048_S4x2048_0_0,
      k0_pay4 (r_12 c arg0 harg0 arg1 harg1 arg2 harg2 arg3 harg3 arg4 harg4 x0 x1 x2) (r_15 c arg0 harg0 arg1 harg1 arg2 harg2 arg3 harg3 arg4 harg4 x0 x1 x2) (r_26 c arg0 harg0 arg1 harg1 arg2 harg2 arg3 harg3 arg4 harg4 x0 x1 x2) (r_30 c arg0 harg0 arg1 harg1 arg2 harg2 arg3 harg3 arg4 harg4 x0 x1 x2) (r_41 c arg0 harg0 arg1 harg1 arg2 harg2 arg3 harg3 arg4 harg4 x0 x1 x2) (r_45 c arg0 harg0 arg1 harg1 arg2 harg2 arg3 harg3 arg4 harg4 x0 x1 x2) (r_57 c arg0 harg0 arg1 harg1 arg2 harg2 arg3 harg3 arg4 harg4 x0 x1 x2) (r_61 c arg0 harg0 arg1 harg1 arg2 harg2 arg3 harg3 arg4 harg4 x0 x1 x2) (r_74 c arg0 harg0 arg1 harg1 arg2 harg2 arg3 harg3 arg4 harg4 x0 x1 x2) (r_79 c arg0 harg0 arg1 harg1 arg2 harg2 arg3 harg3 arg4 harg4 x0 x1 x2) (r_92 c arg0 harg0 arg1 harg1 arg2 harg2 arg3 harg3 arg4 harg4 x0 x1 x2) (r_97 c arg0 harg0 arg1 harg1 arg2 harg2 arg3 harg3 arg4 harg4 x0 x1 x2) (r_110 c arg0 harg0 arg1 harg1 arg2 harg2 arg3 harg3 arg4 harg4 x0 x1 x2) (r_116 c arg0 harg0 arg1 harg1 arg2 harg2 arg3 harg3 arg4 harg4 x0 x1 x2) (r_127 c arg0 harg0 arg1 harg1 arg2 harg2 arg3 harg3 arg4 harg4 x0 x1 x2) k16⟩] ∧
    Marks w valid (nearP c arg0 harg0 arg1 harg1 x0 x1 w) 1920 k16 := by
  refine ⟨_, rfl, fun i => ?_⟩
  rw [loop16]
  exact keep_says w valid (nearP c arg0 harg0 arg1 harg1 x0 x1 w) (W := 128) (lo := 1920) rfl (by decide) v24 lanes arg4 _ _ inb_S4x128x2048_S4x128x128_0_0_0 _ slices_S4x2048_o0_1920_S4x128 (r_5 c arg2 harg2 x2) (r_128 c arg0 harg0 arg1 harg1 arg2 harg2 arg3 harg3 arg4 harg4 x0 x1 x2)
    (near16 c arg0 harg0 arg1 harg1 x0 x1 w) hva hs i

end Cert.Proof.Keep

end
-- ==== Proof.KeepRun.lean ====
/-
  The suppression's result at every index, and the run of the pipelined kernel that computes it.

  Both programs speak of the same corners and areas: `corner` is a box's coordinate, moved by its class, and `area` the
  moved box's area. Candidate `n` of an image is valid where its score is above zero, and the result is one where it is
  kept, zero elsewhere.
-/
module

public import proofs.«01_k».proof.Proof.KeepBlocks2
public import proofs.«01_k».proof.Proof.Gen.KeepIdeal.Value
public import Idealize.ShloMosaic.Lib.Quiescent

@[expose] public section

noncomputable section

namespace Cert.Proof.Keep

open Idealize.ShloMosaic Idealize.ShloMosaic.TcCoe Idealize.SL.Sem Cert.KeepIdeal Cert.KeepIdeal.Gen Cert.KeepIdeal.Gen.kernelRun0_A.sl Classical

/-- Coordinate `k` of every box, moved by its class. -/
def corner (B : Vec Ideal S4x4x2048 .f32) (C : Vec Ideal S4x2048 .f32) (k : Fin 4) : FVec Ideal S4x2048 .f32 := fun i =>
  FloatOps.addf (B (ValueIdx.ix3 (i 0) k (i 1))) (FloatOps.mulf (C i) (Scalar.ofBits .f32 0x45800000#32))

/-- The area of every moved box. -/
def area (B : Vec Ideal S4x4x2048 .f32) (C : Vec Ideal S4x2048 .f32) : FVec Ideal S4x2048 .f32 := fun i =>
  FloatOps.mulf (FloatOps.subf (corner B C 2 i) (corner B C 0 i)) (FloatOps.subf (corner B C 3 i) (corner B C 1 i))

def near (B : Vec Ideal S4x4x2048 .f32) (C : Vec Ideal S4x2048 .f32) (w : Fin 4) : ℕ → ℕ → Prop :=
  Near (corner B C 0) (corner B C 1) (corner B C 2) (corner B C 3) (area B C) w

def valid (S : FVec Ideal S4x2048 .f32) (w : Fin 4) (n : ℕ) : Prop := FloatOps.cmpf .ogt (co S w n) zero = 1#1

/-- One where the candidate is kept, zero elsewhere. -/
def marks (B : Vec Ideal S4x4x2048 .f32) (C S : Vec Ideal S4x2048 .f32) : Vec Ideal S4x2048 .f32 := fun i =>
  ind (Kept (valid S (i 0)) (near B C (i 0)) (i 1).val)

/-- Piece `b` of a row of pieces, 128 wide, at index `pre + i`. -/
theorem piece_at (w : Fin 4) (xs : List ((s : Shape) × (s.Idx → Ideal .f32))) (hc : Shape.Concatenates (xs.map (·.1)) S4x2048 1) (b : ℕ) (hb : b < xs.length)
    (x : FVec Ideal S4x128 .f32) (hx : xs[b] = ⟨S4x128, x⟩) (pre : ℕ) (hall : xs.map (·.1) = List.replicate 16 S4x128) (hpre : pre = b * 128) (hb16 : b ≤ 16)
    (p : ℕ → Prop) (hk : ∀ i : Fin 128, x (ValueIdx.ix2 w i) = ind (p (pre + i.val))) (n : Fin 2048) (h1 : pre ≤ n.val) (h2 : n.val < pre + 128) :
    concatenate S4x2048 1 xs hc (ValueIdx.ix2 w n) = ind (p n.val) := by
  have hn : pre + (n.val - pre) = n.val := by omega
  have hsum : (((xs.take b).map (·.1)).map fun s => if h : s.rank = S4x2048.rank then s.size ((1 : Fin S4x2048.rank).cast h.symm) else 0).sum = pre := by
    rw [List.map_take, hall, List.take_replicate, List.map_replicate, List.sum_replicate, Nat.min_eq_left hb16, hpre]
    rfl
  refine (concatenate_apply_piece (t := S4x2048) 1 xs hc (ValueIdx.ix2 w n) b hb S4x128 x hx rfl pre hsum (ValueIdx.ix2 w (⟨n.val - pre, by omega⟩ : Fin 128))
    (fun b hb => by
      match b with
      | ⟨0, _⟩ => rfl
      | ⟨1, _⟩ => exact absurd rfl hb)
    hn).trans ((hk _).trans ?_)
  show ind (p (pre + (n.val - pre))) = _
  rw [hn]

/-- The sixteen blocks' marks, one after the other. -/
theorem pieces_at (w : Fin 4) (p : ℕ → Prop) (k1 k2 k3 k4 k5 k6 k7 k8 k9 k10 k11 k12 k13 k14 k15 k16 : FVec Ideal S4x128 .f32)
    (h1 : ∀ i : Fin 128, k1 (ValueIdx.ix2 w i) = ind (p (0 + i.val))) (h2 : ∀ i : Fin 128, k2 (ValueIdx.ix2 w i) = ind (p (128 + i.val))) (h3 : ∀ i : Fin 128, k3 (ValueIdx.ix2 w i) = ind (p (256 + i.val))) (h4 : ∀ i : Fin 128, k4 (ValueIdx.ix2 w i) = ind (p (384 + i.val))) (h5 : ∀ i : Fin 128, k5 (ValueIdx.ix2 w i) = ind (p (512 + i.val))) (h6 : ∀ i : Fin 128, k6 (ValueIdx.ix2 w i) = ind (p (640 + i.val))) (h7 : ∀ i : Fin 128, k7 (ValueIdx.ix2 w i) = ind (p (768 + i.val))) (h8 : ∀ i : Fin 128, k8 (ValueIdx.ix2 w i) = ind (p (896 + i.val))) (h9 : ∀ i : Fin 128, k9 (ValueIdx.ix2 w i) = ind (p (1024 + i.val))) (h10 : ∀ i : Fin 128, k10 (ValueIdx.ix2 w i) = ind (p (1152 + i.val))) (h11 : ∀ i : Fin 128, k11 (ValueIdx.ix2 w i) = ind (p (1280 + i.val))) (h12 : ∀ i : Fin 128, k12 (ValueIdx.ix2 w i) = ind (p (1408 + i.val))) (h13 : ∀ i : Fin 128, k13 (ValueIdx.ix2 w i) = ind (p (1536 + i.val))) (h14 : ∀ i : Fin 128, k14 (ValueIdx.ix2 w i) = ind (p (1664 + i.val))) (h15 : ∀ i : Fin 128, k15 (ValueIdx.ix2 w i) = ind (p (1792 + i.val))) (h16 : ∀ i : Fin 128, k16 (ValueIdx.ix2 w i) = ind (p (1920 + i.val)))
    (n : Fin 2048) : k0_pay4 k1 k2 k3 k4 k5 k6 k7 k8 k9 k10 k11 k12 k13 k14 k15 k16 (ValueIdx.ix2 w n) = ind (p n.val) := by
  have hn := n.isLt
  unfold k0_pay4
  by_cases c1 : n.val < 128
  · exact piece_at w _ _ 0 (by show 0 < 16; omega) k1 rfl 0 rfl rfl (by omega) p h1 n (by omega) (by omega)
  by_cases c2 : n.val < 256
  · exact piece_at w _ _ 1 (by show 1 < 16; omega) k2 rfl 128 rfl rfl (by omega) p h2 n (by omega) (by omega)
  by_cases c3 : n.val < 384
  · exact piece_at w _ _ 2 (by show 2 < 16; omega) k3 rfl 256 rfl rfl (by omega) p h3 n (by omega) (by omega)
  by_cases c4 : n.val < 512
  · exact piece_at w _ _ 3 (by show 3 < 16; omega) k4 rfl 384 rfl rfl (by omega) p h4 n (by omega) (by omega)
  by_cases c5 : n.val < 640
  · exact piece_at w _ _ 4 (by show 4 < 16; omega) k5 rfl 512 rfl rfl (by omega) p h5 n (by omega) (by omega)
  by_cases c6 : n.val < 768
  · exact piece_at w _ _ 5 (by show 5 < 16; omega) k6 rfl 640 rfl rfl (by omega) p h6 n (by omega) (by omega)
  by_cases c7 : n.val < 896
  · exact piece_at w _ _ 6 (by show 6 < 16; omega) k7 rfl 768 rfl rfl (by omega) p h7 n (by omega) (by omega)
  by_cases c8 : n.val < 1024
  · exact piece_at w _ _ 7 (by show 7 < 16; omega) k8 rfl 896 rfl rfl (by omega) p h8 n (by omega) (by omega)
  by_cases c9 : n.val < 1152
  · exact piece_at w _ _ 8 (by show 8 < 16; omega) k9 rfl 1024 rfl rfl (by omega) p h9 n (by omega) (by omega)
  by_cases c10 : n.val < 1280
  · exact piece_at w _ _ 9 (by show 9 < 16; omega) k10 rfl 1152 rfl rfl (by omega) p h10 n (by omega) (by omega)
  by_cases c11 : n.val < 1408
  · exact piece_at w _ _ 10 (by show 10 < 16; omega) k11 rfl 1280 rfl rfl (by omega) p h11 n (by omega) (by omega)
  by_cases c12 : n.val < 1536
  · exact piece_at w _ _ 11 (by show 11 < 16; omega) k12 rfl 1408 rfl rfl (by omega) p h12 n (by omega) (by omega)
  by_cases c13 : n.val < 1664
  · exact piece_at w _ _ 12 (by show 12 < 16; omega) k13 rfl 1536 rfl rfl (by omega) p h13 n (by omega) (by omega)
  by_cases c14 : n.val < 1792
  · exact piece_at w _ _ 13 (by show 13 < 16; omega) k14 rfl 1664 rfl rfl (by omega) p h14 n (by omega) (by omega)
  by_cases c15 : n.val < 1920
  · exact piece_at w _ _ 14 (by show 14 < 16; omega) k15 rfl 1792 rfl rfl (by omega) p h15 n (by omega) (by omega)
  exact piece_at w _ _ 15 (by show 15 < 16; omega) k16 rfl 1920 rfl rfl (by omega) p h16 n (by omega) (by omega)

section Body

variable (c : Dev nD) (arg0 : Memref sig .tc .vmem S4x4x2048 .f32) (harg0 : arg0.IsWhole) (arg1 : Memref sig .tc .vmem S4x2048 .f32) (harg1 : arg1.IsWhole)
  (arg2 : Memref sig .tc .vmem S4x2048 .f32) (harg2 : arg2.IsWhole) (arg3 : Memref sig .tc .vmem S4x2048 .f32) (harg3 : arg3.IsWhole)
  (arg4 : Memref sig .tc .vmem S4x128x2048 .f32) (harg4 : arg4.IsWhole) (x0 : Vec Ideal S4x4x2048 .f32) (x1 : Vec Ideal S4x2048 .f32) (x2 : Vec Ideal S4x2048 .f32)

/-! ## What the body loads -/

theorem load_row (a : Memref sig .tc .vmem S4x2048 .f32) (ha : a.IsWhole) (x : Vec Ideal S4x2048 .f32) (inb : ∀ b, (![0, 0] : Fin 2 → ℕ) b + S4x2048.size b ≤ S4x2048.size b) (i : S4x2048.Idx) :
    View.readAt (Elt Ideal) a.view (Rect.unit (s := S4x2048) ![0, 0] S4x2048.size inb).toLoadRect (ha.unread x) i = x i := by
  rw [View.readAt_unit a.view _ _ rfl inb]
  unfold VecWindow.window
  rw [ha.read_unread]
  refine congrArg x (funext fun b => Fin.ext ?_)
  match b with
  | ⟨0, _⟩ => show 0 + 1 * (i 0).val = (i 0).val; omega
  | ⟨1, _⟩ => show 0 + 1 * (i 1).val = (i 1).val; omega

theorem load_corner (k : Fin 4) (inb : ∀ b, (![0, k.val, 0] : Fin 3 → ℕ) b + S4x1x2048.size b ≤ S4x4x2048.size b) (i : S4x2048.Idx) :
    shapeCast S4x2048 (View.readAt (Elt Ideal) arg0.view (Rect.unit (s := S4x4x2048) ![0, k.val, 0] S4x1x2048.size inb).toLoadRect (harg0.unread x0) : Vec Ideal S4x1x2048 .f32)
      shapeCasts_S4x1x2048_S4x2048 i = x0 (ValueIdx.ix3 (i 0) k (i 1)) := by
  refine (shapeCast_apply _ _ i (ValueIdx.ix3 (i 0) (0 : Fin 1) (i 1)) ?_).trans ?_
  · rw [Shape.rowMajor_val_two, Shape.rowMajor_val_three]
    show ((i 0).val * 1 + 0) * 2048 + (i 1).val = (i 0).val * 2048 + (i 1).val
    omega
  · rw [View.readAt_unit arg0.view _ _ rfl inb]
    unfold VecWindow.window
    rw [harg0.read_unread]
    refine congrArg x0 (funext fun b => Fin.ext ?_)
    match b with
    | ⟨0, _⟩ => show 0 + 1 * (i 0).val = (i 0).val; omega
    | ⟨1, _⟩ => show k.val + 1 * 0 = k.val; omega
    | ⟨2, _⟩ => show 0 + 1 * (i 1).val = (i 1).val; omega

theorem corner_of (k : Fin 4) (inb : ∀ b, (![0, k.val, 0] : Fin 3 → ℕ) b + S4x1x2048.size b ≤ S4x4x2048.size b) :
    addf (shapeCast S4x2048 (View.readAt (Elt Ideal) arg0.view (Rect.unit (s := S4x4x2048) ![0, k.val, 0] S4x1x2048.size inb).toLoadRect (harg0.unread x0) : Vec Ideal S4x1x2048 .f32) shapeCasts_S4x1x2048_S4x2048)
      (mulf (View.readAt (Elt Ideal) arg1.view (Rect.unit (s := S4x2048) ![0, 0] S4x2048.size inb_S4x2048_S4x2048_0_0).toLoadRect (harg1.unread x1) : FVec Ideal S4x2048 .f32)
        (broadcast S4x2048 (Scalar.ofBits .f32 0x45800000#32)))
      = corner x0 x1 k := by
  funext i
  show FloatOps.addf _ (FloatOps.mulf _ _) = FloatOps.addf _ (FloatOps.mulf _ _)
  exact congrArg₂ FloatOps.addf (load_corner arg0 harg0 x0 k inb i) (congrArg (fun v : Ideal .f32 => FloatOps.mulf v (Scalar.ofBits .f32 0x45800000#32)) (load_row arg1 harg1 x1 _ i))

theorem r0_eq : r c arg0 harg0 arg1 harg1 x0 x1 = corner x0 x1 0 := corner_of arg0 harg0 arg1 harg1 x0 x1 0 inb_S4x4x2048_S4x1x2048_0_0_0
theorem r1_eq : r_1 c arg0 harg0 arg1 harg1 x0 x1 = corner x0 x1 1 := corner_of arg0 harg0 arg1 harg1 x0 x1 1 inb_S4x4x2048_S4x1x2048_0_1_0
theorem r2_eq : r_2 c arg0 harg0 arg1 harg1 x0 x1 = corner x0 x1 2 := corner_of arg0 harg0 arg1 harg1 x0 x1 2 inb_S4x4x2048_S4x1x2048_0_2_0
theorem r3_eq : r_3 c arg0 harg0 arg1 harg1 x0 x1 = corner x0 x1 3 := corner_of arg0 harg0 arg1 harg1 x0 x1 3 inb_S4x4x2048_S4x1x2048_0_3_0

theorem r4_eq : r_4 c arg0 harg0 arg1 harg1 x0 x1 = area x0 x1 := by
  have h : r_4 c arg0 harg0 arg1 harg1 x0 x1 = mulf (subf (r_2 c arg0 harg0 arg1 harg1 x0 x1) (r c arg0 harg0 arg1 harg1 x0 x1))
      (subf (r_3 c arg0 harg0 arg1 harg1 x0 x1) (r_1 c arg0 harg0 arg1 harg1 x0 x1)) := rfl
  rw [h, r0_eq, r1_eq, r2_eq, r3_eq]
  rfl

theorem near_eq (w : Fin 4) : nearP c arg0 harg0 arg1 harg1 x0 x1 w = near x0 x1 w := by
  funext a b
  unfold nearP near
  rw [r0_eq, r1_eq, r2_eq, r3_eq, r4_eq]

theorem fit (w : Fin 4) : Fit w (valid x2 w) (r_5 c arg2 harg2 x2) := fun n h => by
  rw [co_eq _ w n h]
  obtain ⟨X, hX, e⟩ : ∃ X : FVec Ideal S4x2048 .f32, (∀ i, X i = x2 i) ∧
      r_5 c arg2 harg2 x2 = select (cmpf .ogt X (broadcast S4x2048 zero)) (broadcast S4x2048 one) (broadcast S4x2048 zero) :=
    ⟨_, load_row arg2 harg2 x2 inb_S4x2048_S4x2048_0_0, rfl⟩
  rw [e]
  refine (select_ind (FloatOps.cmpf .ogt (X (ValueIdx.ix2 w ⟨n, h⟩)) zero)).trans ?_
  rw [hX]
  unfold valid
  rw [co_eq _ w n h]

/-- The body's one write, at every index. -/
theorem body_at (w : Fin 4) (n : Fin 2048) : ∃ o : FVec Ideal S4x2048 .f32,
    (kernelRun0_A (F := Ideal) c arg0 harg0 arg1 harg1 arg2 harg2 arg3 harg3 arg4 harg4 x0 x1 x2).1 = [⟨Rect.unit ![0, 0] ![4, 2048] inb_S4x2048_S4x2048_0_0, o⟩] ∧
    o (ValueIdx.ix2 w n) = marks x0 x1 x2 (ValueIdx.ix2 w n) := by
  have hva := fit c arg2 harg2 x2 w
  have k1 := keep1 c arg0 harg0 arg1 harg1 arg2 harg2 arg3 harg3 arg4 harg4 x0 x1 x2 w (valid x2 w) hva (struck1 w (valid x2 w) _)
  have s2 := struck2 c arg0 harg0 arg1 harg1 arg2 harg2 arg3 harg3 arg4 harg4 x0 x1 x2 w (valid x2 w) k1 (struck1 w (valid x2 w) _)
  have k2 := keep2 c arg0 harg0 arg1 harg1 arg2 harg2 arg3 harg3 arg4 harg4 x0 x1 x2 w (valid x2 w) hva s2
  have s3 := struck3 c arg0 harg0 arg1 harg1 arg2 harg2 arg3 harg3 arg4 harg4 x0 x1 x2 w (valid x2 w) k2 s2
  have k3 := keep3 c arg0 harg0 arg1 harg1 arg2 harg2 arg3 harg3 arg4 harg4 x0 x1 x2 w (valid x2 w) hva s3
  have s4 := struck4 c arg0 harg0 arg1 harg1 arg2 harg2 arg3 harg3 arg4 harg4 x0 x1 x2 w (valid x2 w) k3 s3
  have k4 := keep4 c arg0 harg0 arg1 harg1 arg2 harg2 arg3 harg3 arg4 harg4 x0 x1 x2 w (valid x2 w) hva s4
  have s5 := struck5 c arg0 harg0 arg1 harg1 arg2 harg2 arg3 harg3 arg4 harg4 x0 x1 x2 w (valid x2 w) k4 s4
  have k5 := keep5 c arg0 harg0 arg1 harg1 arg2 harg2 arg3 harg3 arg4 harg4 x0 x1 x2 w (valid x2 w) hva s5
  have s6 := struck6 c arg0 harg0 arg1 harg1 arg2 harg2 arg3 harg3 arg4 harg4 x0 x1 x2 w (valid x2 w) k5 s5
  have k6 := keep6 c arg0 harg0 arg1 harg1 arg2 harg2 arg3 harg3 arg4 harg4 x0 x1 x2 w (valid x2 w) hva s6
  have s7 := struck7 c arg0 harg0 arg1 harg1 arg2 harg2 arg3 harg3 arg4 harg4 x0 x1 x2 w (valid x2 w) k6 s6
  have k7 := keep7 c arg0 harg0 arg1 harg1 arg2 harg2 arg3 harg3 arg4 harg4 x0 x1 x2 w (valid x2 w) hva s7
  have s8 := struck8 c arg0 harg0 arg1 harg1 arg2 harg2 arg3 harg3 arg4 harg4 x0 x1 x2 w (valid x2 w) k7 s7
  have k8 := keep8 c arg0 harg0 arg1 harg1 arg2 harg2 arg3 harg3 arg4 harg4 x0 x1 x2 w (valid x2 w) hva s8
  have s9 := struck9 c arg0 harg0 arg1 harg1 arg2 harg2 arg3 harg3 arg4 harg4 x0 x1 x2 w (valid x2 w) k8 s8
  have k9 := keep9 c arg0 harg0 arg1 harg1 arg2 harg2 arg3 harg3 arg4 harg4 x0 x1 x2 w (valid x2 w) hva s9
  have s10 := struck10 c arg0 harg0 arg1 harg1 arg2 harg2 arg3 harg3 arg4 harg4 x0 x1 x2 w (valid x2 w) k9 s9
  have k10 := keep10 c arg0 harg0 arg1 harg1 arg2 harg2 arg3 harg3 arg4 harg4 x0 x1 x2 w (valid x2 w) hva s10
  have s11 := struck11 c arg0 harg0 arg1 harg1 arg2 harg2 arg3 harg3 arg4 harg4 x0 x1 x2 w (valid x2 w) k10 s10
  have k11 := keep11 c arg0 harg0 arg1 harg1 arg2 harg2 arg3 harg3 arg4 harg4 x0 x1 x2 w (valid x2 w) hva s11
  have s12 := struck12 c arg0 harg0 arg1 harg1 arg2 harg2 arg3 harg3 arg4 harg4 x0 x1 x2 w (valid x2 w) k11 s11
  have k12 := keep12 c arg0 harg0 arg1 harg1 arg2 harg2 arg3 harg3 arg4 harg4 x0 x1 x2 w (valid x2 w) hva s12
  have s13 := struck13 c arg0 harg0 arg1 harg1 arg2 harg2 arg3 harg3 arg4 harg4 x0 x1 x2 w (valid x2 w) k12 s12
  have k13 := keep13 c arg0 harg0 arg1 harg1 arg2 harg2 arg3 harg3 arg4 harg4 x0 x1 x2 w (valid x2 w) hva s13
  have s14 := struck14 c arg0 harg0 arg1 harg1 arg2 harg2 arg3 harg3 arg4 harg4 x0 x1 x2 w (valid x2 w) k13 s13
  have k14 := keep14 c arg0 harg0 arg1 harg1 arg2 harg2 arg3 harg3 arg4 harg4 x0 x1 x2 w (valid x2 w) hva s14
  have s15 := struck15 c arg0 harg0 arg1 harg1 arg2 harg2 arg3 harg3 arg4 harg4 x0 x1 x2 w (valid x2 w) k14 s14
  have k15 := keep15 c arg0 harg0 arg1 harg1 arg2 harg2 arg3 harg3 arg4 harg4 x0 x1 x2 w (valid x2 w) hva s15
  have s16 := struck16 c arg0 harg0 arg1 harg1 arg2 harg2 arg3 harg3 arg4 harg4 x0 x1 x2 w (valid x2 w) k15 s15
  obtain ⟨k16, e, m16⟩ := keep16 c arg0 harg0 arg1 harg1 arg2 harg2 arg3 harg3 arg4 harg4 x0 x1 x2 w (valid x2 w) hva s16
  refine ⟨_, e, ?_⟩
  show _ = ind (Kept (valid x2 w) (near x0 x1 w) n.val)
  rw [← near_eq c arg0 harg0 arg1 harg1 x0 x1 w]
  exact pieces_at w _ _ _ _ _ _ _ _ _ _ _ _ _ _ _ _ _ k1 k2 k3 k4 k5 k6 k7 k8 k9 k10 k11 k12 k13 k14 k15 m16 n

/-- A view written whole once reads back what was written. -/
theorem written (v : View sig .tc .vmem S4x2048 .f32) (f : v.ty.Contents (Elt Ideal)) (inb : ∀ b, (![0, 0] : Fin 2 → ℕ) b + (![4, 2048] : Fin 2 → ℕ) b ≤ S4x2048.size b)
    (L : List (View.Piece (Elt Ideal) S4x2048 .f32)) (o : FVec Ideal S4x2048 .f32) (hL : L = [⟨Rect.unit (s := S4x2048) ![0, 0] ![4, 2048] inb, o⟩]) (w : Fin 4) (n : Fin 2048) :
    v.read (Elt Ideal) (v.writes (Elt Ideal) f L) (ValueIdx.ix2 w n) = o (ValueIdx.ix2 w n) := by
  rw [hL]
  refine View.read_writes_cons_unit_of_mem v f inb o [] (ValueIdx.ix2 w n) (ValueIdx.ix2 w n : S4x2048.Idx) rfl fun b => ?_
  match b with
  | ⟨0, _⟩ => show w.val = 0 + w.val; omega
  | ⟨1, _⟩ => show n.val = 0 + n.val; omega

/-- The result's staging buffer, written whole once. -/
theorem staged (L : List (View.Piece (Elt Ideal) S4x2048 .f32)) (o : FVec Ideal S4x2048 .f32) (hL : L = [⟨Rect.unit (s := S4x2048) ![0, 0] ![4, 2048] inb_S4x2048_S4x2048_0_0, o⟩]) (w : Fin 4) (n : Fin 2048) :
    VO0_3.read (Elt Ideal) (VO0_3.writes (Elt Ideal) VO0_3.junk L) (ValueIdx.ix2 w n) = o (ValueIdx.ix2 w n) :=
  written VO0_3 VO0_3.junk inb_S4x2048_S4x2048_0_0 L o hL w n

/-- What the body leaves in the result's staging buffer. -/
theorem body_eq : out0_A_3 (F := Ideal) c arg0 harg0 arg1 harg1 arg2 harg2 arg3 harg3 arg4 harg4 x0 x1 x2 = marks x0 x1 x2 := by
  funext y
  obtain ⟨w, n, rfl⟩ : ∃ (w : Fin 4) (n : Fin 2048), y = ValueIdx.ix2 w n := ⟨y 0, y 1, funext fun a => by match a with | ⟨0, _⟩ => rfl | ⟨1, _⟩ => rfl⟩
  obtain ⟨o, ho, hv⟩ := body_at c arg0 harg0 arg1 harg1 arg2 harg2 arg3 harg3 arg4 harg4 x0 x1 x2 w n
  unfold out0_A_3
  exact (staged _ o ho w n).trans hv

end Body

/-! ## The run -/

theorem index0 : ∀ t : Fin cfg0.N, win0_0.index t = ![0, 0, 0] := (by decide +kernel : ∀ t : Fin grid0.N, win0_0.index t = ![0, 0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])

variable (m : (ℓ : Loc nD τ sig) → Buf (Elt Ideal) ℓ) (ρ : Dev nD → PrngReg)

abbrev boxes (c : Dev nD) : Vec Ideal S4x4x2048 .f32 := m ((c.tc : Thread nD τ).loc main_arg0)
abbrev classes (c : Dev nD) : Vec Ideal S4x2048 .f32 := m ((c.tc : Thread nD τ).loc main_arg1)
abbrev scores (c : Dev nD) : Vec Ideal S4x2048 .f32 := m ((c.tc : Thread nD τ).loc main_arg2)

/-- The one grid point's blocks are the whole arrays. -/
theorem block0 (c : Dev nD) (t : Fin cfg0.N) : iblk m c 0 t = boxes m c := by
  funext y
  show boxes m c ((win0_0.rect t).emb y) = _
  refine congrArg (boxes m c) (funext fun a => Fin.ext ?_)
  rw [Pipeline.Window.rect_emb_val win0_0 t y a, index0]
  match a with
  | ⟨0, _⟩ => show 0 * 4 + (y 0).val = (y 0).val; omega
  | ⟨1, _⟩ => show 0 * 4 + (y 1).val = (y 1).val; omega
  | ⟨2, _⟩ => show 0 * 2048 + (y 2).val = (y 2).val; omega

theorem block1 (c : Dev nD) (t : Fin cfg0.N) : iblk m c 1 t = classes m c := by
  funext y
  show classes m c ((win0_1.rect t).emb y) = _
  refine congrArg (classes m c) (funext fun a => Fin.ext ?_)
  rw [Pipeline.Window.rect_emb_val win0_1 t y a, index1]
  match a with
  | ⟨0, _⟩ => show 0 * 4 + (y 0).val = (y 0).val; omega
  | ⟨1, _⟩ => show 0 * 2048 + (y 1).val = (y 1).val; omega

theorem block2 (c : Dev nD) (t : Fin cfg0.N) : iblk m c 2 t = scores m c := by
  funext y
  show scores m c ((win0_2.rect t).emb y) = _
  refine congrArg (scores m c) (funext fun a => Fin.ext ?_)
  rw [Pipeline.Window.rect_emb_val win0_2 t y a, index2]
  match a with
  | ⟨0, _⟩ => show 0 * 4 + (y 0).val = (y 0).val; omega
  | ⟨1, _⟩ => show 0 * 2048 + (y 1).val = (y 1).val; omega

theorem flushed (c : Dev nD) (t : Fin cfg0.N) :
    (dats m 0 c).flushed 3 t = ((cfg0.win 3).blk t).view.read (Elt Ideal) (marks (boxes m c) (classes m c) (scores m c)) := by
  rw [Value.flushed3_A, block0, block1, block2, body_eq]
  funext y
  show marks (boxes m c) (classes m c) (scores m c) y = marks (boxes m c) (classes m c) (scores m c) ((win0_3.rect t).emb y)
  refine congrArg _ (funext fun a => Fin.ext ?_)
  rw [Pipeline.Window.rect_emb_val win0_3 t y a, index3]
  match a with
  | ⟨0, _⟩ => show (y 0).val = 0 * 4 + (y 0).val; omega
  | ⟨1, _⟩ => show (y 1).val = 0 * 2048 + (y 1).val; omega

theorem cover (i : S4x2048.Idx) : ∃ t : Fin cfg0.N, (cfg0.win 3).flush t = true ∧ i ∈ ((cfg0.win 3).blk t).view.set := by
  have h0 : (i 0).val < 4 := (i 0).isLt
  have h1 : (i 1).val < 2048 := (i 1).isLt
  obtain ⟨t, ht⟩ : ∃ t : Fin cfg0.N, t.val = 0 := ⟨⟨0, by decide +kernel⟩, rfl⟩
  refine ⟨t, flush0_3 t, ?_⟩
  show i ∈ ((View.whole main_v0).slice (win0_3.rect t)).set
  rw [View.set_slice_whole, Rect.mem_set_unit]
  intro a
  show win0_3.index t a * win0_3.size a ≤ (i a).val ∧ (i a).val < win0_3.index t a * win0_3.size a + win0_3.size a
  rw [index3]
  match a with
  | ⟨0, _⟩ => show 0 * 4 ≤ (i 0).val ∧ (i 0).val < 0 * 4 + 4; omega
  | ⟨1, _⟩ => show 0 * 2048 ≤ (i 1).val ∧ (i 1).val < 0 * 2048 + 2048; omega

/-- The run: the result holds, at every index, what is said above, and the arguments are unchanged. -/
theorem run : θ_run defs (onTc (τ := τ) (main (F := Ideal))) ⟨m, fun _ => 0, ρ⟩ fun r => ∀ c : Dev nD,
      r.2.mem ((c.tc : Thread nD τ).loc main_v0) = marks (boxes m c) (classes m c) (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((dats m 0 c).arrAt_eq_of_cover 3 _ (fun t _ => flushed m c t) cover), (h c).2⟩)
    (Value.run_blocks m ρ)

end Cert.Proof.Keep

end
-- ==== Proof.KeepTable.lean ====
/-
  The suppression's reference, part by part at every index: the moved corners, whether two candidates are near, and one step of its loop.
-/
module

public import proofs.«01_k».proof.Proof.KeepRun
public import proofs.«01_k».proof.Proof.Gen.KeepReferenceIdeal.Run
public import Idealize.ShloMosaic.Lib.Affine
public import Idealize.ShloMosaic.Lib.WordCmp

@[expose] public section

noncomputable section

namespace Cert.Proof.KeepResult

open Idealize.ShloMosaic Cert.KeepReferenceIdeal Cert.KeepReferenceIdeal.Gen Cert.Proof.Keep Classical

/-! ## Corners -/

section Corners
variable (B : FVec Ideal S4x4x2048 .f32) (C : FVec Ideal S4x2048 .f32)

/-- The boxes, each moved by its class. -/
def moved : FVec Ideal S4x4x2048 .f32 :=
  addf B (broadcastInDim S4x4x2048 ![0, 1, 2] bcast_S4x1x2048_S4x4x2048_0_1_2
    (broadcastInDim S4x1x2048 ![0, 2] bcast_S4x2048_S4x1x2048_0_2 (mulf C (broadcastInDim S4x2048 ![] bcast_S_S4x2048 (constant S_ .f32 0x45800000#32)))))

theorem moved_at (w k : Fin 4) (n : Fin 2048) : moved B C (ValueIdx.ix3 w k n) = corner B C k (ValueIdx.ix2 w n) := by
  unfold moved
  refine congrArg (FloatOps.addf (B (ValueIdx.ix3 w k n))) ?_
  refine (broadcastInDim_apply _ _ _ _ (ValueIdx.ix3 w (0 : Fin 1) n) fun a => ?_).trans (broadcastInDim_apply _ _ _ _ (ValueIdx.ix2 w n) fun a => ?_)
  · match a with
    | ⟨0, _⟩ => rfl
    | ⟨1, _⟩ => rfl
    | ⟨2, _⟩ => rfl
  · match a with
    | ⟨0, _⟩ => rfl
    | ⟨1, _⟩ => rfl

/-- Coordinate `k` of every moved box. -/
def side (k : ℕ) (h : S4x4x2048.Slices ![0, k, 0] S4x1x2048) : FVec Ideal S4x2048 .f32 :=
  shapeCast S4x2048 (extractStridedSlice S4x1x2048 ![0, k, 0] (moved B C) h) shapeCasts_S4x1x2048_S4x2048

theorem side_eq (k : ℕ) (hk : k < 4) (h : S4x4x2048.Slices ![0, k, 0] S4x1x2048) : side B C k h = corner B C ⟨k, hk⟩ := by
  funext y
  obtain ⟨w, n, rfl⟩ : ∃ (w : Fin 4) (n : Fin 2048), y = ValueIdx.ix2 w n := ⟨y 0, y 1, funext fun a => by match a with | ⟨0, _⟩ => rfl | ⟨1, _⟩ => rfl⟩
  unfold side
  refine (shapeCast_apply _ _ _ (ValueIdx.ix3 w (0 : Fin 1) n) (by
    rw [Shape.rowMajor_val_two, Shape.rowMajor_val_three]
    show (w.val * 1 + 0) * 2048 + n.val = w.val * 2048 + n.val
    omega)).trans ?_
  refine (extractStridedSlice_apply _ _ h _ (ValueIdx.ix3 w (⟨k, hk⟩ : Fin 4) n) (fun a => ?_)).trans (moved_at B C w ⟨k, hk⟩ n)
  match a with
  | ⟨0, _⟩ => exact (Nat.zero_add _).symm
  | ⟨1, _⟩ => rfl
  | ⟨2, _⟩ => exact (Nat.zero_add _).symm

end Corners

/-! ## Near candidates -/

section Pairs
variable {α : Type} (x : S4x2048.Idx → α)

/-- A value of the earlier candidate, and of the later one, for every pair. -/
def first : S4x2048x2048.Idx → α :=
  broadcastInDim S4x2048x2048 ![0, 1, 2] bcast_S4x2048x1_S4x2048x2048_0_1_2 (broadcastInDim S4x2048x1 ![0, 1] bcast_S4x2048_S4x2048x1_0_1 x)
def second : S4x2048x2048.Idx → α :=
  broadcastInDim S4x2048x2048 ![0, 1, 2] bcast_S4x1x2048_S4x2048x2048_0_1_2 (broadcastInDim S4x1x2048 ![0, 2] bcast_S4x2048_S4x1x2048_0_2 x)

theorem first_at (w : Fin 4) (i j : Fin 2048) : first x (ValueIdx.ix3 w i j) = x (ValueIdx.ix2 w i) := by
  unfold first
  refine (broadcastInDim_apply _ _ _ _ (ValueIdx.ix3 w i (0 : Fin 1)) fun a => ?_).trans (broadcastInDim_apply _ _ _ _ (ValueIdx.ix2 w i) fun a => ?_)
  · match a with
    | ⟨0, _⟩ => rfl
    | ⟨1, _⟩ => rfl
    | ⟨2, _⟩ => rfl
  · match a with
    | ⟨0, _⟩ => rfl
    | ⟨1, _⟩ => rfl

theorem second_at (w : Fin 4) (i j : Fin 2048) : second x (ValueIdx.ix3 w i j) = x (ValueIdx.ix2 w j) := by
  unfold second
  refine (broadcastInDim_apply _ _ _ _ (ValueIdx.ix3 w (0 : Fin 1) j) fun a => ?_).trans (broadcastInDim_apply _ _ _ _ (ValueIdx.ix2 w j) fun a => ?_)
  · match a with
    | ⟨0, _⟩ => rfl
    | ⟨1, _⟩ => rfl
    | ⟨2, _⟩ => rfl
  · match a with
    | ⟨0, _⟩ => rfl
    | ⟨1, _⟩ => rfl

end Pairs

section Near
variable (x1 y1 x2 y2 ar : FVec Ideal S4x2048 .f32)

/-- How far two intervals overlap, at least zero. -/
def overlap (lo hi : FVec Ideal S4x2048 .f32) : FVec Ideal S4x2048x2048 .f32 :=
  maximumf (subf (minimumf (first hi) (second hi)) (maximumf (first lo) (second lo))) (broadcastInDim S4x2048x2048 ![] bcast_S_S4x2048x2048 (constant S_ .f32 0x00000000#32))

/-- For every pair: whether the two boxes are near. -/
def nears : IVec S4x2048x2048 1 :=
  cmpf .ogt (Host.divf (mulf (overlap x1 x2) (overlap y1 y2))
      (addf (subf (addf (first ar) (second ar)) (mulf (overlap x1 x2) (overlap y1 y2))) (broadcastInDim S4x2048x2048 ![] bcast_S_S4x2048x2048 (constant S_ .f32 0x3089705F#32))))
    (broadcastInDim S4x2048x2048 ![] bcast_S_S4x2048x2048 (constant S_ .f32 0x3EE66666#32))

theorem overlap_at (lo hi : FVec Ideal S4x2048 .f32) (w : Fin 4) (i j : Fin 2048) : overlap lo hi (ValueIdx.ix3 w i j)
    = FloatOps.maximumf zero (FloatOps.subf (FloatOps.minimumf (hi (ValueIdx.ix2 w i)) (hi (ValueIdx.ix2 w j))) (FloatOps.maximumf (lo (ValueIdx.ix2 w i)) (lo (ValueIdx.ix2 w j)))) := by
  rw [← first_at hi w i j, ← first_at lo w i j, ← second_at hi w i j, ← second_at lo w i j]
  exact max_comm _ _

theorem nears_at (w : Fin 4) (i j : Fin 2048) : nears x1 y1 x2 y2 ar (ValueIdx.ix3 w i j) = 1#1 ↔ Near x1 y1 x2 y2 ar w i.val j.val := by
  unfold Near
  simp only [co_eq _ w _ i.isLt, co_eq _ w _ j.isLt]
  show nears x1 y1 x2 y2 ar (ValueIdx.ix3 w i j) = 1#1 ↔ nearBit (x1 (ValueIdx.ix2 w i)) (y1 (ValueIdx.ix2 w i)) (x2 (ValueIdx.ix2 w i)) (y2 (ValueIdx.ix2 w i)) (ar (ValueIdx.ix2 w i))
    (x1 (ValueIdx.ix2 w j)) (y1 (ValueIdx.ix2 w j)) (x2 (ValueIdx.ix2 w j)) (y2 (ValueIdx.ix2 w j)) (ar (ValueIdx.ix2 w j)) = 1#1
  unfold nearBit ratio
  rw [← overlap_at x1 x2 w i j, ← overlap_at y1 y2 w i j]
  refine iff_of_eq (congrArg (fun b => b = 1#1) ?_)
  refine congrArg (fun q => FloatOps.cmpf .ogt q (Scalar.ofBits .f32 0x3EE66666#32)) ?_
  rw [← first_at ar w i j, ← second_at ar w i j, Ideal.divf_def]
  simp only [Host.divf, Ideal.hostDivf_def]
  rfl

end Near

/-! ## A step of the loop -/

theorem fold_ori {ι : Type} (f : ι → BitVec 1) (s : Finset ι) : s.fold IntOp.ori 0#1 f = 1#1 ↔ ∃ k ∈ s, f k = 1#1 := by
  induction s using Finset.induction_on with
  | empty => simp
  | insert a s ha ih =>
    rw [Finset.fold_insert ha, IntOp.ori_eq_one, ih]
    simp

theorem noti_eq_one (b : BitVec 1) : ~~~b = 1#1 ↔ ¬b = 1#1 := by revert b; decide

section Step
variable (N : IVec S4x2048x2048 1) (num : IVec S1x2048 32) (S : FVec Ideal S4x2048 .f32) (i : IVec S_ 32) (K : IVec S4x2048 1)

/-- Whether a kept candidate is near. -/
def struck : IVec S4x2048 1 := Host.reduce IntOp.ori (andi (first K) N) (constantI S_ 1 0#1) reducesTo_S4x2048x2048_S4x2048_d1 h_S_

/-- The kept bits after a step. -/
def stepped : IVec S4x2048 1 :=
  ori K (andi (andi (broadcastInDim S4x2048 ![0, 1] bcast_S1x2048_S4x2048_0_1 (cmpi .eq num (broadcastInDim S1x2048 ![] bcast_S_S1x2048 i)))
    (cmpf .ogt S (broadcastInDim S4x2048 ![] bcast_S_S4x2048 (constant S_ .f32 0x00000000#32)))) (noti (struck N K)))

theorem struck_at (w : Fin 4) (n : Fin 2048) : struck N K (ValueIdx.ix2 w n) = 1#1 ↔ ∃ j : Fin 2048, K (ValueIdx.ix2 w j) = 1#1 ∧ N (ValueIdx.ix3 w j n) = 1#1 := by
  have hr : S4x2048x2048.Reduces [1] S4x2048 := by decide
  unfold struck
  rw [Host.reduce_eq_fold_single IntOp.ori _ _ _ hr]
  refine (fold_ori _ _).trans ?_
  have hl : ∀ j : Fin 2048, hr.lift (ValueIdx.ix2 w n) j = (ValueIdx.ix3 w j n : S4x2048x2048.Idx) := fun j => by
    funext a
    match a with
    | ⟨0, _⟩ => rfl
    | ⟨1, _⟩ => rfl
    | ⟨2, _⟩ => rfl
  have hj : ∀ j : Fin 2048, (andi (first K) N ∘ hr.lift (ValueIdx.ix2 w n)) j = 1#1 ↔ K (ValueIdx.ix2 w j) = 1#1 ∧ N (ValueIdx.ix3 w j n) = 1#1 := fun j => by
    show andi (first K) N (hr.lift (ValueIdx.ix2 w n) j) = 1#1 ↔ _
    rw [hl j, ← first_at K w j n]
    exact IntOp.andi_eq_one
  exact ⟨fun ⟨j, _, h⟩ => ⟨j, (hj j).1 h⟩, fun ⟨j, h⟩ => ⟨j, Finset.mem_univ _, (hj j).2 h⟩⟩

theorem stepped_at (hnum : ∀ n : Fin 2048, num (ValueIdx.ix2 (0 : Fin 1) n) = BitVec.ofNat 32 n.val) (k : ℕ) (hk : k < 2048) (hi : ∀ z, i z = BitVec.ofNat 32 k)
    (w : Fin 4) (n : Fin 2048) : stepped N num S i K (ValueIdx.ix2 w n) = 1#1
      ↔ K (ValueIdx.ix2 w n) = 1#1 ∨ (n.val = k ∧ valid S w n.val) ∧ ¬∃ j : Fin 2048, K (ValueIdx.ix2 w j) = 1#1 ∧ N (ValueIdx.ix3 w j n) = 1#1 := by
  have h1 : broadcastInDim S4x2048 ![0, 1] bcast_S1x2048_S4x2048_0_1 (cmpi .eq num (broadcastInDim S1x2048 ![] bcast_S_S1x2048 i)) (ValueIdx.ix2 w n)
      = IntOp.cmpi .eq (BitVec.ofNat 32 n.val) (BitVec.ofNat 32 k) := by
    refine (broadcastInDim_apply _ _ _ _ (ValueIdx.ix2 (0 : Fin 1) n) fun a => ?_).trans (congrArg₂ (IntOp.cmpi .eq) (hnum n) (hi _))
    match a with
    | ⟨0, _⟩ => rfl
    | ⟨1, _⟩ => rfl
  have h2 : IntOp.cmpi .eq (BitVec.ofNat 32 n.val) (BitVec.ofNat 32 k) = 1#1 ↔ n.val = k := by
    rw [IntOp.cmpi_eq]
    refine ⟨fun h => ?_, fun h => by rw [h]⟩
    have := congrArg BitVec.toNat h
    simp only [BitVec.toNat_ofNat] at this
    omega
  unfold stepped valid
  rw [co_eq S w _ n.isLt]
  refine IntOp.ori_eq_one.trans (or_congr Iff.rfl (IntOp.andi_eq_one.trans (and_congr (IntOp.andi_eq_one.trans (and_congr ?_ Iff.rfl)) ?_)))
  · rw [h1]; exact h2
  · exact (noti_eq_one _).trans (not_congr (struck_at N K w n))

end Step

end Cert.Proof.KeepResult

end
-- ==== Proof.KeepResult.lean ====
/-
  The suppression's reference: what its loop starts from, what the loop leaves, and that its result is `marks` (Proof/KeepRun.lean) of its arguments.
-/
module

public import proofs.«01_k».proof.Proof.KeepTable

@[expose] public section

noncomputable section

namespace Cert.Proof.KeepResult

open Idealize.ShloMosaic Idealize.ShloMosaic.TcCoe Idealize.ShloMosaic.StableHlo Cert.KeepReferenceIdeal Cert.KeepReferenceIdeal.Gen Cert.KeepReferenceIdeal.Value Cert.Proof.Keep Classical

variable (m : (ℓ : Loc nD τ sig) → Buf (Elt Ideal) ℓ) (c : Dev nD)

abbrev boxesR : FVec Ideal S4x4x2048 .f32 := m ((c.tc : Thread nD τ).loc main_arg0)
abbrev classesR : FVec Ideal S4x2048 .f32 := m ((c.tc : Thread nD τ).loc main_arg1)
abbrev scoresR : FVec Ideal S4x2048 .f32 := m ((c.tc : Thread nD τ).loc main_arg2)

/-! ## The loop's entry -/

abbrev entry := entryContents (preI (F := Ideal)) m c

theorem entry_near : entry m c (Proc.devRef .tc main_v57_0)
    = nears (side (boxesR m c) (classesR m c) 0 slices_S4x4x2048_S4x1x2048_0_0_0) (side (boxesR m c) (classesR m c) 1 slices_S4x4x2048_S4x1x2048_0_1_0)
        (side (boxesR m c) (classesR m c) 2 slices_S4x4x2048_S4x1x2048_0_2_0) (side (boxesR m c) (classesR m c) 3 slices_S4x4x2048_S4x1x2048_0_3_0)
        (mulf (subf (side (boxesR m c) (classesR m c) 2 slices_S4x4x2048_S4x1x2048_0_2_0) (side (boxesR m c) (classesR m c) 0 slices_S4x4x2048_S4x1x2048_0_0_0))
          (subf (side (boxesR m c) (classesR m c) 3 slices_S4x4x2048_S4x1x2048_0_3_0) (side (boxesR m c) (classesR m c) 1 slices_S4x4x2048_S4x1x2048_0_1_0))) := by
  simp only [entry, entryContents, afterL_cons, afterL_nil]
  after_reads_simp
  rfl

theorem entry_number (n : Fin 2048) : (entry m c (Proc.devRef .tc main_v57_1) : IVec S1x2048 32) (ValueIdx.ix2 (0 : Fin 1) n) = BitVec.ofNat 32 n.val := by
  simp only [entry, entryContents, afterL_cons, afterL_nil]
  after_reads_simp
  rfl

theorem entry_scores : entry m c (Proc.devRef .tc main_v57_2) = scoresR m c := by
  simp only [entry, entryContents, afterL_cons, afterL_nil]
  after_reads_simp
  rfl

theorem entry_step : entry m c (Proc.devRef .tc main_v57_4) = fun _ => (0#32 : BitVec 32) := by
  simp only [entry, entryContents, afterL_cons, afterL_nil]
  after_reads_simp
  rfl

theorem entry_kept : entry m c (Proc.devRef .tc main_v57_5) = fun _ => (0#1 : BitVec 1) := by
  simp only [entry, entryContents, afterL_cons, afterL_nil]
  after_reads_simp
  rfl

/-- Before the loop: which pairs are near. -/
theorem near_at (w : Fin 4) (i j : Fin 2048) : (entry m c (Proc.devRef .tc main_v57_0) : IVec S4x2048x2048 1) (ValueIdx.ix3 w i j) = 1#1
    ↔ near (boxesR m c) (classesR m c) w i.val j.val := by
  rw [entry_near, side_eq _ _ 0 (by decide), side_eq _ _ 1 (by decide), side_eq _ _ 2 (by decide), side_eq _ _ 3 (by decide)]
  exact nears_at _ _ _ _ _ w i j

/-! ## The loop -/

/-- The carried contents before step `k`. -/
abbrev at_ (k : ℕ) := (STEP (F := Ideal))^[k] (entry m c)

theorem at_near : ∀ k, at_ m c k (Proc.devRef .tc main_v57_0) = entry m c (Proc.devRef .tc main_v57_0)
  | 0 => rfl
  | k + 1 => by rw [at_, Function.iterate_succ_apply', STEP_main_v57_0]; exact at_near k
theorem at_number : ∀ k, at_ m c k (Proc.devRef .tc main_v57_1) = entry m c (Proc.devRef .tc main_v57_1)
  | 0 => rfl
  | k + 1 => by rw [at_, Function.iterate_succ_apply', STEP_main_v57_1]; exact at_number k
theorem at_scores : ∀ k, at_ m c k (Proc.devRef .tc main_v57_2) = scoresR m c
  | 0 => entry_scores m c
  | k + 1 => by rw [at_, Function.iterate_succ_apply', STEP_main_v57_2]; exact at_scores k
theorem at_step : ∀ k, at_ m c k (Proc.devRef .tc main_v57_4) = fun _ => BitVec.ofNat 32 k
  | 0 => entry_step m c
  | k + 1 => by
    rw [at_, Function.iterate_succ_apply', STEP_main_v57_4]
    unfold step_main_v57_4
    rw [show (STEP (F := Ideal))^[k] (entry m c) (Proc.devRef .tc main_v57_4) = fun _ => BitVec.ofNat 32 k from at_step k]
    funext z
    exact (BitVec.ofNat_add k 1).symm

/-- Before step `k` exactly the kept candidates below `k` are marked. -/
theorem at_kept (w : Fin 4) : ∀ k, k ≤ 2048 → ∀ n : Fin 2048, (at_ m c k (Proc.devRef .tc main_v57_5) : IVec S4x2048 1) (ValueIdx.ix2 w n) = 1#1
      ↔ n.val < k ∧ Kept (valid (scoresR m c) w) (near (boxesR m c) (classesR m c) w) n.val
  | 0, _, n => by
    rw [show at_ m c 0 (Proc.devRef .tc main_v57_5) = fun _ => (0#1 : BitVec 1) from entry_kept m c]
    exact ⟨fun h => absurd (show (0#1 : BitVec 1) = 1#1 from h) (by decide), fun h => absurd h.1 (Nat.not_lt_zero _)⟩
  | k + 1, hk, n => by
    have ih := at_kept w k (by omega)
    have e : at_ m c (k + 1) (Proc.devRef .tc main_v57_5) = stepped (at_ m c k (Proc.devRef .tc main_v57_0)) (at_ m c k (Proc.devRef .tc main_v57_1))
        (at_ m c k (Proc.devRef .tc main_v57_2)) (at_ m c k (Proc.devRef .tc main_v57_4)) (at_ m c k (Proc.devRef .tc main_v57_5)) := by
      rw [at_, Function.iterate_succ_apply', STEP_main_v57_5]
      rfl
    rw [e]
    refine (stepped_at _ _ _ _ _ (fun n => ?_) k (by omega) (fun z => ?_) w n).trans ?_
    · rw [at_number]; exact entry_number m c n
    · rw [at_step]
    · have hb : (∃ j : Fin 2048, (at_ m c k (Proc.devRef .tc main_v57_5) : IVec S4x2048 1) (ValueIdx.ix2 w j) = 1#1
            ∧ (at_ m c k (Proc.devRef .tc main_v57_0) : IVec S4x2048x2048 1) (ValueIdx.ix3 w j n) = 1#1)
          ↔ ∃ j, j < k ∧ Kept (valid (scoresR m c) w) (near (boxesR m c) (classesR m c) w) j ∧ near (boxesR m c) (classesR m c) w j n.val := by
        rw [at_near]
        refine ⟨fun ⟨j, h1, h2⟩ => ⟨j.val, ((ih j).1 h1).1, ((ih j).1 h1).2, (near_at m c w j n).1 h2⟩, fun ⟨j, h0, h1, h2⟩ => ?_⟩
        exact ⟨⟨j, by omega⟩, (ih ⟨j, by omega⟩).2 ⟨h0, h1⟩, (near_at m c w ⟨j, by omega⟩ n).2 h2⟩
      rw [hb, ih n, at_scores]
      constructor
      · rintro (⟨h1, h2⟩ | ⟨⟨h1, h2⟩, h3⟩)
        · exact ⟨by omega, h2⟩
        · refine ⟨by omega, (kept_iff _ _ _).2 ⟨h2, fun j hj hk hn => h3 ⟨j, by omega, hk, hn⟩⟩⟩
      · rintro ⟨h1, h2⟩
        by_cases h : n.val = k
        · obtain ⟨h3, h4⟩ := (kept_iff _ _ _).1 h2
          exact .inr ⟨⟨h, h3⟩, fun ⟨j, hj, hk, hn⟩ => h4 j (by omega) hk hn⟩
        · exact .inl ⟨by omega, h2⟩

/-- A bit as a number. -/
theorem number_ind (b : BitVec 1) : (FloatOps.uitofp .f32 b : Ideal .f32) = ind (b = 1#1) := by
  show ((b.toNat : ℝ) : EReal) = _
  by_cases h : b = 1#1
  · subst h; rw [ind_true rfl]; simp
  · have h0 : b = 0#1 := by revert h; revert b; decide
    subst h0; rw [ind_false h]; simp

/-- The reference's result. -/
theorem result_eq : out_main_v58 (at_ m c 2048) = marks (boxesR m c) (classesR m c) (scoresR m c) := by
  funext y
  obtain ⟨w, n, rfl⟩ : ∃ (w : Fin 4) (n : Fin 2048), y = ValueIdx.ix2 w n := ⟨y 0, y 1, funext fun a => by match a with | ⟨0, _⟩ => rfl | ⟨1, _⟩ => rfl⟩
  refine (number_ind _).trans (ind_congr ((at_kept m c w 2048 le_rfl n).trans ⟨fun h => h.2, fun h => ⟨n.isLt, h⟩⟩))

end Cert.Proof.KeepResult

end
-- ==== Proof.BoxesSetup.lean ====
/-
  The box call as the launch theorem sees it, and what its tiles compute.

  The call runs on two SparseCores of sixteen vector subcores. Tile (core c, subcore s) has the number w = 2 s + c; it looks up
  the boxes of candidates 256 (w mod 8) to 256 (w mod 8) + 255 of image w / 8, one coordinate after the other.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.BoxesIdeal.Skeleton
public import Idealize.ShloMosaic.Lib.ValueIdxCore
public import proofs.«01_k».proof.Proof.Lanes

@[expose] public section

noncomputable section

namespace Cert.Proof.Boxes

open Cert.BoxesIdeal Cert.BoxesIdeal.Gen Cert.Proof.Lanes

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The flat boxes, the flat box numbers and the flat result, as locations of device `d`. -/
abbrev xLoc (d : Dev nD) : Loc nD τ sig := (SparseCore.T d).loc main_v0
abbrev nLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

theorem coords_eq (L : grid0.Coords) : L = coordsV (L 0) (L 1) := by
  funext a
  match a with
  | 0 => rfl
  | 1 => rfl

/-- The tile's number. -/
abbrev wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

theorem off1_eq (L : grid0.Coords) : k0_off1 L = ![80000 * (wid L / 8)] := by
  rw [coords_eq L]
  exact (by decide +kernel : ∀ (c : Fin (grid0.bound 0)) (s : Fin (grid0.bound 1)), k0_off1 (coordsV c s) = ![80000 * ((s.val * 2 + c.val) / 8)]) _ _
theorem off2_eq (L : grid0.Coords) : k0_off2 L = ![2048 * (wid L / 8) + 256 * (wid L % 8)] := by
  rw [coords_eq L]
  exact (by decide +kernel : ∀ (c : Fin (grid0.bound 0)) (s : Fin (grid0.bound 1)), k0_off2 (coordsV c s) = ![2048 * ((s.val * 2 + c.val) / 8) + 256 * ((s.val * 2 + c.val) % 8)]) _ _
theorem off8_eq (L : grid0.Coords) (r : Fin 4) : k0_off8 L (BitVec.ofNat 32 (2048 * r.val)) = ![8192 * (wid L / 8) + 2048 * r.val + 256 * (wid L % 8)] := by
  rw [coords_eq L]
  exact (by decide +kernel : ∀ (c : Fin (grid0.bound 0)) (s : Fin (grid0.bound 1)) (r : Fin 4), k0_off8 (coordsV c s) (BitVec.ofNat 32 (2048 * r.val))
    = ![8192 * ((s.val * 2 + c.val) / 8) + 2048 * r.val + 256 * ((s.val * 2 + c.val) % 8)]) _ _ _

/-- Coordinate `c` of box `n` of image `w`, in the flat boxes. -/
def coord (X : Vec F S320000 .f32) (w c n : ℕ) : F .f32 := word (N := 320000) (by decide) X (80000 * w + (4 * n + c))

/-- The number of the box of candidate `i` of image `w`. -/
def number (I : Vec F S8192 .i32) (w i : ℕ) : ℕ := (word (N := 8192) (by decide) I (2048 * w + i) : BitVec 32).toNat

/-- The flat result: image after image, coordinate after coordinate, the boxes of the 2048 candidates. -/
def outF (X : Vec F S320000 .f32) (I : Vec F S8192 .i32) : Vec F S32768 .f32 := fun j =>
  coord X ((j 0).val / 8192) ((j 0).val % 8192 / 2048) (number (F := F) I ((j 0).val / 8192) ((j 0).val % 2048))

end Cert.Proof.Boxes

end
-- ==== Proof.BoxesScan.lean ====
/-
  The loop of a tile of the box call: sixteen candidates a trip, each of the four coordinates looked up in the tile's copy of
  the boxes and stored in its own row of the tile's result.
-/
module

public import proofs.«01_k».proof.Proof.BoxesSetup

@[expose] public section

noncomputable section

namespace Cert.Proof.Boxes

open Cert.BoxesIdeal Cert.BoxesIdeal.Gen Cert.Proof.Lanes

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat boxes, box numbers and result; the tile's boxes, numbers and result
local notation "xM" => (Memref.whole Cert.BoxesIdeal.main_v0_scv : Memref Cert.BoxesIdeal.sig Kind.scVector Space.hbm Cert.BoxesIdeal.S320000 EltTy.f32)
local notation "nM" => (Memref.whole Cert.BoxesIdeal.main_v1_scv : Memref Cert.BoxesIdeal.sig Kind.scVector Space.hbm Cert.BoxesIdeal.S8192 EltTy.i32)
local notation "oM" => (Memref.whole Cert.BoxesIdeal.main_v2_scv : Memref Cert.BoxesIdeal.sig Kind.scVector Space.hbm Cert.BoxesIdeal.S32768 EltTy.f32)
local notation "xW" => (Memref.whole Cert.BoxesIdeal.cc0_scratch0 : Memref Cert.BoxesIdeal.sig Kind.scVector Space.vmem Cert.BoxesIdeal.S80000 EltTy.f32)
local notation "nW" => (Memref.whole Cert.BoxesIdeal.cc0_scratch1 : Memref Cert.BoxesIdeal.sig Kind.scVector Space.vmem Cert.BoxesIdeal.S256 EltTy.i32)
local notation "oW" => (Memref.whole Cert.BoxesIdeal.cc0_scratch2 : Memref Cert.BoxesIdeal.sig Kind.scVector Space.vmem Cert.BoxesIdeal.S4x256 EltTy.f32)

/-! ## What is stored -/

/-- Coordinate `c` of the box of the tile's candidate `i`. -/
def found (X : Vec F S80000 .f32) (N : Vec F S256 .i32) (c i : ℕ) : F .f32 :=
  word (N := 80000) (by decide) X (4 * (word (N := 256) (by decide) N i : BitVec 32).toNat + c)

/-- The tile's result holds the boxes of the candidates before `n`, and the first `c` coordinates of the sixteen from `n` on. -/
def Filled (X : Vec F S80000 .f32) (N : Vec F S256 .i32) (n c : ℕ) (f : Vec F S4x256 .f32) : Prop :=
  ∀ j : S4x256.Idx, (j 1).val < n ∨ (j 1).val < n + 16 ∧ (j 0).val < c → f j = found X N (j 0).val (j 1).val

theorem Filled.next {X : Vec F S80000 .f32} {N : Vec F S256 .i32} {n : ℕ} {f : Vec F S4x256 .f32} (h : Filled X N n 4 f) : Filled X N (n + 16) 0 f := fun j hj =>
  h j (by
    have h0 : (j 0).val < 4 := (j 0).isLt
    omega)

/-- A row of sixteen stored at row `c`, column `n`. -/
theorem store_row (v : View sig .scVector .vmem S4x256 .f32) (f : v.ty.Contents (Elt F)) {off : Fin 2 → ℕ} {c n : ℕ} (ho : off = ![c, n])
    (inb : ∀ a, off a + S1x16.size a ≤ S4x256.size a) (w : Vec F S16 .f32) (j : S4x256.Idx) (y : F .f32)
    (hit : ∀ k : Fin 16, (j 0).val = c → (j 1).val = n + k.val → w (Shape.ofLane k) = y)
    (miss : (j 0).val ≠ c ∨ (j 1).val < n ∨ n + 16 ≤ (j 1).val → v.read (Elt F) f j = y) :
    v.read (Elt F) ((v.slice (Rect.unit (s := S4x256) off S1x16.size inb)).write (Elt F) f (shapeCast S1x16 w shapeCasts_S16_S1x16) Finset.univ) j = y := by
  subst ho
  have hr := v.read_writes_cons_hit_of_coords f (Rect.unit (s := S4x256) ![c, n] S1x16.size inb) (shapeCast S1x16 w shapeCasts_S16_S1x16) []
  by_cases h : (j 0).val = c ∧ n ≤ (j 1).val ∧ (j 1).val < n + 16
  · obtain ⟨h0, h1, h2⟩ := h
    have hk : (j 1).val - n < 16 := by omega
    refine (hr (ValueIdx.ix2 (0 : Fin 1) (⟨(j 1).val - n, hk⟩ : Fin 16)) j fun a => ?_).trans ?_
    · match a with
      | ⟨0, _⟩ => show (j 0).val = c + 1 * 0; omega
      | ⟨1, _⟩ => show (j 1).val = n + 1 * ((j 1).val - n); omega
    · refine (shapeCast_apply w shapeCasts_S16_S1x16 _ (Shape.ofLane (d := ![16]) ⟨(j 1).val - n, hk⟩) ?_).trans
        (hit ⟨(j 1).val - n, hk⟩ h0 (by show (j 1).val = n + ((j 1).val - n); omega))
      rw [Shape.rowMajor_val_one, Shape.rowMajor_val_two]
      show (j 1).val - n = 0 * 16 + ((j 1).val - n)
      omega
  · by_cases h0 : (j 0).val = c
    · exact (v.read_writes_cons_miss_of_axis f ⟨Rect.unit (s := S4x256) ![c, n] S1x16.size inb, _⟩ [] j 1 n 16 rfl rfl rfl (by omega)).trans (miss (by omega))
    · exact (v.read_writes_cons_miss_of_axis f ⟨Rect.unit (s := S4x256) ![c, n] S1x16.size inb, _⟩ [] j 0 c 1 rfl rfl rfl (by omega)).trans (miss (by omega))

/-- The number of a word of the boxes, without overflow. -/
theorem place_toNat {b : BitVec 32} (hb : b.toNat < 20000) {c : ℕ} (hc : c < 4) : (b * 4#32 + BitVec.ofNat 32 c).toNat = 4 * b.toNat + c := by
  rw [BitVec.toNat_add, BitVec.toNat_mul, BitVec.toNat_ofNat, BitVec.toNat_ofNat]
  omega

/-- A vector of places: coordinate `c` of the boxes the sixteen lanes name. -/
def Places (b : Vec F S16 .i32) (c : ℕ) (p : IVec S16 32) : Prop := ∀ x : S16.Idx, (p x).toNat = 4 * (b x : BitVec 32).toNat + c

theorem places {b : Vec F S16 .i32} (hb : ∀ x, (b x : BitVec 32).toNat < 20000) {c : ℕ} (hc : c < 4) {p : IVec S16 32} (hp : ∀ x, p x = (b x : BitVec 32) * 4#32 + BitVec.ofNat 32 c) :
    Places (F := F) b c p := fun x => by rw [hp x]; exact place_toNat (hb x) hc

theorem Places.ok {b : Vec F S16 .i32} (hb : ∀ x, (b x : BitVec 32).toNat < 20000) {c : ℕ} (hc : c < 4) {p : IVec S16 32} (hp : Places (F := F) b c p) :
    ∀ a x, ((![p] : Fin 1 → IVec S16 32) a x).toNat < S80000.size a := fun a x => by
  obtain rfl : a = 0 := Subsingleton.elim _ _
  show (p x).toNat < 80000
  have h := hp x
  have h' := hb x
  omega

/-- One coordinate of sixteen candidates stored. -/
theorem Filled.store {X : Vec F S80000 .f32} {N : Vec F S256 .i32} {n c : ℕ} {f : Vec F S4x256 .f32} (h : Filled X N n c f)
    {b : Vec F S16 .i32} (hb : ∀ k : Fin 16, (b (Shape.ofLane k) : BitVec 32) = word (N := 256) (by decide) N (n + k.val))
    {p : IVec S16 32} (hp : Places (F := F) b c p) (ok : ∀ a x, ((![p] : Fin 1 → IVec S16 32) a x).toNat < S80000.size a)
    {off : Fin 2 → ℕ} (ho : off = ![c, n]) (inb : ∀ a, off a + S1x16.size a ≤ S4x256.size a) :
    Filled X N n (c + 1) (((oW).view.slice (Rect.unit (s := S4x256) off S1x16.size inb)).write (Elt F) f
      (shapeCast S1x16 (loadIdx (F := F) (e := .f32) (s := S80000) X ![p] ok) shapeCasts_S16_S1x16) Finset.univ) := fun j hj => by
  refine store_row (oW).view f ho inb _ j _ (fun k h0 h1 => ?_) (fun hm => h j (by omega))
  unfold found
  rw [h0, h1, ← hb k, ← hp]
  exact (word_eq (N := 80000) (by decide) X _ rfl).symm

variable [FloatOps F] (d : Dev nD) (L : grid0.Coords)

/-- The tile's buffers. -/
abbrev xwLoc : Loc nD τ sig := (V d (cV L) (jV L)).loc cc0_scratch0
abbrev nwLoc : Loc nD τ sig := (V d (cV L) (jV L)).loc cc0_scratch1
abbrev owLoc : Loc nD τ sig := (V d (cV L) (jV L)).loc cc0_scratch2

/-- The lookup in the tile's boxes, held whole. -/
theorem wp_lookup {α : Type} {Q : α → sProp 𝕄} {p : IVec S16 32}
    {h : ∀ a x, ((![p] : Fin 1 → IVec S16 32) a x).toNat < S80000.size a} {hl : (xW).view.Loads}
    {k : Vec F S16 .f32 → Prog (TpuEff nD τ sig (Elt F) Λ₀ (V d (cV L) (jV L)).2) α} {f : Vec F S80000 .f32} :
    (xwLoc d L ↦{fullShare} f : sProp 𝕄)
      ⊢ iprop(((xwLoc d L ↦{fullShare} f) -∗ wp frame (wpE (defs₀ (F := F)) 𝒱₀ (V d (cV L) (jV L)) none) Set.univ (k (loadIdx (F := F) (e := .f32) (s := S80000) f ![p] h)) Q)
          -∗ wp frame (wpE (defs₀ (F := F)) 𝒱₀ (V d (cV L) (jV L)) none) Set.univ (SparseCore.vectorLoadIdx (xW) ![p] h hl >>= k) Q) := by
  have H := SparseCore.wp_vectorLoadIdx (defs := defs₀ (F := F)) 𝒱₀ (V d (cV L) (jV L)) none Set.univ (base := xW) (idxs := ![p])
    (h := h) (hl := hl) (k := k) (f := f) (q := fullShare) (S := Finset.univ) (Q := Q) (Finset.subset_univ _)
  rw [Memref.read_access_whole] at H
  exact H

/-- What the tile holds before trip `t`: its boxes, its numbers, its result so far. -/
def I1 (X : Vec F S80000 .f32) (N : Vec F S256 .i32) (t : ℕ) (_ : BitVec 32) : sProp 𝕄 :=
  iprop((xwLoc d L ↦{fullShare} X) ∗ (nwLoc d L ↦{fullShare} N) ∗ ∃ f : Vec F S4x256 .f32, ⌜Filled X N (16 * t) 0 f⌝ ∗ (owLoc d L ↦{fullShare} f))

theorem t1_step (X : Vec F S80000 .f32) (N : Vec F S256 .i32) (hN : ∀ j, (N j : BitVec 32).toNat < 20000) (v18 v28 : BitVec 32) (t : Fin k0_t1_loop.trips) (acc : BitVec 32) :
    I1 d L X N t.val acc
      ⊢ wp frame (wpE (defs₀ (F := F)) 𝒱₀ (V d (cV L) (jV L)) none) Set.univ
          (k0_t1_body L xM (Memref.isWhole_whole _) nM (Memref.isWhole_whole _) oM (Memref.isWhole_whole _)
            xW (Memref.isWhole_whole _) nW (Memref.isWhole_whole _) oW (Memref.isWhole_whole _)
            cc0_scoped0 cc0_scoped1 cc0_scoped2 cc0_scoped3 cc0_scoped4 cc0_scoped5 v18 v28 t acc)
          (I1 d L X N (t.val + 1)) := by
  have ht : t.val < 16 := t.isLt
  have hb : ∀ k : Fin 16, ((nW).view.readAt (Elt F) (Rect.unit (s := S256) (k0_off3 t) S16.size (k0_off3_inb t)).toLoadRect N (Shape.ofLane k) : BitVec 32)
      = word (N := 256) (by decide) N (16 * t.val + k.val) := fun k => by
    refine (load_lanes (nW).view N (k0_off3_eq t) (k0_off3_inb t) k (Shape.ofLane (d := ![256]) ⟨16 * t.val + k.val, show 16 * t.val + k.val < 256 by omega⟩) rfl).trans ?_
    exact (word_eq (N := 256) (by decide) N _ rfl).symm
  unfold I1
  iintro ⟨Hx, Hn, %f, %hf, Ho⟩
  rw [show 16 * (t.val + 1) = 16 * t.val + 16 by omega]
  unfold k0_t1_body
  dsimp only
  rw [k0_part1_eq_skeleton]
  unfold k0_part1_skel
  dsimp only
  simp only [Prog.lift, Prog.bind_op, Prog.bind_ret, Prog.bind_assoc, Prog.pure_eq_ret]
  iapply (wp_load 𝒱₀ (V d (cV L) (jV L)) none Set.univ (m := nW) (S := Finset.univ) (Finset.subset_univ _)) $$ Hn; iintro Hn
  generalize (nW).view.readAt (Elt F) (Rect.unit (s := S256) (k0_off3 t) S16.size (k0_off3_inb t)).toLoadRect N = b at hb ⊢
  have hlt : ∀ x, (b x : BitVec 32).toNat < 20000 := fun x => by
    rw [lane_eq x, hb (x 0)]
    exact hN _
  have p1 : Places (F := F) b 0 (k0_pay1 b) := places hlt (by decide) fun x => rfl
  have p2 : Places (F := F) b 1 (k0_pay2 b) := places hlt (by decide) fun x => rfl
  have p3 : Places (F := F) b 2 (k0_pay3 b) := places hlt (by decide) fun x => rfl
  have p4 : Places (F := F) b 3 (k0_pay4 b) := places hlt (by decide) fun x => rfl
  rw [wp_assume_of _ _ _ _ (show k0_chk1 (k0_pay1 b) from p1.ok hlt (by decide))]
  iapply (wp_lookup d L) $$ Hx; iintro Hx
  iapply (wp_load 𝒱₀ (V d (cV L) (jV L)) none Set.univ (m := oW) (S := Finset.univ) (Finset.subset_univ _)) $$ Ho; iintro Ho
  iapply (wp_store 𝒱₀ (V d (cV L) (jV L)) none Set.univ (m := oW) (r := Rect.unit (s := S4x256) (k0_off4 t) S1x16.size (k0_off4_inb t)) (S := Finset.univ) (Finset.subset_univ _)) $$ Ho; iintro Ho
  have hf1 := hf.store hb p1 (p1.ok hlt (by decide)) (k0_off4_eq t) (k0_off4_inb t)
  rw [wp_assume_of _ _ _ _ (show k0_chk2 (k0_pay2 b) from p2.ok hlt (by decide))]
  iapply (wp_lookup d L) $$ Hx; iintro Hx
  iapply (wp_load 𝒱₀ (V d (cV L) (jV L)) none Set.univ (m := oW) (S := Finset.univ) (Finset.subset_univ _)) $$ Ho; iintro Ho
  iapply (wp_store 𝒱₀ (V d (cV L) (jV L)) none Set.univ (m := oW) (r := Rect.unit (s := S4x256) (k0_off5 t) S1x16.size (k0_off5_inb t)) (S := Finset.univ) (Finset.subset_univ _)) $$ Ho; iintro Ho
  have hf2 := hf1.store hb p2 (p2.ok hlt (by decide)) (k0_off5_eq t) (k0_off5_inb t)
  rw [wp_assume_of _ _ _ _ (show k0_chk3 (k0_pay3 b) from p3.ok hlt (by decide))]
  iapply (wp_lookup d L) $$ Hx; iintro Hx
  iapply (wp_load 𝒱₀ (V d (cV L) (jV L)) none Set.univ (m := oW) (S := Finset.univ) (Finset.subset_univ _)) $$ Ho; iintro Ho
  iapply (wp_store 𝒱₀ (V d (cV L) (jV L)) none Set.univ (m := oW) (r := Rect.unit (s := S4x256) (k0_off6 t) S1x16.size (k0_off6_inb t)) (S := Finset.univ) (Finset.subset_univ _)) $$ Ho; iintro Ho
  have hf3 := hf2.store hb p3 (p3.ok hlt (by decide)) (k0_off6_eq t) (k0_off6_inb t)
  rw [wp_assume_of _ _ _ _ (show k0_chk4 (k0_pay4 b) from p4.ok hlt (by decide))]
  iapply (wp_lookup d L) $$ Hx; iintro Hx
  iapply (wp_load 𝒱₀ (V d (cV L) (jV L)) none Set.univ (m := oW) (S := Finset.univ) (Finset.subset_univ _)) $$ Ho; iintro Ho
  iapply (wp_store 𝒱₀ (V d (cV L) (jV L)) none Set.univ (m := oW) (r := Rect.unit (s := S4x256) (k0_off7 t) S1x16.size (k0_off7_inb t)) (S := Finset.univ) (Finset.subset_univ _)) $$ Ho; iintro Ho
  have hf4 := hf3.store hb p4 (p4.ok hlt (by decide)) (k0_off7_eq t) (k0_off7_inb t)
  rw [wp_ret]; imodintro
  isplitl [Hx]; · iexact Hx
  isplitl [Hn]; · iexact Hn
  iexists _
  isplitr
  swap; · iexact Ho
  ipureintro
  exact hf4.next

end Cert.Proof.Boxes

end
-- ==== Proof.Copy.lean ====
/-
  A copy inside one tile that is waited for at once.
-/
module

public import Idealize.ShloMosaic.Lib.SparseCore.Quiescent
public import Idealize.ShloMosaic.Lib.SparseCore.Ops
public import Idealize.ShloMosaic.Lib.Transfers
public import Idealize.ShloMosaic.Lib.Tactic

@[expose] public section

noncomputable section

namespace Cert.Proof.Copy

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {nD : ℕ} {τ : Topo} {sig : RefSig} {Λ : Labels}

local notation "𝕄" => MT nD τ sig (HIx 1) (Elt F) ℕ (URounds (GSem nD τ sig) ℕ × Counters) ℕ

/-- The copy's destination is rewritten with what the source reads, the rest is as before. -/
theorem wp_copy {defs : Defs nD τ sig (Elt F) Λ} (𝒱 : Variants) (c : Thread nD τ) (bd : Option 𝒱.V) {α : Type} {Q : α → sProp 𝕄} {sp sp' : Space} {s : Shape} {e : EltTy}
    {src srcw : Memref sig c.2.kind sp s e} {dst dstw : Memref sig c.2.kind sp' s e} {sem : DmaSem sig}
    {hsrc : src.view.WordExact} {hdst : dst.view.WordExact} {hsem : DmaTarget.Typed (nD := nD) sp (.dma sem) (.here dst)} {hsrcw : srcw.view.WordExact} {hdstw : dstw.view.WordExact}
    {k : PUnit → Prog (TpuEff nD τ sig (Elt F) Λ c.2) α} {q : PosShare TreeShare} {fs : Buf (Elt F) (src.view.loc c)}
    {fd : Buf (Elt F) (dst.view.loc c)} (Sd : Finset (Idx (dst.view.loc c)))
    {O : CellTallies nD τ sig (HIx 1)} {W : Waits sig (HIx 1)}
    (hN : dstw.view.dmaCredit = dst.view.amount (.dma sem)) (hN0 : 0 < dst.view.amount (.dma sem)) (hSd : dst.view.set ⊆ Sd) :
    iprop((src.view.loc c ↦[src.view.set]{q} fs) ∗ (dst.view.loc c ↦[Sd]{fullShare} fd) ∗ semVal (c, .dma sem) 0 ∗ Transfers.MayWaits c (default : HIx 1) O ∗ owes c O W)
      ⊢ iprop((iprop((src.view.loc c ↦[src.view.set]{q} fs) ∗ (dst.view.loc c ↦[Sd]{fullShare} (dst.view.write (Elt F) fd (src.view.read (Elt F) fs) Finset.univ))
            ∗ semVal (c, .dma sem) 0 ∗ owes c O (insert (SemLoc.dma sem, (default : HIx 1)) W)) -∗ wp frame (wpE defs 𝒱 c bd) Set.univ (k ⟨⟩) Q)
          -∗ wp frame (wpE defs 𝒱 c bd) Set.univ (.op (.enqueueDma src (.here dst) (.dma sem) hsrc hdst hsem) fun _ => .op (.waitDma2 sem srcw dstw hsrcw hdstw) k) Q) := by
  iintro ⟨Hs, Hd, Hsem, Hmw, HO⟩ Hk
  iapply (Transfers.wp_dmaLocal countersEmb 𝒱 c bd (default : HIx 1) _ rfl hN0 hSd) $$ [Hs Hd Hsem]
  · isplitl [Hs]; · iexact Hs
    isplitl [Hd]; · iexact Hd
    iexact Hsem
  iintro HF
  iapply (Transfers.wp_waitLocalO countersEmb 𝒱 c bd (default : HIx 1) hN) $$ [HF HO Hmw]
  · isplitl [HF]; · iexact HF
    isplitl [HO]; · iexact HO
    iapply (Transfers.MayWaits.elim _); iexact Hmw
  iintro ⟨⟨Hd, Hs⟩, Hsem, HO⟩
  iapply Hk
  isplitl [Hs]; · iexact Hs
  isplitl [Hd]; · iexact Hd
  isplitl [Hsem] <;> iassumption

end Cert.Proof.Copy

end
-- ==== Proof.BoxesTile.lean ====
/-
  A tile's task of the box call: it copies its image's boxes and its 256 box numbers in, looks the boxes up, and copies the four
  coordinates' rows out.
-/
module

public import proofs.«01_k».proof.Proof.BoxesScan
public import proofs.«01_k».proof.Proof.Copy

@[expose] public section

noncomputable section

namespace Cert.Proof.Boxes

open Cert.BoxesIdeal Cert.BoxesIdeal.Gen Cert.Proof.Lanes Cert.Proof.Copy

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat boxes, box numbers and result; the tile's boxes, numbers and result
local notation "xM" => (Memref.whole Cert.BoxesIdeal.main_v0_scv : Memref Cert.BoxesIdeal.sig Kind.scVector Space.hbm Cert.BoxesIdeal.S320000 EltTy.f32)
local notation "nM" => (Memref.whole Cert.BoxesIdeal.main_v1_scv : Memref Cert.BoxesIdeal.sig Kind.scVector Space.hbm Cert.BoxesIdeal.S8192 EltTy.i32)
local notation "oM" => (Memref.whole Cert.BoxesIdeal.main_v2_scv : Memref Cert.BoxesIdeal.sig Kind.scVector Space.hbm Cert.BoxesIdeal.S32768 EltTy.f32)
local notation "xW" => (Memref.whole Cert.BoxesIdeal.cc0_scratch0 : Memref Cert.BoxesIdeal.sig Kind.scVector Space.vmem Cert.BoxesIdeal.S80000 EltTy.f32)
local notation "nW" => (Memref.whole Cert.BoxesIdeal.cc0_scratch1 : Memref Cert.BoxesIdeal.sig Kind.scVector Space.vmem Cert.BoxesIdeal.S256 EltTy.i32)
local notation "oW" => (Memref.whole Cert.BoxesIdeal.cc0_scratch2 : Memref Cert.BoxesIdeal.sig Kind.scVector Space.vmem Cert.BoxesIdeal.S4x256 EltTy.f32)

variable (L : grid0.Coords)

/-- The tile's thread. -/
abbrev thr (d : Dev nD) : Thread nD τ := V d (cV L) (jV L)

/-- The slots of tile `w`: 256 of each coordinate of its image. -/
def slots (w : Fin 32) : Finset S32768.Idx := Finset.univ.filter fun j => (j 0).val / 8192 = w.val / 8 ∧ (j 0).val % 2048 / 256 = w.val % 8
abbrev widF (L : grid0.Coords) : Fin 32 := ⟨wid L, wid_lt L⟩

/-- The parts of the inputs that the tile copies, its result's row `r`, and where that goes. -/
abbrev xSl : Memref sig .scVector .hbm S80000 .f32 := (xM).slice (Rect.unit (s := S320000) (k0_off1 L) S80000.size (k0_off1_inb L)) (fun _ => rfl)
abbrev nSl : Memref sig .scVector .hbm S256 .i32 := (nM).slice (Rect.unit (s := S8192) (k0_off2 L) S256.size (k0_off2_inb L)) (fun _ => rfl)
abbrev row (r : ℕ) (inb : ∀ a, (![r, 0] : Fin 2 → ℕ) a + S1x256.size a ≤ S4x256.size a) : Memref sig .scVector .vmem S256 .f32 :=
  ((oW).slice (Rect.unit (s := S4x256) ![r, 0] S1x256.size inb) (fun _ => rfl)).squeeze S256 squeezes_S1x256_S256
abbrev oSl (b : BitVec 32) (inb : ∀ a, k0_off8 L b a + S256.size a ≤ S32768.size a) : Memref sig .scVector .hbm S256 .f32 :=
  (oM).slice (Rect.unit (s := S32768) (k0_off8 L b) S256.size inb) (fun _ => rfl)

/-- A row of the tile's result. -/
theorem row_read (f : Vec F S4x256 .f32) {r : ℕ} (hr : r < 4) (inb : ∀ a, (![r, 0] : Fin 2 → ℕ) a + S1x256.size a ≤ S4x256.size a) (k : S256.Idx) :
    (row r inb).view.read (Elt F) f k = f (ValueIdx.ix2 (⟨r, hr⟩ : Fin 4) (⟨(k 0).val, (k 0).isLt⟩ : Fin 256)) := by
  have hc : S1x256.ShapeCasts S256 := by decide
  refine (congrFun (Memref.read_squeeze_slice (Val := Elt F) (oW) (Rect.unit (s := S4x256) ![r, 0] S1x256.size inb) (fun _ => rfl) squeezes_S1x256_S256 hc f) k).trans ?_
  refine (shapeCast_apply _ hc k (ValueIdx.ix2 (0 : Fin 1) (⟨(k 0).val, (k 0).isLt⟩ : Fin 256)) ?_).trans ?_
  · rw [Shape.rowMajor_val_one, Shape.rowMajor_val_two]
    show 0 * 256 + (k 0).val = (k 0).val
    omega
  · show f _ = f _
    congr 1
    funext a
    refine Fin.ext ?_
    match a with
    | ⟨0, _⟩ => show r + 1 * 0 = r; omega
    | ⟨1, _⟩ => show 0 + 1 * (k 0).val = (k 0).val; omega

section
variable {L} {r : Fin 4} {b : BitVec 32} (hb : b = BitVec.ofNat 32 (2048 * r.val)) (inb : ∀ a, k0_off8 L b a + S256.size a ≤ S32768.size a)
include hb

/-- Where the tile's word `j` of coordinate `r` lies in the flat result. -/
theorem oSl_emb (j : S256.Idx) : ((Rect.unit (s := S32768) (k0_off8 L b) S256.size inb).emb j 0).val = 8192 * (wid L / 8) + 2048 * r.val + 256 * (wid L % 8) + (j 0).val := by
  subst hb
  show k0_off8 L (BitVec.ofNat 32 (2048 * r.val)) 0 + 1 * (j 0).val = _
  rw [off8_eq]
  show 8192 * (wid L / 8) + 2048 * r.val + 256 * (wid L % 8) + 1 * (j 0).val = _
  omega

/-- They are the tile's slots of coordinate `r`. -/
theorem mem_oSl (i : S32768.Idx) : i ∈ (oSl L b inb).view.set ↔ i ∈ slots (widF L) ∧ (i 0).val % 8192 / 2048 = r.val := by
  have hr := r.isLt
  unfold slots
  rw [Finset.mem_filter]
  constructor
  · intro hi
    obtain ⟨j, -, rfl⟩ := Finset.mem_map.mp hi
    have hj : (j 0).val < 256 := (j 0).isLt
    show (_ ∧ ((Rect.unit (s := S32768) (k0_off8 L b) S256.size inb).emb j 0).val / 8192 = wid L / 8
        ∧ ((Rect.unit (s := S32768) (k0_off8 L b) S256.size inb).emb j 0).val % 2048 / 256 = wid L % 8)
      ∧ ((Rect.unit (s := S32768) (k0_off8 L b) S256.size inb).emb j 0).val % 8192 / 2048 = r.val
    rw [oSl_emb hb inb]
    refine ⟨⟨Finset.mem_univ _, ?_, ?_⟩, ?_⟩ <;> omega
  · rintro ⟨⟨-, h1, h2⟩, h3⟩
    have h1 : (i 0).val / 8192 = wid L / 8 := h1
    have h2 : (i 0).val % 2048 / 256 = wid L % 8 := h2
    refine Finset.mem_map.mpr ⟨Shape.ofLane (d := ![256]) ⟨(i 0).val % 256, Nat.mod_lt _ (by decide)⟩, Finset.mem_univ _, ?_⟩
    funext (a : Fin 1)
    obtain rfl : a = 0 := Subsingleton.elim _ _
    refine Fin.ext ((oSl_emb hb inb _).trans ?_)
    show 8192 * (wid L / 8) + 2048 * r.val + 256 * (wid L % 8) + (i 0).val % 256 = _
    omega

theorem oSl_subset : (oSl L b inb).view.set ⊆ slots (widF L) := fun i hi => ((mem_oSl hb inb i).mp hi).1

end

/-- The tile's slots of the first `r` coordinates hold the boxes. -/
def Copied (X : Vec F S320000 .f32) (I : Vec F S8192 .i32) (r : ℕ) (f : Vec F S32768 .f32) : Prop :=
  ∀ i ∈ slots (widF L), (i 0).val % 8192 / 2048 < r → f i = outF X I i

/-- The tile's result is its image's boxes of its candidates. -/
theorem found_coord (X : Vec F S320000 .f32) (I : Vec F S8192 .i32) (hI : ∀ j, (I j : BitVec 32).toNat < 20000) {c i : ℕ} (hc : c < 4) (hi : i < 256) :
    found (F := F) ((xSl L).view.read (Elt F) X) ((nSl L).view.read (Elt F) I) c i = coord X (wid L / 8) c (number (F := F) I (wid L / 8) (256 * (wid L % 8) + i)) := by
  have e : (word (N := 256) (by decide) ((nSl L).view.read (Elt F) I) i : BitVec 32) = word (N := 8192) (by decide) I (2048 * (wid L / 8) + (256 * (wid L % 8) + i)) := by
    refine (word_eq (N := 256) (by decide) _ (Shape.ofLane (d := ![256]) ⟨i, hi⟩) rfl).trans ((slice_word (N := 8192) (by decide) (off2_eq L) (k0_off2_inb L) I _).trans ?_)
    congr 1
    show 2048 * (wid L / 8) + 256 * (wid L % 8) + i = _
    omega
  unfold found coord number
  rw [e]
  have hn : (word (N := 8192) (by decide) I (2048 * (wid L / 8) + (256 * (wid L % 8) + i)) : BitVec 32).toNat < 20000 := hI _
  generalize (word (N := 8192) (by decide) I (2048 * (wid L / 8) + (256 * (wid L % 8) + i)) : BitVec 32).toNat = n at hn ⊢
  have hlt : 4 * n + c < 80000 := by omega
  exact (word_eq (N := 80000) (by decide) _ (Shape.ofLane (d := ![80000]) ⟨4 * n + c, hlt⟩) rfl).trans (slice_word (N := 320000) (by decide) (off1_eq L) (k0_off1_inb L) X _)

/-- A row's copy out. -/
theorem Copied.next {X : Vec F S320000 .f32} {I : Vec F S8192 .i32} (hI : ∀ j, (I j : BitVec 32).toNat < 20000) {g : Vec F S4x256 .f32}
    (hg : Filled ((xSl L).view.read (Elt F) X) ((nSl L).view.read (Elt F) I) 256 0 g) {f : Vec F S32768 .f32} (r : Fin 4) (h : Copied L X I r.val f)
    {b : BitVec 32} (hb : b = BitVec.ofNat 32 (2048 * r.val)) (inb : ∀ a, k0_off8 L b a + S256.size a ≤ S32768.size a)
    (inb' : ∀ a, (![r.val, 0] : Fin 2 → ℕ) a + S1x256.size a ≤ S4x256.size a) :
    Copied L X I (r.val + 1) ((oSl L b inb).view.write (Elt F) f ((row r.val inb').view.read (Elt F) g) Finset.univ) := by
  intro i hi hr
  by_cases hm : i ∈ (oSl L b inb).view.set
  · obtain ⟨j, -, rfl⟩ := Finset.mem_map.mp hm
    have hj : (j 0).val < 256 := (j 0).isLt
    have hrl := r.isLt
    refine (congrFun ((oSl L b inb).view.read_write_univ (Val := Elt F) f _) j).trans ((row_read g r.isLt inb' j).trans ((hg _ (.inl hj)).trans ?_))
    refine (found_coord L X I hI r.isLt hj).trans ?_
    unfold outF
    show _ = coord X (((Rect.unit (s := S32768) (k0_off8 L b) S256.size inb).emb j 0).val / 8192) (((Rect.unit (s := S32768) (k0_off8 L b) S256.size inb).emb j 0).val % 8192 / 2048)
      (number (F := F) I (((Rect.unit (s := S32768) (k0_off8 L b) S256.size inb).emb j 0).val / 8192) (((Rect.unit (s := S32768) (k0_off8 L b) S256.size inb).emb j 0).val % 2048))
    rw [oSl_emb hb inb, show (8192 * (wid L / 8) + 2048 * r.val + 256 * (wid L % 8) + (j 0).val) / 8192 = wid L / 8 by omega,
      show (8192 * (wid L / 8) + 2048 * r.val + 256 * (wid L % 8) + (j 0).val) % 8192 / 2048 = r.val by omega,
      show (8192 * (wid L / 8) + 2048 * r.val + 256 * (wid L % 8) + (j 0).val) % 2048 = 256 * (wid L % 8) + (j 0).val by omega]
  · refine ((oSl L b inb).view.write_of_not_mem (Val := Elt F) f _ Finset.univ hm).trans (h i hi ?_)
    have hne : (i 0).val % 8192 / 2048 ≠ r.val := fun e => hm ((mem_oSl hb inb i).mpr ⟨hi, e⟩)
    omega

variable [FloatOps F] (d : Dev nD)

/-- The copies' semaphores. -/
abbrev cell0 : GSem nD τ sig := (thr L d, .dma cc0_scoped0.sem)
abbrev cell1 : GSem nD τ sig := (thr L d, .dma cc0_scoped1.sem)
abbrev cell2 : GSem nD τ sig := (thr L d, .dma cc0_scoped2.sem)
abbrev cell3 : GSem nD τ sig := (thr L d, .dma cc0_scoped3.sem)
abbrev cell4 : GSem nD τ sig := (thr L d, .dma cc0_scoped4.sem)
abbrev cell5 : GSem nD τ sig := (thr L d, .dma cc0_scoped5.sem)

theorem cell_ne {a b : DmaSem sig} (h : a ≠ b) : ((thr L d, .dma a) : GSem nD τ sig) ≠ (thr L d, .dma b) := fun e => h (by injection (Prod.mk.inj e).2)
theorem ref_ne {a b : Ref sig .scVector} (h : a ≠ b) : (Proc.scVector (cV L) (jV L)).devRef a ≠ (Proc.scVector (cV L) (jV L)).devRef b :=
  fun e => absurd (Proc.devRef_injective _ e) h

theorem ownSems0_V :
    (ownSems0 (thr L d) : sProp 𝕄)
      = iprop(semVal (cell0 L d) 0 ∗ semVal (cell1 L d) 0 ∗ semVal (cell2 L d) 0 ∗ semVal (cell3 L d) 0 ∗ semVal (cell4 L d) 0 ∗ semVal (cell5 L d) 0
          ∗ bigSep (((((((ownCells (thr L d)).erase (cell0 L d)).erase (cell1 L d)).erase (cell2 L d)).erase (cell3 L d)).erase (cell4 L d)).erase (cell5 L d)) fun g => semVal g 0) := by
  unfold SparseCore.Cfg.ownSems0
  rw [SparseCore.bigSep_erase' ((mem_ownCells (g := cell0 L d)).mpr ⟨rfl, by show (SemLoc.dma cc0_scoped0.sem : SemLoc sig).isScoped .scVector = true; decide⟩),
    SparseCore.bigSep_erase' (Finset.mem_erase.mpr ⟨cell_ne L d (show cc0_scoped1.sem ≠ cc0_scoped0.sem by decide), (mem_ownCells (g := cell1 L d)).mpr ⟨rfl, by show (SemLoc.dma cc0_scoped1.sem : SemLoc sig).isScoped .scVector = true; decide⟩⟩),
    SparseCore.bigSep_erase' (Finset.mem_erase.mpr ⟨cell_ne L d (show cc0_scoped2.sem ≠ cc0_scoped1.sem by decide), Finset.mem_erase.mpr ⟨cell_ne L d (show cc0_scoped2.sem ≠ cc0_scoped0.sem by decide), (mem_ownCells (g := cell2 L d)).mpr ⟨rfl, by show (SemLoc.dma cc0_scoped2.sem : SemLoc sig).isScoped .scVector = true; decide⟩⟩⟩),
    SparseCore.bigSep_erase' (Finset.mem_erase.mpr ⟨cell_ne L d (show cc0_scoped3.sem ≠ cc0_scoped2.sem by decide), Finset.mem_erase.mpr ⟨cell_ne L d (show cc0_scoped3.sem ≠ cc0_scoped1.sem by decide), Finset.mem_erase.mpr ⟨cell_ne L d (show cc0_scoped3.sem ≠ cc0_scoped0.sem by decide), (mem_ownCells (g := cell3 L d)).mpr ⟨rfl, by show (SemLoc.dma cc0_scoped3.sem : SemLoc sig).isScoped .scVector = true; decide⟩⟩⟩⟩),
    SparseCore.bigSep_erase' (Finset.mem_erase.mpr ⟨cell_ne L d (show cc0_scoped4.sem ≠ cc0_scoped3.sem by decide), Finset.mem_erase.mpr ⟨cell_ne L d (show cc0_scoped4.sem ≠ cc0_scoped2.sem by decide), Finset.mem_erase.mpr ⟨cell_ne L d (show cc0_scoped4.sem ≠ cc0_scoped1.sem by decide), Finset.mem_erase.mpr ⟨cell_ne L d (show cc0_scoped4.sem ≠ cc0_scoped0.sem by decide), (mem_ownCells (g := cell4 L d)).mpr ⟨rfl, by show (SemLoc.dma cc0_scoped4.sem : SemLoc sig).isScoped .scVector = true; decide⟩⟩⟩⟩⟩),
    SparseCore.bigSep_erase' (Finset.mem_erase.mpr ⟨cell_ne L d (show cc0_scoped5.sem ≠ cc0_scoped4.sem by decide), Finset.mem_erase.mpr ⟨cell_ne L d (show cc0_scoped5.sem ≠ cc0_scoped3.sem by decide), Finset.mem_erase.mpr ⟨cell_ne L d (show cc0_scoped5.sem ≠ cc0_scoped2.sem by decide), Finset.mem_erase.mpr ⟨cell_ne L d (show cc0_scoped5.sem ≠ cc0_scoped1.sem by decide), Finset.mem_erase.mpr ⟨cell_ne L d (show cc0_scoped5.sem ≠ cc0_scoped0.sem by decide), (mem_ownCells (g := cell5 L d)).mpr ⟨rfl, by show (SemLoc.dma cc0_scoped5.sem : SemLoc sig).isScoped .scVector = true; decide⟩⟩⟩⟩⟩⟩)]

theorem ownBufs_V :
    (ownBufs (thr L d) : sProp 𝕄)
      = iprop((∃ f : Vec F S80000 .f32, xwLoc d L ↦{fullShare} f) ∗ (∃ f : Vec F S256 .i32, nwLoc d L ↦{fullShare} f) ∗ (∃ f : Vec F S4x256 .f32, owLoc d L ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ref_ne L (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ref_ne L (show (cc0_scratch2 : Ref sig .scVector) ≠ cc0_scratch1 by decide), Finset.mem_erase.mpr ⟨ref_ne L (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩)]
  rfl

/-- What a tile is handed: read shares of the inputs and its slots of the result; and what it hands back. -/
abbrev goP (q : PosShare TreeShare) (X : Vec F S320000 .f32) (I : Vec F S8192 .i32) (fo : Vec F S32768 .f32) (w : Fin 32) : sProp 𝕄 :=
  iprop((xLoc d ↦{q} X) ∗ (nLoc d ↦{q} I) ∗ (oLoc d ↦[slots w]{fullShare} fo))

set_option maxHeartbeats 2000000 in
theorem tile_body (q : PosShare TreeShare) (X : Vec F S320000 .f32) (I : Vec F S8192 .i32) (fo : Vec F S32768 .f32) (hI : ∀ j, (I j : BitVec 32).toNat < 20000)
    (hF : (K (F := F)).Facts) (O : CellTallies nD τ sig (HIx 1)) (W : Waits sig (HIx 1)) (hO : ∀ g, O g none = 0) :
    iprop(levAts (K (F := F)).L (K (F := F)).lev ∗ emp ∗ goP d q X I fo (widF L)
        ∗ scopedBufs (thr L d) ∗ scopedSems0 (thr L d) ∗ owes (thr L d) O W)
      ⊢ wp frame (wpE (defs₀ (F := F)) 𝒱₀ (thr L d) none) Set.univ
          (cc0__stage_d_kernel L xM (Memref.isWhole_whole _) nM (Memref.isWhole_whole _) oM (Memref.isWhole_whole _)
            xW (Memref.isWhole_whole _) nW (Memref.isWhole_whole _) oW (Memref.isWhole_whole _)
            cc0_scoped0 cc0_scoped1 cc0_scoped2 cc0_scoped3 cc0_scoped4 cc0_scoped5)
          fun _ => iprop(goP d q X I (outF X I) (widF L) ∗ scopedBufs (thr L d) ∗ scopedSems0 (thr L d)
            ∗ ∃ W', ⌜∀ p ∈ W', p ∈ W ∨ p.2 = none ∨ p.2 = some (0 : Fin 1)⌝ ∗ owes (thr L d) O W') := by
  rw [cc0__stage_d_kernel_eq_skeleton]
  unfold cc0__stage_d_kernel_skel
  dsimp only
  rw [k0_part2_eq_skeleton, k0_part3_eq_skeleton, k0_part4_eq_skeleton]
  rw [(K (F := F)).scopedBufs_V hF d (cV L) (jV L), SparseCore.Cfg.scopedSems0_V (Val := Elt F) d (cV L) (jV L), ownSems0_V, ownBufs_V]
  iintro ⟨#Hlv, -, ⟨Hx, Hn, Ho⟩, ⟨⟨%gx, Wx⟩, ⟨%gn, Wn⟩, ⟨%go, Wo⟩, Hbufs⟩, ⟨Hsem0, Hsem1, Hsem2, Hsem3, Hsem4, Hsem5, Hsems⟩, HO⟩
  ihave Hmw := (show levAts (K (F := F)).L (K (F := F)).lev ⊢ Transfers.MayWaits (thr L d) (default : HIx 1) O from
    (K (F := F)).mayWaits_none (thr := thr L d) hO) $$ Hlv
  icases Hmw with #Hmw
  unfold k0_part2_skel k0_part3_skel k0_part4_skel
  dsimp only
  simp only [Prog.lift, Prog.bind_op, Prog.bind_ret, Prog.bind_assoc, Prog.pure_eq_ret]
  -- the copies in
  ihave Hx := (pointsTo_split_subset (ℓ := xLoc d) (q := q) (f := X) (Finset.subset_univ (xSl L).view.set)).1 $$ Hx
  icases Hx with ⟨Hx, Hx'⟩
  iapply (wp_copy 𝒱₀ (thr L d) none Finset.univ rfl (View.amount_pos _ _ (show 0 < S80000.numel by decide)) (Finset.subset_univ _)) $$ [Hx Wx Hsem0 HO]
  · isplitl [Hx]; · iexact Hx
    isplitl [Wx]; · iexact Wx
    isplitl [Hsem0]; · iexact Hsem0
    isplitr; · iexact Hmw
    iexact HO
  iintro ⟨Hx, Wx, Hsem0, HO⟩
  ihave Hx := (pointsTo_split_subset (ℓ := xLoc d) (q := q) (f := X) (Finset.subset_univ (xSl L).view.set)).2 $$ [Hx Hx']
  · isplitl [Hx] <;> iassumption
  ihave Wx := (Entails.of_eq (congrArg (fun g => iprop(xwLoc d L ↦{fullShare} g)) (View.write_whole_univ (Val := Elt F) cc0_scratch0 gx
    ((xSl L).view.read (Elt F) X)))) $$ Wx
  ihave Hn := (pointsTo_split_subset (ℓ := nLoc d) (q := q) (f := I) (Finset.subset_univ (nSl L).view.set)).1 $$ Hn
  icases Hn with ⟨Hn, Hn'⟩
  iapply (wp_copy 𝒱₀ (thr L d) none Finset.univ rfl (View.amount_pos _ _ (show 0 < S256.numel by decide)) (Finset.subset_univ _)) $$ [Hn Wn Hsem1 HO]
  · isplitl [Hn]; · iexact Hn
    isplitl [Wn]; · iexact Wn
    isplitl [Hsem1]; · iexact Hsem1
    isplitr; · iexact Hmw
    iexact HO
  iintro ⟨Hn, Wn, Hsem1, HO⟩
  ihave Hn := (pointsTo_split_subset (ℓ := nLoc d) (q := q) (f := I) (Finset.subset_univ (nSl L).view.set)).2 $$ [Hn Hn']
  · isplitl [Hn] <;> iassumption
  ihave Wn := (Entails.of_eq (congrArg (fun g => iprop(nwLoc d L ↦{fullShare} g)) (View.write_whole_univ (Val := Elt F) cc0_scratch1 gn
    ((nSl L).view.read (Elt F) I)))) $$ Wn
  -- the lookups
  iapply (Scf.wp_for_bind frame (wpE (defs₀ (F := F)) 𝒱₀ (thr L d) none) Set.univ _ _ _ k0_t1_ok _ _
    (I1 d L ((xSl L).view.read (Elt F) X) ((nSl L).view.read (Elt F) I)) (t1_step d L _ _ (fun j => hI _) _ _)) $$ [Wx Wn Wo]
  · unfold I1
    isplitl [Wx]; · iexact Wx
    isplitl [Wn]; · iexact Wn
    iexists go
    isplitr; · ipureintro; exact fun j h => absurd h (by omega)
    iexact Wo
  iintro %z H
  unfold I1
  icases H with ⟨Wx, Wn, %g, %hg, Wo⟩
  rw [show 16 * Scf.trips k0_t1_loop.lb k0_t1_loop.ub k0_t1_loop.st = 256 from rfl] at hg
  have hf0 : Copied L X I 0 fo := fun i _ h => absurd h (by omega)
  -- the copies out
  ihave Wo := (pointsTo_split_subset (ℓ := owLoc d L) (q := fullShare) (f := g) (Finset.subset_univ (row 0 inb_S4x256_S1x256_0_0).view.set)).1 $$ Wo
  icases Wo with ⟨Wo, Wo'⟩
  iapply (wp_copy 𝒱₀ (thr L d) none (src := row 0 inb_S4x256_S1x256_0_0) (dst := oSl L 0#32 (k0_off8_inb L 0)) (q := fullShare) (fs := g)
    (fd := fo) (slots (widF L)) rfl (View.amount_pos _ _ (show 0 < S256.numel by decide)) (oSl_subset (r := 0) rfl _)) $$ [Wo Ho Hsem2 HO]
  · isplitl [Wo]; · iexact Wo
    isplitl [Ho]; · iexact Ho
    isplitl [Hsem2]; · iexact Hsem2
    isplitr; · iexact Hmw
    iexact HO
  iintro ⟨Wo, Ho, Hsem2, HO⟩
  ihave Wo := (pointsTo_split_subset (ℓ := owLoc d L) (q := fullShare) (f := g) (Finset.subset_univ (row 0 inb_S4x256_S1x256_0_0).view.set)).2 $$ [Wo Wo']
  · isplitl [Wo] <;> iassumption
  obtain ⟨f1, he1⟩ : ∃ f : Vec F S32768 .f32, f = (oSl L 0#32 (k0_off8_inb L 0)).view.write (Elt F) fo ((row 0 inb_S4x256_S1x256_0_0).view.read (Elt F) g) Finset.univ := ⟨_, rfl⟩
  have hf1 : Copied L X I 1 f1 := he1 ▸ Copied.next L hI hg 0 hf0 (b := 0#32) rfl (k0_off8_inb L 0) inb_S4x256_S1x256_0_0
  rw [← he1]
  ihave Wo := (pointsTo_split_subset (ℓ := owLoc d L) (q := fullShare) (f := g) (Finset.subset_univ (row 1 inb_S4x256_S1x256_1_0).view.set)).1 $$ Wo
  icases Wo with ⟨Wo, Wo'⟩
  iapply (wp_copy 𝒱₀ (thr L d) none (src := row 1 inb_S4x256_S1x256_1_0) (dst := oSl L 2048#32 (k0_off8_inb L 1)) (q := fullShare) (fs := g)
    (fd := f1) (slots (widF L)) rfl (View.amount_pos _ _ (show 0 < S256.numel by decide)) (oSl_subset (r := 1) rfl _)) $$ [Wo Ho Hsem3 HO]
  · isplitl [Wo]; · iexact Wo
    isplitl [Ho]; · iexact Ho
    isplitl [Hsem3]; · iexact Hsem3
    isplitr; · iexact Hmw
    iexact HO
  iintro ⟨Wo, Ho, Hsem3, HO⟩
  ihave Wo := (pointsTo_split_subset (ℓ := owLoc d L) (q := fullShare) (f := g) (Finset.subset_univ (row 1 inb_S4x256_S1x256_1_0).view.set)).2 $$ [Wo Wo']
  · isplitl [Wo] <;> iassumption
  obtain ⟨f2, he2⟩ : ∃ f : Vec F S32768 .f32, f = (oSl L 2048#32 (k0_off8_inb L 1)).view.write (Elt F) f1 ((row 1 inb_S4x256_S1x256_1_0).view.read (Elt F) g) Finset.univ := ⟨_, rfl⟩
  have hf2 : Copied L X I 2 f2 := he2 ▸ Copied.next L hI hg 1 hf1 (b := 2048#32) rfl (k0_off8_inb L 1) inb_S4x256_S1x256_1_0
  rw [← he2]
  ihave Wo := (pointsTo_split_subset (ℓ := owLoc d L) (q := fullShare) (f := g) (Finset.subset_univ (row 2 inb_S4x256_S1x256_2_0).view.set)).1 $$ Wo
  icases Wo with ⟨Wo, Wo'⟩
  iapply (wp_copy 𝒱₀ (thr L d) none (src := row 2 inb_S4x256_S1x256_2_0) (dst := oSl L 4096#32 (k0_off8_inb L 2)) (q := fullShare) (fs := g)
    (fd := f2) (slots (widF L)) rfl (View.amount_pos _ _ (show 0 < S256.numel by decide)) (oSl_subset (r := 2) rfl _)) $$ [Wo Ho Hsem4 HO]
  · isplitl [Wo]; · iexact Wo
    isplitl [Ho]; · iexact Ho
    isplitl [Hsem4]; · iexact Hsem4
    isplitr; · iexact Hmw
    iexact HO
  iintro ⟨Wo, Ho, Hsem4, HO⟩
  ihave Wo := (pointsTo_split_subset (ℓ := owLoc d L) (q := fullShare) (f := g) (Finset.subset_univ (row 2 inb_S4x256_S1x256_2_0).view.set)).2 $$ [Wo Wo']
  · isplitl [Wo] <;> iassumption
  obtain ⟨f3, he3⟩ : ∃ f : Vec F S32768 .f32, f = (oSl L 4096#32 (k0_off8_inb L 2)).view.write (Elt F) f2 ((row 2 inb_S4x256_S1x256_2_0).view.read (Elt F) g) Finset.univ := ⟨_, rfl⟩
  have hf3 : Copied L X I 3 f3 := he3 ▸ Copied.next L hI hg 2 hf2 (b := 4096#32) rfl (k0_off8_inb L 2) inb_S4x256_S1x256_2_0
  rw [← he3]
  ihave Wo := (pointsTo_split_subset (ℓ := owLoc d L) (q := fullShare) (f := g) (Finset.subset_univ (row 3 inb_S4x256_S1x256_3_0).view.set)).1 $$ Wo
  icases Wo with ⟨Wo, Wo'⟩
  iapply (wp_copy 𝒱₀ (thr L d) none (src := row 3 inb_S4x256_S1x256_3_0) (dst := oSl L 6144#32 (k0_off8_inb L 3)) (q := fullShare) (fs := g)
    (fd := f3) (slots (widF L)) rfl (View.amount_pos _ _ (show 0 < S256.numel by decide)) (oSl_subset (r := 3) rfl _)) $$ [Wo Ho Hsem5 HO]
  · isplitl [Wo]; · iexact Wo
    isplitl [Ho]; · iexact Ho
    isplitl [Hsem5]; · iexact Hsem5
    isplitr; · iexact Hmw
    iexact HO
  iintro ⟨Wo, Ho, Hsem5, HO⟩
  ihave Wo := (pointsTo_split_subset (ℓ := owLoc d L) (q := fullShare) (f := g) (Finset.subset_univ (row 3 inb_S4x256_S1x256_3_0).view.set)).2 $$ [Wo Wo']
  · isplitl [Wo] <;> iassumption
  obtain ⟨f4, he4⟩ : ∃ f : Vec F S32768 .f32, f = (oSl L 6144#32 (k0_off8_inb L 3)).view.write (Elt F) f3 ((row 3 inb_S4x256_S1x256_3_0).view.read (Elt F) g) Finset.univ := ⟨_, rfl⟩
  have hf4 : Copied L X I 4 f4 := he4 ▸ Copied.next L hI hg 3 hf3 (b := 6144#32) rfl (k0_off8_inb L 3) inb_S4x256_S1x256_3_0
  rw [← he4]
  ihave Ho := (Entails.of_eq (show (oLoc d ↦[slots (widF L)]{fullShare} f4 : sProp 𝕄) = oLoc d ↦[slots (widF L)]{fullShare} outF X I from
    pointsTo_congr fun i hi => hf4 i hi (by omega))) $$ Ho
  rw [wp_ret]; imodintro
  isplitl [Hx Hn Ho]
  · isplitl [Hx]; · iexact Hx
    isplitl [Hn]; · iexact Hn
    iexact Ho
  isplitl [Wx Wn Wo Hbufs]
  · isplitl [Wx]; · iexists _; iexact Wx
    isplitl [Wn]; · iexists _; iexact Wn
    isplitl [Wo]; · iexists _; iexact Wo
    iexact Hbufs
  isplitl [Hsem0 Hsem1 Hsem2 Hsem3 Hsem4 Hsem5 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    iexact Hsems
  iexists _; isplitr
  swap; · iexact HO
  ipureintro; intro p _
  rcases p.2 with _ | r
  · exact .inr (.inl rfl)
  · exact .inr (.inr (congrArg some (Subsingleton.elim r 0)))

end Cert.Proof.Boxes

end
-- ==== Proof.BoxesLaunch.lean ====
/-
  The whole program of the box call: two reshapes, the call on its thirty-two tiles, a reshape of its result.

  Every tile is handed read shares of the two flat inputs and its own slots of the result; @main keeps what is left of the
  inputs and puts all back together when the call ends. The box numbers are taken to be those of boxes (`Ok`).
-/
module

public import proofs.«01_k».proof.Proof.BoxesTile
public import Idealize.ShloMosaic.Lib.SparseCore.Quiescent
public import Idealize.ShloMosaic.Lib.StableHlo.Run
public import Idealize.ShloMosaic.Lib.Transfers

@[expose] public section

noncomputable section

namespace Cert.Proof.Boxes

open Cert.BoxesIdeal Cert.BoxesIdeal.Gen Cert.Proof.Copy Cert.Proof.Lanes

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Transfers (shareTok shareDrop pointsTo_toks_split pointsTo_toks_join)

variable {F : FTy → Type}

local notation "𝕄" => MT nD τ sig (HIx 1) (Elt F) ℕ UU ℕ

-- the kernel's memrefs as the body table passes them: the flat boxes, box numbers and result; the tile's boxes, numbers and result
local notation "xM" => (Memref.whole Cert.BoxesIdeal.main_v0_scv : Memref Cert.BoxesIdeal.sig Kind.scVector Space.hbm Cert.BoxesIdeal.S320000 EltTy.f32)
local notation "nM" => (Memref.whole Cert.BoxesIdeal.main_v1_scv : Memref Cert.BoxesIdeal.sig Kind.scVector Space.hbm Cert.BoxesIdeal.S8192 EltTy.i32)
local notation "oM" => (Memref.whole Cert.BoxesIdeal.main_v2_scv : Memref Cert.BoxesIdeal.sig Kind.scVector Space.hbm Cert.BoxesIdeal.S32768 EltTy.f32)
local notation "xW" => (Memref.whole Cert.BoxesIdeal.cc0_scratch0 : Memref Cert.BoxesIdeal.sig Kind.scVector Space.vmem Cert.BoxesIdeal.S80000 EltTy.f32)
local notation "nW" => (Memref.whole Cert.BoxesIdeal.cc0_scratch1 : Memref Cert.BoxesIdeal.sig Kind.scVector Space.vmem Cert.BoxesIdeal.S256 EltTy.i32)
local notation "oW" => (Memref.whole Cert.BoxesIdeal.cc0_scratch2 : Memref Cert.BoxesIdeal.sig Kind.scVector Space.vmem Cert.BoxesIdeal.S4x256 EltTy.f32)

variable [FloatOps F] (m : (ℓ : Loc nD τ sig) → Buf (Elt F) ℓ) (ρ : Dev nD → PrngReg)

/-- @main's buffers and its operations, as the host program names them. -/
abbrev a0' : DevRef τ sig := Proc.devRef .tc main_arg0
abbrev a1' : DevRef τ sig := Proc.devRef .tc main_arg1
abbrev x' : DevRef τ sig := Proc.devRef .tc main_v0
abbrev n' : DevRef τ sig := Proc.devRef .tc main_v1
abbrev o' : DevRef τ sig := Proc.devRef .tc main_v2
abbrev r' : DevRef τ sig := Proc.devRef .tc main_v3
abbrev SS : Finset (DevRef τ sig) := {a0', a1', x', n', o', r'}
abbrev op0 : HloOp τ sig (Elt F) := StableHlo.reshape main_arg0 main_v0 (rfl : (.f32 : EltTy) = .f32) shapeCasts_S4x80000_S320000
abbrev op1 : HloOp τ sig (Elt F) := StableHlo.reshape main_arg1 main_v1 (rfl : (.i32 : EltTy) = .i32) shapeCasts_S4x2048_S8192
abbrev opR : HloOp τ sig (Elt F) := StableHlo.reshape main_v2 main_v3 (rfl : (.f32 : EltTy) = .f32) shapeCasts_S32768_S4x4x2048

/-- The buffers' contents at launch, before the call, after it, at the end. -/
def V0 (d : Dev nD) : Valuation τ sig (Elt F) := fun b => m (d, b)
def V1 (d : Dev nD) : Valuation τ sig (Elt F) := (op1 (F := F)).result ((op0 (F := F)).result (V0 m d))
def V2 (d : Dev nD) : Valuation τ sig (Elt F) := Function.update (V1 m d) o' (outF (V1 m d x') (V1 m d n'))
def V3 (d : Dev nD) : Valuation τ sig (Elt F) := (opR (F := F)).result (V2 m d)

/-- Every box number is that of a box. -/
def Ok : Prop := ∀ (d : Dev nD) (j : S8192.Idx), ((V1 m d n' : Vec F S8192 .i32) j : BitVec 32).toNat < 20000

/-- The read share of tile `w`. -/
abbrev share (w : Fin 32) : PosShare TreeShare := shareTok fullShare 32 w

abbrev go (d : Dev nD) (w : Fin 32) : sProp 𝕄 := goP d (share w) (V1 m d x') (V1 m d n') (V1 m d o') w
abbrev td (d : Dev nD) (w : Fin 32) : sProp 𝕄 := goP d (share w) (V1 m d x') (V1 m d n') (outF (V1 m d x') (V1 m d n')) w

/-- What the handshakes carry: a core its tiles' parts, a tile its own. -/
def P : (K (F := F)).Pay (nD := nD) (Val := Elt F) (Name := ℕ) (U := UU) where
  st := fun q d c => match q with | 0 => bigSep Finset.univ fun i : Fin 16 => go m d (tileNo c i)
  dn := fun q d c => match q with | 0 => bigSep Finset.univ fun i : Fin 16 => td m d (tileNo c i)
  go := fun q d c i => match q with | 0 => go m d (tileNo c i)
  td := fun q d c i => match q with | 0 => td m d (tileNo c i)
  x := fun _ _ => iprop(emp)

instance P_storable : (P (F := F) m).IsStorable where
  st q d c := match q with | 0 => (inferInstance : BI.Storable (upEmb : UEmb _ 𝕄) (bigSep Finset.univ fun i : Fin 16 => go m d (tileNo c i)))
  dn q d c := match q with | 0 => (inferInstance : BI.Storable (upEmb : UEmb _ 𝕄) (bigSep Finset.univ fun i : Fin 16 => td m d (tileNo c i)))
  go q d c i := match q with | 0 => (inferInstance : BI.Storable (upEmb : UEmb _ 𝕄) (go m d (tileNo c i)))
  td q d c i := match q with | 0 => (inferInstance : BI.Storable (upEmb : UEmb _ 𝕄) (td m d (tileNo c i)))

theorem defs₀_vector (c : Fin τ.nSC) (s : Fin τ.nSub) :
    defs₀ (F := F) (.scVector c s) 0 ()
      = SparseCore.onTile hcore0 hsub0 (fun c s => cc0__stage_d_kernel (coordsV c s) xM (Memref.isWhole_whole _) nM (Memref.isWhole_whole _) oM (Memref.isWhole_whole _)
            xW (Memref.isWhole_whole _) nW (Memref.isWhole_whole _) oW (Memref.isWhole_whole _)
            cc0_scoped0 cc0_scoped1 cc0_scoped2 cc0_scoped3 cc0_scoped4 cc0_scoped5) ⟨⟩ c s := rfl

theorem tileObl (hI : Ok m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (coordsV ⟨_, hci.1⟩ ⟨_, hci.2⟩) d (share (tileNo c i)) (V1 m d x') (V1 m d n') (V1 m d o') (hI d) hF O W hO

theorem vecSplit : (K (F := F)).VecSplit' (P m) 0 := by
  intro d c
  show (bigSep Finset.univ fun i : Fin 16 => go m d (tileNo c i)) ⊢ |={Set.univ}=> iprop(
      (bigSep Finset.univ fun i : Fin 16 => go m d (tileNo c i))
      ∗ ((bigSep Finset.univ fun i : Fin 16 => td m d (tileNo c i)) -∗ bigSep Finset.univ fun i : Fin 16 => td m d (tileNo c i)))
  iintro H; imodintro
  isplitl [H]; · iexact H
  iintro H; iexact H

/-! ## All tiles' parts together -/

theorem slots_disjoint : ∀ a ∈ (Finset.univ : Finset (Fin 32)), ∀ b ∈ (Finset.univ : Finset (Fin 32)), a ≠ b → Disjoint (slots a) (slots b) := by
  intro a _ b _ h
  refine Finset.disjoint_left.mpr fun i ha hb => h (Fin.ext ?_)
  unfold slots at ha hb
  obtain ⟨-, h1, h2⟩ := Finset.mem_filter.mp ha
  obtain ⟨-, h3, h4⟩ := Finset.mem_filter.mp hb
  omega
theorem slots_cover : (Finset.univ : Finset (Fin 32)).biUnion slots = Finset.univ := by
  refine Finset.eq_univ_iff_forall.mpr fun i => ?_
  have hi : (i 0).val < 32768 := (i 0).isLt
  refine Finset.mem_biUnion.mpr ⟨⟨8 * ((i 0).val / 8192) + (i 0).val % 2048 / 256, by omega⟩, Finset.mem_univ _, Finset.mem_filter.mpr ⟨Finset.mem_univ _, ?_, ?_⟩⟩
  · show (i 0).val / 8192 = (8 * ((i 0).val / 8192) + (i 0).val % 2048 / 256) / 8
    omega
  · show (i 0).val % 2048 / 256 = (8 * ((i 0).val / 8192) + (i 0).val % 2048 / 256) % 8
    omega

theorem o_slots (d : Dev nD) (f : Vec F S32768 .f32) :
    (oLoc d ↦{fullShare} f : sProp 𝕄) = bigSep Finset.univ fun w : Fin 32 => oLoc d ↦[slots w]{fullShare} f := by
  rw [← pointsTo_biUnion Finset.univ (ℓ := oLoc d) slots slots_disjoint, slots_cover]; try rfl

/-- The inputs and the result, whole, are what is left of the inputs and the thirty-two tiles' parts. -/
theorem whole_tiles (d : Dev nD) (X : Vec F S320000 .f32) (I : Vec F S8192 .i32) (fo : Vec F S32768 .f32) :
    (iprop((xLoc d ↦{fullShare} X) ∗ (nLoc d ↦{fullShare} I) ∗ (oLoc d ↦{fullShare} fo)) : sProp 𝕄)
      ⊣⊢ iprop(((xLoc d ↦{shareDrop fullShare 32} X) ∗ (nLoc d ↦{shareDrop fullShare 32} I))
          ∗ bigSep Finset.univ fun c : Fin 2 => bigSep Finset.univ fun i : Fin 16 => goP d (share (tileNo c i)) X I fo (tileNo c i)) := by
  rw [← bigSep_univ_prod (fun p : Fin 2 × Fin 16 => goP d (share (tileNo p.1 p.2)) X I fo (tileNo p.1 p.2)),
    show (fun p : Fin 2 × Fin 16 => goP d (share (tileNo p.1 p.2)) X I fo (tileNo p.1 p.2)) = fun p => (fun w => goP d (share w) X I fo w) (tiles p) from rfl,
    ← bigSep_univ_equiv tiles (fun w => goP d (share w) X I fo w), bigSep_sep', bigSep_sep', ← o_slots]
  constructor
  · iintro ⟨H0, H1, Ho⟩
    ihave H0 := (pointsTo_toks_split (ℓ := xLoc d) (S := Finset.univ) (f := X) fullShare 32) $$ H0
    icases H0 with ⟨H0, T0⟩
    ihave H1 := (pointsTo_toks_split (ℓ := nLoc d) (S := Finset.univ) (f := I) fullShare 32) $$ H1
    icases H1 with ⟨H1, T1⟩
    isplitl [H0 H1]
    · isplitl [H0] <;> iassumption
    isplitl [T0]; · iexact T0
    isplitl [T1] <;> iassumption
  · iintro ⟨⟨H0, H1⟩, T0, T1, Ho⟩
    ihave H0 := (pointsTo_toks_join (ℓ := xLoc d) (S := Finset.univ) (f := X) fullShare 32) $$ [H0 T0]
    · isplitl [H0] <;> iassumption
    ihave H1 := (pointsTo_toks_join (ℓ := nLoc d) (S := Finset.univ) (f := I) fullShare 32) $$ [H1 T1]
    · isplitl [H1] <;> iassumption
    isplitl [H0]; · iexact H0
    isplitl [H1] <;> iassumption

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem held_SS (d : Dev nD) (W : Valuation τ sig (Elt F)) :
    (held (SparseCore.T d) SS W : sProp 𝕄)
      = iprop((((d, a0') : Loc nD τ sig) ↦{fullShare} W a0') ∗ (((d, a1') : Loc nD τ sig) ↦{fullShare} W a1') ∗ (xLoc d ↦{fullShare} W x') ∗ (nLoc d ↦{fullShare} W n') ∗ (oLoc d ↦{fullShare} W o') ∗ (((d, r') : Loc nD τ sig) ↦{fullShare} W r')) := by
  unfold held
  rw [SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) SS (V0 m d) := by
  rw [held_SS]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide), SparseCore.bigSep_insert' (by decide), bigSep_singleton]
  rfl

set_option maxRecDepth 8000 in
theorem hop0 : (op0 (F := F)).bufs ⊆ SS := show ({a0', x'} : Finset (DevRef τ sig)) ⊆ SS by decide
set_option maxRecDepth 8000 in
theorem hop1 : (op1 (F := F)).bufs ⊆ SS := show ({a1', n'} : Finset (DevRef τ sig)) ⊆ SS by decide
set_option maxRecDepth 8000 in
theorem hopR : (opR (F := F)).bufs ⊆ SS := show ({o', r'} : Finset (DevRef τ sig)) ⊆ SS by decide

theorem V2_of_ne (d : Dev nD) {b : DevRef τ sig} (h : b ≠ o') : V2 m d b = V1 m d b := Function.update_of_ne h _ _
theorem V2_o (d : Dev nD) : V2 m d o' = outF (V1 m d x') (V1 m d n') := Function.update_self _ _ _

/-- No operation writes an argument. -/
theorem V3_of_ne (d : Dev nD) {b : DevRef τ sig} (hr : b ∉ ({r'} : Finset (DevRef τ sig))) (ho : b ≠ o') (hn : b ∉ ({n'} : Finset (DevRef τ sig))) (hx : b ∉ ({x'} : Finset (DevRef τ sig))) :
    V3 m d b = m (d, b) := by
  unfold V3
  rw [(opR (F := F)).result_of_not_mem _ hr, V2_of_ne m d ho]
  unfold V1
  rw [(op1 (F := F)).result_of_not_mem _ hn, (op0 (F := F)).result_of_not_mem _ hx]
  rfl
theorem V3_a0 (d : Dev nD) : V3 m d a0' = m (d, a0') := V3_of_ne m d (by decide) (by decide) (by decide) (by decide)
theorem V3_a1 (d : Dev nD) : V3 m d a1' = m (d, a1') := V3_of_ne m d (by decide) (by decide) (by decide) (by decide)

theorem held_V1 (d : Dev nD) :
    (held (SparseCore.T d) SS ((op1 (F := F)).result ((op0 (F := F)).result (V0 m d))) : sProp 𝕄)
      = iprop((((d, a0') : Loc nD τ sig) ↦{fullShare} V1 m d a0') ∗ (((d, a1') : Loc nD τ sig) ↦{fullShare} V1 m d a1') ∗ (xLoc d ↦{fullShare} V1 m d x') ∗ (nLoc d ↦{fullShare} V1 m d n') ∗ (oLoc d ↦{fullShare} V1 m d o') ∗ (((d, r') : Loc nD τ sig) ↦{fullShare} V1 m d r')) :=
  held_SS d (V1 m d)
theorem held_V3 (d : Dev nD) :
    (held (SparseCore.T d) SS ((opR (F := F)).result (V2 m d)) : sProp 𝕄)
      = iprop((((d, a0') : Loc nD τ sig) ↦{fullShare} m (d, a0')) ∗ (((d, a1') : Loc nD τ sig) ↦{fullShare} m (d, a1')) ∗ (xLoc d ↦{fullShare} V3 m d x') ∗ (nLoc d ↦{fullShare} V3 m d n') ∗ (oLoc d ↦{fullShare} V3 m d o') ∗ (((d, r') : Loc nD τ sig) ↦{fullShare} V3 m d r')) :=
  (held_SS d (V3 m d)).trans (by rw [V3_a0, V3_a1])

theorem st0_eq (d : Dev nD) :
    (bigSep Finset.univ fun c : Fin ((K (F := F)).nCore 0) => (P m).st 0 d c) = bigSep Finset.univ fun c : Fin 2 => bigSep Finset.univ fun i : Fin 16 => go m d (tileNo c i) := rfl
theorem dn0_eq (d : Dev nD) :
    (bigSep Finset.univ fun c : Fin ((K (F := F)).nCore 0) => (P m).dn 0 d c) = bigSep Finset.univ fun c : Fin 2 => bigSep Finset.univ fun i : Fin 16 => td m d (tileNo c i) := rfl

/-- What @main leaves: the arguments and the result. -/
abbrev FIN (d : Dev nD) : sProp 𝕄 := iprop((((d, a0') : Loc nD τ sig) ↦{fullShare} m (d, a0')) ∗ (((d, a1') : Loc nD τ sig) ↦{fullShare} m (d, a1')) ∗ (((d, r') : Loc nD τ sig) ↦{fullShare} V3 m d r'))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SS) hop0 (V := (V0 m d))) $$ [Hb Hheld]
  · isplitl [Hb] <;> iassumption
  iintro ⟨Hb, Hheld⟩
  rw [wp_ret]; imodintro
  iapply (wp_hlo_within 𝒱 (SparseCore.T d) none Set.univ (op := op1) (S := SS) hop1 (V := ((op0 (F := F)).result (V0 m d)))) $$ [Hb Hheld]
  · isplitl [Hb] <;> iassumption
  iintro ⟨Hb, Hheld⟩
  rw [wp_ret]; imodintro
  ihave Hh := (Entails.of_eq (held_V1 m d)) $$ Hheld
  icases Hh with ⟨HA0, HA1, HX, HN, HO, HR⟩
  ihave H := (whole_tiles d (V1 m d x') (V1 m d n') (V1 m d o')).1 $$ [HX HN HO]
  · isplitl [HX]; · iexact HX
    isplitl [HN] <;> iassumption
  icases H with ⟨HI, Ht⟩
  iapply ((K (F := F)).wp_run (D (F := F)) 𝒱 (EH := EH) (P := P m) κ d 0) $$ [Hst Ht HA0 HA1 HI HR Hb Hts]
  isplitr; · iexact Hctx
  isplitl [Hst]; · iexact Hst
  isplitl [Ht]
  · rw [st0_eq]; iexact Ht
  iintro ⟨Hst, Hdn⟩
  ihave Hdn := (Entails.of_eq (dn0_eq m d)) $$ Hdn
  ihave H := (whole_tiles d (V1 m d x') (V1 m d n') (outF (V1 m d x') (V1 m d n'))).2 $$ [HI Hdn]
  · isplitl [HI] <;> iassumption
  icases H with ⟨HX, HN, HO⟩
  iapply (wp_hlo_within 𝒱 (SparseCore.T d) none Set.univ (op := opR) (S := SS) hopR (V := V2 m d)) $$ [Hb HA0 HA1 HX HN HO HR]
  · isplitl [Hb]; · iexact Hb
    rw [held_SS, V2_o, V2_of_ne m d (b := a0') (by decide), V2_of_ne m d (b := a1') (by decide), V2_of_ne m d (b := x') (by decide), V2_of_ne m d (b := n') (by decide), V2_of_ne m d (b := r') (by decide)]
    isplitl [HA0]; · iexact HA0
    isplitl [HA1]; · iexact HA1
    isplitl [HX]; · iexact HX
    isplitl [HN]; · iexact HN
    isplitl [HO]; · iexact HO
    iexact HR
  iintro ⟨Hb, Hheld⟩
  ihave Hh := (Entails.of_eq (held_V3 m d)) $$ Hheld
  icases Hh with ⟨HA0, HA1, -, -, -, HR⟩
  rw [wp_ret]; imodintro; imodintro
  isplitl [Hst]; · iexact Hst
  isplitr [Hb Hts]
  · isplitl [HA0]; · iexact HA0
    isplitl [HA1] <;> iassumption
  isplitl [Hb] <;> iassumption

def fq (d : Dev nD) (s' : Phys nD τ sig (Elt F)) : Prop :=
  s'.mem.mem (d, a0') = m (d, a0') ∧ s'.mem.mem (d, a1') = m (d, a1') ∧ s'.mem.mem (d, r') = V3 m d r'

theorem hfin (d : Dev nD) (s' : Phys nD τ sig (Elt F)) : iprop(FIN m d ∗ SI s') ⊢ (⌜fq m d s'⌝ : sProp 𝕄) := by
  iintro ⟨⟨H0, H1, HR⟩, HSI⟩
  ihave H := (persistent_entails_right (SI_pointsTo_agree (st := s') (ℓ := (d, a0')) (I := Finset.univ) (q := fullShare) (f := m (d, a0')))) $$ [HSI H0]
  · isplitl [HSI] <;> iassumption
  icases H with ⟨%h0, HSI, -⟩
  ihave H := (persistent_entails_right (SI_pointsTo_agree (st := s') (ℓ := (d, a1')) (I := Finset.univ) (q := fullShare) (f := m (d, a1')))) $$ [HSI H1]
  · isplitl [HSI] <;> iassumption
  icases H with ⟨%h1, HSI, -⟩
  ihave H := (SI_pointsTo_agree (st := s') (ℓ := (d, r')) (I := Finset.univ) (q := fullShare) (f := V3 m d r')) $$ [HSI HR]
  · isplitl [HSI] <;> iassumption
  icases H with %hr
  ipureintro
  exact ⟨funext fun i => h0 i (Finset.mem_univ i), funext fun i => h1 i (Finset.mem_univ i), funext fun i => hr i (Finset.mem_univ i)⟩

def QC : PUnit × MemSt nD τ sig (Elt F) → Prop := fun r =>
  (∀ c : Dev nD, r.2.mem (c, a0') = m (c, a0') ∧ r.2.mem (c, a1') = m (c, a1') ∧ r.2.mem (c, r') = V3 m c r') ∧ r.2.sem = fun _ => 0

theorem run_main [∀ e, Nonempty (Elt F e)] (hI : Ok m) : θ_run (Cert.BoxesIdeal.defs (F := F)) (Cert.BoxesIdeal.threads (F := F)) ⟨m, fun _ => 0, ρ⟩ (QC m) :=
  SparseCore.Cfg.θ_run_sc_quiescent (K := K (F := F)) (D := D (F := F)) (𝒱 := 𝒱) (EH := EH) (P := P m) (A := ∅) Boxes.facts v₀
    (fun q hq => match q with | 0 => nomatch hq)
    (fun q _ => match q with | 0 => tileObl m hI Boxes.facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Boxes

end
-- ==== Proof.BoxesResult.lean ====
/-
  The box program's result against the reference's, as functions of the boxes and the box numbers.

  `lookupR` is the reference's result: of candidate `i` of image `w` it takes box `n`, `n` the candidate's box number, and
  puts the box's four coordinates into four rows. The kernel's flat result, reshaped, is the same array where every box
  number is below 20000.
-/
module

public import proofs.«01_k».proof.Proof.BoxesSetup
public import proofs.«01_k».proof.Proof.Places
public import proofs.«01_k».proof.Proof.Gen.BoxesReferenceIdeal.Run
public import proofs.«01_k».proof.Proof.Gen.Pre_in_table
public import Idealize.ShloMosaic.Lib.ReduceAll
public import Idealize.ShloMosaic.Lib.WordCmp

@[expose] public section

noncomputable section

namespace Cert.Proof.BoxesResult

open Idealize.ShloMosaic Cert.BoxesReferenceIdeal Cert.BoxesReferenceIdeal.Gen Cert.Proof.Boxes Cert.Proof.Lanes Cert.Proof.Places

variable {F : FTy → Type} [FloatOps F]

attribute [local instance] Cert.Pre_in_table.Gen.facts

/-- The precondition, box number by box number. -/
theorem below {x : Vec F S4x80000 .f32} {b : IVec S4x2048 32} (h : Cert.Pre_in_table.fn (F := F) x b = fun _ => 1#1) (j : S4x2048.Idx) : (b j).toNat < 20000 := by
  have e := Host.reduce_andi_all _ _ _ _ (fun a => a.elim0) (congrFun h (fun a => a.elim0)) j
  have e' : IntOp.andi (IntOp.cmpi .sge (b j) 0#32) (IntOp.cmpi .slt (b j) (BitVec.ofNat 32 20000)) = 1#1 := e
  rw [WordCmp.andi_sge_zero_slt_ofNat (by decide)] at e'
  exact (WordCmp.ofBool_decide_eq_one_iff _).1 e'

/-! ## The reference -/

/-- The box numbers as a column. -/
def column (b : IVec S4x2048 32) : IVec S4x2048x1 32 := broadcastInDim S4x2048x1 ![0, 1] bcast_S4x2048_S4x2048x1_0_1 b

/-- A negative number counts from the end. -/
def fromEnd (p : IVec S4x2048x1 32) : IVec S4x2048x1 32 :=
  select (cmpi .slt p (broadcastInDim S4x2048x1 ![] bcast_S_S4x2048x1 (constantI S_ 32 0#32)))
    (addi p (broadcastInDim S4x2048x1 ![] bcast_S_S4x2048x1 (constantI S_ 32 20000#32))) p

def lookupR (x : Vec F S4x80000 .f32) (b : IVec S4x2048 32) : Vec F S4x4x2048 .f32 :=
  transpose S4x4x2048 [0, 2, 1] (Host.gather gather_S4x20000x4_S4x2048x1_S4x2048x4_2_1_0_0_1_2_114 (shapeCast _ x shapeCasts_S4x80000_S4x20000x4) (fromEnd (column b)))
    transposes_S4x2048x4_S4x4x2048_0_2_1

variable {w : Fin 4} {b : IVec S4x2048 32}

theorem column_at (i : Fin 2048) (c : Fin 1) : column b (ValueIdx.ix3 w i c) = b (ValueIdx.ix2 w i) := by
  unfold column broadcastInDim
  refine congrArg b ?_
  funext a
  match a with
  | ⟨0, _⟩ => rfl
  | ⟨1, _⟩ => rfl

/-- Where result `(w, i, f)` of the gather reads its start index. -/
theorem start_idx (i : Fin 2048) (f : Fin 4) (c : Fin 1) :
    gather_S4x20000x4_S4x2048x1_S4x2048x4_2_1_0_0_1_2_114.siIdx (ValueIdx.ix3 w i f) c = (ValueIdx.ix3 w i c : S4x2048x1.Idx) := by
  funext b
  match b with
  | ⟨0, _⟩ => rfl
  | ⟨1, _⟩ => rfl
  | ⟨2, _⟩ => rfl

theorem gather_at (y : Vec F S4x20000x4 .f32) (p : IVec S4x2048x1 32) (i : Fin 2048) (f : Fin 4) {n : ℕ} (hn : n < 20000)
    (hp : ∀ c : Fin 1, p (ValueIdx.ix3 w i c) = BitVec.ofNat 32 n) :
    Host.gather gather_S4x20000x4_S4x2048x1_S4x2048x4_2_1_0_0_1_2_114 y (fromEnd p) (ValueIdx.ix3 w i f) = y (ValueIdx.ix3 w ⟨n, hn⟩ f) := by
  have hfe : ∀ c : Fin 1, fromEnd p (ValueIdx.ix3 w i c) = BitVec.ofNat 32 n := by
    intro c
    unfold fromEnd
    show (if IntOp.cmpi .slt (p (ValueIdx.ix3 w i c)) (BitVec.ofNat 32 0) = 1 then _ else p (ValueIdx.ix3 w i c)) = _
    rw [hp, if_neg]
    have h := slt_ofNat (a := n) (b := 0) (by omega) (by omega)
    rw [beq_eq_decide] at h
    simpa using h
  generalize hg : gather_S4x20000x4_S4x2048x1_S4x2048x4_2_1_0_0_1_2_114 = g
  unfold Host.gather
  refine congrArg y ?_
  funext a
  apply Fin.ext
  unfold GatherDims.operandIdx
  fin_cases a
  · show g.start _ _ (0 : Fin 3) + g.batchCoord _ (0 : Fin 3) + g.offCoord _ (0 : Fin 3) = w.val
    subst hg
    rw [gather_S4x20000x4_S4x2048x1_S4x2048x4_2_1_0_0_1_2_114.start_batching _ _ (0 : Fin 3) (by decide), gather_S4x20000x4_S4x2048x1_S4x2048x4_2_1_0_0_1_2_114.offCoord_eq_zero _ (0 : Fin 3) (by decide), Nat.zero_add]
    rfl
  · show g.start _ _ (1 : Fin 3) + g.batchCoord _ (1 : Fin 3) + g.offCoord _ (1 : Fin 3) = n
    have hm : (1 : Fin 3) ∈ g.startIndexMap := by subst hg; decide
    have hs : g.start (ValueIdx.ix3 w i f : S4x2048x4.Idx) (fromEnd p) (1 : Fin 3) = n := by
      unfold GatherDims.start
      rw [dif_pos hm]
      subst hg
      have hi : (fromEnd p) (gather_S4x20000x4_S4x2048x1_S4x2048x4_2_1_0_0_1_2_114.siIdx (ValueIdx.ix3 w i f)
            ⟨gather_S4x20000x4_S4x2048x1_S4x2048x4_2_1_0_0_1_2_114.startIndexMap.idxOf (1 : Fin 3), List.idxOf_lt_length_iff.2 hm⟩) = BitVec.ofNat 32 n :=
        (congrArg _ (start_idx i f _)).trans (hfe _)
      refine (congrArg (fun b : BitVec 32 => min b.toInt.toNat (20000 - 1)) hi).trans ?_
      show min (BitVec.ofNat 32 n).toInt.toNat (20000 - 1) = n
      rw [toInt_ofNat (by omega)]
      omega
    rw [hs]
    subst hg
    rw [gather_S4x20000x4_S4x2048x1_S4x2048x4_2_1_0_0_1_2_114.batchCoord_eq_zero _ (1 : Fin 3) (by decide), gather_S4x20000x4_S4x2048x1_S4x2048x4_2_1_0_0_1_2_114.offCoord_eq_zero _ (1 : Fin 3) (by decide)]
    rfl
  · show g.start _ _ (2 : Fin 3) + g.batchCoord _ (2 : Fin 3) + g.offCoord _ (2 : Fin 3) = f.val
    subst hg
    rw [gather_S4x20000x4_S4x2048x1_S4x2048x4_2_1_0_0_1_2_114.batchCoord_eq_zero _ (2 : Fin 3) (by decide)]
    have hs : gather_S4x20000x4_S4x2048x1_S4x2048x4_2_1_0_0_1_2_114.start (ValueIdx.ix3 w i f : S4x2048x4.Idx) (fromEnd p) (2 : Fin 3) = 0 := by
      unfold GatherDims.start
      exact dif_neg (by decide)
    rw [hs]
    show 0 + 0 + _ = f.val
    rw [Nat.zero_add]
    rfl

/-- Coordinate `f` of candidate `i` of image `w` in the reference's result: that of box `n`, `n` the candidate's box number. -/
theorem lookup_at (x : Vec F S4x80000 .f32) (f : Fin 4) (i : Fin 2048) {n : ℕ} (hn : n < 20000) (hb : (b (ValueIdx.ix2 w i)).toNat = n) :
    lookupR x b (ValueIdx.ix3 w f i) = x (ValueIdx.ix2 w (⟨4 * n + f.val, by omega⟩ : Fin 80000)) := by
  have hc : ∀ c : Fin 1, column b (ValueIdx.ix3 w i c) = BitVec.ofNat 32 n := by
    intro c
    rw [column_at, ← hb]
    exact BitVec.eq_of_toNat_eq (by rw [BitVec.toNat_ofNat, Nat.mod_eq_of_lt (BitVec.isLt _)])
  unfold lookupR
  refine (transpose_apply _ _ _ _ (ValueIdx.ix3 w i f) fun a => ?_).trans ?_
  · match a with
    | ⟨0, _⟩ => rfl
    | ⟨1, _⟩ => rfl
    | ⟨2, _⟩ => rfl
  rw [gather_at _ _ i f hn hc]
  refine shapeCast_apply x _ _ _ ?_
  rw [Shape.rowMajor_val_two, Shape.rowMajor_val_three]
  show w.val * 80000 + (4 * n + f.val) = (w.val * 20000 + n) * 4 + f.val
  omega

/-! ## The kernel -/

abbrev FlatTable : Shape := Cert.BoxesIdeal.S320000
abbrev FlatNumbers : Shape := Cert.BoxesIdeal.S8192
abbrev Result : Shape := Cert.BoxesIdeal.S32768

theorem number_at (h : S4x2048.ShapeCasts FlatNumbers) (i : Fin 2048) :
    number (F := F) (shapeCast FlatNumbers b h) w.val i.val = (b (ValueIdx.ix2 w i)).toNat := by
  have hw := w.isLt
  have hi := i.isLt
  unfold number word
  refine congrArg BitVec.toNat (shapeCast_apply b h _ _ ?_)
  rw [Shape.rowMajor_val_two, Shape.rowMajor_val_one]
  show w.val * 2048 + i.val = (2048 * w.val + i.val) % 8192
  omega

theorem coord_at (x : Vec F S4x80000 .f32) (h : S4x80000.ShapeCasts FlatTable) (c : Fin 4) {n : ℕ} (hn : n < 20000) :
    coord (shapeCast FlatTable x h) w.val c.val n = x (ValueIdx.ix2 w (⟨4 * n + c.val, by omega⟩ : Fin 80000)) := by
  have hw := w.isLt
  have hc := c.isLt
  unfold coord word
  refine shapeCast_apply x h _ _ ?_
  rw [Shape.rowMajor_val_two, Shape.rowMajor_val_one]
  show w.val * 80000 + (4 * n + c.val) = (80000 * w.val + (4 * n + c.val)) % 320000
  omega

theorem looked (x : Vec F S4x80000 .f32) (hb : ∀ j, (b j).toNat < 20000) (X : Vec F FlatTable .f32) (I : Vec F FlatNumbers .i32)
    (hx : S4x80000.ShapeCasts FlatTable) (hi : S4x2048.ShapeCasts FlatNumbers) (hX : X = shapeCast FlatTable x hx) (hI : I = shapeCast FlatNumbers b hi)
    (h : Result.ShapeCasts S4x4x2048) : shapeCast S4x4x2048 (outF X I) h = lookupR x b := by
  subst hX hI
  funext j
  obtain ⟨w, hw⟩ : ∃ w : Fin 4, w = j 0 := ⟨_, rfl⟩
  obtain ⟨f, hf⟩ : ∃ f : Fin 4, f = j 1 := ⟨_, rfl⟩
  obtain ⟨i, hi'⟩ : ∃ i : Fin 2048, i = j 2 := ⟨_, rfl⟩
  obtain rfl : j = (ValueIdx.ix3 w f i : S4x4x2048.Idx) := by
    funext a
    match a with
    | ⟨0, _⟩ => exact hw.symm
    | ⟨1, _⟩ => exact hf.symm
    | ⟨2, _⟩ => exact hi'.symm
  have hwl := w.isLt
  have hfl := f.isLt
  have hil := i.isLt
  rw [shapeCast_apply _ h _ (Shape.ofLane (d := ![32768]) ⟨8192 * w.val + 2048 * f.val + i.val, by show _ < 32768; omega⟩) (by
    rw [Shape.rowMajor_val_three, Shape.rowMajor_val_one]
    show 8192 * w.val + 2048 * f.val + i.val = (w.val * 4 + f.val) * 2048 + i.val
    omega)]
  rw [lookup_at x f i (hb _) rfl]
  unfold outF
  show coord (shapeCast FlatTable x hx) ((8192 * w.val + 2048 * f.val + i.val) / 8192) ((8192 * w.val + 2048 * f.val + i.val) % 8192 / 2048)
    (number (F := F) (shapeCast FlatNumbers b hi) ((8192 * w.val + 2048 * f.val + i.val) / 8192) ((8192 * w.val + 2048 * f.val + i.val) % 2048)) = _
  rw [show (8192 * w.val + 2048 * f.val + i.val) / 8192 = w.val by omega, show (8192 * w.val + 2048 * f.val + i.val) % 8192 / 2048 = f.val by omega,
    show (8192 * w.val + 2048 * f.val + i.val) % 2048 = i.val by omega, number_at hi i]
  exact coord_at x hx f (hb _)

end Cert.Proof.BoxesResult

end
-- ==== Proof.RowsGroup.lean ====
/-
  The output call: one group of sixteen candidates.

  A candidate `i` is kept when its mark exceeds ½; the kept ones' six fields go, row after row, into a table of 300 rows, as
  long as there is room. The kernel treats the candidates sixteen at a time: it counts the kept ones before each lane, at
  most 300, and scatters field after field at `6 · row + field`. `part x v n f` is the table after the first `n` candidates,
  with the fields below `f` of the group at `n` already written.
-/
module

public import proofs.«01_k».proof.Proof.Gen.OutputIdeal.Skeleton
public import proofs.«01_k».proof.Proof.Lanes

@[expose] public section

noncomputable section

namespace Cert.Proof.Rows

open Idealize.ShloMosaic Cert.OutputIdeal Cert.OutputIdeal.Gen Cert.Proof.Fill Cert.Proof.Lanes

variable {F : FTy → Type} [FloatOps F]

/-- Which candidates are kept, by their marks. -/
def kept (x : ℕ → F .f32) (i : ℕ) : Bool := decide (FloatOps.cmpf .ogt (x i) (Scalar.ofBits .f32 0x3F000000#32) = 1)

/-- Which candidates are written: those kept with fewer than 300 kept before them. -/
def wr (x : ℕ → F .f32) (i : ℕ) : Bool := kept x i && decide (cnt (kept x) i < 300)

/-- One field's column after the first `n` candidates. -/
def col (x v : ℕ → F .f32) (n : ℕ) : ℕ → F .f32 := fill (wr x) (cnt (kept x)) v (fun _ => Scalar.ofBits .f32 0x00000000#32) n

/-- The table, word by word. -/
def part (x : ℕ → F .f32) (v : ℕ → ℕ → F .f32) (n f j : ℕ) : F .f32 := col x (v (j % 6)) (if j % 6 < f then n + 16 else n) (j / 6)

variable {x : ℕ → F .f32} {v : ℕ → ℕ → F .f32} {n : ℕ}

theorem wr_iff (i : ℕ) : wr x i = true ↔ kept x i = true ∧ cnt (kept x) i < 300 := by
  unfold wr; simp

theorem part_done : part x v n 6 = part x v (n + 16) 0 := by
  funext j
  have h := Nat.mod_lt j (show 0 < 6 by omega)
  unfold part
  rw [if_pos h, if_neg (by omega)]

/-- The scatter of one field of the group. -/
theorem part_store {N f : ℕ} (hf : f < 6) {pos : IVec ⟨1, ![16]⟩ 32} {w : Vec F ⟨1, ![16]⟩ .f32} {mask : IVec ⟨1, ![16]⟩ 1}
    {h : ∀ a x, ((![pos] : Fin 1 → IVec ⟨1, ![16]⟩ 32) a x).toNat < (⟨1, ![N]⟩ : Shape).size a}
    (hmask : ∀ k : Fin 16, mask (Shape.ofLane k) = 1 ↔ wr x (n + k.val) = true)
    (hpos : ∀ k : Fin 16, wr x (n + k.val) = true → (pos (Shape.ofLane k)).toNat = cnt (kept x) (n + k.val) * 6 + f)
    (hw : ∀ k : Fin 16, w (Shape.ofLane k) = v f (n + k.val)) :
    storeIdx (s := ⟨1, ![N]⟩) (asBuf (part x v n f) : Vec F ⟨1, ![N]⟩ .f32) ![pos] w mask false h = asBuf (part x v n (f + 1)) := by
  let st : ℕ → ℕ → F .f32 := fun q j => col x (v (j % 6)) (if j % 6 < f then n + 16 else if j % 6 = f then q else n) (j / 6)
  have e0 : part x v n f = st n := by
    funext j
    show col x (v (j % 6)) _ (j / 6) = col x (v (j % 6)) _ (j / 6)
    congr 1
    split_ifs <;> rfl
  have e1 : part x v n (f + 1) = st (n + 16) := by
    funext j
    show col x (v (j % 6)) _ (j / 6) = col x (v (j % 6)) _ (j / 6)
    congr 1
    split_ifs <;> first | rfl | omega
  rw [e0, e1]
  unfold storeIdx
  refine foldl_lanes (fun q => (asBuf (st q) : Vec F ⟨1, ![N]⟩ .f32)) n 16 _ fun k => ?_
  dsimp only
  have miss : ∀ j : ℕ, ¬ (wr x (n + k.val) = true ∧ j = cnt (kept x) (n + k.val) * 6 + f) → st (n + k.val + 1) j = st (n + k.val) j := by
    intro j hj
    show col x (v (j % 6)) (if j % 6 < f then n + 16 else if j % 6 = f then n + k.val + 1 else n) (j / 6)
      = col x (v (j % 6)) (if j % 6 < f then n + 16 else if j % 6 = f then n + k.val else n) (j / 6)
    split_ifs with h1 h2
    · rfl
    · unfold col
      rw [fill_succ, if_neg]
      rintro ⟨ha, hb⟩
      exact hj ⟨ha, by omega⟩
    · rfl
  by_cases hk : wr x (n + k.val) = true
  · rw [if_pos ((hmask k).mpr hk)]
    funext j
    simp only [Bool.false_eq_true, if_false]
    by_cases hj : (j 0).val = cnt (kept x) (n + k.val) * 6 + f
    · rw [if_pos]
      · rw [hw k]
        show _ = col x (v ((j 0).val % 6)) (if (j 0).val % 6 < f then n + 16 else if (j 0).val % 6 = f then n + k.val + 1 else n) ((j 0).val / 6)
        rw [if_neg (by omega), if_pos (by omega), show (j 0).val % 6 = f by omega]
        unfold col
        rw [fill_succ, if_pos ⟨hk, by omega⟩]
      · intro a
        obtain rfl : a = 0 := Subsingleton.elim _ _
        exact hj.trans (hpos k hk).symm
    · rw [if_neg (fun hh => hj ((hh 0).trans (hpos k hk)))]
      exact (miss _ fun hh => hj hh.2).symm
  · rw [if_neg (fun hh => hk ((hmask k).mp hh))]
    funext j
    exact (miss _ fun hh => hk hh.1).symm

/-- The group's marks, lane by lane. -/
def Marks (x : ℕ → F .f32) (n : ℕ) (y : Vec F S16 .f32) : Prop := ∀ k : Fin 16, y (Shape.ofLane k) = x (n + k.val)

theorem kept_lane {y : Vec F S16 .f32} (hy : Marks x n y) (k : Fin 16) : k0_pay1 y (Shape.ofLane k) = 1 ↔ kept x (n + k.val) = true := by
  show FloatOps.cmpf .ogt (y (Shape.ofLane k)) _ = 1 ↔ _
  rw [hy k]
  exact (decide_eq_true_iff).symm

theorem word_lane {y : Vec F S16 .f32} (hy : Marks x n y) (k : Fin 16) :
    k0_pay2 y (Shape.ofLane k) = BitVec.ofNat 32 (if kept x (n + k.val) = true then 1 else 0) :=
  extui_lane (kept_lane hy) natLt_1_32 k

/-- A lane's row: the number kept before it, at most 300. -/
theorem row_lane {y : Vec F S16 .f32} (hy : Marks x n y) (hn : n + 16 < 2 ^ 31) (k : Fin 16) :
    k0_pay3 (BitVec.ofNat 32 (cnt (kept x) n)) y (Shape.ofLane k) = BitVec.ofNat 32 (min (cnt (kept x) (n + k.val)) 300) := by
  show IntOp.minsi (scan .sum (k0_pay2 y) (Shape.ofLane k) - k0_pay2 y (Shape.ofLane k) + BitVec.ofNat 32 (cnt (kept x) n)) (BitVec.ofNat 32 300) = _
  have h := before_lane (word_lane hy) k
  have hc := cnt_le (kept x) (n + k.val)
  rw [BitVec.add_comm, BitVec.sub_eq_add_neg, ← BitVec.add_assoc, ← BitVec.sub_eq_add_neg, h]
  apply BitVec.eq_of_toNat_eq
  rw [minsi_toNat _ _ (by omega) (by omega)]
  simp; omega

theorem wr_lane {y : Vec F S16 .f32} (hy : Marks x n y) (hn : n + 16 < 2 ^ 31) (k : Fin 16) :
    k0_pay4 (BitVec.ofNat 32 (cnt (kept x) n)) y (Shape.ofLane k) = 1 ↔ wr x (n + k.val) = true := by
  show k0_pay1 y (Shape.ofLane k) &&& IntOp.cmpi .slt (k0_pay3 (BitVec.ofNat 32 (cnt (kept x) n)) y (Shape.ofLane k)) (BitVec.ofNat 32 300) = 1 ↔ _
  rw [row_lane hy hn, wr_iff, ← kept_lane hy k]
  generalize k0_pay1 y (Shape.ofLane k) = b
  have hm : min (cnt (kept x) (n + k.val)) 300 < 2 ^ 31 := by omega
  have hs : (BitVec.ofNat 32 (min (cnt (kept x) (n + k.val)) 300)).slt (BitVec.ofNat 32 300) = decide (cnt (kept x) (n + k.val) < 300) := by
    unfold BitVec.slt
    rw [BitVec.toInt_eq_toNat_of_lt (by simp; omega), BitVec.toInt_eq_toNat_of_lt (by simp)]
    simp only [BitVec.toNat_ofNat, decide_eq_decide]
    omega
  unfold IntOp.cmpi
  simp only [hs]
  by_cases hc : cnt (kept x) (n + k.val) < 300
  · simp only [hc, decide_true, and_true]; revert b; decide
  · simp only [hc, decide_false, and_false]; revert b; decide

/-- The positions of one field. -/
theorem pos_lane {y : Vec F S16 .f32} {pos : IVec S16 32} (hy : Marks x n y) (hn : n + 16 < 2 ^ 31) {f : ℕ} (hf : f < 6)
    (hp : pos = addi (k0_pay5 (BitVec.ofNat 32 (cnt (kept x) n)) y) (broadcast S16 (BitVec.ofNat 32 f))) (k : Fin 16) :
    (pos (Shape.ofLane k)).toNat = min (cnt (kept x) (n + k.val)) 300 * 6 + f := by
  subst hp
  show (k0_pay3 (BitVec.ofNat 32 (cnt (kept x) n)) y (Shape.ofLane k) * BitVec.ofNat 32 6 + BitVec.ofNat 32 f).toNat = _
  rw [row_lane hy hn, ← BitVec.ofNat_mul, ← BitVec.ofNat_add, BitVec.toNat_ofNat]
  exact Nat.mod_eq_of_lt (by omega)

theorem pos_lt {y : Vec F S16 .f32} {pos : IVec S16 32} (hy : Marks x n y) (hn : n + 16 < 2 ^ 31) {f : ℕ} (hf : f < 6)
    (hp : pos = addi (k0_pay5 (BitVec.ofNat 32 (cnt (kept x) n)) y) (broadcast S16 (BitVec.ofNat 32 f))) :
    ∀ a j, ((![pos] : Fin 1 → IVec S16 32) a j).toNat < S1808.size a := by
  intro a j
  obtain rfl : a = 0 := Subsingleton.elim _ _
  rw [lane_eq j]
  show (pos (Shape.ofLane (j 0))).toNat < 1808
  rw [pos_lane hy hn hf hp (j 0)]
  omega

/-- The scatter of field `f`, as the kernel does it. -/
theorem field_group {y w : Vec F S16 .f32} {pos : IVec S16 32} {mask : IVec S16 1} (hy : Marks x n y) (hn : n + 16 < 2 ^ 31) {f : ℕ} (hf : f < 6)
    (hm : mask = k0_pay4 (BitVec.ofNat 32 (cnt (kept x) n)) y)
    (hp : pos = addi (k0_pay5 (BitVec.ofNat 32 (cnt (kept x) n)) y) (broadcast S16 (BitVec.ofNat 32 f)))
    (hw : ∀ k : Fin 16, w (Shape.ofLane k) = v f (n + k.val)) (h) :
    storeIdx (s := S1808) (asBuf (part x v n f) : Vec F S1808 .f32) ![pos] w mask false h = asBuf (part x v n (f + 1)) := by
  subst hm
  refine part_store hf (wr_lane hy hn) (fun k hk => ?_) hw
  rw [pos_lane hy hn hf hp k, Nat.min_eq_left (le_of_lt ((wr_iff _).mp hk).2)]

/-- The number kept after the group. -/
theorem after {y : Vec F S16 .f32} (hy : Marks x n y) :
    Scalar.addi (BitVec.ofNat 32 (cnt (kept x) n)) (extractAt ![15] (k0_pay13 (k0_pay2 y)) inpos_S16_p15) = BitVec.ofNat 32 (cnt (kept x) (n + 16)) := by
  have e : extractAt ![15] (k0_pay13 (k0_pay2 y)) inpos_S16_p15 = k0_pay13 (k0_pay2 y) (Shape.ofLane (15 : Fin 16)) := by
    unfold extractAt
    congr 1
    funext a
    obtain rfl : a = 0 := Subsingleton.elim _ _
    rfl
  rw [e]
  unfold k0_pay13 Scalar.addi
  exact after_group (word_lane hy)

/-- Below row 300 the columns are the fill by "the number kept before". -/
theorem col_eq (u : ℕ → F .f32) {r : ℕ} (hr : r < 300) : ∀ m : ℕ,
    col x u m r = fill (kept x) (fun i => min (cnt (kept x) i) 300) u (fun _ => Scalar.ofBits .f32 0x00000000#32) m r
  | 0 => rfl
  | m + 1 => by
      have ih := col_eq u hr m
      unfold col at ih ⊢
      rw [fill_succ, fill_succ, ih]
      refine if_congr ?_ rfl rfl
      rw [wr_iff]
      constructor
      · rintro ⟨⟨h1, h2⟩, h3⟩; exact ⟨h1, by omega⟩
      · rintro ⟨h1, h2⟩; exact ⟨⟨h1, by omega⟩, by omega⟩

end Cert.Proof.Rows

end
-- ==== Proof.RowsSetup.lean ====
/-
  The output call as the launch theorem sees it, and what its tiles compute.

  The call runs on two SparseCores of sixteen vector subcores. Tile (core c, subcore s) has the number w = 2 s + c; the tiles
  below 4 write the 300 rows of image w, the others do nothing.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.RowsGroup

@[expose] public section

noncomputable section

namespace Cert.Proof.Rows

open Cert.OutputIdeal Cert.OutputIdeal.Gen Cert.Proof.Fill Cert.Proof.Lanes

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The four flat inputs and the flat result, as locations of device `d`. -/
abbrev kLoc (d : Dev nD) : Loc nD τ sig := (SparseCore.T d).loc main_v0
abbrev sLoc (d : Dev nD) : Loc nD τ sig := (SparseCore.T d).loc main_v1
abbrev cLoc (d : Dev nD) : Loc nD τ sig := (SparseCore.T d).loc main_v2
abbrev bLoc (d : Dev nD) : Loc nD τ sig := (SparseCore.T d).loc main_v3
abbrev oLoc (d : Dev nD) : Loc nD τ sig := (SparseCore.T d).loc main_v4

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

theorem coords_eq (L : grid0.Coords) : L = coordsV (L 0) (L 1) := by
  funext a
  match a with
  | 0 => rfl
  | 1 => rfl

/-- The tile's number. -/
abbrev wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

theorem cond_iff (L : grid0.Coords) : k0_cond1 L = 1#1 ↔ wid L < 4 := by
  rw [coords_eq L]
  exact (by decide +kernel : ∀ (c : Fin (grid0.bound 0)) (s : Fin (grid0.bound 1)), k0_cond1 (coordsV c s) = 1#1 ↔ s.val * 2 + c.val < 4) _ _

theorem off2_eq (L : grid0.Coords) : k0_off2 L = ![2048 * wid L] := by
  rw [k0_off2_eq]; congr 1; unfold wid; omega
theorem off3_eq (L : grid0.Coords) : k0_off3 L = ![8192 * wid L] := by
  rw [k0_off3_eq]; congr 1; unfold wid; omega
theorem off11_eq (L : grid0.Coords) : k0_off11 L = ![1800 * wid L] := by
  rw [k0_off11_eq]; congr 1; unfold wid; omega

/-- The marks of image `w`, and its candidates' six fields: four box coordinates, score, class. -/
def marks (K : Vec F S8192 .f32) (w i : ℕ) : F .f32 := word (N := 8192) (by decide) K (2048 * w + i)
def fields (B : Vec F S32768 .f32) (Sc Cl : Vec F S8192 .f32) (w f i : ℕ) : F .f32 :=
  if f < 4 then word (N := 32768) (by decide) B (8192 * w + 2048 * f + i)
  else if f = 4 then word (N := 8192) (by decide) Sc (2048 * w + i) else word (N := 8192) (by decide) Cl (2048 * w + i)

variable [FloatOps F]

/-- The flat result: image after image, the first 300 rows of its table after all its candidates. -/
def outF (K : Vec F S8192 .f32) (B : Vec F S32768 .f32) (Sc Cl : Vec F S8192 .f32) : Vec F S7200 .f32 := fun j =>
  part (marks K ((j 0).val / 1800)) (fields B Sc Cl ((j 0).val / 1800)) 2048 0 ((j 0).val % 1800)

end Cert.Proof.Rows

end
-- ==== Proof.RowsScan.lean ====
/-
  The two loops of a tile of the output call: the table's words at zero, sixteen a trip; and the candidates, sixteen a trip.
-/
module

public import proofs.«01_k».proof.Proof.RowsSetup

@[expose] public section

noncomputable section

namespace Cert.Proof.Rows

open Cert.OutputIdeal Cert.OutputIdeal.Gen Cert.Proof.Fill Cert.Proof.Lanes

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat marks, scores, classes, boxes and rows; the tile's copies of them
local notation "kM" => (Memref.whole Cert.OutputIdeal.main_v0_scv : Memref Cert.OutputIdeal.sig Kind.scVector Space.hbm Cert.OutputIdeal.S8192 EltTy.f32)
local notation "sM" => (Memref.whole Cert.OutputIdeal.main_v1_scv : Memref Cert.OutputIdeal.sig Kind.scVector Space.hbm Cert.OutputIdeal.S8192 EltTy.f32)
local notation "cM" => (Memref.whole Cert.OutputIdeal.main_v2_scv : Memref Cert.OutputIdeal.sig Kind.scVector Space.hbm Cert.OutputIdeal.S8192 EltTy.f32)
local notation "bM" => (Memref.whole Cert.OutputIdeal.main_v3_scv : Memref Cert.OutputIdeal.sig Kind.scVector Space.hbm Cert.OutputIdeal.S32768 EltTy.f32)
local notation "oM" => (Memref.whole Cert.OutputIdeal.main_v4_scv : Memref Cert.OutputIdeal.sig Kind.scVector Space.hbm Cert.OutputIdeal.S7200 EltTy.f32)
local notation "kW" => (Memref.whole Cert.OutputIdeal.cc0_scratch0 : Memref Cert.OutputIdeal.sig Kind.scVector Space.vmem Cert.OutputIdeal.S2048 EltTy.f32)
local notation "sW" => (Memref.whole Cert.OutputIdeal.cc0_scratch1 : Memref Cert.OutputIdeal.sig Kind.scVector Space.vmem Cert.OutputIdeal.S2048 EltTy.f32)
local notation "cW" => (Memref.whole Cert.OutputIdeal.cc0_scratch2 : Memref Cert.OutputIdeal.sig Kind.scVector Space.vmem Cert.OutputIdeal.S2048 EltTy.f32)
local notation "bW" => (Memref.whole Cert.OutputIdeal.cc0_scratch3 : Memref Cert.OutputIdeal.sig Kind.scVector Space.vmem Cert.OutputIdeal.S8192 EltTy.f32)
local notation "oW" => (Memref.whole Cert.OutputIdeal.cc0_scratch4 : Memref Cert.OutputIdeal.sig Kind.scVector Space.vmem Cert.OutputIdeal.S1808 EltTy.f32)

variable [FloatOps F] (d : Dev nD) (L : grid0.Coords)

/-- The tile's buffers. -/
abbrev kwLoc : Loc nD τ sig := (V d (cV L) (jV L)).loc cc0_scratch0
abbrev swLoc : Loc nD τ sig := (V d (cV L) (jV L)).loc cc0_scratch1
abbrev cwLoc : Loc nD τ sig := (V d (cV L) (jV L)).loc cc0_scratch2
abbrev bwLoc : Loc nD τ sig := (V d (cV L) (jV L)).loc cc0_scratch3
abbrev owLoc : Loc nD τ sig := (V d (cV L) (jV L)).loc cc0_scratch4

/-- What the tile holds before trip `k` of the first loop: the table's words before `16 k` at zero. -/
def I1 (k : ℕ) (_ : BitVec 32) : sProp 𝕄 :=
  iprop(∃ fo : Vec F S1808 .f32, ⌜∀ j : S1808.Idx, (j 0).val < 16 * k → fo j = Scalar.ofBits (F := F) .f32 0x00000000#32⌝ ∗ (owLoc d L ↦{fullShare} fo))

theorem t1_step (h1 : k0_cond1 L = 1#1) (v1 : BitVec 32) (k : Fin k0_t1_loop.trips) (acc : BitVec 32) :
    I1 (F := F) d L k.val acc
      ⊢ wp frame (wpE (defs₀ (F := F)) 𝒱₀ (V d (cV L) (jV L)) none) Set.univ
          (k0_t1_body L kM (Memref.isWhole_whole _) sM (Memref.isWhole_whole _) cM (Memref.isWhole_whole _) bM (Memref.isWhole_whole _) oM (Memref.isWhole_whole _)
            kW (Memref.isWhole_whole _) sW (Memref.isWhole_whole _) cW (Memref.isWhole_whole _) bW (Memref.isWhole_whole _) oW (Memref.isWhole_whole _)
            cc0_scoped0 cc0_scoped1 cc0_scoped2 cc0_scoped3 cc0_scoped4 v1 h1 k acc)
          (I1 d L (k.val + 1)) := by
  unfold I1
  iintro ⟨%fo, %h, Ho⟩
  unfold k0_t1_body
  simp only [Prog.lift, Prog.bind_op, Prog.bind_ret, Prog.bind_assoc, Prog.pure_eq_ret]
  iapply (wp_load 𝒱₀ (V d (cV L) (jV L)) none Set.univ (m := oW) (S := Finset.univ) (Finset.subset_univ _)) $$ Ho; iintro Ho
  iapply (wp_store 𝒱₀ (V d (cV L) (jV L)) none Set.univ (m := oW) (r := Rect.unit (s := S1808) (k0_off1 k) S16.size (k0_off1_inb L k h1)) (S := Finset.univ) (Finset.subset_univ _)) $$ Ho; iintro Ho
  rw [wp_ret]; imodintro
  iexists _
  isplitr
  swap; · iexact Ho
  ipureintro
  intro j hj
  refine (store_lanes (oW).view fo (k0_off1_eq k) (k0_off1_inb L k h1) (k0_pay9 (F := F)) (Scalar.ofBits (F := F) .f32 0x00000000#32) (fun _ => rfl) j).trans ?_
  split
  · rfl
  · exact h j (by omega)

/-- The scatter into the table, held whole. -/
theorem wp_scatter {α : Type} {Q : α → sProp 𝕄} {pos : IVec S16 32} {v : Vec F S16 .f32} {mask : IVec S16 1}
    {h : ∀ a x, ((![pos] : Fin 1 → IVec S16 32) a x).toNat < S1808.size a} {hs : ((oW).access (.whole S1808)).Stores Finset.univ}
    {k : PUnit → Prog (TpuEff nD τ sig (Elt F) Λ₀ (V d (cV L) (jV L)).2) α} {f : Vec F S1808 .f32} :
    (owLoc d L ↦{fullShare} f : sProp 𝕄)
      ⊢ iprop(((owLoc d L ↦{fullShare} (storeIdx (s := S1808) f ![pos] v mask false h : Vec F S1808 .f32)) -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.vectorStoreIdx (oW) ![pos] v mask false h hs >>= k) Q) := by
  have H := SparseCore.wp_vectorStoreIdx (defs := defs₀ (F := F)) 𝒱₀ (V d (cV L) (jV L)) none Set.univ (base := oW) (idxs := ![pos]) (v := v) (mask := mask)
    (add := false) (h := h) (hs := hs) (k := k) (f := f) (Q := Q)
  rw [Memref.set_access_whole, Memref.read_access_whole, Memref.write_access_whole_univ] at H
  exact H

/-- What the tile holds before trip `t` of the second loop: the count, its copies of the inputs, the table so far. -/
def I2 (x : ℕ → F .f32) (v : ℕ → ℕ → F .f32) (fk fs fc : Vec F S2048 .f32) (fb : Vec F S8192 .f32) (t : ℕ) (acc : BitVec 32) : sProp 𝕄 :=
  iprop(⌜acc = BitVec.ofNat 32 (cnt (kept x) (16 * t))⌝ ∗ (kwLoc d L ↦{fullShare} fk) ∗ (swLoc d L ↦{fullShare} fs) ∗ (cwLoc d L ↦{fullShare} fc)
    ∗ (bwLoc d L ↦{fullShare} fb) ∗ (owLoc d L ↦{fullShare} (asBuf (part x v (16 * t) 0) : Vec F S1808 .f32)))

/-- The tile's copies hold the marks and the fields. -/
structure Copies (x : ℕ → F .f32) (v : ℕ → ℕ → F .f32) (fk fs fc : Vec F S2048 .f32) (fb : Vec F S8192 .f32) : Prop where
  k : ∀ j : S2048.Idx, fk j = x (j 0).val
  s : ∀ j : S2048.Idx, fs j = v 4 (j 0).val
  c : ∀ j : S2048.Idx, fc j = v 5 (j 0).val
  b : ∀ j : S8192.Idx, fb j = v ((j 0).val / 2048) ((j 0).val % 2048)

theorem t2_step {x : ℕ → F .f32} {v : ℕ → ℕ → F .f32} {fk fs fc : Vec F S2048 .f32} {fb : Vec F S8192 .f32} (H : Copies x v fk fs fc fb)
    (h1 : k0_cond1 L = 1#1) (v1 : BitVec 32) (t : Fin k0_t2_loop.trips) (acc : BitVec 32) :
    I2 d L x v fk fs fc fb t.val acc
      ⊢ wp frame (wpE (defs₀ (F := F)) 𝒱₀ (V d (cV L) (jV L)) none) Set.univ
          (k0_t2_body L kM (Memref.isWhole_whole _) sM (Memref.isWhole_whole _) cM (Memref.isWhole_whole _) bM (Memref.isWhole_whole _) oM (Memref.isWhole_whole _)
            kW (Memref.isWhole_whole _) sW (Memref.isWhole_whole _) cW (Memref.isWhole_whole _) bW (Memref.isWhole_whole _) oW (Memref.isWhole_whole _)
            cc0_scoped0 cc0_scoped1 cc0_scoped2 cc0_scoped3 cc0_scoped4 v1 h1 t acc)
          (I2 d L x v fk fs fc fb (t.val + 1)) := by
  have ht : t.val < 128 := t.isLt
  have y0 : Marks x (16 * t.val) ((kW).view.readAt (Elt F) (Rect.unit (s := S2048) (k0_off4 t) S16.size (k0_off4_inb L t h1)).toLoadRect fk) := fun k =>
    (load_lanes (kW).view fk (k0_off4_eq t) (k0_off4_inb L t h1) k (Shape.ofLane (d := ![2048]) ⟨16 * t.val + k.val, show 16 * t.val + k.val < 2048 by omega⟩) rfl).trans (H.k _)
  have v4 : ∀ k : Fin 16, (sW).view.readAt (Elt F) (Rect.unit (s := S2048) (k0_off9 t) S16.size (k0_off9_inb L t h1)).toLoadRect fs (Shape.ofLane k) = v 4 (16 * t.val + k.val) := fun k =>
    (load_lanes (sW).view fs (k0_off9_eq t) (k0_off9_inb L t h1) k (Shape.ofLane (d := ![2048]) ⟨16 * t.val + k.val, show 16 * t.val + k.val < 2048 by omega⟩) rfl).trans (H.s _)
  have v5 : ∀ k : Fin 16, (cW).view.readAt (Elt F) (Rect.unit (s := S2048) (k0_off10 t) S16.size (k0_off10_inb L t h1)).toLoadRect fc (Shape.ofLane k) = v 5 (16 * t.val + k.val) := fun k =>
    (load_lanes (cW).view fc (k0_off10_eq t) (k0_off10_inb L t h1) k (Shape.ofLane (d := ![2048]) ⟨16 * t.val + k.val, show 16 * t.val + k.val < 2048 by omega⟩) rfl).trans (H.c _)
  have box : ∀ (f : ℕ), f < 4 → ∀ {off : Fin 1 → ℕ} (_ : off = ![2048 * f + 16 * t.val]) (inb : ∀ a, off a + S16.size a ≤ S8192.size a) (k : Fin 16),
      (bW).view.readAt (Elt F) (Rect.unit (s := S8192) off S16.size inb).toLoadRect fb (Shape.ofLane k) = v f (16 * t.val + k.val) := fun f hf off ho inb k => by
    refine (load_lanes (bW).view fb ho inb k (Shape.ofLane (d := ![8192]) ⟨2048 * f + 16 * t.val + k.val, show 2048 * f + 16 * t.val + k.val < 8192 by omega⟩) rfl).trans ((H.b _).trans ?_)
    show v ((2048 * f + 16 * t.val + k.val) / 2048) ((2048 * f + 16 * t.val + k.val) % 2048) = _
    rw [show (2048 * f + 16 * t.val + k.val) / 2048 = f by omega, show (2048 * f + 16 * t.val + k.val) % 2048 = 16 * t.val + k.val by omega]
  have v0 := box 0 (by omega) ((k0_off5_eq t).trans (by congr 1; omega)) (k0_off5_inb L t h1)
  have v1' := box 1 (by omega) ((k0_off6_eq t).trans (by congr 1; omega)) (k0_off6_inb L t h1)
  have v2 := box 2 (by omega) ((k0_off7_eq t).trans (by congr 1; omega)) (k0_off7_inb L t h1)
  have v3 := box 3 (by omega) ((k0_off8_eq t).trans (by congr 1; omega)) (k0_off8_inb L t h1)
  unfold I2
  iintro ⟨%hacc, Hk, Hs, Hc, Hb, Ho⟩
  subst hacc
  rw [show 16 * (t.val + 1) = 16 * t.val + 16 by omega, ← part_done]
  generalize hN : 16 * t.val = n at *
  unfold k0_t2_body
  dsimp only
  rw [k0_part1_eq_skeleton]
  unfold k0_part1_skel
  dsimp only
  simp only [Prog.lift, Prog.bind_op, Prog.bind_ret, Prog.bind_assoc, Prog.pure_eq_ret]
  iapply (wp_load 𝒱₀ (V d (cV L) (jV L)) none Set.univ (m := kW) (S := Finset.univ) (Finset.subset_univ _)) $$ Hk; iintro Hk
  revert y0
  generalize (kW).view.readAt (Elt F) (Rect.unit (s := S2048) (k0_off4 t) S16.size (k0_off4_inb L t h1)).toLoadRect fk = y
  intro y0
  iapply (wp_load 𝒱₀ (V d (cV L) (jV L)) none Set.univ (m := bW) (S := Finset.univ) (Finset.subset_univ _)) $$ Hb; iintro Hb
  rw [wp_assume_of _ _ _ _ (show k0_chk1 L (k0_pay6 (BitVec.ofNat 32 (cnt (kept x) n)) y) from fun _ => pos_lt y0 (by omega) (f := 0) (by decide) rfl)]
  iapply (wp_scatter d L) $$ Ho; iintro Ho
  ihave Ho := (Entails.of_eq (congrArg (fun g => iprop(owLoc d L ↦{fullShare} g)) (field_group (v := v) (pos := k0_pay6 (BitVec.ofNat 32 (cnt (kept x) n)) y) y0 (by omega) (f := 0) (by decide) rfl rfl
    (fun k => v0 k) _))) $$ Ho
  iapply (wp_load 𝒱₀ (V d (cV L) (jV L)) none Set.univ (m := bW) (S := Finset.univ) (Finset.subset_univ _)) $$ Hb; iintro Hb
  rw [wp_assume_of _ _ _ _ (show k0_chk2 L (k0_pay7 (BitVec.ofNat 32 (cnt (kept x) n)) y) from fun _ => pos_lt y0 (by omega) (f := 1) (by decide) rfl)]
  iapply (wp_scatter d L) $$ Ho; iintro Ho
  ihave Ho := (Entails.of_eq (congrArg (fun g => iprop(owLoc d L ↦{fullShare} g)) (field_group (v := v) (pos := k0_pay7 (BitVec.ofNat 32 (cnt (kept x) n)) y) y0 (by omega) (f := 1) (by decide) rfl rfl
    (fun k => v1' k) _))) $$ Ho
  iapply (wp_load 𝒱₀ (V d (cV L) (jV L)) none Set.univ (m := bW) (S := Finset.univ) (Finset.subset_univ _)) $$ Hb; iintro Hb
  rw [wp_assume_of _ _ _ _ (show k0_chk3 L (k0_pay8 (BitVec.ofNat 32 (cnt (kept x) n)) y) from fun _ => pos_lt y0 (by omega) (f := 2) (by decide) rfl)]
  iapply (wp_scatter d L) $$ Ho; iintro Ho
  ihave Ho := (Entails.of_eq (congrArg (fun g => iprop(owLoc d L ↦{fullShare} g)) (field_group (v := v) (pos := k0_pay8 (BitVec.ofNat 32 (cnt (kept x) n)) y) y0 (by omega) (f := 2) (by decide) rfl rfl
    (fun k => v2 k) _))) $$ Ho
  iapply (wp_load 𝒱₀ (V d (cV L) (jV L)) none Set.univ (m := bW) (S := Finset.univ) (Finset.subset_univ _)) $$ Hb; iintro Hb
  rw [wp_assume_of _ _ _ _ (show k0_chk4 L (k0_pay10 (k0_pay5 (BitVec.ofNat 32 (cnt (kept x) n)) y)) from fun _ => pos_lt y0 (by omega) (f := 3) (by decide) rfl)]
  iapply (wp_scatter d L) $$ Ho; iintro Ho
  ihave Ho := (Entails.of_eq (congrArg (fun g => iprop(owLoc d L ↦{fullShare} g)) (field_group (v := v) (pos := k0_pay10 (k0_pay5 (BitVec.ofNat 32 (cnt (kept x) n)) y)) y0 (by omega) (f := 3) (by decide) rfl rfl
    (fun k => v3 k) _))) $$ Ho
  iapply (wp_load 𝒱₀ (V d (cV L) (jV L)) none Set.univ (m := sW) (S := Finset.univ) (Finset.subset_univ _)) $$ Hs; iintro Hs
  rw [wp_assume_of _ _ _ _ (show k0_chk5 L (k0_pay11 (k0_pay5 (BitVec.ofNat 32 (cnt (kept x) n)) y)) from fun _ => pos_lt y0 (by omega) (f := 4) (by decide) rfl)]
  iapply (wp_scatter d L) $$ Ho; iintro Ho
  ihave Ho := (Entails.of_eq (congrArg (fun g => iprop(owLoc d L ↦{fullShare} g)) (field_group (v := v) (pos := k0_pay11 (k0_pay5 (BitVec.ofNat 32 (cnt (kept x) n)) y)) y0 (by omega) (f := 4) (by decide) rfl rfl
    (fun k => v4 k) _))) $$ Ho
  iapply (wp_load 𝒱₀ (V d (cV L) (jV L)) none Set.univ (m := cW) (S := Finset.univ) (Finset.subset_univ _)) $$ Hc; iintro Hc
  rw [wp_assume_of _ _ _ _ (show k0_chk6 L (k0_pay12 (k0_pay5 (BitVec.ofNat 32 (cnt (kept x) n)) y)) from fun _ => pos_lt y0 (by omega) (f := 5) (by decide) rfl)]
  iapply (wp_scatter d L) $$ Ho; iintro Ho
  ihave Ho := (Entails.of_eq (congrArg (fun g => iprop(owLoc d L ↦{fullShare} g)) (field_group (v := v) (pos := k0_pay12 (k0_pay5 (BitVec.ofNat 32 (cnt (kept x) n)) y)) y0 (by omega) (f := 5) (by decide) rfl rfl
    (fun k => v5 k) _))) $$ Ho
  rw [wp_ret]; imodintro
  isplitr; · ipureintro; exact after y0
  isplitl [Hk]; · iexact Hk
  isplitl [Hs]; · iexact Hs
  isplitl [Hc]; · iexact Hc
  isplitl [Hb]; · iexact Hb
  iexact Ho

end Cert.Proof.Rows

end
-- ==== Proof.RowsTile.lean ====
/-
  A tile's task of the output call: it clears its table, copies its image's marks, scores, classes and boxes in, walks the
  candidates and copies the table's 300 rows out. A tile of number 4 or more does nothing, and owns no slot of the result.
-/
module

public import proofs.«01_k».proof.Proof.RowsScan
public import proofs.«01_k».proof.Proof.Copy

@[expose] public section

noncomputable section

namespace Cert.Proof.Rows

open Cert.OutputIdeal Cert.OutputIdeal.Gen Cert.Proof.Fill Cert.Proof.Lanes Cert.Proof.Copy

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs as the body table passes them: the flat marks, scores, classes, boxes and rows; the tile's copies of them
local notation "kM" => (Memref.whole Cert.OutputIdeal.main_v0_scv : Memref Cert.OutputIdeal.sig Kind.scVector Space.hbm Cert.OutputIdeal.S8192 EltTy.f32)
local notation "sM" => (Memref.whole Cert.OutputIdeal.main_v1_scv : Memref Cert.OutputIdeal.sig Kind.scVector Space.hbm Cert.OutputIdeal.S8192 EltTy.f32)
local notation "cM" => (Memref.whole Cert.OutputIdeal.main_v2_scv : Memref Cert.OutputIdeal.sig Kind.scVector Space.hbm Cert.OutputIdeal.S8192 EltTy.f32)
local notation "bM" => (Memref.whole Cert.OutputIdeal.main_v3_scv : Memref Cert.OutputIdeal.sig Kind.scVector Space.hbm Cert.OutputIdeal.S32768 EltTy.f32)
local notation "oM" => (Memref.whole Cert.OutputIdeal.main_v4_scv : Memref Cert.OutputIdeal.sig Kind.scVector Space.hbm Cert.OutputIdeal.S7200 EltTy.f32)
local notation "kW" => (Memref.whole Cert.OutputIdeal.cc0_scratch0 : Memref Cert.OutputIdeal.sig Kind.scVector Space.vmem Cert.OutputIdeal.S2048 EltTy.f32)
local notation "sW" => (Memref.whole Cert.OutputIdeal.cc0_scratch1 : Memref Cert.OutputIdeal.sig Kind.scVector Space.vmem Cert.OutputIdeal.S2048 EltTy.f32)
local notation "cW" => (Memref.whole Cert.OutputIdeal.cc0_scratch2 : Memref Cert.OutputIdeal.sig Kind.scVector Space.vmem Cert.OutputIdeal.S2048 EltTy.f32)
local notation "bW" => (Memref.whole Cert.OutputIdeal.cc0_scratch3 : Memref Cert.OutputIdeal.sig Kind.scVector Space.vmem Cert.OutputIdeal.S8192 EltTy.f32)
local notation "oW" => (Memref.whole Cert.OutputIdeal.cc0_scratch4 : Memref Cert.OutputIdeal.sig Kind.scVector Space.vmem Cert.OutputIdeal.S1808 EltTy.f32)

variable (L : grid0.Coords)

/-- The tile's thread. -/
abbrev thr (d : Dev nD) : Thread nD τ := V d (cV L) (jV L)

/-- The slots of image `w`: none from 4 on. -/
def slots (w : Fin 32) : Finset S7200.Idx := Finset.univ.filter fun j => (j 0).val / 1800 = w.val
abbrev widF (L : grid0.Coords) : Fin 32 := ⟨wid L, wid_lt L⟩

/-- The parts of the inputs that the tile copies, its table's rows, and where they go. -/
abbrev kSl (h1 : k0_cond1 L = 1#1) : Memref sig .scVector .hbm S2048 .f32 := (kM).slice (Rect.unit (s := S8192) (k0_off2 L) S2048.size (k0_off2_inb L h1)) (fun _ => rfl)
abbrev sSl (h1 : k0_cond1 L = 1#1) : Memref sig .scVector .hbm S2048 .f32 := (sM).slice (Rect.unit (s := S8192) (k0_off2 L) S2048.size (k0_off2_inb L h1)) (fun _ => rfl)
abbrev cSl (h1 : k0_cond1 L = 1#1) : Memref sig .scVector .hbm S2048 .f32 := (cM).slice (Rect.unit (s := S8192) (k0_off2 L) S2048.size (k0_off2_inb L h1)) (fun _ => rfl)
abbrev bSl (h1 : k0_cond1 L = 1#1) : Memref sig .scVector .hbm S8192 .f32 := (bM).slice (Rect.unit (s := S32768) (k0_off3 L) S8192.size (k0_off3_inb L h1)) (fun _ => rfl)
abbrev tbl : Memref sig .scVector .vmem S1800 .f32 := (oW).slice (Rect.unit (s := S1808) ![0] S1800.size inb_S1808_S1800_0) (fun _ => rfl)
abbrev oSl (h1 : k0_cond1 L = 1#1) : Memref sig .scVector .hbm S1800 .f32 := (oM).slice (Rect.unit (s := S7200) (k0_off11 L) S1800.size (k0_off11_inb L h1)) (fun _ => rfl)

/-- Where the tile's word `j` lies in the flat result. -/
theorem oSl_emb (h1 : k0_cond1 L = 1#1) (j : S1800.Idx) : ((Rect.unit (s := S7200) (k0_off11 L) S1800.size (k0_off11_inb L h1)).emb j 0).val = 1800 * wid L + (j 0).val := by
  show k0_off11 L 0 + 1 * (j 0).val = _
  rw [off11_eq]
  show 1800 * wid L + 1 * (j 0).val = _
  omega

theorem set_oSl (h1 : k0_cond1 L = 1#1) : (oSl L h1).view.set = slots (widF L) := by
  ext i
  unfold slots
  rw [Finset.mem_filter]
  constructor
  · intro hi
    obtain ⟨j, -, rfl⟩ := Finset.mem_map.mp hi
    have hj : (j 0).val < 1800 := (j 0).isLt
    refine ⟨Finset.mem_univ _, ?_⟩
    show ((Rect.unit (s := S7200) (k0_off11 L) S1800.size (k0_off11_inb L h1)).emb j 0).val / 1800 = wid L
    rw [oSl_emb L h1]
    omega
  · rintro ⟨-, hi⟩
    have hi : (i 0).val / 1800 = wid L := hi
    refine Finset.mem_map.mpr ⟨Shape.ofLane (d := ![1800]) ⟨(i 0).val % 1800, Nat.mod_lt _ (by decide)⟩, Finset.mem_univ _, ?_⟩
    funext (a : Fin 1)
    obtain rfl : a = 0 := Subsingleton.elim _ _
    refine Fin.ext ((oSl_emb L h1 _).trans ?_)
    show 1800 * wid L + (i 0).val % 1800 = _
    omega

theorem slots_ge {w : Fin 32} (hw : ¬ w.val < 4) : slots w = ∅ := by
  unfold slots
  refine Finset.filter_eq_empty_iff.mpr fun j _ => ?_
  have hj : (j 0).val < 7200 := (j 0).isLt
  omega

variable [FloatOps F] (d : Dev nD)

/-- What the copies in leave. -/
theorem copies (h1 : k0_cond1 L = 1#1) (K Sc Cl : Vec F S8192 .f32) (B : Vec F S32768 .f32) :
    Copies (marks K (wid L)) (fields B Sc Cl (wid L)) ((kSl L h1).view.read (Elt F) K) ((sSl L h1).view.read (Elt F) Sc) ((cSl L h1).view.read (Elt F) Cl) ((bSl L h1).view.read (Elt F) B) where
  k j := slice_word (by decide) (off2_eq L) (k0_off2_inb L h1) K j
  s j := (slice_word (by decide) (off2_eq L) (k0_off2_inb L h1) Sc j).trans (by unfold fields; rw [if_neg (by decide), if_pos rfl])
  c j := (slice_word (by decide) (off2_eq L) (k0_off2_inb L h1) Cl j).trans (by unfold fields; rw [if_neg (by decide), if_neg (by decide)])
  b j := (slice_word (by decide) (off3_eq L) (k0_off3_inb L h1) B j).trans (by
    have hj : (j 0).val < 8192 := (j 0).isLt
    unfold fields
    rw [if_pos (by omega)]
    congr 1
    omega)

/-- What the copy out leaves in the tile's slots of the result. -/
theorem pts_out (h1 : k0_cond1 L = 1#1) (K Sc Cl : Vec F S8192 .f32) (B : Vec F S32768 .f32) (fo : Vec F S7200 .f32) :
    ((oSl L h1).view.loc (thr L d) ↦[slots (widF L)]{fullShare} ((oSl L h1).view.write (Elt F) fo
        ((tbl).view.read (Elt F) (asBuf (part (marks K (wid L)) (fields B Sc Cl (wid L)) 2048 0) : Vec F S1808 .f32)) Finset.univ) : sProp 𝕄)
      = oLoc d ↦[slots (widF L)]{fullShare} outF K B Sc Cl := by
  refine pointsTo_congr fun i hi => ?_
  rw [← set_oSl L h1] at hi
  obtain ⟨j, -, rfl⟩ := Finset.mem_map.mp hi
  have hj : (j 0).val < 1800 := (j 0).isLt
  refine (congrFun ((oSl L h1).view.read_write_univ (Val := Elt F) fo _) j).trans ?_
  show part (marks K (wid L)) (fields B Sc Cl (wid L)) 2048 0 (0 + 1 * (j 0).val)
    = part (marks K (((Rect.unit (s := S7200) (k0_off11 L) S1800.size (k0_off11_inb L h1)).emb j 0).val / 1800))
        (fields B Sc Cl (((Rect.unit (s := S7200) (k0_off11 L) S1800.size (k0_off11_inb L h1)).emb j 0).val / 1800)) 2048 0
        (((Rect.unit (s := S7200) (k0_off11 L) S1800.size (k0_off11_inb L h1)).emb j 0).val % 1800)
  rw [oSl_emb L h1, show (1800 * wid L + (j 0).val) / 1800 = wid L by omega, show (1800 * wid L + (j 0).val) % 1800 = 0 + 1 * (j 0).val by omega]

/-- The copies' semaphores. -/
abbrev cell0 : GSem nD τ sig := (thr L d, .dma cc0_scoped0.sem)
abbrev cell1 : GSem nD τ sig := (thr L d, .dma cc0_scoped1.sem)
abbrev cell2 : GSem nD τ sig := (thr L d, .dma cc0_scoped2.sem)
abbrev cell3 : GSem nD τ sig := (thr L d, .dma cc0_scoped3.sem)
abbrev cell4 : GSem nD τ sig := (thr L d, .dma cc0_scoped4.sem)

theorem cell_ne {a b : DmaSem sig} (h : a ≠ b) : ((thr L d, .dma a) : GSem nD τ sig) ≠ (thr L d, .dma b) := fun e => h (by injection (Prod.mk.inj e).2)
theorem ref_ne {a b : Ref sig .scVector} (h : a ≠ b) : (Proc.scVector (cV L) (jV L)).devRef a ≠ (Proc.scVector (cV L) (jV L)).devRef b :=
  fun e => absurd (Proc.devRef_injective _ e) h

theorem ownSems0_V :
    (ownSems0 (thr L d) : sProp 𝕄)
      = iprop(semVal (cell0 L d) 0 ∗ semVal (cell1 L d) 0 ∗ semVal (cell2 L d) 0 ∗ semVal (cell3 L d) 0 ∗ semVal (cell4 L d) 0
          ∗ bigSep ((((((ownCells (thr L d)).erase (cell0 L d)).erase (cell1 L d)).erase (cell2 L d)).erase (cell3 L d)).erase (cell4 L d)) fun g => semVal g 0) := by
  unfold SparseCore.Cfg.ownSems0
  rw [SparseCore.bigSep_erase' ((mem_ownCells (g := cell0 L d)).mpr ⟨rfl, by show (SemLoc.dma cc0_scoped0.sem : SemLoc sig).isScoped .scVector = true; decide⟩),
    SparseCore.bigSep_erase' (Finset.mem_erase.mpr ⟨cell_ne L d (show cc0_scoped1.sem ≠ cc0_scoped0.sem by decide), (mem_ownCells (g := cell1 L d)).mpr ⟨rfl, by show (SemLoc.dma cc0_scoped1.sem : SemLoc sig).isScoped .scVector = true; decide⟩⟩),
    SparseCore.bigSep_erase' (Finset.mem_erase.mpr ⟨cell_ne L d (show cc0_scoped2.sem ≠ cc0_scoped1.sem by decide), Finset.mem_erase.mpr ⟨cell_ne L d (show cc0_scoped2.sem ≠ cc0_scoped0.sem by decide), (mem_ownCells (g := cell2 L d)).mpr ⟨rfl, by show (SemLoc.dma cc0_scoped2.sem : SemLoc sig).isScoped .scVector = true; decide⟩⟩⟩),
    SparseCore.bigSep_erase' (Finset.mem_erase.mpr ⟨cell_ne L d (show cc0_scoped3.sem ≠ cc0_scoped2.sem by decide), Finset.mem_erase.mpr ⟨cell_ne L d (show cc0_scoped3.sem ≠ cc0_scoped1.sem by decide), Finset.mem_erase.mpr ⟨cell_ne L d (show cc0_scoped3.sem ≠ cc0_scoped0.sem by decide), (mem_ownCells (g := cell3 L d)).mpr ⟨rfl, by show (SemLoc.dma cc0_scoped3.sem : SemLoc sig).isScoped .scVector = true; decide⟩⟩⟩⟩),
    SparseCore.bigSep_erase' (Finset.mem_erase.mpr ⟨cell_ne L d (show cc0_scoped4.sem ≠ cc0_scoped3.sem by decide), Finset.mem_erase.mpr ⟨cell_ne L d (show cc0_scoped4.sem ≠ cc0_scoped2.sem by decide), Finset.mem_erase.mpr ⟨cell_ne L d (show cc0_scoped4.sem ≠ cc0_scoped1.sem by decide), Finset.mem_erase.mpr ⟨cell_ne L d (show cc0_scoped4.sem ≠ cc0_scoped0.sem by decide), (mem_ownCells (g := cell4 L d)).mpr ⟨rfl, by show (SemLoc.dma cc0_scoped4.sem : SemLoc sig).isScoped .scVector = true; decide⟩⟩⟩⟩⟩)]

theorem ownBufs_V :
    (ownBufs (thr L d) : sProp 𝕄)
      = iprop((∃ f : Vec F S2048 .f32, kwLoc d L ↦{fullShare} f) ∗ (∃ f : Vec F S2048 .f32, swLoc d L ↦{fullShare} f) ∗ (∃ f : Vec F S2048 .f32, cwLoc d L ↦{fullShare} f) ∗ (∃ f : Vec F S8192 .f32, bwLoc d L ↦{fullShare} f) ∗ (∃ f : Vec F S1808 .f32, owLoc d L ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ref_ne L (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ref_ne L (show (cc0_scratch2 : Ref sig .scVector) ≠ cc0_scratch1 by decide), Finset.mem_erase.mpr ⟨ref_ne L (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨ref_ne L (show (cc0_scratch3 : Ref sig .scVector) ≠ cc0_scratch2 by decide), Finset.mem_erase.mpr ⟨ref_ne L (show (cc0_scratch3 : Ref sig .scVector) ≠ cc0_scratch1 by decide), Finset.mem_erase.mpr ⟨ref_ne L (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨ref_ne L (show (cc0_scratch4 : Ref sig .scVector) ≠ cc0_scratch3 by decide), Finset.mem_erase.mpr ⟨ref_ne L (show (cc0_scratch4 : Ref sig .scVector) ≠ cc0_scratch2 by decide), Finset.mem_erase.mpr ⟨ref_ne L (show (cc0_scratch4 : Ref sig .scVector) ≠ cc0_scratch1 by decide), Finset.mem_erase.mpr ⟨ref_ne L (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]
  rfl

/-- What a tile is handed: read shares of the inputs and its slots of the result; and what it hands back. -/
abbrev goP (q : PosShare TreeShare) (K Sc Cl : Vec F S8192 .f32) (B : Vec F S32768 .f32) (fo : Vec F S7200 .f32) (w : Fin 32) : sProp 𝕄 :=
  iprop((kLoc d ↦{q} K) ∗ (sLoc d ↦{q} Sc) ∗ (cLoc d ↦{q} Cl) ∗ (bLoc d ↦{q} B) ∗ (oLoc d ↦[slots w]{fullShare} fo))

set_option maxHeartbeats 2000000 in
theorem tile_body (q : PosShare TreeShare) (K₀ Sc Cl : Vec F S8192 .f32) (B : Vec F S32768 .f32) (fo : Vec F S7200 .f32)
    (hF : (K (F := F)).Facts) (O : CellTallies nD τ sig (HIx 1)) (W : Waits sig (HIx 1)) (hO : ∀ g, O g none = 0) :
    iprop(levAts (K (F := F)).L (K (F := F)).lev ∗ emp ∗ goP d q K₀ Sc Cl B fo (widF L)
        ∗ scopedBufs (thr L d) ∗ scopedSems0 (thr L d) ∗ owes (thr L d) O W)
      ⊢ wp frame (wpE (defs₀ (F := F)) 𝒱₀ (thr L d) none) Set.univ
          (cc0__stage_f_kernel L kM (Memref.isWhole_whole _) sM (Memref.isWhole_whole _) cM (Memref.isWhole_whole _) bM (Memref.isWhole_whole _) oM (Memref.isWhole_whole _)
            kW (Memref.isWhole_whole _) sW (Memref.isWhole_whole _) cW (Memref.isWhole_whole _) bW (Memref.isWhole_whole _) oW (Memref.isWhole_whole _)
            cc0_scoped0 cc0_scoped1 cc0_scoped2 cc0_scoped3 cc0_scoped4)
          fun _ => iprop(goP d q K₀ Sc Cl B (outF K₀ B Sc Cl) (widF L) ∗ scopedBufs (thr L d) ∗ scopedSems0 (thr L d)
            ∗ ∃ W', ⌜∀ p ∈ W', p ∈ W ∨ p.2 = none ∨ p.2 = some (0 : Fin 1)⌝ ∗ owes (thr L d) O W') := by
  rw [cc0__stage_f_kernel_eq_skeleton]
  unfold cc0__stage_f_kernel_skel
  dsimp only
  by_cases h1 : k0_cond1 L = 1#1
  swap
  · rw [dif_neg h1]
    have e : goP d q K₀ Sc Cl B fo (widF L) = (goP d q K₀ Sc Cl B (outF K₀ B Sc Cl) (widF L) : sProp 𝕄) := by
      have h : (oLoc d ↦[slots (widF L)]{fullShare} fo : sProp 𝕄) = oLoc d ↦[slots (widF L)]{fullShare} outF K₀ B Sc Cl :=
        pointsTo_congr fun i hi => absurd hi (by rw [slots_ge fun h => h1 ((cond_iff L).mpr h)]; exact Finset.notMem_empty i)
      unfold goP
      rw [h]
    rw [e]
    iintro ⟨-, -, Hg, Hb, Hs, HO⟩
    simp only [Prog.bind_ret, Prog.pure_eq_ret]
    rw [wp_ret]; imodintro
    isplitl [Hg]; · iexact Hg
    isplitl [Hb]; · iexact Hb
    isplitl [Hs]; · iexact Hs
    iexists _; isplitr
    swap; · iexact HO
    ipureintro; exact fun p h => .inl h
  rw [dif_pos h1, k0_part2_eq_skeleton]
  rw [(K (F := F)).scopedBufs_V hF d (cV L) (jV L), SparseCore.Cfg.scopedSems0_V (Val := Elt F) d (cV L) (jV L), ownSems0_V, ownBufs_V]
  iintro ⟨#Hlv, -, ⟨Hk, Hs, Hc, Hb, Ho⟩, ⟨⟨%gk, Wk⟩, ⟨%gs, Ws⟩, ⟨%gc, Wc⟩, ⟨%gb, Wb⟩, ⟨%go, Wo⟩, Hbufs⟩, ⟨Hsem0, Hsem1, Hsem2, Hsem3, Hsem4, Hsems⟩, HO⟩
  ihave Hmw := (show levAts (K (F := F)).L (K (F := F)).lev ⊢ Transfers.MayWaits (thr L d) (default : HIx 1) O from
    (K (F := F)).mayWaits_none (thr := thr L d) hO) $$ Hlv
  icases Hmw with #Hmw
  unfold k0_part2_skel
  simp only [Prog.lift, Prog.bind_op, Prog.bind_ret, Prog.bind_assoc, Prog.pure_eq_ret]
  -- the table at zero
  iapply (Scf.wp_for_bind frame (wpE (defs₀ (F := F)) 𝒱₀ (thr L d) none) Set.univ _ _ _ (k0_t1_ok L h1) _ _ (I1 d L) (t1_step d L h1 _)) $$ [Wo]
  · unfold I1
    iexists go
    isplitr; · ipureintro; exact fun j h => absurd h (by omega)
    iexact Wo
  iintro %z0 H
  unfold I1
  icases H with ⟨%go', %hg, Wo⟩
  obtain rfl : go' = asBuf (part (marks K₀ (wid L)) (fields B Sc Cl (wid L)) 0 0) := funext fun j => hg j (j 0).isLt
  -- the copies in
  ihave Hk := (pointsTo_split_subset (ℓ := kLoc d) (q := q) (f := K₀) (Finset.subset_univ (kSl L h1).view.set)).1 $$ Hk
  icases Hk with ⟨Hk, Hk'⟩
  iapply (wp_copy 𝒱₀ (thr L d) none Finset.univ rfl (View.amount_pos _ _ (show 0 < S2048.numel by decide)) (Finset.subset_univ _)) $$ [Hk Wk Hsem0 HO]
  · isplitl [Hk]; · iexact Hk
    isplitl [Wk]; · iexact Wk
    isplitl [Hsem0]; · iexact Hsem0
    isplitr; · iexact Hmw
    iexact HO
  iintro ⟨Hk, Wk, Hsem0, HO⟩
  ihave Hk := (pointsTo_split_subset (ℓ := kLoc d) (q := q) (f := K₀) (Finset.subset_univ (kSl L h1).view.set)).2 $$ [Hk Hk']
  · isplitl [Hk] <;> iassumption
  ihave Wk := (Entails.of_eq (congrArg (fun g => iprop(kwLoc d L ↦{fullShare} g)) (View.write_whole_univ (Val := Elt F) cc0_scratch0 gk
    ((kSl L h1).view.read (Elt F) K₀)))) $$ Wk
  ihave Hs := (pointsTo_split_subset (ℓ := sLoc d) (q := q) (f := Sc) (Finset.subset_univ (sSl L h1).view.set)).1 $$ Hs
  icases Hs with ⟨Hs, Hs'⟩
  iapply (wp_copy 𝒱₀ (thr L d) none Finset.univ rfl (View.amount_pos _ _ (show 0 < S2048.numel by decide)) (Finset.subset_univ _)) $$ [Hs Ws Hsem1 HO]
  · isplitl [Hs]; · iexact Hs
    isplitl [Ws]; · iexact Ws
    isplitl [Hsem1]; · iexact Hsem1
    isplitr; · iexact Hmw
    iexact HO
  iintro ⟨Hs, Ws, Hsem1, HO⟩
  ihave Hs := (pointsTo_split_subset (ℓ := sLoc d) (q := q) (f := Sc) (Finset.subset_univ (sSl L h1).view.set)).2 $$ [Hs Hs']
  · isplitl [Hs] <;> iassumption
  ihave Ws := (Entails.of_eq (congrArg (fun g => iprop(swLoc d L ↦{fullShare} g)) (View.write_whole_univ (Val := Elt F) cc0_scratch1 gs
    ((sSl L h1).view.read (Elt F) Sc)))) $$ Ws
  ihave Hc := (pointsTo_split_subset (ℓ := cLoc d) (q := q) (f := Cl) (Finset.subset_univ (cSl L h1).view.set)).1 $$ Hc
  icases Hc with ⟨Hc, Hc'⟩
  iapply (wp_copy 𝒱₀ (thr L d) none Finset.univ rfl (View.amount_pos _ _ (show 0 < S2048.numel by decide)) (Finset.subset_univ _)) $$ [Hc Wc Hsem2 HO]
  · isplitl [Hc]; · iexact Hc
    isplitl [Wc]; · iexact Wc
    isplitl [Hsem2]; · iexact Hsem2
    isplitr; · iexact Hmw
    iexact HO
  iintro ⟨Hc, Wc, Hsem2, HO⟩
  ihave Hc := (pointsTo_split_subset (ℓ := cLoc d) (q := q) (f := Cl) (Finset.subset_univ (cSl L h1).view.set)).2 $$ [Hc Hc']
  · isplitl [Hc] <;> iassumption
  ihave Wc := (Entails.of_eq (congrArg (fun g => iprop(cwLoc d L ↦{fullShare} g)) (View.write_whole_univ (Val := Elt F) cc0_scratch2 gc
    ((cSl L h1).view.read (Elt F) Cl)))) $$ Wc
  ihave Hb := (pointsTo_split_subset (ℓ := bLoc d) (q := q) (f := B) (Finset.subset_univ (bSl L h1).view.set)).1 $$ Hb
  icases Hb with ⟨Hb, Hb'⟩
  iapply (wp_copy 𝒱₀ (thr L d) none Finset.univ rfl (View.amount_pos _ _ (show 0 < S8192.numel by decide)) (Finset.subset_univ _)) $$ [Hb Wb Hsem3 HO]
  · isplitl [Hb]; · iexact Hb
    isplitl [Wb]; · iexact Wb
    isplitl [Hsem3]; · iexact Hsem3
    isplitr; · iexact Hmw
    iexact HO
  iintro ⟨Hb, Wb, Hsem3, HO⟩
  ihave Hb := (pointsTo_split_subset (ℓ := bLoc d) (q := q) (f := B) (Finset.subset_univ (bSl L h1).view.set)).2 $$ [Hb Hb']
  · isplitl [Hb] <;> iassumption
  ihave Wb := (Entails.of_eq (congrArg (fun g => iprop(bwLoc d L ↦{fullShare} g)) (View.write_whole_univ (Val := Elt F) cc0_scratch3 gb
    ((bSl L h1).view.read (Elt F) B)))) $$ Wb
  -- the candidates
  iapply (Scf.wp_for_bind frame (wpE (defs₀ (F := F)) 𝒱₀ (thr L d) none) Set.univ _ _ _ (k0_t2_ok L h1) _ _
    (I2 d L (marks K₀ (wid L)) (fields B Sc Cl (wid L)) _ _ _ _) (t2_step d L (copies L h1 K₀ Sc Cl B) h1 _)) $$ [Wk Ws Wc Wb Wo]
  · unfold I2
    isplitr; · ipureintro; rfl
    isplitl [Wk]; · iexact Wk
    isplitl [Ws]; · iexact Ws
    isplitl [Wc]; · iexact Wc
    isplitl [Wb]; · iexact Wb
    iexact Wo
  iintro %z1 H
  unfold I2
  icases H with ⟨-, Wk, Ws, Wc, Wb, Wo⟩
  rw [show 16 * Scf.trips k0_t2_loop.lb k0_t2_loop.ub k0_t2_loop.st = 2048 from rfl]
  -- the copy out
  ihave Wo := (pointsTo_split_subset (ℓ := owLoc d L) (q := fullShare) (f := (asBuf (part (marks K₀ (wid L)) (fields B Sc Cl (wid L)) 2048 0) : Vec F S1808 .f32)) (Finset.subset_univ (tbl).view.set)).1 $$ Wo
  icases Wo with ⟨Wo, Wo'⟩
  iapply (wp_copy 𝒱₀ (thr L d) none (src := tbl) (dst := oSl L h1) (q := fullShare) (fs := (asBuf (part (marks K₀ (wid L)) (fields B Sc Cl (wid L)) 2048 0) : Vec F S1808 .f32))
    (fd := fo) (slots (widF L)) rfl (View.amount_pos _ _ (show 0 < S1800.numel by decide)) (set_oSl L h1).subset) $$ [Wo Ho Hsem4 HO]
  · isplitl [Wo]; · iexact Wo
    isplitl [Ho]; · iexact Ho
    isplitl [Hsem4]; · iexact Hsem4
    isplitr; · iexact Hmw
    iexact HO
  iintro ⟨Wo, Ho, Hsem4, HO⟩
  ihave Wo := (pointsTo_split_subset (ℓ := owLoc d L) (q := fullShare) (f := (asBuf (part (marks K₀ (wid L)) (fields B Sc Cl (wid L)) 2048 0) : Vec F S1808 .f32)) (Finset.subset_univ (tbl).view.set)).2 $$ [Wo Wo']
  · isplitl [Wo] <;> iassumption
  ihave Ho := (Entails.of_eq (pts_out L d h1 K₀ Sc Cl B fo)) $$ Ho
  rw [wp_ret]; imodintro
  isplitl [Hk Hs Hc Hb Ho]
  · isplitl [Hk]; · iexact Hk
    isplitl [Hs]; · iexact Hs
    isplitl [Hc]; · iexact Hc
    isplitl [Hb]; · iexact Hb
    iexact Ho
  isplitl [Wk Ws Wc Wb Wo Hbufs]
  · isplitl [Wk]; · iexists _; iexact Wk
    isplitl [Ws]; · iexists _; iexact Ws
    isplitl [Wc]; · iexists _; iexact Wc
    isplitl [Wb]; · iexists _; iexact Wb
    isplitl [Wo]; · iexists _; iexact Wo
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  swap; · iexact HO
  ipureintro; intro p _
  rcases p.2 with _ | r
  · exact .inr (.inl rfl)
  · exact .inr (.inr (congrArg some (Subsingleton.elim r 0)))

end Cert.Proof.Rows

end
-- ==== Proof.RowsLaunch.lean ====
/-
  The whole program of the output call: four reshapes, the call on its thirty-two tiles, two reshapes of its result.

  Every tile is handed read shares of the four flat inputs and its own slots of the result; @main keeps what is left of the
  inputs and puts all back together when the call ends.
-/
module

public import proofs.«01_k».proof.Proof.RowsTile
public import Idealize.ShloMosaic.Lib.SparseCore.Quiescent
public import Idealize.ShloMosaic.Lib.StableHlo.Run
public import Idealize.ShloMosaic.Lib.Transfers

@[expose] public section

noncomputable section

namespace Cert.Proof.Rows

open Cert.OutputIdeal Cert.OutputIdeal.Gen Cert.Proof.Fill Cert.Proof.Copy Cert.Proof.Lanes

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Transfers (shareTok shareDrop pointsTo_toks_split pointsTo_toks_join)

variable {F : FTy → Type}

local notation "𝕄" => MT nD τ sig (HIx 1) (Elt F) ℕ UU ℕ

-- the kernel's memrefs as the body table passes them: the flat marks, scores, classes, boxes and rows; the tile's copies of them
local notation "kM" => (Memref.whole Cert.OutputIdeal.main_v0_scv : Memref Cert.OutputIdeal.sig Kind.scVector Space.hbm Cert.OutputIdeal.S8192 EltTy.f32)
local notation "sM" => (Memref.whole Cert.OutputIdeal.main_v1_scv : Memref Cert.OutputIdeal.sig Kind.scVector Space.hbm Cert.OutputIdeal.S8192 EltTy.f32)
local notation "cM" => (Memref.whole Cert.OutputIdeal.main_v2_scv : Memref Cert.OutputIdeal.sig Kind.scVector Space.hbm Cert.OutputIdeal.S8192 EltTy.f32)
local notation "bM" => (Memref.whole Cert.OutputIdeal.main_v3_scv : Memref Cert.OutputIdeal.sig Kind.scVector Space.hbm Cert.OutputIdeal.S32768 EltTy.f32)
local notation "oM" => (Memref.whole Cert.OutputIdeal.main_v4_scv : Memref Cert.OutputIdeal.sig Kind.scVector Space.hbm Cert.OutputIdeal.S7200 EltTy.f32)
local notation "kW" => (Memref.whole Cert.OutputIdeal.cc0_scratch0 : Memref Cert.OutputIdeal.sig Kind.scVector Space.vmem Cert.OutputIdeal.S2048 EltTy.f32)
local notation "sW" => (Memref.whole Cert.OutputIdeal.cc0_scratch1 : Memref Cert.OutputIdeal.sig Kind.scVector Space.vmem Cert.OutputIdeal.S2048 EltTy.f32)
local notation "cW" => (Memref.whole Cert.OutputIdeal.cc0_scratch2 : Memref Cert.OutputIdeal.sig Kind.scVector Space.vmem Cert.OutputIdeal.S2048 EltTy.f32)
local notation "bW" => (Memref.whole Cert.OutputIdeal.cc0_scratch3 : Memref Cert.OutputIdeal.sig Kind.scVector Space.vmem Cert.OutputIdeal.S8192 EltTy.f32)
local notation "oW" => (Memref.whole Cert.OutputIdeal.cc0_scratch4 : Memref Cert.OutputIdeal.sig Kind.scVector Space.vmem Cert.OutputIdeal.S1808 EltTy.f32)

variable [FloatOps F] (m : (ℓ : Loc nD τ sig) → Buf (Elt F) ℓ) (ρ : Dev nD → PrngReg)

/-- @main's buffers and its operations, as the host program names them. -/
abbrev a0' : DevRef τ sig := Proc.devRef .tc main_arg0
abbrev a1' : DevRef τ sig := Proc.devRef .tc main_arg1
abbrev a2' : DevRef τ sig := Proc.devRef .tc main_arg2
abbrev a3' : DevRef τ sig := Proc.devRef .tc main_arg3
abbrev k' : DevRef τ sig := Proc.devRef .tc main_v0
abbrev s' : DevRef τ sig := Proc.devRef .tc main_v1
abbrev c' : DevRef τ sig := Proc.devRef .tc main_v2
abbrev b' : DevRef τ sig := Proc.devRef .tc main_v3
abbrev o' : DevRef τ sig := Proc.devRef .tc main_v4
abbrev p' : DevRef τ sig := Proc.devRef .tc main_v5
abbrev r' : DevRef τ sig := Proc.devRef .tc main_v6
abbrev SS : Finset (DevRef τ sig) := {a0', a1', a2', a3', k', s', c', b', o', p', r'}
abbrev op0 : HloOp τ sig (Elt F) := StableHlo.reshape main_arg0 main_v0 (rfl : (.f32 : EltTy) = .f32) shapeCasts_S4x2048_S8192
abbrev op1 : HloOp τ sig (Elt F) := StableHlo.reshape main_arg1 main_v1 (rfl : (.f32 : EltTy) = .f32) shapeCasts_S4x2048_S8192
abbrev op2 : HloOp τ sig (Elt F) := StableHlo.reshape main_arg2 main_v2 (rfl : (.f32 : EltTy) = .f32) shapeCasts_S4x2048_S8192
abbrev op3 : HloOp τ sig (Elt F) := StableHlo.reshape main_arg3 main_v3 (rfl : (.f32 : EltTy) = .f32) shapeCasts_S4x4x2048_S32768
abbrev opP : HloOp τ sig (Elt F) := StableHlo.reshape main_v4 main_v5 (rfl : (.f32 : EltTy) = .f32) shapeCasts_S7200_S4x1800
abbrev opR : HloOp τ sig (Elt F) := StableHlo.reshape main_v5 main_v6 (rfl : (.f32 : EltTy) = .f32) shapeCasts_S4x1800_S4x300x6

/-- The buffers' contents at launch, before the call, after it, at the end. -/
def V0 (d : Dev nD) : Valuation τ sig (Elt F) := fun b => m (d, b)
def V1 (d : Dev nD) : Valuation τ sig (Elt F) := ((op3 (F := F)).result ((op2 (F := F)).result ((op1 (F := F)).result ((op0 (F := F)).result (V0 m d)))))
def V2 (d : Dev nD) : Valuation τ sig (Elt F) := Function.update (V1 m d) o' (outF (V1 m d k') (V1 m d b') (V1 m d s') (V1 m d c'))
def V3 (d : Dev nD) : Valuation τ sig (Elt F) := (opR (F := F)).result ((opP (F := F)).result (V2 m d))

/-- The read share of tile `w`. -/
abbrev share (w : Fin 32) : PosShare TreeShare := shareTok fullShare 32 w

abbrev go (d : Dev nD) (w : Fin 32) : sProp 𝕄 := goP d (share w) (V1 m d k') (V1 m d s') (V1 m d c') (V1 m d b') (V1 m d o') w
abbrev td (d : Dev nD) (w : Fin 32) : sProp 𝕄 := goP d (share w) (V1 m d k') (V1 m d s') (V1 m d c') (V1 m d b') (outF (V1 m d k') (V1 m d b') (V1 m d s') (V1 m d c')) w

/-- What the handshakes carry: a core its tiles' parts, a tile its own. -/
def P : (K (F := F)).Pay (nD := nD) (Val := Elt F) (Name := ℕ) (U := UU) where
  st := fun q d c => match q with | 0 => bigSep Finset.univ fun i : Fin 16 => go m d (tileNo c i)
  dn := fun q d c => match q with | 0 => bigSep Finset.univ fun i : Fin 16 => td m d (tileNo c i)
  go := fun q d c i => match q with | 0 => go m d (tileNo c i)
  td := fun q d c i => match q with | 0 => td m d (tileNo c i)
  x := fun _ _ => iprop(emp)

instance P_storable : (P (F := F) m).IsStorable where
  st q d c := match q with | 0 => (inferInstance : BI.Storable (upEmb : UEmb _ 𝕄) (bigSep Finset.univ fun i : Fin 16 => go m d (tileNo c i)))
  dn q d c := match q with | 0 => (inferInstance : BI.Storable (upEmb : UEmb _ 𝕄) (bigSep Finset.univ fun i : Fin 16 => td m d (tileNo c i)))
  go q d c i := match q with | 0 => (inferInstance : BI.Storable (upEmb : UEmb _ 𝕄) (go m d (tileNo c i)))
  td q d c i := match q with | 0 => (inferInstance : BI.Storable (upEmb : UEmb _ 𝕄) (td m d (tileNo c i)))

theorem defs₀_vector (c : Fin τ.nSC) (s : Fin τ.nSub) :
    defs₀ (F := F) (.scVector c s) 0 ()
      = SparseCore.onTile hcore0 hsub0 (fun c s => cc0__stage_f_kernel (coordsV c s) kM (Memref.isWhole_whole _) sM (Memref.isWhole_whole _) cM (Memref.isWhole_whole _) bM (Memref.isWhole_whole _) oM (Memref.isWhole_whole _)
            kW (Memref.isWhole_whole _) sW (Memref.isWhole_whole _) cW (Memref.isWhole_whole _) bW (Memref.isWhole_whole _) oW (Memref.isWhole_whole _)
            cc0_scoped0 cc0_scoped1 cc0_scoped2 cc0_scoped3 cc0_scoped4) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (coordsV ⟨_, hci.1⟩ ⟨_, hci.2⟩) d (share (tileNo c i)) (V1 m d k') (V1 m d s') (V1 m d c') (V1 m d b') (V1 m d o') hF O W hO

theorem vecSplit : (K (F := F)).VecSplit' (P m) 0 := by
  intro d c
  show (bigSep Finset.univ fun i : Fin 16 => go m d (tileNo c i)) ⊢ |={Set.univ}=> iprop(
      (bigSep Finset.univ fun i : Fin 16 => go m d (tileNo c i))
      ∗ ((bigSep Finset.univ fun i : Fin 16 => td m d (tileNo c i)) -∗ bigSep Finset.univ fun i : Fin 16 => td m d (tileNo c i)))
  iintro H; imodintro
  isplitl [H]; · iexact H
  iintro H; iexact H

/-! ## All tiles' parts together -/

theorem slots_disjoint : ∀ a ∈ (Finset.univ : Finset (Fin 32)), ∀ b ∈ (Finset.univ : Finset (Fin 32)), a ≠ b → Disjoint (slots a) (slots b) := by
  intro a _ b _ h
  refine Finset.disjoint_left.mpr fun i ha hb => h (Fin.ext ?_)
  unfold slots at ha hb
  exact (Finset.mem_filter.mp ha).2.symm.trans (Finset.mem_filter.mp hb).2
theorem slots_cover : (Finset.univ : Finset (Fin 32)).biUnion slots = Finset.univ := by
  refine Finset.eq_univ_iff_forall.mpr fun i => ?_
  have hi : (i 0).val < 7200 := (i 0).isLt
  exact Finset.mem_biUnion.mpr ⟨⟨(i 0).val / 1800, by omega⟩, Finset.mem_univ _, Finset.mem_filter.mpr ⟨Finset.mem_univ _, rfl⟩⟩

theorem o_slots (d : Dev nD) (f : Vec F S7200 .f32) :
    (oLoc d ↦{fullShare} f : sProp 𝕄) = bigSep Finset.univ fun w : Fin 32 => oLoc d ↦[slots w]{fullShare} f := by
  rw [← pointsTo_biUnion Finset.univ (ℓ := oLoc d) slots slots_disjoint, slots_cover]; try rfl

/-- The inputs and the result, whole, are what is left of the inputs and the thirty-two tiles' parts. -/
theorem whole_tiles (d : Dev nD) (K₀ Sc Cl : Vec F S8192 .f32) (B : Vec F S32768 .f32) (fo : Vec F S7200 .f32) :
    (iprop((kLoc d ↦{fullShare} K₀) ∗ (sLoc d ↦{fullShare} Sc) ∗ (cLoc d ↦{fullShare} Cl) ∗ (bLoc d ↦{fullShare} B) ∗ (oLoc d ↦{fullShare} fo)) : sProp 𝕄)
      ⊣⊢ iprop(((kLoc d ↦{shareDrop fullShare 32} K₀) ∗ (sLoc d ↦{shareDrop fullShare 32} Sc) ∗ (cLoc d ↦{shareDrop fullShare 32} Cl) ∗ (bLoc d ↦{shareDrop fullShare 32} B))
          ∗ bigSep Finset.univ fun c : Fin 2 => bigSep Finset.univ fun i : Fin 16 => goP d (share (tileNo c i)) K₀ Sc Cl B fo (tileNo c i)) := by
  rw [← bigSep_univ_prod (fun p : Fin 2 × Fin 16 => goP d (share (tileNo p.1 p.2)) K₀ Sc Cl B fo (tileNo p.1 p.2)),
    show (fun p : Fin 2 × Fin 16 => goP d (share (tileNo p.1 p.2)) K₀ Sc Cl B fo (tileNo p.1 p.2)) = fun p => (fun w => goP d (share w) K₀ Sc Cl B fo w) (tiles p) from rfl,
    ← bigSep_univ_equiv tiles (fun w => goP d (share w) K₀ Sc Cl B fo w), bigSep_sep', bigSep_sep', bigSep_sep', bigSep_sep', ← o_slots]
  constructor
  · iintro ⟨H0, H1, H2, H3, Ho⟩
    ihave H0 := (pointsTo_toks_split (ℓ := kLoc d) (S := Finset.univ) (f := K₀) fullShare 32) $$ H0
    icases H0 with ⟨H0, T0⟩
    ihave H1 := (pointsTo_toks_split (ℓ := sLoc d) (S := Finset.univ) (f := Sc) fullShare 32) $$ H1
    icases H1 with ⟨H1, T1⟩
    ihave H2 := (pointsTo_toks_split (ℓ := cLoc d) (S := Finset.univ) (f := Cl) fullShare 32) $$ H2
    icases H2 with ⟨H2, T2⟩
    ihave H3 := (pointsTo_toks_split (ℓ := bLoc d) (S := Finset.univ) (f := B) fullShare 32) $$ H3
    icases H3 with ⟨H3, T3⟩
    isplitl [H0 H1 H2 H3]
    · isplitl [H0]; · iexact H0
      isplitl [H1]; · iexact H1
      isplitl [H2] <;> iassumption
    isplitl [T0]; · iexact T0
    isplitl [T1]; · iexact T1
    isplitl [T2]; · iexact T2
    isplitl [T3] <;> iassumption
  · iintro ⟨⟨H0, H1, H2, H3⟩, T0, T1, T2, T3, Ho⟩
    ihave H0 := (pointsTo_toks_join (ℓ := kLoc d) (S := Finset.univ) (f := K₀) fullShare 32) $$ [H0 T0]
    · isplitl [H0] <;> iassumption
    ihave H1 := (pointsTo_toks_join (ℓ := sLoc d) (S := Finset.univ) (f := Sc) fullShare 32) $$ [H1 T1]
    · isplitl [H1] <;> iassumption
    ihave H2 := (pointsTo_toks_join (ℓ := cLoc d) (S := Finset.univ) (f := Cl) fullShare 32) $$ [H2 T2]
    · isplitl [H2] <;> iassumption
    ihave H3 := (pointsTo_toks_join (ℓ := bLoc d) (S := Finset.univ) (f := B) fullShare 32) $$ [H3 T3]
    · isplitl [H3] <;> iassumption
    isplitl [H0]; · iexact H0
    isplitl [H1]; · iexact H1
    isplitl [H2]; · iexact H2
    isplitl [H3] <;> iassumption

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem held_SS (d : Dev nD) (W : Valuation τ sig (Elt F)) :
    (held (SparseCore.T d) SS W : sProp 𝕄)
      = iprop((((d, a0') : Loc nD τ sig) ↦{fullShare} W a0') ∗ (((d, a1') : Loc nD τ sig) ↦{fullShare} W a1') ∗ (((d, a2') : Loc nD τ sig) ↦{fullShare} W a2') ∗ (((d, a3') : Loc nD τ sig) ↦{fullShare} W a3') ∗ (kLoc d ↦{fullShare} W k') ∗ (sLoc d ↦{fullShare} W s') ∗ (cLoc d ↦{fullShare} W c') ∗ (bLoc d ↦{fullShare} W b') ∗ (oLoc d ↦{fullShare} W o') ∗ (((d, p') : Loc nD τ sig) ↦{fullShare} W p') ∗ (((d, r') : Loc nD τ sig) ↦{fullShare} W r')) := by
  unfold held
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) SS (V0 m d) := by
  rw [held_SS]
  unfold unscopedBufs
  rw [show (Finset.univ.filter fun b : Ref sig .tc => ¬ b.isScoped) = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

set_option maxRecDepth 8000 in
theorem hop0 : (op0 (F := F)).bufs ⊆ SS := show ({a0', k'} : Finset (DevRef τ sig)) ⊆ SS by decide
set_option maxRecDepth 8000 in
theorem hop1 : (op1 (F := F)).bufs ⊆ SS := show ({a1', s'} : Finset (DevRef τ sig)) ⊆ SS by decide
set_option maxRecDepth 8000 in
theorem hop2 : (op2 (F := F)).bufs ⊆ SS := show ({a2', c'} : Finset (DevRef τ sig)) ⊆ SS by decide
set_option maxRecDepth 8000 in
theorem hop3 : (op3 (F := F)).bufs ⊆ SS := show ({a3', b'} : Finset (DevRef τ sig)) ⊆ SS by decide
set_option maxRecDepth 8000 in
theorem hopP : (opP (F := F)).bufs ⊆ SS := show ({o', p'} : Finset (DevRef τ sig)) ⊆ SS by decide
set_option maxRecDepth 8000 in
theorem hopR : (opR (F := F)).bufs ⊆ SS := show ({p', r'} : Finset (DevRef τ sig)) ⊆ SS by decide

theorem V2_of_ne (d : Dev nD) {b : DevRef τ sig} (h : b ≠ o') : V2 m d b = V1 m d b := Function.update_of_ne h _ _
theorem V2_o (d : Dev nD) : V2 m d o' = (outF (V1 m d k') (V1 m d b') (V1 m d s') (V1 m d c')) := Function.update_self _ _ _

theorem V3_a0 (d : Dev nD) : V3 m d a0' = m (d, a0') := by
  unfold V3
  rw [(opR (F := F)).result_of_not_mem _ (show a0' ∉ ({r'} : Finset (DevRef τ sig)) by decide),
    (opP (F := F)).result_of_not_mem _ (show a0' ∉ ({p'} : Finset (DevRef τ sig)) by decide), V2_of_ne m d (by decide)]
  unfold V1
  rw [(op3 (F := F)).result_of_not_mem _ (show a0' ∉ ({b'} : Finset (DevRef τ sig)) by decide),
    (op2 (F := F)).result_of_not_mem _ (show a0' ∉ ({c'} : Finset (DevRef τ sig)) by decide),
    (op1 (F := F)).result_of_not_mem _ (show a0' ∉ ({s'} : Finset (DevRef τ sig)) by decide),
    (op0 (F := F)).result_of_not_mem _ (show a0' ∉ ({k'} : Finset (DevRef τ sig)) by decide)]
  rfl
theorem V3_a1 (d : Dev nD) : V3 m d a1' = m (d, a1') := by
  unfold V3
  rw [(opR (F := F)).result_of_not_mem _ (show a1' ∉ ({r'} : Finset (DevRef τ sig)) by decide),
    (opP (F := F)).result_of_not_mem _ (show a1' ∉ ({p'} : Finset (DevRef τ sig)) by decide), V2_of_ne m d (by decide)]
  unfold V1
  rw [(op3 (F := F)).result_of_not_mem _ (show a1' ∉ ({b'} : Finset (DevRef τ sig)) by decide),
    (op2 (F := F)).result_of_not_mem _ (show a1' ∉ ({c'} : Finset (DevRef τ sig)) by decide),
    (op1 (F := F)).result_of_not_mem _ (show a1' ∉ ({s'} : Finset (DevRef τ sig)) by decide),
    (op0 (F := F)).result_of_not_mem _ (show a1' ∉ ({k'} : Finset (DevRef τ sig)) by decide)]
  rfl
theorem V3_a2 (d : Dev nD) : V3 m d a2' = m (d, a2') := by
  unfold V3
  rw [(opR (F := F)).result_of_not_mem _ (show a2' ∉ ({r'} : Finset (DevRef τ sig)) by decide),
    (opP (F := F)).result_of_not_mem _ (show a2' ∉ ({p'} : Finset (DevRef τ sig)) by decide), V2_of_ne m d (by decide)]
  unfold V1
  rw [(op3 (F := F)).result_of_not_mem _ (show a2' ∉ ({b'} : Finset (DevRef τ sig)) by decide),
    (op2 (F := F)).result_of_not_mem _ (show a2' ∉ ({c'} : Finset (DevRef τ sig)) by decide),
    (op1 (F := F)).result_of_not_mem _ (show a2' ∉ ({s'} : Finset (DevRef τ sig)) by decide),
    (op0 (F := F)).result_of_not_mem _ (show a2' ∉ ({k'} : Finset (DevRef τ sig)) by decide)]
  rfl
theorem V3_a3 (d : Dev nD) : V3 m d a3' = m (d, a3') := by
  unfold V3
  rw [(opR (F := F)).result_of_not_mem _ (show a3' ∉ ({r'} : Finset (DevRef τ sig)) by decide),
    (opP (F := F)).result_of_not_mem _ (show a3' ∉ ({p'} : Finset (DevRef τ sig)) by decide), V2_of_ne m d (by decide)]
  unfold V1
  rw [(op3 (F := F)).result_of_not_mem _ (show a3' ∉ ({b'} : Finset (DevRef τ sig)) by decide),
    (op2 (F := F)).result_of_not_mem _ (show a3' ∉ ({c'} : Finset (DevRef τ sig)) by decide),
    (op1 (F := F)).result_of_not_mem _ (show a3' ∉ ({s'} : Finset (DevRef τ sig)) by decide),
    (op0 (F := F)).result_of_not_mem _ (show a3' ∉ ({k'} : Finset (DevRef τ sig)) by decide)]
  rfl

theorem held_V1 (d : Dev nD) :
    (held (SparseCore.T d) SS ((op3 (F := F)).result ((op2 (F := F)).result ((op1 (F := F)).result ((op0 (F := F)).result (V0 m d))))) : sProp 𝕄)
      = iprop((((d, a0') : Loc nD τ sig) ↦{fullShare} V1 m d a0') ∗ (((d, a1') : Loc nD τ sig) ↦{fullShare} V1 m d a1') ∗ (((d, a2') : Loc nD τ sig) ↦{fullShare} V1 m d a2') ∗ (((d, a3') : Loc nD τ sig) ↦{fullShare} V1 m d a3') ∗ (kLoc d ↦{fullShare} V1 m d k') ∗ (sLoc d ↦{fullShare} V1 m d s') ∗ (cLoc d ↦{fullShare} V1 m d c') ∗ (bLoc d ↦{fullShare} V1 m d b') ∗ (oLoc d ↦{fullShare} V1 m d o') ∗ (((d, p') : Loc nD τ sig) ↦{fullShare} V1 m d p') ∗ (((d, r') : Loc nD τ sig) ↦{fullShare} V1 m d r')) :=
  held_SS d (V1 m d)
theorem held_V3 (d : Dev nD) :
    (held (SparseCore.T d) SS ((opR (F := F)).result ((opP (F := F)).result (V2 m d))) : sProp 𝕄)
      = iprop((((d, a0') : Loc nD τ sig) ↦{fullShare} m (d, a0')) ∗ (((d, a1') : Loc nD τ sig) ↦{fullShare} m (d, a1')) ∗ (((d, a2') : Loc nD τ sig) ↦{fullShare} m (d, a2')) ∗ (((d, a3') : Loc nD τ sig) ↦{fullShare} m (d, a3')) ∗ (kLoc d ↦{fullShare} V3 m d k') ∗ (sLoc d ↦{fullShare} V3 m d s') ∗ (cLoc d ↦{fullShare} V3 m d c') ∗ (bLoc d ↦{fullShare} V3 m d b') ∗ (oLoc d ↦{fullShare} V3 m d o') ∗ (((d, p') : Loc nD τ sig) ↦{fullShare} V3 m d p') ∗ (((d, r') : Loc nD τ sig) ↦{fullShare} V3 m d r')) :=
  (held_SS d (V3 m d)).trans (by rw [V3_a0, V3_a1, V3_a2, V3_a3])

theorem st0_eq (d : Dev nD) :
    (bigSep Finset.univ fun c : Fin ((K (F := F)).nCore 0) => (P m).st 0 d c) = bigSep Finset.univ fun c : Fin 2 => bigSep Finset.univ fun i : Fin 16 => go m d (tileNo c i) := rfl
theorem dn0_eq (d : Dev nD) :
    (bigSep Finset.univ fun c : Fin ((K (F := F)).nCore 0) => (P m).dn 0 d c) = bigSep Finset.univ fun c : Fin 2 => bigSep Finset.univ fun i : Fin 16 => td m d (tileNo c i) := rfl

/-- What @main leaves: the arguments and the result. -/
abbrev FIN (d : Dev nD) : sProp 𝕄 := iprop((((d, a0') : Loc nD τ sig) ↦{fullShare} m (d, a0')) ∗ (((d, a1') : Loc nD τ sig) ↦{fullShare} m (d, a1')) ∗ (((d, a2') : Loc nD τ sig) ↦{fullShare} m (d, a2')) ∗ (((d, a3') : Loc nD τ sig) ↦{fullShare} m (d, a3')) ∗ (((d, r') : Loc nD τ sig) ↦{fullShare} V3 m d r'))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SS) hop0 (V := (V0 m d))) $$ [Hb Hheld]
  · isplitl [Hb] <;> iassumption
  iintro ⟨Hb, Hheld⟩
  rw [wp_ret]; imodintro
  iapply (wp_hlo_within 𝒱 (SparseCore.T d) none Set.univ (op := op1) (S := SS) hop1 (V := ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op2) (S := SS) hop2 (V := ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op3) (S := SS) hop3 (V := ((op2 (F := F)).result ((op1 (F := F)).result ((op0 (F := F)).result (V0 m d)))))) $$ [Hb Hheld]
  · isplitl [Hb] <;> iassumption
  iintro ⟨Hb, Hheld⟩
  rw [wp_ret]; imodintro
  ihave Hh := (Entails.of_eq (held_V1 m d)) $$ Hheld
  icases Hh with ⟨HA0, HA1, HA2, HA3, HK, HS, HC, HB, HO, HP, HR⟩
  ihave H := (whole_tiles d (V1 m d k') (V1 m d s') (V1 m d c') (V1 m d b') (V1 m d o')).1 $$ [HK HS HC HB HO]
  · isplitl [HK]; · iexact HK
    isplitl [HS]; · iexact HS
    isplitl [HC]; · iexact HC
    isplitl [HB] <;> iassumption
  icases H with ⟨HI, Ht⟩
  iapply ((K (F := F)).wp_run (D (F := F)) 𝒱 (EH := EH) (P := P m) κ d 0) $$ [Hst Ht HA0 HA1 HA2 HA3 HI HP HR Hb Hts]
  isplitr; · iexact Hctx
  isplitl [Hst]; · iexact Hst
  isplitl [Ht]
  · rw [st0_eq]; iexact Ht
  iintro ⟨Hst, Hdn⟩
  ihave Hdn := (Entails.of_eq (dn0_eq m d)) $$ Hdn
  ihave H := (whole_tiles d (V1 m d k') (V1 m d s') (V1 m d c') (V1 m d b') (outF (V1 m d k') (V1 m d b') (V1 m d s') (V1 m d c'))).2 $$ [HI Hdn]
  · isplitl [HI] <;> iassumption
  icases H with ⟨HK, HS, HC, HB, HO⟩
  iapply (wp_hlo_within 𝒱 (SparseCore.T d) none Set.univ (op := opP) (S := SS) hopP (V := V2 m d)) $$ [Hb HA0 HA1 HA2 HA3 HK HS HC HB HO HP HR]
  · isplitl [Hb]; · iexact Hb
    rw [held_SS, V2_o, V2_of_ne m d (b := a0') (by decide), V2_of_ne m d (b := a1') (by decide), V2_of_ne m d (b := a2') (by decide), V2_of_ne m d (b := a3') (by decide), V2_of_ne m d (b := k') (by decide), V2_of_ne m d (b := s') (by decide), V2_of_ne m d (b := c') (by decide), V2_of_ne m d (b := b') (by decide), V2_of_ne m d (b := p') (by decide), V2_of_ne m d (b := r') (by decide)]
    isplitl [HA0]; · iexact HA0
    isplitl [HA1]; · iexact HA1
    isplitl [HA2]; · iexact HA2
    isplitl [HA3]; · iexact HA3
    isplitl [HK]; · iexact HK
    isplitl [HS]; · iexact HS
    isplitl [HC]; · iexact HC
    isplitl [HB]; · iexact HB
    isplitl [HO]; · iexact HO
    isplitl [HP]; · iexact HP
    iexact HR
  iintro ⟨Hb, Hheld⟩
  rw [wp_ret]; imodintro
  iapply (wp_hlo_within 𝒱 (SparseCore.T d) none Set.univ (op := opR) (S := SS) hopR (V := (opP (F := F)).result (V2 m d))) $$ [Hb Hheld]
  · isplitl [Hb] <;> iassumption
  iintro ⟨Hb, Hheld⟩
  ihave Hh := (Entails.of_eq (held_V3 m d)) $$ Hheld
  icases Hh with ⟨HA0, HA1, HA2, HA3, -, -, -, -, -, -, HR⟩
  rw [wp_ret]; imodintro; imodintro
  isplitl [Hst]; · iexact Hst
  isplitr [Hb Hts]
  · isplitl [HA0]; · iexact HA0
    isplitl [HA1]; · iexact HA1
    isplitl [HA2]; · iexact HA2
    isplitl [HA3] <;> iassumption
  isplitl [Hb] <;> iassumption

def fq (d : Dev nD) (s' : Phys nD τ sig (Elt F)) : Prop :=
  s'.mem.mem (d, a0') = m (d, a0') ∧ s'.mem.mem (d, a1') = m (d, a1') ∧ s'.mem.mem (d, a2') = m (d, a2') ∧ s'.mem.mem (d, a3') = m (d, a3') ∧ s'.mem.mem (d, r') = V3 m d r'

theorem hfin (d : Dev nD) (s' : Phys nD τ sig (Elt F)) : iprop(FIN m d ∗ SI s') ⊢ (⌜fq m d s'⌝ : sProp 𝕄) := by
  iintro ⟨⟨H0, H1, H2, H3, HR⟩, HSI⟩
  ihave H := (persistent_entails_right (SI_pointsTo_agree (st := s') (ℓ := (d, a0')) (I := Finset.univ) (q := fullShare) (f := m (d, a0')))) $$ [HSI H0]
  · isplitl [HSI] <;> iassumption
  icases H with ⟨%h0, HSI, -⟩
  ihave H := (persistent_entails_right (SI_pointsTo_agree (st := s') (ℓ := (d, a1')) (I := Finset.univ) (q := fullShare) (f := m (d, a1')))) $$ [HSI H1]
  · isplitl [HSI] <;> iassumption
  icases H with ⟨%h1, HSI, -⟩
  ihave H := (persistent_entails_right (SI_pointsTo_agree (st := s') (ℓ := (d, a2')) (I := Finset.univ) (q := fullShare) (f := m (d, a2')))) $$ [HSI H2]
  · isplitl [HSI] <;> iassumption
  icases H with ⟨%h2, HSI, -⟩
  ihave H := (persistent_entails_right (SI_pointsTo_agree (st := s') (ℓ := (d, a3')) (I := Finset.univ) (q := fullShare) (f := m (d, a3')))) $$ [HSI H3]
  · isplitl [HSI] <;> iassumption
  icases H with ⟨%h3, HSI, -⟩
  ihave H := (SI_pointsTo_agree (st := s') (ℓ := (d, r')) (I := Finset.univ) (q := fullShare) (f := V3 m d r')) $$ [HSI HR]
  · isplitl [HSI] <;> iassumption
  icases H with %hr
  ipureintro
  exact ⟨funext fun i => h0 i (Finset.mem_univ i), funext fun i => h1 i (Finset.mem_univ i), funext fun i => h2 i (Finset.mem_univ i), funext fun i => h3 i (Finset.mem_univ i),
    funext fun i => hr i (Finset.mem_univ i)⟩

def QC : PUnit × MemSt nD τ sig (Elt F) → Prop := fun r =>
  (∀ c : Dev nD, r.2.mem (c, a0') = m (c, a0') ∧ r.2.mem (c, a1') = m (c, a1') ∧ r.2.mem (c, a2') = m (c, a2') ∧ r.2.mem (c, a3') = m (c, a3') ∧ r.2.mem (c, r') = V3 m c r') ∧ r.2.sem = fun _ => 0

theorem run_main [∀ e, Nonempty (Elt F e)] : θ_run (Cert.OutputIdeal.defs (F := F)) (Cert.OutputIdeal.threads (F := F)) ⟨m, fun _ => 0, ρ⟩ (QC m) :=
  SparseCore.Cfg.θ_run_sc_quiescent (K := K (F := F)) (D := D (F := F)) (𝒱 := 𝒱) (EH := EH) (P := P m) (A := ∅) Rows.facts v₀
    (fun q hq => match q with | 0 => nomatch hq)
    (fun q _ => match q with | 0 => tileObl m Rows.facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Rows

end
-- ==== Proof.RowsRef.lean ====
/-
  The reference's rows.

  For image `w` the reference holds the marks `x 0, x 1, …`, and of candidate `i` the field `f` is `u i`. Its row `r` holds
  in that field what writing the kept candidates one by one into their places leaves there.
-/
module

public import proofs.«01_k».proof.Proof.Gen.OutputReferenceIdeal.Run
public import proofs.«01_k».proof.Proof.Places
public import proofs.«01_k».proof.Proof.RowsGroup

@[expose] public section

noncomputable section

namespace Cert.Proof.RowsRef

open Idealize.ShloMosaic Cert.OutputReferenceIdeal Cert.OutputReferenceIdeal.Gen Cert.Proof.Fill Cert.Proof.Places
open Cert.Proof.Rows (kept)

variable {F : FTy → Type} [FloatOps F]

/-! ## The reference's intermediate arrays -/

/-- Each kept candidate's number, and 2048 where one is not kept. -/
def marked (x : Vec F S4x2048 .f32) : IVec S4x2048 32 :=
  select (cmpf .ogt x (broadcastInDim S4x2048 ![] bcast_S_S4x2048 (constant S_ .f32 0x3F000000#32)))
    (broadcastInDim S4x2048 ![0, 1] bcast_S1x2048_S4x2048_0_1 (broadcastInDim S1x2048 ![1] bcast_S2048_S1x2048_1 (iotaInDim S2048 32 0)))
    (broadcastInDim S4x2048 ![] bcast_S_S4x2048 (id (constantI S_ 32 2048#32)))

def placesR (x : Vec F S4x2048 .f32) : IVec S4x300x1 32 :=
  broadcastInDim S4x300x1 ![0, 1] bcast_S4x300_S4x300x1_0_1
    (extractStridedSlice S4x300 ![0, 0] (Host.sort S4x2048 1 comparator_i32_d1 (marked x)) slices_S4x2048_S4x300_0_0)

/-- Of each candidate its box, its score and its class. -/
def tableR (s c : Vec F S4x2048 .f32) (b : Vec F S4x4x2048 .f32) : Vec F S4x2048x6 .f32 :=
  concatenate S4x2048x6 2
    [⟨S4x2048x4, transpose S4x2048x4 [0, 2, 1] b transposes_S4x4x2048_S4x2048x4_0_2_1⟩,
      ⟨S4x2048x1, broadcastInDim S4x2048x1 ![0, 1] bcast_S4x2048_S4x2048x1_0_1 s⟩,
      ⟨S4x2048x1, broadcastInDim S4x2048x1 ![0, 1] bcast_S4x2048_S4x2048x1_0_1 c⟩]
    concatenates_S4x2048x4_S4x2048x1_S4x2048x1_S4x2048x6_d2

def fromEnd (p : IVec S4x300x1 32) : IVec S4x300x1 32 :=
  select (cmpi .slt p (broadcastInDim S4x300x1 ![] bcast_S_S4x300x1 (constantI S_ 32 0#32)))
    (addi p (broadcastInDim S4x300x1 ![] bcast_S_S4x300x1 (constantI S_ 32 2048#32))) p

def rowsR (x s c : Vec F S4x2048 .f32) (b : Vec F S4x4x2048 .f32) : Vec F S4x300x6 .f32 :=
  select (broadcastInDim S4x300x6 ![0, 1, 2] bcast_S4x300x1_S4x300x6_0_1_2
      (cmpi .slt (placesR x) (broadcastInDim S4x300x1 ![] bcast_S_S4x300x1 (constantI S_ 32 2048#32))))
    (Host.gather gather_S4x2048x6_S4x300x1_S4x300x6_2_1_0_0_1_2_116 (tableR s c b) (fromEnd (placesR x)))
    (broadcastInDim S4x300x6 ![] bcast_S_S4x300x6 (id (constant S_ .f32 0x00000000#32)))

/-! ## One image's places -/

variable {x : Vec F S4x2048 .f32} {r : ℕ → F .f32} {w : Fin 4}

theorem keys (hr : ∀ i : Fin 2048, x (ValueIdx.ix2 w i) = r i.val) (i : Fin 2048) :
    marked x (ValueIdx.ix2 w i) = BitVec.ofNat 32 (key (kept r) 2048 i.val) := by
  show (if FloatOps.cmpf .ogt (x (ValueIdx.ix2 w i)) (Scalar.ofBits .f32 0x3F000000#32) = 1 then BitVec.ofNat 32 i.val else 2048#32) = _
  rw [hr i]
  unfold key kept
  simp only [decide_eq_true_eq]
  split_ifs <;> rfl

theorem sort_row (y : IVec S4x2048 32) (k : Fin 2048) :
    Host.sort S4x2048 1 comparator_i32_d1 y (ValueIdx.ix2 w k)
      = y (ValueIdx.ix2 w (sortedFrom (fun a b => IntOp.cmpi .slt (y (ValueIdx.ix2 w a)) (y (ValueIdx.ix2 w b)) == 1#1) k)) := by
  unfold Host.sort
  rw [dif_pos (show (1 : ℕ) < S4x2048.rank by decide)]
  have e : ∀ i : Fin 2048, (ValueIdx.ix2 w k : S4x2048.Idx).along (⟨1, Nat.lt_succ_self 1⟩ : Fin S4x2048.rank) i = ValueIdx.ix2 w i := by
    intro i
    funext a
    match a with
    | ⟨0, _⟩ => rfl
    | ⟨1, _⟩ => rfl
  refine (congrArg y (e _)).trans ?_
  refine congrArg (fun q => y (ValueIdx.ix2 w q)) ?_
  refine congrArg (fun f => sortedFrom f k) (funext fun a => funext fun b => ?_)
  exact congrArg₂ (fun u v => comparator_i32_d1 (y u) (y v) == 1#1) (e a) (e b)

theorem places_at (k : Fin 300) (c : Fin 1) :
    placesR x (ValueIdx.ix3 w k c) = Host.sort S4x2048 1 comparator_i32_d1 (marked x) (ValueIdx.ix2 w ⟨k.val, by omega⟩) := by
  unfold placesR
  generalize Host.sort S4x2048 1 comparator_i32_d1 (marked x) = y
  have e : (broadcastInDim S4x300x1 ![0, 1] bcast_S4x300_S4x300x1_0_1 (extractStridedSlice S4x300 ![0, 0] y slices_S4x2048_S4x300_0_0)) (ValueIdx.ix3 w k c)
      = extractStridedSlice S4x300 ![0, 0] y slices_S4x2048_S4x300_0_0 (ValueIdx.ix2 w k) := by
    unfold broadcastInDim
    refine congrArg (extractStridedSlice S4x300 ![0, 0] y slices_S4x2048_S4x300_0_0) ?_
    funext a
    match a with
    | ⟨0, _⟩ => rfl
    | ⟨1, _⟩ => rfl
  rw [e]
  refine extractStridedSlice_apply _ _ _ _ _ fun a => ?_
  match a with
  | ⟨0, _⟩ => exact (Nat.zero_add _).symm
  | ⟨1, _⟩ => exact (Nat.zero_add _).symm

theorem places_found (hr : ∀ i : Fin 2048, x (ValueIdx.ix2 w i) = r i.val) (k : Fin 300) (c : Fin 1) {p : ℕ} (hp : p < 2048) (hon : kept r p = true)
    (hk : cnt (kept r) p = k.val) : placesR x (ValueIdx.ix3 w k c) = BitVec.ofNat 32 p := by
  rw [places_at, sort_row]
  exact place_found (n := 2048) (w := fun i => marked x (ValueIdx.ix2 w i)) (by omega) (keys hr) hp hon _ hk

theorem places_none (hr : ∀ i : Fin 2048, x (ValueIdx.ix2 w i) = r i.val) (k : Fin 300) (c : Fin 1) (hk : cnt (kept r) 2048 ≤ k.val) :
    placesR x (ValueIdx.ix3 w k c) = BitVec.ofNat 32 2048 := by
  rw [places_at, sort_row]
  exact place_none (n := 2048) (w := fun i => marked x (ValueIdx.ix2 w i)) (by omega) (keys hr) _ hk

/-! ## The table and the rows read from it -/

theorem table_box (s c : Vec F S4x2048 .f32) (b : Vec F S4x4x2048 .f32) (i : Fin 2048) (f : Fin 4) :
    tableR s c b (ValueIdx.ix3 w i (⟨f.val, by omega⟩ : Fin 6)) = b (ValueIdx.ix3 w f i) := by
  unfold tableR
  refine (concatenate_apply_piece (t := S4x2048x6) 2 _ _ _ 0 (by show 0 < 3; omega) S4x2048x4 _ rfl rfl 0 rfl (ValueIdx.ix3 w i f) (fun a ha => by
    match a with
    | ⟨0, _⟩ => rfl
    | ⟨1, _⟩ => rfl
    | ⟨2, _⟩ => exact absurd rfl ha) (Nat.zero_add _)).trans ?_
  refine transpose_apply _ _ _ _ _ fun a => ?_
  match a with
  | ⟨0, _⟩ => rfl
  | ⟨1, _⟩ => rfl
  | ⟨2, _⟩ => rfl

theorem column (s : Vec F S4x2048 .f32) (i : Fin 2048) (c : Fin 1) :
    (broadcastInDim S4x2048x1 ![0, 1] bcast_S4x2048_S4x2048x1_0_1 s) (ValueIdx.ix3 w i c) = s (ValueIdx.ix2 w i) := by
  unfold broadcastInDim
  refine congrArg s ?_
  funext a
  match a with
  | ⟨0, _⟩ => rfl
  | ⟨1, _⟩ => rfl

theorem table_score (s c : Vec F S4x2048 .f32) (b : Vec F S4x4x2048 .f32) (i : Fin 2048) :
    tableR s c b (ValueIdx.ix3 w i (4 : Fin 6)) = s (ValueIdx.ix2 w i) := by
  unfold tableR
  refine (concatenate_apply_piece (t := S4x2048x6) 2 _ _ _ 1 (by show 1 < 3; omega) S4x2048x1 _ rfl rfl 4 rfl (ValueIdx.ix3 w i (0 : Fin 1)) (fun a ha => by
    match a with
    | ⟨0, _⟩ => rfl
    | ⟨1, _⟩ => rfl
    | ⟨2, _⟩ => exact absurd rfl ha) rfl).trans ?_
  exact column s i 0

theorem table_class (s c : Vec F S4x2048 .f32) (b : Vec F S4x4x2048 .f32) (i : Fin 2048) :
    tableR s c b (ValueIdx.ix3 w i (5 : Fin 6)) = c (ValueIdx.ix2 w i) := by
  unfold tableR
  refine (concatenate_apply_piece (t := S4x2048x6) 2 _ _ _ 2 (by show 2 < 3; omega) S4x2048x1 _ rfl rfl 5 rfl (ValueIdx.ix3 w i (0 : Fin 1)) (fun a ha => by
    match a with
    | ⟨0, _⟩ => rfl
    | ⟨1, _⟩ => rfl
    | ⟨2, _⟩ => exact absurd rfl ha) rfl).trans ?_
  exact column c i 0

/-- Where result `(w, k, f)` of the gather reads its start index. -/
theorem start_idx (k : Fin 300) (f : Fin 6) (c : Fin 1) :
    gather_S4x2048x6_S4x300x1_S4x300x6_2_1_0_0_1_2_116.siIdx (ValueIdx.ix3 w k f) c = (ValueIdx.ix3 w k c : S4x300x1.Idx) := by
  funext b
  match b with
  | ⟨0, _⟩ => rfl
  | ⟨1, _⟩ => rfl
  | ⟨2, _⟩ => rfl

theorem gather_at (y : Vec F S4x2048x6 .f32) (p : IVec S4x300x1 32) (k : Fin 300) (f : Fin 6) {n : ℕ} (hn : n < 2048)
    (hp : ∀ c : Fin 1, p (ValueIdx.ix3 w k c) = BitVec.ofNat 32 n) :
    Host.gather gather_S4x2048x6_S4x300x1_S4x300x6_2_1_0_0_1_2_116 y (fromEnd p) (ValueIdx.ix3 w k f) = y (ValueIdx.ix3 w ⟨n, hn⟩ f) := by
  have hfe : ∀ c : Fin 1, fromEnd p (ValueIdx.ix3 w k c) = BitVec.ofNat 32 n := by
    intro c
    unfold fromEnd
    show (if IntOp.cmpi .slt (p (ValueIdx.ix3 w k c)) (BitVec.ofNat 32 0) = 1 then _ else p (ValueIdx.ix3 w k c)) = _
    rw [hp, if_neg]
    have h := slt_ofNat (a := n) (b := 0) (by omega) (by omega)
    rw [beq_eq_decide] at h
    simpa using h
  generalize hg : gather_S4x2048x6_S4x300x1_S4x300x6_2_1_0_0_1_2_116 = g
  unfold Host.gather
  refine congrArg y ?_
  funext a
  apply Fin.ext
  unfold GatherDims.operandIdx
  fin_cases a
  · show g.start _ _ (0 : Fin 3) + g.batchCoord _ (0 : Fin 3) + g.offCoord _ (0 : Fin 3) = w.val
    subst hg
    rw [gather_S4x2048x6_S4x300x1_S4x300x6_2_1_0_0_1_2_116.start_batching _ _ (0 : Fin 3) (by decide), gather_S4x2048x6_S4x300x1_S4x300x6_2_1_0_0_1_2_116.offCoord_eq_zero _ (0 : Fin 3) (by decide), Nat.zero_add]
    rfl
  · show g.start _ _ (1 : Fin 3) + g.batchCoord _ (1 : Fin 3) + g.offCoord _ (1 : Fin 3) = n
    have hm : (1 : Fin 3) ∈ g.startIndexMap := by subst hg; decide
    have hs : g.start (ValueIdx.ix3 w k f : S4x300x6.Idx) (fromEnd p) (1 : Fin 3) = n := by
      unfold GatherDims.start
      rw [dif_pos hm]
      subst hg
      have hi : (fromEnd p) (gather_S4x2048x6_S4x300x1_S4x300x6_2_1_0_0_1_2_116.siIdx (ValueIdx.ix3 w k f)
            ⟨gather_S4x2048x6_S4x300x1_S4x300x6_2_1_0_0_1_2_116.startIndexMap.idxOf (1 : Fin 3), List.idxOf_lt_length_iff.2 hm⟩) = BitVec.ofNat 32 n :=
        (congrArg _ (start_idx k f _)).trans (hfe _)
      refine (congrArg (fun b : BitVec 32 => min b.toInt.toNat (2048 - 1)) hi).trans ?_
      show min (BitVec.ofNat 32 n).toInt.toNat (2048 - 1) = n
      rw [toInt_ofNat (by omega)]
      omega
    rw [hs]
    subst hg
    rw [gather_S4x2048x6_S4x300x1_S4x300x6_2_1_0_0_1_2_116.batchCoord_eq_zero _ (1 : Fin 3) (by decide), gather_S4x2048x6_S4x300x1_S4x300x6_2_1_0_0_1_2_116.offCoord_eq_zero _ (1 : Fin 3) (by decide)]
    rfl
  · show g.start _ _ (2 : Fin 3) + g.batchCoord _ (2 : Fin 3) + g.offCoord _ (2 : Fin 3) = f.val
    subst hg
    rw [gather_S4x2048x6_S4x300x1_S4x300x6_2_1_0_0_1_2_116.batchCoord_eq_zero _ (2 : Fin 3) (by decide)]
    have hs : gather_S4x2048x6_S4x300x1_S4x300x6_2_1_0_0_1_2_116.start (ValueIdx.ix3 w k f : S4x300x6.Idx) (fromEnd p) (2 : Fin 3) = 0 := by
      unfold GatherDims.start
      exact dif_neg (by decide)
    rw [hs]
    show 0 + 0 + _ = f.val
    rw [Nat.zero_add]
    rfl

/-- Row `k` of image `w`, in the field that is `u i` of candidate `i`. -/
theorem rows_ref (s c : Vec F S4x2048 .f32) (b : Vec F S4x4x2048 .f32) (hr : ∀ i : Fin 2048, x (ValueIdx.ix2 w i) = r i.val) {u : ℕ → F .f32} (f : Fin 6)
    (hu : ∀ i : Fin 2048, tableR s c b (ValueIdx.ix3 w i f) = u i.val) (k : Fin 300) :
    rowsR x s c b (ValueIdx.ix3 w k f) = fill (kept r) (fun i => min (cnt (kept r) i) 300) u (fun _ => Scalar.ofBits .f32 0x00000000#32) 2048 k.val := by
  have e : rowsR x s c b (ValueIdx.ix3 w k f) = if IntOp.cmpi .slt (placesR x (ValueIdx.ix3 w k (0 : Fin 1))) (BitVec.ofNat 32 2048) = 1
      then Host.gather gather_S4x2048x6_S4x300x1_S4x300x6_2_1_0_0_1_2_116 (tableR s c b) (fromEnd (placesR x)) (ValueIdx.ix3 w k f)
      else Scalar.ofBits .f32 0x00000000#32 := by
    unfold rowsR
    generalize placesR x = p
    generalize Host.gather gather_S4x2048x6_S4x300x1_S4x300x6_2_1_0_0_1_2_116 (tableR s c b) (fromEnd p) = g
    have eb : (broadcastInDim S4x300x6 ![0, 1, 2] bcast_S4x300x1_S4x300x6_0_1_2
        (cmpi .slt p (broadcastInDim S4x300x1 ![] bcast_S_S4x300x1 (constantI S_ 32 2048#32)))) (ValueIdx.ix3 w k f)
        = IntOp.cmpi .slt (p (ValueIdx.ix3 w k (0 : Fin 1))) (BitVec.ofNat 32 2048) := by
      unfold broadcastInDim
      refine congrArg (fun q => IntOp.cmpi .slt (p q) (BitVec.ofNat 32 2048)) ?_
      funext a
      match a with
      | ⟨0, _⟩ => rfl
      | ⟨1, _⟩ => rfl
      | ⟨2, _⟩ => rfl
    rw [← eb]; rfl
  rw [e]
  have hk := k.isLt
  rcases Nat.lt_or_ge k.val (cnt (kept r) 2048) with hc | hc
  · obtain ⟨p, hp, hon, hcnt, hv⟩ := (fill_below (on := kept r) (v := u) (f₀ := fun _ => Scalar.ofBits .f32 0x00000000#32) (M := 300) hk 2048).1 hc
    have hpl := fun c => places_found hr k c hp hon hcnt
    rw [hpl, if_pos, gather_at _ _ k f hp hpl, hu, hv]
    have h := slt_ofNat (a := p) (b := 2048) (by omega) (by omega)
    rw [decide_eq_true hp] at h
    exact eq_of_beq h
  · rw [places_none hr k 0 hc, if_neg (by decide)]
    exact ((fill_below (on := kept r) (v := u) (f₀ := fun _ => Scalar.ofBits .f32 0x00000000#32) (M := 300) hk 2048).2 hc).symm

end Cert.Proof.RowsRef

end
-- ==== Proof.RowsResult.lean ====
/-
  The output program's result against the reference's, as functions of the marks, scores, classes and boxes.
-/
module

public import proofs.«01_k».proof.Proof.RowsLaunch
public import proofs.«01_k».proof.Proof.RowsRef

@[expose] public section

noncomputable section

namespace Cert.Proof.RowsResult

open Idealize.ShloMosaic Cert.OutputReferenceIdeal Cert.OutputReferenceIdeal.Gen Cert.Proof.Rows Cert.Proof.RowsRef Cert.Proof.Lanes

variable {F : FTy → Type} [FloatOps F]

abbrev Flat : Shape := Cert.OutputIdeal.S8192
abbrev Boxes : Shape := Cert.OutputIdeal.S32768
abbrev Result : Shape := Cert.OutputIdeal.S7200
abbrev Lines : Shape := Cert.OutputIdeal.S4x1800

/-- An image's row of four, read in the flat array. -/
theorem row_word {α : Type} (x : S4x2048.Idx → α) (h : S4x2048.ShapeCasts Flat) (w : Fin 4) (i : Fin 2048) :
    word (N := 8192) (by decide) (shapeCast Flat x h) (2048 * w.val + i.val) = x (ValueIdx.ix2 w i) := by
  have hw := w.isLt
  have hi := i.isLt
  unfold word
  refine shapeCast_apply x h _ _ ?_
  rw [Shape.rowMajor_val_two, Shape.rowMajor_val_one]
  show w.val * 2048 + i.val = (2048 * w.val + i.val) % 8192
  omega

/-- An image's row of one coordinate, read in the flat array. -/
theorem box_word {α : Type} (x : S4x4x2048.Idx → α) (h : S4x4x2048.ShapeCasts Boxes) (w f : Fin 4) (i : Fin 2048) :
    word (N := 32768) (by decide) (shapeCast Boxes x h) (8192 * w.val + 2048 * f.val + i.val) = x (ValueIdx.ix3 w f i) := by
  have hw := w.isLt
  have hf := f.isLt
  have hi := i.isLt
  unfold word
  refine shapeCast_apply x h _ _ ?_
  rw [Shape.rowMajor_val_three, Shape.rowMajor_val_one]
  show (w.val * 4 + f.val) * 2048 + i.val = (8192 * w.val + 2048 * f.val + i.val) % 32768
  omega

variable (k s c : Vec F S4x2048 .f32) (b : Vec F S4x4x2048 .f32) (h : S4x2048.ShapeCasts Flat) (hb : S4x4x2048.ShapeCasts Boxes)

/-- A field of a candidate in the reference's table and in the flat arrays. -/
theorem table_fields (w : Fin 4) (i : Fin 2048) (f : Fin 6) :
    tableR s c b (ValueIdx.ix3 w i f) = fields (shapeCast Boxes b hb) (shapeCast Flat s h) (shapeCast Flat c h) w.val f.val i.val := by
  unfold fields
  have hf := f.isLt
  by_cases h4 : f.val < 4
  · rw [if_pos h4]
    exact (table_box s c b i ⟨f.val, h4⟩).trans (box_word b hb w ⟨f.val, h4⟩ i).symm
  · rw [if_neg h4]
    by_cases h5 : f.val = 4
    · rw [if_pos h5, row_word s h w i]
      obtain rfl : f = 4 := Fin.ext h5
      exact table_score s c b i
    · rw [if_neg h5, row_word c h w i]
      obtain rfl : f = 5 := Fin.ext (by show f.val = 5; omega)
      exact table_class s c b i

theorem rows (K S C : Vec F Flat .f32) (B : Vec F Boxes .f32) (hK : K = shapeCast Flat k h) (hS : S = shapeCast Flat s h) (hC : C = shapeCast Flat c h)
    (hB : B = shapeCast Boxes b hb) (h1 : Result.ShapeCasts Lines) (h2 : Lines.ShapeCasts S4x300x6) :
    shapeCast S4x300x6 (shapeCast Lines (outF K B S C) h1) h2 = rowsR k s c b := by
  funext j
  obtain ⟨w, hw⟩ : ∃ w : Fin 4, w = j 0 := ⟨_, rfl⟩
  obtain ⟨r, hr⟩ : ∃ r : Fin 300, r = j 1 := ⟨_, rfl⟩
  obtain ⟨f, hf⟩ : ∃ f : Fin 6, f = j 2 := ⟨_, rfl⟩
  obtain rfl : j = (ValueIdx.ix3 w r f : S4x300x6.Idx) := by
    funext a
    match a with
    | ⟨0, _⟩ => exact hw.symm
    | ⟨1, _⟩ => exact hr.symm
    | ⟨2, _⟩ => exact hf.symm
  have hwl := w.isLt
  have hrl := r.isLt
  have hfl := f.isLt
  rw [shapeCast_apply _ h2 _ (ValueIdx.ix2 w (⟨6 * r.val + f.val, by omega⟩ : Fin 1800)) (by
    rw [Shape.rowMajor_val_two, Shape.rowMajor_val_three]
    show w.val * 1800 + (6 * r.val + f.val) = (w.val * 300 + r.val) * 6 + f.val
    omega)]
  rw [shapeCast_apply _ h1 _ (Shape.ofLane (d := ![7200]) ⟨1800 * w.val + (6 * r.val + f.val), by show _ < 7200; omega⟩) (by
    rw [Shape.rowMajor_val_two, Shape.rowMajor_val_one]
    show 1800 * w.val + (6 * r.val + f.val) = w.val * 1800 + (6 * r.val + f.val)
    omega)]
  rw [rows_ref (r := marks K w.val) (u := fields B S C w.val f.val) s c b (fun i => by subst hK; exact (row_word k h w i).symm) f
    (fun i => by subst hS hC hB; exact table_fields s c b h hb w i f) r, ← col_eq _ hrl]
  unfold outF part
  show col (marks K ((1800 * w.val + (6 * r.val + f.val)) / 1800)) (fields B S C ((1800 * w.val + (6 * r.val + f.val)) / 1800) ((1800 * w.val + (6 * r.val + f.val)) % 1800 % 6))
    (if (1800 * w.val + (6 * r.val + f.val)) % 1800 % 6 < 0 then 2048 + 16 else 2048) ((1800 * w.val + (6 * r.val + f.val)) % 1800 / 6) = _
  rw [show (1800 * w.val + (6 * r.val + f.val)) / 1800 = w.val by omega, show (1800 * w.val + (6 * r.val + f.val)) % 1800 = 6 * r.val + f.val by omega,
    show (6 * r.val + f.val) % 6 = f.val by omega, show (6 * r.val + f.val) / 6 = r.val by omega, if_neg (Nat.not_lt_zero _)]

end Cert.Proof.RowsResult

end
-- ==== Proof.lean ====
/-
  The certificate. A SparseCore program's run is `run_main` of its stage, over any float values: `Compact.run_main` (Proof/Launch.lean),
  `Boxes.run_main` (Proof/BoxesLaunch.lean), `Rows.run_main` (Proof/RowsLaunch.lean). It gives both frames of the kernel and the kernel's side of
  the algebraic claim. The candidates' and the suppression's programs run on the TensorCore: their frames are generated and their results are
  `Candidates.run` (Proof/CandidatesRun.lean) and `Keep.run` (Proof/KeepRun.lean). A reference's run is the generated `Value.run`; that its
  results are the kernel's is `CandidatesResult.scoresR_eq` and `cornersR_eq` (Proof/CandidatesResult.lean), `Result.values` and
  `Result.numbers` (Proof/Result.lean), `BoxesResult.looked` (Proof/BoxesResult.lean), `KeepResult.result_eq` (Proof/KeepResult.lean) and
  `RowsResult.rows` (Proof/RowsResult.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Output
public import proofs.«01_k».proof.Proof.Gen.OutputIdeal
public import proofs.«01_k».proof.Proof.Gen.OutputReferenceIdeal
public import proofs.«01_k».proof.Proof.Gen.OutputReferenceIdeal.Run
public import proofs.«01_k».proof.Proof.Gen.Candidates
public import proofs.«01_k».proof.Proof.Gen.Candidates.Frame
public import proofs.«01_k».proof.Proof.Gen.CandidatesIdeal
public import proofs.«01_k».proof.Proof.Gen.CandidatesIdeal.Value
public import proofs.«01_k».proof.Proof.Gen.CandidatesReferenceIdeal
public import proofs.«01_k».proof.Proof.Gen.CandidatesReferenceIdeal.Run
public import proofs.«01_k».proof.Proof.Gen.Keep
public import proofs.«01_k».proof.Proof.Gen.KeepIdeal
public import proofs.«01_k».proof.Proof.Gen.KeepIdeal.Value
public import proofs.«01_k».proof.Proof.Gen.KeepReferenceIdeal
public import proofs.«01_k».proof.Proof.Gen.KeepReferenceIdeal.Run
public import proofs.«01_k».proof.Proof.Gen.Boxes
public import proofs.«01_k».proof.Proof.Gen.BoxesIdeal
public import proofs.«01_k».proof.Proof.Gen.BoxesReferenceIdeal
public import proofs.«01_k».proof.Proof.Gen.BoxesReferenceIdeal.Run
public import proofs.«01_k».proof.Proof.Gen.Pre_in_table
public import proofs.«01_k».proof.Proof.Result
public import proofs.«01_k».proof.Proof.CandidatesResult
public import proofs.«01_k».proof.Proof.KeepResult
public import proofs.«01_k».proof.Proof.BoxesLaunch
public import proofs.«01_k».proof.Proof.BoxesResult
public import proofs.«01_k».proof.Proof.RowsResult
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts
attribute [local instance] Cert.Candidates.Gen.facts Cert.CandidatesIdeal.Gen.facts Cert.CandidatesReferenceIdeal.Gen.facts
attribute [local instance] Cert.Keep.Gen.facts Cert.KeepIdeal.Gen.facts Cert.KeepReferenceIdeal.Gen.facts
attribute [local instance] Cert.Boxes.Gen.facts Cert.BoxesIdeal.Gen.facts Cert.BoxesReferenceIdeal.Gen.facts Cert.Pre_in_table.Gen.facts
attribute [local instance] Cert.Output.Gen.facts Cert.OutputIdeal.Gen.facts Cert.OutputReferenceIdeal.Gen.facts

theorem frame_kernel : Cert.quiescent_Kernel := fun m ρ _ =>
  (θ_run Cert.KernelIdeal.defs _ _).mono (fun _ h => ⟨fun c => (h.1 c).1, h.2⟩) (Compact.run_main (F := Bits) m ρ)

theorem frame_kernelIdeal : Cert.quiescent_KernelIdeal := fun m ρ _ =>
  (θ_run Cert.KernelIdeal.defs _ _).mono (fun _ h => ⟨fun c => (h.1 c).1, h.2⟩) (Compact.run_main (F := Ideal) m ρ)

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The flat scores are the argument, reshaped. -/
theorem flat_eq (m : (ℓ : Loc Cert.KernelIdeal.nD Cert.KernelIdeal.τ Cert.KernelIdeal.sig) → Buf (Elt Ideal) ℓ) (c : Dev Cert.KernelIdeal.nD) :
    Compact.flat m c = shapeCast Cert.KernelIdeal.S6400000 (m (c, Compact.a')) Cert.KernelIdeal.Gen.shapeCasts_S4x1600000_S6400000 := by
  unfold Compact.flat Compact.V1
  exact StableHlo.reshape_result' _ _ _ _ _

theorem out_v (m : (ℓ : Loc Cert.KernelIdeal.nD Cert.KernelIdeal.τ Cert.KernelIdeal.sig) → Buf (Elt Ideal) ℓ) (c : Dev Cert.KernelIdeal.nD) :
    Compact.V3 m c Compact.r' = shapeCast Cert.KernelIdeal.S4x16384 (Compact.outV (Compact.flat m c)) Cert.KernelIdeal.Gen.shapeCasts_S65536_S4x16384 := by
  unfold Compact.V3
  rw [HloOp.result_of_not_mem _ _ (show Compact.r' ∉ ({Compact.n'} : Finset _) by decide), ← Compact.V2_v]
  exact StableHlo.reshape_result' _ _ _ _ _

theorem out_i (m : (ℓ : Loc Cert.KernelIdeal.nD Cert.KernelIdeal.τ Cert.KernelIdeal.sig) → Buf (Elt Ideal) ℓ) (c : Dev Cert.KernelIdeal.nD) :
    Compact.V3 m c Compact.n' = shapeCast Cert.KernelIdeal.S4x16384 (Compact.outI (Compact.flat m c)) Cert.KernelIdeal.Gen.shapeCasts_S65536_S4x16384 := by
  unfold Compact.V3
  refine (StableHlo.reshape_result' _ _ _ _ _).trans ?_
  rw [HloOp.result_of_not_mem _ _ (show Compact.i' ∉ ({Compact.r'} : Finset _) by decide), Compact.V2_i]
  rfl

theorem algebraic : Cert.algebraic_KernelIdeal_ReferenceIdeal := by
  intro m ρ m' ρ' _ hagree
  refine ⟨fun c => Compact.V3 m c Compact.r', fun c => Compact.V3 m c Compact.n',
    (θ_run Cert.KernelIdeal.defs _ _).mono (fun _ h c => ⟨(h.1 c).2.1, (h.1 c).2.2, (h.1 c).1⟩) (Compact.run_main (F := Ideal) m ρ),
    (θ_run Cert.ReferenceIdeal.defs _ _).mono (fun r h c => ⟨(h c).1.trans ?_, (h c).2.1.trans ?_, (h c).2.2⟩)
      (Cert.ReferenceIdeal.Value.run (F := Ideal) m' ρ')⟩
  · refine (congrArg (fun a => shapeCast Cert.ReferenceIdeal.S4x16384 (RefValue.valsR (shapeCast Cert.ReferenceIdeal.S32x200000 a
      Cert.ReferenceIdeal.Gen.shapeCasts_S4x1600000_S32x200000)) Cert.ReferenceIdeal.Gen.shapeCasts_S32x2048_S4x16384) (hagree c)).trans ?_
    exact ((out_v m c).trans (Result.values _ _ _ (flat_eq m c) _)).symm
  · refine (congrArg (fun a => shapeCast Cert.ReferenceIdeal.S4x16384 (RefValue.idxsR (shapeCast Cert.ReferenceIdeal.S32x200000 a
      Cert.ReferenceIdeal.Gen.shapeCasts_S4x1600000_S32x200000)) Cert.ReferenceIdeal.Gen.shapeCasts_S32x2048_S4x16384) (hagree c)).trans ?_
    exact ((out_i m c).trans (Result.numbers _ _ _ (flat_eq m c) _)).symm

/-! ## The output call -/

theorem frame_output : Cert.quiescent_Output := fun m ρ _ =>
  (θ_run Cert.OutputIdeal.defs _ _).mono (fun _ h => ⟨fun c => ⟨(h.1 c).1, (h.1 c).2.1, (h.1 c).2.2.1, (h.1 c).2.2.2.1⟩, h.2⟩) (Rows.run_main (F := Bits) m ρ)

theorem frame_outputIdeal : Cert.quiescent_OutputIdeal := fun m ρ _ =>
  (θ_run Cert.OutputIdeal.defs _ _).mono (fun _ h => ⟨fun c => ⟨(h.1 c).1, (h.1 c).2.1, (h.1 c).2.2.1, (h.1 c).2.2.2.1⟩, h.2⟩) (Rows.run_main (F := Ideal) m ρ)

theorem frame_outputReference : Cert.quiescent_OutputReferenceIdeal := fun m ρ _ =>
  (θ_run Cert.OutputReferenceIdeal.defs _ _).mono (fun r h => ⟨fun c => (h c).2, sem_eq_zero_of_no_sems (by decide) r.2⟩)
    (Cert.OutputReferenceIdeal.Value.run (F := Ideal) m ρ)

section
variable (m : (ℓ : Loc Cert.OutputIdeal.nD Cert.OutputIdeal.τ Cert.OutputIdeal.sig) → Buf (Elt Ideal) ℓ) (c : Dev Cert.OutputIdeal.nD)
open Rows

/-- The four flat arrays are the arguments, reshaped. -/
theorem flat_marks : V1 m c k' = shapeCast Cert.OutputIdeal.S8192 (m (c, a0')) Cert.OutputIdeal.Gen.shapeCasts_S4x2048_S8192 := by
  unfold V1
  rw [HloOp.result_of_not_mem _ _ (show k' ∉ ({b'} : Finset _) by decide), HloOp.result_of_not_mem _ _ (show k' ∉ ({c'} : Finset _) by decide),
    HloOp.result_of_not_mem _ _ (show k' ∉ ({s'} : Finset _) by decide)]
  exact StableHlo.reshape_result' _ _ _ _ _
theorem flat_scores : V1 m c s' = shapeCast Cert.OutputIdeal.S8192 (m (c, a1')) Cert.OutputIdeal.Gen.shapeCasts_S4x2048_S8192 := by
  unfold V1
  rw [HloOp.result_of_not_mem _ _ (show s' ∉ ({b'} : Finset _) by decide), HloOp.result_of_not_mem _ _ (show s' ∉ ({c'} : Finset _) by decide)]
  refine (StableHlo.reshape_result' _ _ _ _ _).trans ?_
  rw [HloOp.result_of_not_mem _ _ (show a1' ∉ ({k'} : Finset _) by decide)]
  rfl
theorem flat_classes : V1 m c c' = shapeCast Cert.OutputIdeal.S8192 (m (c, a2')) Cert.OutputIdeal.Gen.shapeCasts_S4x2048_S8192 := by
  unfold V1
  rw [HloOp.result_of_not_mem _ _ (show c' ∉ ({b'} : Finset _) by decide)]
  refine (StableHlo.reshape_result' _ _ _ _ _).trans ?_
  rw [HloOp.result_of_not_mem _ _ (show a2' ∉ ({s'} : Finset _) by decide), HloOp.result_of_not_mem _ _ (show a2' ∉ ({k'} : Finset _) by decide)]
  rfl
theorem flat_boxes : V1 m c b' = shapeCast Cert.OutputIdeal.S32768 (m (c, a3')) Cert.OutputIdeal.Gen.shapeCasts_S4x4x2048_S32768 := by
  unfold V1
  refine (StableHlo.reshape_result' _ _ _ _ _).trans ?_
  rw [HloOp.result_of_not_mem _ _ (show a3' ∉ ({c'} : Finset _) by decide), HloOp.result_of_not_mem _ _ (show a3' ∉ ({s'} : Finset _) by decide),
    HloOp.result_of_not_mem _ _ (show a3' ∉ ({k'} : Finset _) by decide)]
  rfl

theorem out_rows : V3 m c r' = shapeCast Cert.OutputIdeal.S4x300x6 (shapeCast Cert.OutputIdeal.S4x1800 (outF (V1 m c k') (V1 m c b') (V1 m c s') (V1 m c c'))
    Cert.OutputIdeal.Gen.shapeCasts_S7200_S4x1800) Cert.OutputIdeal.Gen.shapeCasts_S4x1800_S4x300x6 := by
  unfold V3
  refine (StableHlo.reshape_result' _ _ _ _ _).trans ?_
  refine congrArg (fun x => shapeCast Cert.OutputIdeal.S4x300x6 x Cert.OutputIdeal.Gen.shapeCasts_S4x1800_S4x300x6) ?_
  rw [← V2_o]
  exact StableHlo.reshape_result' _ _ _ _ _

end

theorem algebraic_output : Cert.algebraic_OutputIdeal_OutputReferenceIdeal := by
  intro m ρ m' ρ' _ hagree
  refine ⟨fun c => Rows.V3 m c Rows.r',
    (θ_run Cert.OutputIdeal.defs _ _).mono (fun _ h c => ⟨(h.1 c).2.2.2.2, (h.1 c).1, (h.1 c).2.1, (h.1 c).2.2.1, (h.1 c).2.2.2.1⟩) (Rows.run_main (F := Ideal) m ρ),
    (θ_run Cert.OutputReferenceIdeal.defs _ _).mono (fun r h c => ⟨(h c).1.trans ?_, (h c).2⟩) (Cert.OutputReferenceIdeal.Value.run (F := Ideal) m' ρ')⟩
  obtain ⟨h0, h1, h2, h3⟩ := hagree c
  have e : RowsRef.rowsR (m' ((c.tc : Thread Cert.OutputReferenceIdeal.nD Cert.OutputReferenceIdeal.τ).loc Cert.OutputReferenceIdeal.main_arg0))
      (m' ((c.tc : Thread Cert.OutputReferenceIdeal.nD Cert.OutputReferenceIdeal.τ).loc Cert.OutputReferenceIdeal.main_arg1))
      (m' ((c.tc : Thread Cert.OutputReferenceIdeal.nD Cert.OutputReferenceIdeal.τ).loc Cert.OutputReferenceIdeal.main_arg2))
      (m' ((c.tc : Thread Cert.OutputReferenceIdeal.nD Cert.OutputReferenceIdeal.τ).loc Cert.OutputReferenceIdeal.main_arg3)) = Rows.V3 m c Rows.r' := by
    rw [h0, h1, h2, h3]
    exact ((out_rows m c).trans (RowsResult.rows _ _ _ _ _ _ _ _ _ _ (flat_marks m c) (flat_scores m c) (flat_classes m c) (flat_boxes m c) _ _)).symm
  exact e

/-! ## The box call -/

section
open Boxes

/-- The flat boxes and the flat box numbers are the arguments, reshaped. -/
theorem flat_table {F : FTy → Type} [FloatOps F] (m : (ℓ : Loc Cert.BoxesIdeal.nD Cert.BoxesIdeal.τ Cert.BoxesIdeal.sig) → Buf (Elt F) ℓ) (c : Dev Cert.BoxesIdeal.nD) :
    V1 m c x' = shapeCast Cert.BoxesIdeal.S320000 (m (c, a0')) Cert.BoxesIdeal.Gen.shapeCasts_S4x80000_S320000 := by
  unfold V1
  rw [HloOp.result_of_not_mem _ _ (show x' ∉ ({n'} : Finset _) by decide)]
  exact StableHlo.reshape_result' _ _ _ _ _
theorem flat_numbers {F : FTy → Type} [FloatOps F] (m : (ℓ : Loc Cert.BoxesIdeal.nD Cert.BoxesIdeal.τ Cert.BoxesIdeal.sig) → Buf (Elt F) ℓ) (c : Dev Cert.BoxesIdeal.nD) :
    V1 m c n' = shapeCast Cert.BoxesIdeal.S8192 (m (c, a1')) Cert.BoxesIdeal.Gen.shapeCasts_S4x2048_S8192 := by
  unfold V1
  refine (StableHlo.reshape_result' _ _ _ _ _).trans ?_
  rw [HloOp.result_of_not_mem _ _ (show a1' ∉ ({x'} : Finset _) by decide)]
  rfl

theorem out_boxes {F : FTy → Type} [FloatOps F] (m : (ℓ : Loc Cert.BoxesIdeal.nD Cert.BoxesIdeal.τ Cert.BoxesIdeal.sig) → Buf (Elt F) ℓ) (c : Dev Cert.BoxesIdeal.nD) :
    V3 m c r' = shapeCast Cert.BoxesIdeal.S4x4x2048 (outF (V1 m c x') (V1 m c n')) Cert.BoxesIdeal.Gen.shapeCasts_S32768_S4x4x2048 := by
  unfold V3
  rw [← V2_o]
  exact StableHlo.reshape_result' _ _ _ _ _

/-- Where the box numbers are below 20000, so are the flat ones. -/
theorem ok_of_below {F : FTy → Type} [FloatOps F] (m : (ℓ : Loc Cert.BoxesIdeal.nD Cert.BoxesIdeal.τ Cert.BoxesIdeal.sig) → Buf (Elt F) ℓ)
    (h : ∀ c : Dev Cert.BoxesIdeal.nD, ∀ j : Cert.BoxesIdeal.S4x2048.Idx, (((m (c, a1') : Vec F Cert.BoxesIdeal.S4x2048 .i32) j) : BitVec 32).toNat < 20000) : Ok m := by
  intro c j
  rw [flat_numbers m c]
  exact h c _

end

theorem frame_boxes : Cert.quiescent_Boxes := fun m ρ hpre =>
  (θ_run Cert.BoxesIdeal.defs _ _).mono (fun _ h => ⟨fun c => ⟨(h.1 c).1, (h.1 c).2.1⟩, h.2⟩)
    (Boxes.run_main (F := Bits) m ρ (ok_of_below m fun c => BoxesResult.below (hpre c)))

theorem frame_boxesIdeal : Cert.quiescent_BoxesIdeal := fun m ρ hpre =>
  (θ_run Cert.BoxesIdeal.defs _ _).mono (fun _ h => ⟨fun c => ⟨(h.1 c).1, (h.1 c).2.1⟩, h.2⟩)
    (Boxes.run_main (F := Ideal) m ρ (ok_of_below m fun c => BoxesResult.below (hpre c)))

theorem frame_boxesReference : Cert.quiescent_BoxesReferenceIdeal := fun m ρ _ =>
  (θ_run Cert.BoxesReferenceIdeal.defs _ _).mono (fun r h => ⟨fun c => (h c).2, sem_eq_zero_of_no_sems (by decide) r.2⟩)
    (Cert.BoxesReferenceIdeal.Value.run (F := Ideal) m ρ)

theorem algebraic_boxes : Cert.algebraic_BoxesIdeal_BoxesReferenceIdeal := by
  intro m ρ m' ρ' hpre hagree
  refine ⟨fun c => Boxes.V3 m c Boxes.r',
    (θ_run Cert.BoxesIdeal.defs _ _).mono (fun _ h c => ⟨(h.1 c).2.2, (h.1 c).1, (h.1 c).2.1⟩)
      (Boxes.run_main (F := Ideal) m ρ (ok_of_below m fun c => BoxesResult.below (hpre c))),
    (θ_run Cert.BoxesReferenceIdeal.defs _ _).mono (fun r h c => ⟨(h c).1.trans ?_, (h c).2⟩) (Cert.BoxesReferenceIdeal.Value.run (F := Ideal) m' ρ')⟩
  obtain ⟨h0, h1⟩ := hagree c
  have e : BoxesResult.lookupR (m' ((c.tc : Thread Cert.BoxesReferenceIdeal.nD Cert.BoxesReferenceIdeal.τ).loc Cert.BoxesReferenceIdeal.main_arg0))
      (m' ((c.tc : Thread Cert.BoxesReferenceIdeal.nD Cert.BoxesReferenceIdeal.τ).loc Cert.BoxesReferenceIdeal.main_arg1)) = Boxes.V3 m c Boxes.r' := by
    rw [h0, h1]
    exact ((out_boxes m c).trans (BoxesResult.looked _ (BoxesResult.below (hpre c)) _ _ _ _ (flat_table m c) (flat_numbers m c) _)).symm
  exact e

/-! ## The candidates' call -/

theorem frame_candidates : Cert.quiescent_Candidates := fun m ρ _ => Cert.Candidates.Gen.frame (F := Bits) m ρ

theorem frame_candidatesIdeal : Cert.quiescent_CandidatesIdeal := fun m ρ _ => Cert.CandidatesIdeal.Gen.frame (F := Ideal) m ρ

theorem frame_candidatesReference : Cert.quiescent_CandidatesReferenceIdeal := fun m ρ _ =>
  (θ_run Cert.CandidatesReferenceIdeal.defs _ _).mono (fun r h => ⟨fun c => (h c).2.2, sem_eq_zero_of_no_sems (by decide) r.2⟩)
    (Cert.CandidatesReferenceIdeal.Value.run (F := Ideal) m ρ)

theorem algebraic_candidates : Cert.algebraic_CandidatesIdeal_CandidatesReferenceIdeal := by
  intro m ρ m' ρ' _ hagree
  refine ⟨fun c => Candidates.scores (Candidates.pred m c), fun c => Candidates.corners (Candidates.pred m c), Candidates.run (F := Ideal) m ρ,
    (θ_run Cert.CandidatesReferenceIdeal.defs _ _).mono (fun r h c => ⟨(h c).1.trans ?_, (h c).2.1.trans ?_, (h c).2.2⟩)
      (Cert.CandidatesReferenceIdeal.Value.run (F := Ideal) m' ρ')⟩
  · exact (congrArg CandidatesResult.scoresR (hagree c)).trans (CandidatesResult.scoresR_eq _)
  · exact (congrArg CandidatesResult.cornersR (hagree c)).trans (CandidatesResult.cornersR_eq _)

/-! ## The suppression's call -/

/-- The two programs are one text, so the frame over any float values is both frames. -/
theorem frame_keep : Cert.quiescent_Keep := fun m ρ _ => by
  refine Eq.mp ?_ (Cert.KeepIdeal.Gen.frame (F := Bits) m ρ)
  sl_kernel_rfl

theorem frame_keepIdeal : Cert.quiescent_KeepIdeal := fun m ρ _ => Cert.KeepIdeal.Gen.frame (F := Ideal) m ρ

theorem frame_keepReference : Cert.quiescent_KeepReferenceIdeal := fun m ρ _ =>
  (θ_run Cert.KeepReferenceIdeal.defs _ _).mono (fun r h => ⟨fun c => (h c).2, sem_eq_zero_of_no_sems (by decide) r.2⟩)
    (Cert.KeepReferenceIdeal.Value.run (F := Ideal) m ρ)

theorem algebraic_keep : Cert.algebraic_KeepIdeal_KeepReferenceIdeal := by
  intro m ρ m' ρ' _ hagree
  refine ⟨fun c => Keep.marks (Keep.boxes m c) (Keep.classes m c) (Keep.scores m c), Keep.run m ρ,
    (θ_run Cert.KeepReferenceIdeal.defs _ _).mono (fun r h c => ⟨(h c).1.trans ((KeepResult.result_eq m' c).trans ?_), (h c).2⟩)
      (Cert.KeepReferenceIdeal.Value.run (F := Ideal) m' ρ')⟩
  obtain ⟨h0, h1, h2⟩ := hagree c
  exact congr (congrArg₂ Keep.marks h0 h1) h2

theorem claim : Cert.Claim := ⟨Cert.Kernel.Gen.facts, Cert.KernelIdeal.Gen.facts, Cert.ReferenceIdeal.Gen.facts,
  Cert.Candidates.Gen.facts, Cert.CandidatesIdeal.Gen.facts, Cert.CandidatesReferenceIdeal.Gen.facts,
  Cert.Keep.Gen.facts, Cert.KeepIdeal.Gen.facts, Cert.KeepReferenceIdeal.Gen.facts,
  Cert.Boxes.Gen.facts, Cert.BoxesIdeal.Gen.facts, Cert.BoxesReferenceIdeal.Gen.facts,
  Cert.Output.Gen.facts, Cert.OutputIdeal.Gen.facts, Cert.OutputReferenceIdeal.Gen.facts, Cert.Pre_in_table.Gen.facts,
  frame_kernel, frame_kernelIdeal, frame_reference,
  frame_candidates, frame_candidatesIdeal, frame_candidatesReference, frame_keep, frame_keepIdeal, frame_keepReference, frame_boxes, frame_boxesIdeal, frame_boxesReference,
  frame_output, frame_outputIdeal, frame_outputReference,
  trivial, algebraic, trivial, algebraic_candidates, trivial, algebraic_keep, trivial, algebraic_boxes, trivial, algebraic_output⟩

end Cert.Proof

end
